-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_qk [hPre_finite_qk : Cert.Pre_finite_qk.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_qk.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_qk [hPre_finite_qk : Cert.Pre_finite_qk.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_qk.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_decay [hPre_finite_decay : Cert.Pre_finite_decay.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_decay.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_decay [hPre_finite_decay : Cert.Pre_finite_decay.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_decay.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite_qk [hKernel2Ideal : Cert.Kernel2Ideal.Facts] [hPre_finite_qk : Cert.Pre_finite_qk.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_qk m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite_qk [hReference2Ideal : Cert.Reference2Ideal.Facts] [hPre_finite_qk : Cert.Pre_finite_qk.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_qk m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_finite_decay [hKernel3Ideal : Cert.Kernel3Ideal.Facts] [hPre_finite_decay : Cert.Pre_finite_decay.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_decay m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_finite_decay [hReference3Ideal : Cert.Reference3Ideal.Facts] [hPre_finite_decay : Cert.Pre_finite_decay.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_decay m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal_pre_finite_qk [hKernel2Ideal : Cert.Kernel2Ideal.Facts] [hReference2Ideal : Cert.Reference2Ideal.Facts] [hPre_finite_qk : Cert.Pre_finite_qk.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_qk m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v47) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_pre_finite_decay [hKernel3Ideal : Cert.Kernel3Ideal.Facts] [hReference3Ideal : Cert.Reference3Ideal.Facts] [hPre_finite_decay : Cert.Pre_finite_decay.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_decay m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v42) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  IdealRules.named_const.Statement Cert.Kernel4Ideal.κ "fox_scale" .f32 0x3E38AA3B#32 (((1 / 8) * (Real.log 2)⁻¹ : ℝ) : EReal)

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v21_0)) (v1 : (c : Dev Cert.Kernel4Ideal.nD) → Buf (Elt Ideal) ((c.tc : Thread Cert.Kernel4Ideal.nD Cert.Kernel4Ideal.τ).loc Cert.Kernel4Ideal.main_v21_1)) (v2 : (c : Dev Cert.Kernel4Ideal.nD) → Buf (Elt Ideal) ((c.tc : Thread Cert.Kernel4Ideal.nD Cert.Kernel4Ideal.τ).loc Cert.Kernel4Ideal.main_v21_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v21_0) = v0 c
          ∧ r.2.mem ((c.tc : Thread Cert.Kernel4Ideal.nD Cert.Kernel4Ideal.τ).loc Cert.Kernel4Ideal.main_v21_1) = v1 c
          ∧ r.2.mem ((c.tc : Thread Cert.Kernel4Ideal.nD Cert.Kernel4Ideal.τ).loc Cert.Kernel4Ideal.main_v21_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v21) = v0 c
          ∧ r.2.mem ((c.tc : Thread Cert.Reference4Ideal.nD Cert.Reference4Ideal.τ).loc Cert.Reference4Ideal.main_v22) = v1 c
          ∧ r.2.mem ((c.tc : Thread Cert.Reference4Ideal.nD Cert.Reference4Ideal.τ).loc Cert.Reference4Ideal.main_v24) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  IdealRules.named_const.Statement Cert.Kernel5Ideal.κ "mla_scale" .f32 0x3DD53B95#32 (((Real.sqrt 192)⁻¹ * (Real.log 2)⁻¹ : ℝ) : EReal)

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v30_0)) (v1 : (c : Dev Cert.Kernel5Ideal.nD) → Buf (Elt Ideal) ((c.tc : Thread Cert.Kernel5Ideal.nD Cert.Kernel5Ideal.τ).loc Cert.Kernel5Ideal.main_v30_1)) (v2 : (c : Dev Cert.Kernel5Ideal.nD) → Buf (Elt Ideal) ((c.tc : Thread Cert.Kernel5Ideal.nD Cert.Kernel5Ideal.τ).loc Cert.Kernel5Ideal.main_v30_2)) (v3 : (c : Dev Cert.Kernel5Ideal.nD) → Buf (Elt Ideal) ((c.tc : Thread Cert.Kernel5Ideal.nD Cert.Kernel5Ideal.τ).loc Cert.Kernel5Ideal.main_v30_3)) (v4 : (c : Dev Cert.Kernel5Ideal.nD) → Buf (Elt Ideal) ((c.tc : Thread Cert.Kernel5Ideal.nD Cert.Kernel5Ideal.τ).loc Cert.Kernel5Ideal.main_v30_4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v30_0) = v0 c
          ∧ r.2.mem ((c.tc : Thread Cert.Kernel5Ideal.nD Cert.Kernel5Ideal.τ).loc Cert.Kernel5Ideal.main_v30_1) = v1 c
          ∧ r.2.mem ((c.tc : Thread Cert.Kernel5Ideal.nD Cert.Kernel5Ideal.τ).loc Cert.Kernel5Ideal.main_v30_2) = v2 c
          ∧ r.2.mem ((c.tc : Thread Cert.Kernel5Ideal.nD Cert.Kernel5Ideal.τ).loc Cert.Kernel5Ideal.main_v30_3) = v3 c
          ∧ r.2.mem ((c.tc : Thread Cert.Kernel5Ideal.nD Cert.Kernel5Ideal.τ).loc Cert.Kernel5Ideal.main_v30_4) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v105) = v0 c
          ∧ r.2.mem ((c.tc : Thread Cert.Reference5Ideal.nD Cert.Reference5Ideal.τ).loc Cert.Reference5Ideal.main_v106) = v1 c
          ∧ r.2.mem ((c.tc : Thread Cert.Reference5Ideal.nD Cert.Reference5Ideal.τ).loc Cert.Reference5Ideal.main_v107) = v2 c
          ∧ r.2.mem ((c.tc : Thread Cert.Reference5Ideal.nD Cert.Reference5Ideal.τ).loc Cert.Reference5Ideal.main_v108) = v3 c
          ∧ r.2.mem ((c.tc : Thread Cert.Reference5Ideal.nD Cert.Reference5Ideal.τ).loc Cert.Reference5Ideal.main_v110) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v19) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_qk : Cert.Pre_finite_qk.Facts) (hPre_finite_decay : Cert.Pre_finite_decay.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite_qk (hKernel2Ideal := hKernel2Ideal) (hPre_finite_qk := hPre_finite_qk)
    ∧ quiescent_Reference2Ideal (hReference2Ideal := hReference2Ideal)
    ∧ quiescent_Reference2Ideal_pre_finite_qk (hReference2Ideal := hReference2Ideal) (hPre_finite_qk := hPre_finite_qk)
    ∧ quiescent_Kernel3 (hKernel3 := hKernel3)
    ∧ quiescent_Kernel3Ideal (hKernel3Ideal := hKernel3Ideal)
    ∧ quiescent_Kernel3Ideal_pre_finite_decay (hKernel3Ideal := hKernel3Ideal) (hPre_finite_decay := hPre_finite_decay)
    ∧ quiescent_Reference3Ideal (hReference3Ideal := hReference3Ideal)
    ∧ quiescent_Reference3Ideal_pre_finite_decay (hReference3Ideal := hReference3Ideal) (hPre_finite_decay := hPre_finite_decay)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite_qk (hKernel2Ideal := hKernel2Ideal) (hReference2Ideal := hReference2Ideal) (hPre_finite_qk := hPre_finite_qk)
    ∧ preserves_Kernel3_Kernel3Ideal
    ∧ algebraic_Kernel3Ideal_Reference3Ideal_pre_finite_decay (hKernel3Ideal := hKernel3Ideal) (hReference3Ideal := hReference3Ideal) (hPre_finite_decay := hPre_finite_decay)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite_decay.lean ====
abbrev S16x2048x1024 : Shape := ⟨3, ![16, 2048, 1024]⟩
abbrev S16x2048x128 : Shape := ⟨3, ![16, 2048, 128]⟩
abbrev S16x1024x2048 : Shape := ⟨3, ![16, 1024, 2048]⟩
abbrev S_ : Shape := ⟨0, ![]⟩

class Facts : Prop where
  bitsLt_bf16_f32 : FTy.bits .bf16 < FTy.bits .f32
  bcast_S_S16x2048x1024 : S_.BroadcastsInDim S16x2048x1024 (![] : Fin 0 → Fin S16x2048x1024.rank)
  reducesTo_S16x2048x1024_S_d0_1_2 : S16x2048x1024.ReducesTo [0, 1, 2] S_
  h_S_ : 0 < S_.numel
  bcast_S_S16x2048x128 : S_.BroadcastsInDim S16x2048x128 (![] : Fin 0 → Fin S16x2048x128.rank)
  reducesTo_S16x2048x128_S_d0_1_2 : S16x2048x128.ReducesTo [0, 1, 2] S_

variable [Facts]

def fn_part1 {F : FTy → Type} [FloatOps F] (main_v16 : IVec S_ 1) (main_v17 : FVec F S16x2048x128 .f32) : IVec S_ 1 :=
  let main_v18 : FVec F S16x2048x128 .f32 := Host.absf main_v17
  let main_cst_4 : FVec F S_ .f32 := constant S_ .f32 0x7F800000#32
  let main_v19 : FVec F S16x2048x128 .f32 := broadcastInDim S16x2048x128 ![] bcast_S_S16x2048x128 main_cst_4
  let main_v20 : IVec S16x2048x128 1 := cmpf .olt main_v18 main_v19
  let main_c_5 : IVec S_ 1 := constantI S_ 1 1#1
  let main_v21 : IVec S_ 1 := (fun x v => Host.reduce IntOp.andi x v reducesTo_S16x2048x128_S_d0_1_2 h_S_) main_v20 main_c_5
  let main_v22 : IVec S_ 1 := andi main_v16 main_v21
  main_v22

def fn {F : FTy → Type} [FloatOps F] (main_arg0 : FVec F S16x2048x1024 .bf16) (main_arg1 : FVec F S16x2048x1024 .bf16) (main_arg2 : FVec F S16x2048x128 .bf16) (main_arg3 : FVec F S16x2048x128 .bf16) (main_arg4 : FVec F S16x1024x2048 .bf16) : IVec S_ 1 :=
  let main_v0 : FVec F S16x2048x1024 .f32 := (extf .f32 · bitsLt_bf16_f32) main_arg0
  let main_v1 : FVec F S16x2048x1024 .f32 := Host.absf main_v0
  let main_cst : FVec F S_ .f32 := constant S_ .f32 0x7F800000#32
  let main_v2 : FVec F S16x2048x1024 .f32 := broadcastInDim S16x2048x1024 ![] bcast_S_S16x2048x1024 main_cst
  let main_v3 : IVec S16x2048x1024 1 := cmpf .olt main_v1 main_v2
  let main_c : IVec S_ 1 := constantI S_ 1 1#1
  let main_v4 : IVec S_ 1 := (fun x v => Host.reduce IntOp.andi x v reducesTo_S16x2048x1024_S_d0_1_2 h_S_) main_v3 main_c
  let main_v5 : FVec F S16x2048x1024 .f32 := (extf .f32 · bitsLt_bf16_f32) main_arg1
  let main_v6 : FVec F S16x2048x1024 .f32 := Host.absf main_v5
  let main_cst_0 : FVec F S_ .f32 := constant S_ .f32 0x7F800000#32
  let main_v7 : FVec F S16x2048x1024 .f32 := broadcastInDim S16x2048x1024 ![] bcast_S_S16x2048x1024 main_cst_0
  let main_v8 : IVec S16x2048x1024 1 := cmpf .olt main_v6 main_v7
  let main_c_1 : IVec S_ 1 := constantI S_ 1 1#1
  let main_v9 : IVec S_ 1 := (fun x v => Host.reduce IntOp.andi x v reducesTo_S16x2048x1024_S_d0_1_2 h_S_) main_v8 main_c_1
  let main_v10 : IVec S_ 1 := andi main_v4 main_v9
  let main_v11 : FVec F S16x2048x128 .f32 := (extf .f32 · bitsLt_bf16_f32) main_arg2
  let main_v12 : FVec F S16x2048x128 .f32 := Host.absf main_v11
  let main_cst_2 : FVec F S_ .f32 := constant S_ .f32 0x7F800000#32
  let main_v13 : FVec F S16x2048x128 .f32 := broadcastInDim S16x2048x128 ![] bcast_S_S16x2048x128 main_cst_2
  let main_v14 : IVec S16x2048x128 1 := cmpf .olt main_v12 main_v13
  let main_c_3 : IVec S_ 1 := constantI S_ 1 1#1
  let main_v15 : IVec S_ 1 := (fun x v => Host.reduce IntOp.andi x v reducesTo_S16x2048x128_S_d0_1_2 h_S_) main_v14 main_c_3
  let main_v16 : IVec S_ 1 := andi main_v10 main_v15
  let main_v17 : FVec F S16x2048x128 .f32 := (extf .f32 · bitsLt_bf16_f32) main_arg3
  fn_part1 (F := F) main_v16 main_v17
-- ==== Pre_finite_qk.lean ====
abbrev S16x2048x1024 : Shape := ⟨3, ![16, 2048, 1024]⟩
abbrev S16x2048x512 : Shape := ⟨3, ![16, 2048, 512]⟩
abbrev S16x2048x128 : Shape := ⟨3, ![16, 2048, 128]⟩
abbrev S16x1024x2048 : Shape := ⟨3, ![16, 1024, 2048]⟩
abbrev S_ : Shape := ⟨0, ![]⟩

class Facts : Prop where
  bitsLt_bf16_f32 : FTy.bits .bf16 < FTy.bits .f32
  bcast_S_S16x2048x1024 : S_.BroadcastsInDim S16x2048x1024 (![] : Fin 0 → Fin S16x2048x1024.rank)
  reducesTo_S16x2048x1024_S_d0_1_2 : S16x2048x1024.ReducesTo [0, 1, 2] S_
  h_S_ : 0 < S_.numel
  bcast_S_S16x2048x512 : S_.BroadcastsInDim S16x2048x512 (![] : Fin 0 → Fin S16x2048x512.rank)
  reducesTo_S16x2048x512_S_d0_1_2 : S16x2048x512.ReducesTo [0, 1, 2] S_
  bcast_S_S16x2048x128 : S_.BroadcastsInDim S16x2048x128 (![] : Fin 0 → Fin S16x2048x128.rank)
  reducesTo_S16x2048x128_S_d0_1_2 : S16x2048x128.ReducesTo [0, 1, 2] S_

variable [Facts]

def fn_part1 {F : FTy → Type} [FloatOps F] (main_v16 : IVec S_ 1) (main_v17 : FVec F S16x2048x128 .f32) : IVec S_ 1 :=
  let main_v18 : FVec F S16x2048x128 .f32 := Host.absf main_v17
  let main_cst_4 : FVec F S_ .f32 := constant S_ .f32 0x7F800000#32
  let main_v19 : FVec F S16x2048x128 .f32 := broadcastInDim S16x2048x128 ![] bcast_S_S16x2048x128 main_cst_4
  let main_v20 : IVec S16x2048x128 1 := cmpf .olt main_v18 main_v19
  let main_c_5 : IVec S_ 1 := constantI S_ 1 1#1
  let main_v21 : IVec S_ 1 := (fun x v => Host.reduce IntOp.andi x v reducesTo_S16x2048x128_S_d0_1_2 h_S_) main_v20 main_c_5
  let main_v22 : IVec S_ 1 := andi main_v16 main_v21
  main_v22

def fn {F : FTy → Type} [FloatOps F] (main_arg0 : FVec F S16x2048x1024 .bf16) (main_arg1 : FVec F S16x2048x512 .bf16) (main_arg2 : FVec F S16x2048x1024 .bf16) (main_arg3 : FVec F S16x2048x128 .bf16) (main_arg4 : FVec F S16x1024x2048 .bf16) : IVec S_ 1 :=
  let main_v0 : FVec F S16x2048x1024 .f32 := (extf .f32 · bitsLt_bf16_f32) main_arg0
  let main_v1 : FVec F S16x2048x1024 .f32 := Host.absf main_v0
  let main_cst : FVec F S_ .f32 := constant S_ .f32 0x7F800000#32
  let main_v2 : FVec F S16x2048x1024 .f32 := broadcastInDim S16x2048x1024 ![] bcast_S_S16x2048x1024 main_cst
  let main_v3 : IVec S16x2048x1024 1 := cmpf .olt main_v1 main_v2
  let main_c : IVec S_ 1 := constantI S_ 1 1#1
  let main_v4 : IVec S_ 1 := (fun x v => Host.reduce IntOp.andi x v reducesTo_S16x2048x1024_S_d0_1_2 h_S_) main_v3 main_c
  let main_v5 : FVec F S16x2048x512 .f32 := (extf .f32 · bitsLt_bf16_f32) main_arg1
  let main_v6 : FVec F S16x2048x512 .f32 := Host.absf main_v5
  let main_cst_0 : FVec F S_ .f32 := constant S_ .f32 0x7F800000#32
  let main_v7 : FVec F S16x2048x512 .f32 := broadcastInDim S16x2048x512 ![] bcast_S_S16x2048x512 main_cst_0
  let main_v8 : IVec S16x2048x512 1 := cmpf .olt main_v6 main_v7
  let main_c_1 : IVec S_ 1 := constantI S_ 1 1#1
  let main_v9 : IVec S_ 1 := (fun x v => Host.reduce IntOp.andi x v reducesTo_S16x2048x512_S_d0_1_2 h_S_) main_v8 main_c_1
  let main_v10 : IVec S_ 1 := andi main_v4 main_v9
  let main_v11 : FVec F S16x2048x1024 .f32 := (extf .f32 · bitsLt_bf16_f32) main_arg2
  let main_v12 : FVec F S16x2048x1024 .f32 := Host.absf main_v11
  let main_cst_2 : FVec F S_ .f32 := constant S_ .f32 0x7F800000#32
  let main_v13 : FVec F S16x2048x1024 .f32 := broadcastInDim S16x2048x1024 ![] bcast_S_S16x2048x1024 main_cst_2
  let main_v14 : IVec S16x2048x1024 1 := cmpf .olt main_v12 main_v13
  let main_c_3 : IVec S_ 1 := constantI S_ 1 1#1
  let main_v15 : IVec S_ 1 := (fun x v => Host.reduce IntOp.andi x v reducesTo_S16x2048x1024_S_d0_1_2 h_S_) main_v14 main_c_3
  let main_v16 : IVec S_ 1 := andi main_v10 main_v15
  let main_v17 : FVec F S16x2048x128 .f32 := (extf .f32 · bitsLt_bf16_f32) main_arg3
  fn_part1 (F := F) main_v16 main_v17
-- ==== Kernel.lean ====
abbrev S16x2048x1024 : Shape := ⟨3, ![16, 2048, 1024]⟩
abbrev S2x16x6x1024 : Shape := ⟨4, ![2, 16, 6, 1024]⟩
abbrev S1024x1024 : Shape := ⟨2, ![1024, 1024]⟩
abbrev S2x1024x2816 : Shape := ⟨3, ![2, 1024, 2816]⟩
abbrev S2x2816x1024 : Shape := ⟨3, ![2, 2816, 1024]⟩
abbrev S2x2x1024 : Shape := ⟨3, ![2, 2, 1024]⟩
abbrev S1x1024x1024 : Shape := ⟨3, ![1, 1024, 1024]⟩
abbrev S1x1x6x1024 : Shape := ⟨4, ![1, 1, 6, 1024]⟩
abbrev S1x1024x2816 : Shape := ⟨3, ![1, 1024, 2816]⟩
abbrev S1x2816x1024 : Shape := ⟨3, ![1, 2816, 1024]⟩
abbrev S1x2x1024 : Shape := ⟨3, ![1, 2, 1024]⟩
abbrev S1024x2816 : Shape := ⟨2, ![1024, 2816]⟩
abbrev S1x256x1024 : Shape := ⟨3, ![1, 256, 1024]⟩
abbrev S256x1024 : Shape := ⟨2, ![256, 1024]⟩
abbrev S1x1x1x1024 : Shape := ⟨4, ![1, 1, 1, 1024]⟩
abbrev S1x1024 : Shape := ⟨2, ![1, 1024]⟩
abbrev S1x1x1024 : Shape := ⟨3, ![1, 1, 1024]⟩
abbrev S256 : Shape := ⟨1, ![256]⟩
abbrev S256x1 : Shape := ⟨2, ![256, 1]⟩
abbrev S1x1024x256 : Shape := ⟨3, ![1, 1024, 256]⟩
abbrev S1024x256 : Shape := ⟨2, ![1024, 256]⟩
abbrev S256x256 : Shape := ⟨2, ![256, 256]⟩
abbrev S256x2816 : Shape := ⟨2, ![256, 2816]⟩
abbrev S2816x1024 : Shape := ⟨2, ![2816, 1024]⟩

abbrev nBuf : Space → Nat
  | .hbm => 14
  | .vmem => 15
  | .smem => 0
  | _ => 0

abbrev bufTy : (tb : Table) → Fin (tcTables nBuf tb) → BufTy
  | .hbm, ⟨0, _⟩ => ⟨S16x2048x1024, .bf16⟩
  | .hbm, ⟨1, _⟩ => ⟨S16x2048x1024, .f32⟩
  | .hbm, ⟨2, _⟩ => ⟨S2x16x6x1024, .f32⟩
  | .hbm, ⟨3, _⟩ => ⟨S1024x1024, .f32⟩
  | .hbm, ⟨4, _⟩ => ⟨S2x1024x2816, .f32⟩
  | .hbm, ⟨5, _⟩ => ⟨S2x1024x2816, .f32⟩
  | .hbm, ⟨6, _⟩ => ⟨S2x2816x1024, .f32⟩
  | .hbm, ⟨7, _⟩ => ⟨S2x2x1024, .f32⟩
  | .hbm, ⟨8, _⟩ => ⟨S2x2x1024, .f32⟩
  | .hbm, ⟨9, _⟩ => ⟨S2x1024x2816, .bf16⟩
  | .hbm, ⟨10, _⟩ => ⟨S2x1024x2816, .bf16⟩
  | .hbm, ⟨11, _⟩ => ⟨S2x2816x1024, .bf16⟩
  | .hbm, ⟨12, _⟩ => ⟨S1024x1024, .bf16⟩
  | .hbm, ⟨13, _⟩ => ⟨S16x2048x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .f32⟩
  | .local _ .vmem, ⟨3, _⟩ => ⟨S1x1024x1024, .f32⟩
  | .local _ .vmem, ⟨4, _⟩ => ⟨S1x1x6x1024, .f32⟩
  | .local _ .vmem, ⟨5, _⟩ => ⟨S1x1x6x1024, .f32⟩
  | .local _ .vmem, ⟨6, _⟩ => ⟨S1024x1024, .bf16⟩
  | .local _ .vmem, ⟨7, _⟩ => ⟨S1x1024x2816, .bf16⟩
  | .local _ .vmem, ⟨8, _⟩ => ⟨S1x1024x2816, .bf16⟩
  | .local _ .vmem, ⟨9, _⟩ => ⟨S1x2816x1024, .bf16⟩
  | .local _ .vmem, ⟨10, _⟩ => ⟨S1x2x1024, .f32⟩
  | .local _ .vmem, ⟨11, _⟩ => ⟨S1x2x1024, .f32⟩
  | .local _ .vmem, ⟨12, _⟩ => ⟨S1x1024x1024, .f32⟩
  | .local _ .vmem, ⟨13, _⟩ => ⟨S1x1024x1024, .f32⟩
  | .local _ .vmem, ⟨14, _⟩ => ⟨S1024x2816, .bf16⟩
  | _, _ => ⟨S16x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S16x2048x1024 : Shape := ⟨3, ![16, 2048, 1024]⟩
abbrev S2x16x6x1024 : Shape := ⟨4, ![2, 16, 6, 1024]⟩
abbrev S1024x1024 : Shape := ⟨2, ![1024, 1024]⟩
abbrev S2x1024x2816 : Shape := ⟨3, ![2, 1024, 2816]⟩
abbrev S2x2816x1024 : Shape := ⟨3, ![2, 2816, 1024]⟩
abbrev S2x2x1024 : Shape := ⟨3, ![2, 2, 1024]⟩
abbrev S1x16x1x1024 : Shape := ⟨4, ![1, 16, 1, 1024]⟩
abbrev S16x1024 : Shape := ⟨2, ![16, 1024]⟩
abbrev S_ : Shape := ⟨0, ![]⟩
abbrev S16x1x1024 : Shape := ⟨3, ![16, 1, 1024]⟩
abbrev S1x1x1024 : Shape := ⟨3, ![1, 1, 1024]⟩
abbrev S1024 : Shape := ⟨1, ![1024]⟩
abbrev S16x2048 : Shape := ⟨2, ![16, 2048]⟩
abbrev S16x2048x1 : Shape := ⟨3, ![16, 2048, 1]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S16x2048x2816 : Shape := ⟨3, ![16, 2048, 2816]⟩

abbrev nBuf : Space → Nat
  | .hbm => 133
  | .vmem => 0
  | .smem => 0
  | _ => 0

abbrev hbmTy0_0 (i : Nat) : BufTy := match i % 128 with
  | 0 => ⟨S16x2048x1024, .bf16⟩
  | 1 => ⟨S16x2048x1024, .f32⟩
  | 2 => ⟨S2x16x6x1024, .f32⟩
  | 3 => ⟨S1024x1024, .f32⟩
  | 4 => ⟨S2x1024x2816, .f32⟩
  | 5 => ⟨S2x1024x2816, .f32⟩
  | 6 => ⟨S2x2816x1024, .f32⟩
  | 7 => ⟨S2x2x1024, .f32⟩
  | 8 => ⟨S2x2x1024, .f32⟩
  | 9 => ⟨S1x16x1x1024, .f32⟩
  | 10 => ⟨S16x1024, .f32⟩
  | 11 => ⟨S1x16x1x1024, .f32⟩
  | 12 => ⟨S16x1024, .f32⟩
  | 13 => ⟨S1x16x1x1024, .f32⟩
  | 14 => ⟨S16x1024, .f32⟩
  | 15 => ⟨S1x16x1x1024, .f32⟩
  | 16 => ⟨S16x1024, .f32⟩
  | 17 => ⟨S16x2048x1024, .f32⟩
  | 18 => ⟨S16x2048x1024, .f32⟩
  | 19 => ⟨S_, .f32⟩
  | 20 => ⟨S16x2048x1024, .f32⟩
  | 21 => ⟨S16x2048x1024, .f32⟩
  | 22 => ⟨S16x1x1024, .f32⟩
  | 23 => ⟨S_, .f32⟩
  | 24 => ⟨S16x1x1024, .f32⟩
  | 25 => ⟨S16x1x1024, .f32⟩
  | 26 => ⟨S16x2048x1024, .f32⟩
  | 27 => ⟨S16x2048x1024, .f32⟩
  | 28 => ⟨S16x2048x1024, .f32⟩
  | 29 => ⟨S1x1x1024, .f32⟩
  | 30 => ⟨S1024, .f32⟩
  | 31 => ⟨S1x1x1024, .f32⟩
  | 32 => ⟨S1024, .f32⟩
  | 33 => ⟨S_, .f32⟩
  | 34 => ⟨S16x2048, .f32⟩
  | 35 => ⟨S16x2048x1, .f32⟩
  | 36 => ⟨S_, .f32⟩
  | 37 => ⟨S16x2048x1, .f32⟩
  | 38 => ⟨S16x2048x1, .f32⟩
  | 39 => ⟨S16x2048x1024, .f32⟩
  | 40 => ⟨S16x2048x1024, .f32⟩
  | 41 => ⟨S16x2048x1024, .f32⟩
  | 42 => ⟨S_, .f32⟩
  | 43 => ⟨S16x2048, .f32⟩
  | 44 => ⟨S16x2048x1, .f32⟩
  | 45 => ⟨S_, .f32⟩
  | 46 => ⟨S16x2048x1, .f32⟩
  | 47 => ⟨S16x2048x1, .f32⟩
  | 48 => ⟨S16x2048x1024, .f32⟩
  | 49 => ⟨S16x2048x1024, .f32⟩
  | 50 => ⟨S_, .f32⟩
  | 51 => ⟨S16x2048x1, .f32⟩
  | 52 => ⟨S16x2048x1, .f32⟩
  | 53 => ⟨S16x2048x1, .f32⟩
  | 54 => ⟨S16x2048x1024, .f32⟩
  | 55 => ⟨S16x2048x1024, .f32⟩
  | 56 => ⟨S1x1x1024, .f32⟩
  | 57 => ⟨S16x2048x1024, .f32⟩
  | 58 => ⟨S16x2048x1024, .f32⟩
  | 59 => ⟨S1x1x1024, .f32⟩
  | 60 => ⟨S16x2048x1024, .f32⟩
  | 61 => ⟨S16x2048x1024, .f32⟩
  | 62 => ⟨S16x1x1024, .f32⟩
  | 63 => ⟨S_, .f32⟩
  | 64 => ⟨S16x1x1024, .f32⟩
  | 65 => ⟨S16x1x1024, .f32⟩
  | 66 => ⟨S16x2048x1024, .f32⟩
  | 67 => ⟨S16x2048x1024, .f32⟩
  | 68 => ⟨S16x1x1024, .f32⟩
  | 69 => ⟨S16x2048x1024, .f32⟩
  | 70 => ⟨S16x2048x1024, .f32⟩
  | 71 => ⟨S1x1024x2816, .f32⟩
  | 72 => ⟨S1024x2816, .f32⟩
  | 73 => ⟨S1x1024x2816, .f32⟩
  | 74 => ⟨S1024x2816, .f32⟩
  | 75 => ⟨S1x2816x1024, .f32⟩
  | 76 => ⟨S2816x1024, .f32⟩
  | 77 => ⟨S16x2048x2816, .f32⟩
  | 78 => ⟨S16x2048x2816, .f32⟩
  | 79 => ⟨S16x2048x2816, .f32⟩
  | 80 => ⟨S_, .f32⟩
  | 81 => ⟨S16x2048x2816, .f32⟩
  | 82 => ⟨S16x2048x2816, .f32⟩
  | 83 => ⟨S_, .f32⟩
  | 84 => ⟨S16x2048x2816, .f32⟩
  | 85 => ⟨S16x2048x2816, .f32⟩
  | 86 => ⟨S16x2048x2816, .f32⟩
  | 87 => ⟨S16x2048x2816, .f32⟩
  | 88 => ⟨S16x2048x2816, .f32⟩
  | 89 => ⟨S16x2048x1024, .f32⟩
  | 90 => ⟨S_, .f32⟩
  | 91 => ⟨S16x2048x1024, .f32⟩
  | 92 => ⟨S16x2048x1024, .f32⟩
  | 93 => ⟨S16x1x1024, .f32⟩
  | 94 => ⟨S_, .f32⟩
  | 95 => ⟨S16x1x1024, .f32⟩
  | 96 => ⟨S16x1x1024, .f32⟩
  | 97 => ⟨S16x2048x1024, .f32⟩
  | 98 => ⟨S16x2048x1024, .f32⟩
  | 99 => ⟨S16x2048x1024, .f32⟩
  | 100 => ⟨S1x1x1024, .f32⟩
  | 101 => ⟨S1024, .f32⟩
  | 102 => ⟨S1x1x1024, .f32⟩
  | 103 => ⟨S1024, .f32⟩
  | 104 => ⟨S_, .f32⟩
  | 105 => ⟨S16x2048, .f32⟩
  | 106 => ⟨S16x2048x1, .f32⟩
  | 107 => ⟨S_, .f32⟩
  | 108 => ⟨S16x2048x1, .f32⟩
  | 109 => ⟨S16x2048x1, .f32⟩
  | 110 => ⟨S16x2048x1024, .f32⟩
  | 111 => ⟨S16x2048x1024, .f32⟩
  | 112 => ⟨S16x2048x1024, .f32⟩
  | 113 => ⟨S_, .f32⟩
  | 114 => ⟨S16x2048, .f32⟩
  | 115 => ⟨S16x2048x1, .f32⟩
  | 116 => ⟨S_, .f32⟩
  | 117 => ⟨S16x2048x1, .f32⟩
  | 118 => ⟨S16x2048x1, .f32⟩
  | 119 => ⟨S16x2048x1024, .f32⟩
  | 120 => ⟨S16x2048x1024, .f32⟩
  | 121 => ⟨S_, .f32⟩
  | 122 => ⟨S16x2048x1, .f32⟩
  | 123 => ⟨S16x2048x1, .f32⟩
  | 124 => ⟨S16x2048x1, .f32⟩
  | 125 => ⟨S16x2048x1024, .f32⟩
  | 126 => ⟨S16x2048x1024, .f32⟩
  | 127 => ⟨S1x1x1024, .f32⟩
  | _ => ⟨S16x2048x1024, .bf16⟩

abbrev hbmTy0_1 (i : Nat) : BufTy := match i % 128 with
  | 0 => ⟨S16x2048x1024, .f32⟩
  | 1 => ⟨S16x2048x1024, .f32⟩
  | 2 => ⟨S1x1x1024, .f32⟩
  | 3 => ⟨S16x2048x1024, .f32⟩
  | 4 => ⟨S16x2048x1024, .f32⟩
  | _ => ⟨S16x2048x1024, .bf16⟩

abbrev hbmTy (i : Nat) : BufTy := match i / 128 with
  | 0 => hbmTy0_0 i
  | 1 => hbmTy0_1 i
  | _ => ⟨S16x2048x1024, .bf16⟩

abbrev bufTy : (tb : Table) → Fin (tcTables nBuf tb) → BufTy
  | .hbm, ⟨i, _⟩ => hbmTy i
  | _, _ => ⟨S16x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_6 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_call0_v0 : Ref sig .tc := ⟨.hbm, 78, rfl⟩
abbrev main_call0_v1 : Ref sig .tc := ⟨.hbm, 79, rfl⟩
abbrev main_call0_cst : Ref sig .tc := ⟨.hbm, 80, rfl⟩
abbrev main_call0_v2 : Ref sig .tc := ⟨.hbm, 81, rfl⟩
abbrev main_call0_v3 : Ref sig .tc := ⟨.hbm, 82, rfl⟩
abbrev main_call0_cst_0 : Ref sig .tc := ⟨.hbm, 83, rfl⟩
abbrev main_call0_v4 : Ref sig .tc := ⟨.hbm, 84, rfl⟩
abbrev main_call0_v5 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_7 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_8 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_cst_9 : Ref sig .tc := ⟨.hbm, 104, rfl⟩
abbrev main_v77 : Ref sig .tc := ⟨.hbm, 105, rfl⟩
abbrev main_v78 : Ref sig .tc := ⟨.hbm, 106, rfl⟩
abbrev main_cst_10 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_cst_11 : Ref sig .tc := ⟨.hbm, 113, rfl⟩
abbrev main_v84 : Ref sig .tc := ⟨.hbm, 114, rfl⟩
abbrev main_v85 : Ref sig .tc := ⟨.hbm, 115, rfl⟩
abbrev main_cst_12 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_cst_13 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩

abbrev nD : Nat := 1
abbrev τ : Topo := Topo.v7x

variable {F : FTy → Type} [FloatOps F]
-- ==== Kernel2.lean ====
abbrev S16x2048x1024 : Shape := ⟨3, ![16, 2048, 1024]⟩
abbrev S16x2048x512 : Shape := ⟨3, ![16, 2048, 512]⟩
abbrev S16x2048x128 : Shape := ⟨3, ![16, 2048, 128]⟩
abbrev S16x1024x2048 : Shape := ⟨3, ![16, 1024, 2048]⟩
abbrev S1x2048x512 : Shape := ⟨3, ![1, 2048, 512]⟩
abbrev S1x2048x256 : Shape := ⟨3, ![1, 2048, 256]⟩
abbrev S1x2048x128 : Shape := ⟨3, ![1, 2048, 128]⟩
abbrev S1x512x2048 : Shape := ⟨3, ![1, 512, 2048]⟩
abbrev S4x2048x256 : Shape := ⟨3, ![4, 2048, 256]⟩
abbrev S2x5120x512 : Shape := ⟨3, ![2, 5120, 512]⟩
abbrev S2x2x144x2048 : Shape := ⟨4, ![2, 2, 144, 2048]⟩
abbrev S1x128 : Shape := ⟨2, ![1, 128]⟩
abbrev S2048x128 : Shape := ⟨2, ![2048, 128]⟩
abbrev S1x256x2048 : Shape := ⟨3, ![1, 256, 2048]⟩
abbrev S256x2048 : Shape := ⟨2, ![256, 2048]⟩
abbrev S128x2048 : Shape := ⟨2, ![128, 2048]⟩
abbrev S1x2x144x2048 : Shape := ⟨4, ![1, 2, 144, 2048]⟩
abbrev S2x144x2048 : Shape := ⟨3, ![2, 144, 2048]⟩
abbrev S1x128x2048 : Shape := ⟨3, ![1, 128, 2048]⟩
abbrev S1x1x128x2048 : Shape := ⟨4, ![1, 1, 128, 2048]⟩
abbrev S16x2048 : Shape := ⟨2, ![16, 2048]⟩
abbrev S1x16x2048 : Shape := ⟨3, ![1, 16, 2048]⟩
abbrev S1x1x16x2048 : Shape := ⟨4, ![1, 1, 16, 2048]⟩
abbrev S256x512 : Shape := ⟨2, ![256, 512]⟩
abbrev S1x512x128 : Shape := ⟨3, ![1, 512, 128]⟩
abbrev S512x128 : Shape := ⟨2, ![512, 128]⟩
abbrev S512x256 : Shape := ⟨2, ![512, 256]⟩
abbrev S2048x256 : Shape := ⟨2, ![2048, 256]⟩
abbrev S256x256 : Shape := ⟨2, ![256, 256]⟩
abbrev S1x512x512 : Shape := ⟨3, ![1, 512, 512]⟩
abbrev S512x512 : Shape := ⟨2, ![512, 512]⟩
abbrev S512 : Shape := ⟨1, ![512]⟩
abbrev S1x512 : Shape := ⟨2, ![1, 512]⟩
abbrev S1x256 : Shape := ⟨2, ![1, 256]⟩
abbrev S256 : Shape := ⟨1, ![256]⟩
abbrev S1x1024x512 : Shape := ⟨3, ![1, 1024, 512]⟩
abbrev S1024x512 : Shape := ⟨2, ![1024, 512]⟩
abbrev S1x1536x512 : Shape := ⟨3, ![1, 1536, 512]⟩
abbrev S1536x512 : Shape := ⟨2, ![1536, 512]⟩
abbrev S1024x256 : Shape := ⟨2, ![1024, 256]⟩
abbrev S2048x512 : Shape := ⟨2, ![2048, 512]⟩
abbrev S1536x256 : Shape := ⟨2, ![1536, 256]⟩
abbrev S1x256x512 : Shape := ⟨3, ![1, 256, 512]⟩
abbrev S1x256x256 : Shape := ⟨3, ![1, 256, 256]⟩
abbrev S768x512 : Shape := ⟨2, ![768, 512]⟩
abbrev S1x768x512 : Shape := ⟨3, ![1, 768, 512]⟩
abbrev S1280x512 : Shape := ⟨2, ![1280, 512]⟩
abbrev S1x1280x512 : Shape := ⟨3, ![1, 1280, 512]⟩
abbrev S1792x512 : Shape := ⟨2, ![1792, 512]⟩
abbrev S1x1792x512 : Shape := ⟨3, ![1, 1792, 512]⟩
abbrev S1x144x2048 : Shape := ⟨3, ![1, 144, 2048]⟩
abbrev S144x2048 : Shape := ⟨2, ![144, 2048]⟩
abbrev S144x256 : Shape := ⟨2, ![144, 256]⟩
abbrev S144x512 : Shape := ⟨2, ![144, 512]⟩
abbrev S128x512 : Shape := ⟨2, ![128, 512]⟩
abbrev S1x512x256 : Shape := ⟨3, ![1, 512, 256]⟩
abbrev S144x768 : Shape := ⟨2, ![144, 768]⟩
abbrev S144x1280 : Shape := ⟨2, ![144, 1280]⟩
abbrev S144x1792 : Shape := ⟨2, ![144, 1792]⟩

abbrev nBuf : Space → Nat
  | .hbm => 6
  | .vmem => 16
  | .smem => 0
  | _ => 0

abbrev bufTy : (tb : Table) → Fin (tcTables nBuf tb) → BufTy
  | .hbm, ⟨0, _⟩ => ⟨S16x2048x1024, .bf16⟩
  | .hbm, ⟨1, _⟩ => ⟨S16x2048x512, .bf16⟩
  | .hbm, ⟨2, _⟩ => ⟨S16x2048x1024, .bf16⟩
  | .hbm, ⟨3, _⟩ => ⟨S16x2048x128, .bf16⟩
  | .hbm, ⟨4, _⟩ => ⟨S16x1024x2048, .bf16⟩
  | .hbm, ⟨5, _⟩ => ⟨S16x2048x1024, .bf16⟩
  | .local _ .vmem, ⟨0, _⟩ => ⟨S1x2048x512, .bf16⟩
  | .local _ .vmem, ⟨1, _⟩ => ⟨S1x2048x512, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x128, .bf16⟩
  | .local _ .vmem, ⟨7, _⟩ => ⟨S1x2048x128, .bf16⟩
  | .local _ .vmem, ⟨8, _⟩ => ⟨S1x512x2048, .bf16⟩
  | .local _ .vmem, ⟨9, _⟩ => ⟨S1x512x2048, .bf16⟩
  | .local _ .vmem, ⟨10, _⟩ => ⟨S1x2048x512, .bf16⟩
  | .local _ .vmem, ⟨11, _⟩ => ⟨S1x2048x512, .bf16⟩
  | .local _ .vmem, ⟨12, _⟩ => ⟨S4x2048x256, .bf16⟩
  | .local _ .vmem, ⟨13, _⟩ => ⟨S2x5120x512, .f32⟩
  | .local _ .vmem, ⟨14, _⟩ => ⟨S2x5120x512, .bf16⟩
  | .local _ .vmem, ⟨15, _⟩ => ⟨S2x2x144x2048, .bf16⟩
  | _, _ => ⟨S16x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S16x2048x1024 : Shape := ⟨3, ![16, 2048, 1024]⟩
abbrev S16x2048x512 : Shape := ⟨3, ![16, 2048, 512]⟩
abbrev S16x2048x128 : Shape := ⟨3, ![16, 2048, 128]⟩
abbrev S16x1024x2048 : Shape := ⟨3, ![16, 1024, 2048]⟩
abbrev S16x2048x8x128 : Shape := ⟨4, ![16, 2048, 8, 128]⟩
abbrev S16x8x2048x128 : Shape := ⟨4, ![16, 8, 2048, 128]⟩
abbrev S32768x4x2x2x32 : Shape := ⟨5, ![32768, 4, 2, 2, 32]⟩
abbrev S16x2048x8x64 : Shape := ⟨4, ![16, 2048, 8, 64]⟩
abbrev S16x8x2048x64 : Shape := ⟨4, ![16, 8, 2048, 64]⟩
abbrev S16x2048x2x2x32 : Shape := ⟨5, ![16, 2048, 2, 2, 32]⟩
abbrev S16x2x2048x2x32 : Shape := ⟨5, ![16, 2, 2048, 2, 32]⟩
abbrev S16x1x2x2048x64 : Shape := ⟨5, ![16, 1, 2, 2048, 64]⟩
abbrev S16x4x2x2048x64 : Shape := ⟨5, ![16, 4, 2, 2048, 64]⟩
abbrev S16x8x128x2048 : Shape := ⟨4, ![16, 8, 128, 2048]⟩
abbrev S16x8x2048x2048 : Shape := ⟨4, ![16, 8, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S16x8x2048 : Shape := ⟨3, ![16, 8, 2048]⟩
abbrev S16x8x2048x1 : Shape := ⟨4, ![16, 8, 2048, 1]⟩

abbrev nBuf : Space → Nat
  | .hbm => 61
  | .vmem => 0
  | .smem => 0
  | _ => 0

abbrev bufTy : (tb : Table) → Fin (tcTables nBuf tb) → BufTy
  | .hbm, ⟨0, _⟩ => ⟨S16x2048x1024, .bf16⟩
  | .hbm, ⟨1, _⟩ => ⟨S16x2048x512, .bf16⟩
  | .hbm, ⟨2, _⟩ => ⟨S16x2048x1024, .bf16⟩
  | .hbm, ⟨3, _⟩ => ⟨S16x2048x128, .bf16⟩
  | .hbm, ⟨4, _⟩ => ⟨S16x1024x2048, .bf16⟩
  | .hbm, ⟨5, _⟩ => ⟨S16x2048x1024, .f32⟩
  | .hbm, ⟨6, _⟩ => ⟨S16x2048x8x128, .f32⟩
  | .hbm, ⟨7, _⟩ => ⟨S16x8x2048x128, .f32⟩
  | .hbm, ⟨8, _⟩ => ⟨S16x2048x1024, .f32⟩
  | .hbm, ⟨9, _⟩ => ⟨S16x2048x8x128, .f32⟩
  | .hbm, ⟨10, _⟩ => ⟨S16x8x2048x128, .f32⟩
  | .hbm, ⟨11, _⟩ => ⟨S16x2048x512, .f32⟩
  | .hbm, ⟨12, _⟩ => ⟨S32768x4x2x2x32, .f32⟩
  | .hbm, ⟨13, _⟩ => ⟨S32768x4x2x2x32, .f32⟩
  | .hbm, ⟨14, _⟩ => ⟨S16x2048x8x64, .f32⟩
  | .hbm, ⟨15, _⟩ => ⟨S16x8x2048x64, .f32⟩
  | .hbm, ⟨16, _⟩ => ⟨S16x2048x128, .f32⟩
  | .hbm, ⟨17, _⟩ => ⟨S16x2048x2x2x32, .f32⟩
  | .hbm, ⟨18, _⟩ => ⟨S16x2x2048x2x32, .f32⟩
  | .hbm, ⟨19, _⟩ => ⟨S16x1x2x2048x64, .f32⟩
  | .hbm, ⟨20, _⟩ => ⟨S16x4x2x2048x64, .f32⟩
  | .hbm, ⟨21, _⟩ => ⟨S16x8x2048x64, .f32⟩
  | .hbm, ⟨22, _⟩ => ⟨S16x1024x2048, .f32⟩
  | .hbm, ⟨23, _⟩ => ⟨S16x8x128x2048, .f32⟩
  | .hbm, ⟨24, _⟩ => ⟨S16x8x2048x128, .f32⟩
  | .hbm, ⟨25, _⟩ => ⟨S16x8x2048x2048, .f32⟩
  | .hbm, ⟨26, _⟩ => ⟨S16x8x2048x2048, .f32⟩
  | .hbm, ⟨27, _⟩ => ⟨S16x8x2048x2048, .f32⟩
  | .hbm, ⟨28, _⟩ => ⟨S_, .f32⟩
  | .hbm, ⟨29, _⟩ => ⟨S_, .f32⟩
  | .hbm, ⟨30, _⟩ => ⟨S16x8x2048x2048, .f32⟩
  | .hbm, ⟨31, _⟩ => ⟨S16x8x2048x2048, .f32⟩
  | .hbm, ⟨32, _⟩ => ⟨S2048, .i32⟩
  | .hbm, ⟨33, _⟩ => ⟨S2048x1, .i32⟩
  | .hbm, ⟨34, _⟩ => ⟨S1x2048, .i32⟩
  | .hbm, ⟨35, _⟩ => ⟨S2048x2048, .i32⟩
  | .hbm, ⟨36, _⟩ => ⟨S2048x2048, .i32⟩
  | .hbm, ⟨37, _⟩ => ⟨S2048x2048, .i1⟩
  | .hbm, ⟨38, _⟩ => ⟨S_, .f32⟩
  | .hbm, ⟨39, _⟩ => ⟨S_, .f32⟩
  | .hbm, ⟨40, _⟩ => ⟨S16x8x2048x2048, .i1⟩
  | .hbm, ⟨41, _⟩ => ⟨S16x8x2048x2048, .f32⟩
  | .hbm, ⟨42, _⟩ => ⟨S16x8x2048x2048, .f32⟩
  | .hbm, ⟨43, _⟩ => ⟨S_, .f32⟩
  | .hbm, ⟨44, _⟩ => ⟨S16x8x2048, .f32⟩
  | .hbm, ⟨45, _⟩ => ⟨S_, .f32⟩
  | .hbm, ⟨46, _⟩ => ⟨S16x8x2048, .f32⟩
  | .hbm, ⟨47, _⟩ => ⟨S16x8x2048, .f32⟩
  | .hbm, ⟨48, _⟩ => ⟨S16x8x2048x1, .f32⟩
  | .hbm, ⟨49, _⟩ => ⟨S16x8x2048x2048, .f32⟩
  | .hbm, ⟨50, _⟩ => ⟨S16x8x2048x2048, .f32⟩
  | .hbm, ⟨51, _⟩ => ⟨S16x8x2048x2048, .f32⟩
  | .hbm, ⟨52, _⟩ => ⟨S_, .f32⟩
  | .hbm, ⟨53, _⟩ => ⟨S16x8x2048, .f32⟩
  | .hbm, ⟨54, _⟩ => ⟨S16x8x2048x1, .f32⟩
  | .hbm, ⟨55, _⟩ => ⟨S16x8x2048x2048, .f32⟩
  | .hbm, ⟨56, _⟩ => ⟨S16x8x2048x2048, .f32⟩
  | .hbm, ⟨57, _⟩ => ⟨S16x8x2048x128, .f32⟩
  | .hbm, ⟨58, _⟩ => ⟨S16x2048x8x128, .f32⟩
  | .hbm, ⟨59, _⟩ => ⟨S16x2048x1024, .f32⟩
  | .hbm, ⟨60, _⟩ => ⟨S16x2048x1024, .bf16⟩
  | _, _ => ⟨S16x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_cst_0 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v32 : Ref sig .tc := ⟨.hbm, 42, rfl⟩
abbrev main_cst_1 : Ref sig .tc := ⟨.hbm, 43, rfl⟩
abbrev main_v33 : Ref sig .tc := ⟨.hbm, 44, rfl⟩
abbrev main_cst_2 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_3 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩

abbrev nD : Nat := 1
abbrev τ : Topo := Topo.v7x

variable {F : FTy → Type} [FloatOps F]
-- ==== Kernel3.lean ====
abbrev S16x2048x1024 : Shape := ⟨3, ![16, 2048, 1024]⟩
abbrev S16x2048x128 : Shape := ⟨3, ![16, 2048, 128]⟩
abbrev S16x1024x2048 : Shape := ⟨3, ![16, 1024, 2048]⟩
abbrev S1x2048x256 : Shape := ⟨3, ![1, 2048, 256]⟩
abbrev S1x2048x128 : Shape := ⟨3, ![1, 2048, 128]⟩
abbrev S1x256x2048 : Shape := ⟨3, ![1, 256, 2048]⟩
abbrev S2x2048x256 : Shape := ⟨3, ![2, 2048, 256]⟩
abbrev S2x5120x512 : Shape := ⟨3, ![2, 5120, 512]⟩
abbrev S2x2x80x2048 : Shape := ⟨4, ![2, 2, 80, 2048]⟩
abbrev S1x128 : Shape := ⟨2, ![1, 128]⟩
abbrev S2048x128 : Shape := ⟨2, ![2048, 128]⟩
abbrev S1x128x2048 : Shape := ⟨3, ![1, 128, 2048]⟩
abbrev S128x2048 : Shape := ⟨2, ![128, 2048]⟩
abbrev S64x2048 : Shape := ⟨2, ![64, 2048]⟩
abbrev S1x2x80x2048 : Shape := ⟨4, ![1, 2, 80, 2048]⟩
abbrev S2x80x2048 : Shape := ⟨3, ![2, 80, 2048]⟩
abbrev S1x64x2048 : Shape := ⟨3, ![1, 64, 2048]⟩
abbrev S1x1x64x2048 : Shape := ⟨4, ![1, 1, 64, 2048]⟩
abbrev S16x2048 : Shape := ⟨2, ![16, 2048]⟩
abbrev S1x16x2048 : Shape := ⟨3, ![1, 16, 2048]⟩
abbrev S1x1x16x2048 : Shape := ⟨4, ![1, 1, 16, 2048]⟩
abbrev S256x512 : Shape := ⟨2, ![256, 512]⟩
abbrev S1x512x128 : Shape := ⟨3, ![1, 512, 128]⟩
abbrev S512x128 : Shape := ⟨2, ![512, 128]⟩
abbrev S512x256 : Shape := ⟨2, ![512, 256]⟩
abbrev S2048x256 : Shape := ⟨2, ![2048, 256]⟩
abbrev S256x256 : Shape := ⟨2, ![256, 256]⟩
abbrev S1x512x512 : Shape := ⟨3, ![1, 512, 512]⟩
abbrev S512x512 : Shape := ⟨2, ![512, 512]⟩
abbrev S512 : Shape := ⟨1, ![512]⟩
abbrev S1x512 : Shape := ⟨2, ![1, 512]⟩
abbrev S1x256 : Shape := ⟨2, ![1, 256]⟩
abbrev S256 : Shape := ⟨1, ![256]⟩
abbrev S1x1024x512 : Shape := ⟨3, ![1, 1024, 512]⟩
abbrev S1024x512 : Shape := ⟨2, ![1024, 512]⟩
abbrev S1x1536x512 : Shape := ⟨3, ![1, 1536, 512]⟩
abbrev S1536x512 : Shape := ⟨2, ![1536, 512]⟩
abbrev S1024x256 : Shape := ⟨2, ![1024, 256]⟩
abbrev S1x2048x512 : Shape := ⟨3, ![1, 2048, 512]⟩
abbrev S2048x512 : Shape := ⟨2, ![2048, 512]⟩
abbrev S1536x256 : Shape := ⟨2, ![1536, 256]⟩
abbrev S1x256x512 : Shape := ⟨3, ![1, 256, 512]⟩
abbrev S1x256x256 : Shape := ⟨3, ![1, 256, 256]⟩
abbrev S768x512 : Shape := ⟨2, ![768, 512]⟩
abbrev S1x768x512 : Shape := ⟨3, ![1, 768, 512]⟩
abbrev S1280x512 : Shape := ⟨2, ![1280, 512]⟩
abbrev S1x1280x512 : Shape := ⟨3, ![1, 1280, 512]⟩
abbrev S1792x512 : Shape := ⟨2, ![1792, 512]⟩
abbrev S1x1792x512 : Shape := ⟨3, ![1, 1792, 512]⟩
abbrev S1x80x2048 : Shape := ⟨3, ![1, 80, 2048]⟩
abbrev S80x2048 : Shape := ⟨2, ![80, 2048]⟩
abbrev S80x256 : Shape := ⟨2, ![80, 256]⟩
abbrev S80x512 : Shape := ⟨2, ![80, 512]⟩
abbrev S64x512 : Shape := ⟨2, ![64, 512]⟩
abbrev S128x512 : Shape := ⟨2, ![128, 512]⟩
abbrev S80x768 : Shape := ⟨2, ![80, 768]⟩
abbrev S80x1280 : Shape := ⟨2, ![80, 1280]⟩
abbrev S80x1792 : Shape := ⟨2, ![80, 1792]⟩

abbrev nBuf : Space → Nat
  | .hbm => 6
  | .vmem => 16
  | .smem => 0
  | _ => 0

abbrev bufTy : (tb : Table) → Fin (tcTables nBuf tb) → BufTy
  | .hbm, ⟨0, _⟩ => ⟨S16x2048x1024, .bf16⟩
  | .hbm, ⟨1, _⟩ => ⟨S16x2048x1024, .bf16⟩
  | .hbm, ⟨2, _⟩ => ⟨S16x2048x128, .bf16⟩
  | .hbm, ⟨3, _⟩ => ⟨S16x2048x128, .bf16⟩
  | .hbm, ⟨4, _⟩ => ⟨S16x1024x2048, .bf16⟩
  | .hbm, ⟨5, _⟩ => ⟨S16x2048x1024, .bf16⟩
  | .local _ .vmem, ⟨0, _⟩ => ⟨S1x2048x256, .bf16⟩
  | .local _ .vmem, ⟨1, _⟩ => ⟨S1x2048x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x128, .bf16⟩
  | .local _ .vmem, ⟨7, _⟩ => ⟨S1x2048x128, .bf16⟩
  | .local _ .vmem, ⟨8, _⟩ => ⟨S1x256x2048, .bf16⟩
  | .local _ .vmem, ⟨9, _⟩ => ⟨S1x256x2048, .bf16⟩
  | .local _ .vmem, ⟨10, _⟩ => ⟨S1x2048x256, .bf16⟩
  | .local _ .vmem, ⟨11, _⟩ => ⟨S1x2048x256, .bf16⟩
  | .local _ .vmem, ⟨12, _⟩ => ⟨S2x2048x256, .bf16⟩
  | .local _ .vmem, ⟨13, _⟩ => ⟨S2x5120x512, .f32⟩
  | .local _ .vmem, ⟨14, _⟩ => ⟨S2x5120x512, .bf16⟩
  | .local _ .vmem, ⟨15, _⟩ => ⟨S2x2x80x2048, .bf16⟩
  | _, _ => ⟨S16x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference3Ideal.lean ====
abbrev S16x2048x1024 : Shape := ⟨3, ![16, 2048, 1024]⟩
abbrev S16x2048x128 : Shape := ⟨3, ![16, 2048, 128]⟩
abbrev S16x1024x2048 : Shape := ⟨3, ![16, 1024, 2048]⟩
abbrev S16x2048x16x64 : Shape := ⟨4, ![16, 2048, 16, 64]⟩
abbrev S16x16x2048x64 : Shape := ⟨4, ![16, 16, 2048, 64]⟩
abbrev S16x16x64x2048 : Shape := ⟨4, ![16, 16, 64, 2048]⟩
abbrev S16x2048x8x16 : Shape := ⟨4, ![16, 2048, 8, 16]⟩
abbrev S16x16x2048x8 : Shape := ⟨4, ![16, 16, 2048, 8]⟩
abbrev S16x16x2048x2048 : Shape := ⟨4, ![16, 16, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S16x16x2048 : Shape := ⟨3, ![16, 16, 2048]⟩
abbrev S16x16x2048x1 : Shape := ⟨4, ![16, 16, 2048, 1]⟩

abbrev nBuf : Space → Nat
  | .hbm => 56
  | .vmem => 0
  | .smem => 0
  | _ => 0

abbrev bufTy : (tb : Table) → Fin (tcTables nBuf tb) → BufTy
  | .hbm, ⟨0, _⟩ => ⟨S16x2048x1024, .bf16⟩
  | .hbm, ⟨1, _⟩ => ⟨S16x2048x1024, .bf16⟩
  | .hbm, ⟨2, _⟩ => ⟨S16x2048x128, .bf16⟩
  | .hbm, ⟨3, _⟩ => ⟨S16x2048x128, .bf16⟩
  | .hbm, ⟨4, _⟩ => ⟨S16x1024x2048, .bf16⟩
  | .hbm, ⟨5, _⟩ => ⟨S16x2048x1024, .f32⟩
  | .hbm, ⟨6, _⟩ => ⟨S16x2048x16x64, .f32⟩
  | .hbm, ⟨7, _⟩ => ⟨S16x16x2048x64, .f32⟩
  | .hbm, ⟨8, _⟩ => ⟨S16x2048x1024, .f32⟩
  | .hbm, ⟨9, _⟩ => ⟨S16x2048x16x64, .f32⟩
  | .hbm, ⟨10, _⟩ => ⟨S16x16x2048x64, .f32⟩
  | .hbm, ⟨11, _⟩ => ⟨S16x1024x2048, .f32⟩
  | .hbm, ⟨12, _⟩ => ⟨S16x16x64x2048, .f32⟩
  | .hbm, ⟨13, _⟩ => ⟨S16x16x2048x64, .f32⟩
  | .hbm, ⟨14, _⟩ => ⟨S16x2048x128, .f32⟩
  | .hbm, ⟨15, _⟩ => ⟨S16x2048x8x16, .f32⟩
  | .hbm, ⟨16, _⟩ => ⟨S16x16x2048x8, .f32⟩
  | .hbm, ⟨17, _⟩ => ⟨S16x2048x128, .f32⟩
  | .hbm, ⟨18, _⟩ => ⟨S16x2048x8x16, .f32⟩
  | .hbm, ⟨19, _⟩ => ⟨S16x16x2048x8, .f32⟩
  | .hbm, ⟨20, _⟩ => ⟨S16x16x2048x2048, .f32⟩
  | .hbm, ⟨21, _⟩ => ⟨S16x16x2048x2048, .f32⟩
  | .hbm, ⟨22, _⟩ => ⟨S16x16x2048x2048, .f32⟩
  | .hbm, ⟨23, _⟩ => ⟨S_, .f32⟩
  | .hbm, ⟨24, _⟩ => ⟨S_, .f32⟩
  | .hbm, ⟨25, _⟩ => ⟨S16x16x2048x2048, .f32⟩
  | .hbm, ⟨26, _⟩ => ⟨S16x16x2048x2048, .f32⟩
  | .hbm, ⟨27, _⟩ => ⟨S2048, .i32⟩
  | .hbm, ⟨28, _⟩ => ⟨S2048x1, .i32⟩
  | .hbm, ⟨29, _⟩ => ⟨S1x2048, .i32⟩
  | .hbm, ⟨30, _⟩ => ⟨S2048x2048, .i32⟩
  | .hbm, ⟨31, _⟩ => ⟨S2048x2048, .i32⟩
  | .hbm, ⟨32, _⟩ => ⟨S2048x2048, .i1⟩
  | .hbm, ⟨33, _⟩ => ⟨S_, .f32⟩
  | .hbm, ⟨34, _⟩ => ⟨S_, .f32⟩
  | .hbm, ⟨35, _⟩ => ⟨S16x16x2048x2048, .i1⟩
  | .hbm, ⟨36, _⟩ => ⟨S16x16x2048x2048, .f32⟩
  | .hbm, ⟨37, _⟩ => ⟨S16x16x2048x2048, .f32⟩
  | .hbm, ⟨38, _⟩ => ⟨S_, .f32⟩
  | .hbm, ⟨39, _⟩ => ⟨S16x16x2048, .f32⟩
  | .hbm, ⟨40, _⟩ => ⟨S_, .f32⟩
  | .hbm, ⟨41, _⟩ => ⟨S16x16x2048, .f32⟩
  | .hbm, ⟨42, _⟩ => ⟨S16x16x2048, .f32⟩
  | .hbm, ⟨43, _⟩ => ⟨S16x16x2048x1, .f32⟩
  | .hbm, ⟨44, _⟩ => ⟨S16x16x2048x2048, .f32⟩
  | .hbm, ⟨45, _⟩ => ⟨S16x16x2048x2048, .f32⟩
  | .hbm, ⟨46, _⟩ => ⟨S16x16x2048x2048, .f32⟩
  | .hbm, ⟨47, _⟩ => ⟨S_, .f32⟩
  | .hbm, ⟨48, _⟩ => ⟨S16x16x2048, .f32⟩
  | .hbm, ⟨49, _⟩ => ⟨S16x16x2048x1, .f32⟩
  | .hbm, ⟨50, _⟩ => ⟨S16x16x2048x2048, .f32⟩
  | .hbm, ⟨51, _⟩ => ⟨S16x16x2048x2048, .f32⟩
  | .hbm, ⟨52, _⟩ => ⟨S16x16x2048x64, .f32⟩
  | .hbm, ⟨53, _⟩ => ⟨S16x2048x16x64, .f32⟩
  | .hbm, ⟨54, _⟩ => ⟨S16x2048x1024, .f32⟩
  | .hbm, ⟨55, _⟩ => ⟨S16x2048x1024, .bf16⟩
  | _, _ => ⟨S16x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_0 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v27 : Ref sig .tc := ⟨.hbm, 37, rfl⟩
abbrev main_cst_1 : Ref sig .tc := ⟨.hbm, 38, rfl⟩
abbrev main_v28 : Ref sig .tc := ⟨.hbm, 39, rfl⟩
abbrev main_cst_2 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_3 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]
-- ==== Kernel4.lean ====
abbrev S16x2048x1024 : Shape := ⟨3, ![16, 2048, 1024]⟩
abbrev S2x16x6x1024 : Shape := ⟨4, ![2, 16, 6, 1024]⟩
abbrev S1024x3088 : Shape := ⟨2, ![1024, 3088]⟩
abbrev S16 : Shape := ⟨1, ![16]⟩
abbrev S1024x16 : Shape := ⟨2, ![1024, 16]⟩
abbrev S1x1024x1x16 : Shape := ⟨4, ![1, 1024, 1, 16]⟩
abbrev S1x1024x6x16 : Shape := ⟨4, ![1, 1024, 6, 16]⟩
abbrev S1024x96 : Shape := ⟨2, ![1024, 96]⟩
abbrev S_ : Shape := ⟨0, ![]⟩
abbrev S1024x128 : Shape := ⟨2, ![1024, 128]⟩
abbrev S1x16 : Shape := ⟨2, ![1, 16]⟩
abbrev S6x16 : Shape := ⟨2, ![6, 16]⟩
abbrev S96 : Shape := ⟨1, ![96]⟩
abbrev S128 : Shape := ⟨1, ![128]⟩
abbrev S1x128 : Shape := ⟨2, ![1, 128]⟩
abbrev S128x128 : Shape := ⟨2, ![128, 128]⟩
abbrev S1024x1024 : Shape := ⟨2, ![1024, 1024]⟩
abbrev S128x384 : Shape := ⟨2, ![128, 384]⟩
abbrev S16x1024x2048 : Shape := ⟨3, ![16, 1024, 2048]⟩
abbrev S16x2048x128 : Shape := ⟨3, ![16, 2048, 128]⟩
abbrev S1x1024x1024 : Shape := ⟨3, ![1, 1024, 1024]⟩
abbrev S1x1x6x1024 : Shape := ⟨4, ![1, 1, 6, 1024]⟩
abbrev S1x1024x128 : Shape := ⟨3, ![1, 1024, 128]⟩
abbrev S8x128 : Shape := ⟨2, ![8, 128]⟩
abbrev S1x1x1x1024 : Shape := ⟨4, ![1, 1, 1, 1024]⟩
abbrev S1x1024 : Shape := ⟨2, ![1, 1024]⟩
abbrev S384x128 : Shape := ⟨2, ![384, 128]⟩

abbrev nBuf : Space → Nat
  | .hbm => 43
  | .vmem => 21
  | .smem => 0
  | _ => 0

abbrev bufTy : (tb : Table) → Fin (tcTables nBuf tb) → BufTy
  | .hbm, ⟨0, _⟩ => ⟨S16x2048x1024, .f32⟩
  | .hbm, ⟨1, _⟩ => ⟨S2x16x6x1024, .f32⟩
  | .hbm, ⟨2, _⟩ => ⟨S1024x3088, .f32⟩
  | .hbm, ⟨3, _⟩ => ⟨S16, .f32⟩
  | .hbm, ⟨4, _⟩ => ⟨S1024x16, .f32⟩
  | .hbm, ⟨5, _⟩ => ⟨S1x1024x1x16, .f32⟩
  | .hbm, ⟨6, _⟩ => ⟨S1x1024x6x16, .f32⟩
  | .hbm, ⟨7, _⟩ => ⟨S1024x96, .f32⟩
  | .hbm, ⟨8, _⟩ => ⟨S_, .i32⟩
  | .hbm, ⟨9, _⟩ => ⟨S_, .f32⟩
  | .hbm, ⟨10, _⟩ => ⟨S1024x128, .f32⟩
  | .hbm, ⟨11, _⟩ => ⟨S1x16, .f32⟩
  | .hbm, ⟨12, _⟩ => ⟨S6x16, .f32⟩
  | .hbm, ⟨13, _⟩ => ⟨S96, .f32⟩
  | .hbm, ⟨14, _⟩ => ⟨S_, .i32⟩
  | .hbm, ⟨15, _⟩ => ⟨S_, .f32⟩
  | .hbm, ⟨16, _⟩ => ⟨S128, .f32⟩
  | .hbm, ⟨17, _⟩ => ⟨S1x128, .f32⟩
  | .hbm, ⟨18, _⟩ => ⟨S_, .bf16⟩
  | .hbm, ⟨19, _⟩ => ⟨S128x128, .bf16⟩
  | .hbm, ⟨20, _⟩ => ⟨S128x128, .i32⟩
  | .hbm, ⟨21, _⟩ => ⟨S_, .i32⟩
  | .hbm, ⟨22, _⟩ => ⟨S128x128, .i32⟩
  | .hbm, ⟨23, _⟩ => ⟨S128x128, .i32⟩
  | .hbm, ⟨24, _⟩ => ⟨S128x128, .i32⟩
  | .hbm, ⟨25, _⟩ => ⟨S128x128, .i1⟩
  | .hbm, ⟨26, _⟩ => ⟨S_, .bf16⟩
  | .hbm, ⟨27, _⟩ => ⟨S128x128, .bf16⟩
  | .hbm, ⟨28, _⟩ => ⟨S128x128, .bf16⟩
  | .hbm, ⟨29, _⟩ => ⟨S1024x1024, .f32⟩
  | .hbm, ⟨30, _⟩ => ⟨S1024x1024, .bf16⟩
  | .hbm, ⟨31, _⟩ => ⟨S1024x1024, .f32⟩
  | .hbm, ⟨32, _⟩ => ⟨S1024x1024, .bf16⟩
  | .hbm, ⟨33, _⟩ => ⟨S1024x1024, .f32⟩
  | .hbm, ⟨34, _⟩ => ⟨S1024x1024, .f32⟩
  | .hbm, ⟨35, _⟩ => ⟨S1024x1024, .bf16⟩
  | .hbm, ⟨36, _⟩ => ⟨S1024x128, .bf16⟩
  | .hbm, ⟨37, _⟩ => ⟨S128x384, .bf16⟩
  | .hbm, ⟨38, _⟩ => ⟨S16x2048x1024, .bf16⟩
  | .hbm, ⟨39, _⟩ => ⟨S16x2048x1024, .bf16⟩
  | .hbm, ⟨40, _⟩ => ⟨S16x1024x2048, .bf16⟩
  | .hbm, ⟨41, _⟩ => ⟨S16x2048x128, .bf16⟩
  | .hbm, ⟨42, _⟩ => ⟨S16x2048x128, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1x6x1024, .f32⟩
  | .local _ .vmem, ⟨3, _⟩ => ⟨S1x1x6x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x128, .bf16⟩
  | .local _ .vmem, ⟨8, _⟩ => ⟨S1x128, .f32⟩
  | .local _ .vmem, ⟨9, _⟩ => ⟨S128x384, .bf16⟩
  | .local _ .vmem, ⟨10, _⟩ => ⟨S1x1024x1024, .bf16⟩
  | .local _ .vmem, ⟨11, _⟩ => ⟨S1x1024x1024, .bf16⟩
  | .local _ .vmem, ⟨12, _⟩ => ⟨S1x1024x1024, .bf16⟩
  | .local _ .vmem, ⟨13, _⟩ => ⟨S1x1024x1024, .bf16⟩
  | .local _ .vmem, ⟨14, _⟩ => ⟨S1x1024x1024, .bf16⟩
  | .local _ .vmem, ⟨15, _⟩ => ⟨S1x1024x1024, .bf16⟩
  | .local _ .vmem, ⟨16, _⟩ => ⟨S1x1024x128, .bf16⟩
  | .local _ .vmem, ⟨17, _⟩ => ⟨S1x1024x128, .bf16⟩
  | .local _ .vmem, ⟨18, _⟩ => ⟨S1x1024x128, .bf16⟩
  | .local _ .vmem, ⟨19, _⟩ => ⟨S1x1024x128, .bf16⟩
  | .local _ .vmem, ⟨20, _⟩ => ⟨S8x128, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_call1_v0 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_call2_v0 : Ref sig .tc := ⟨.hbm, 20, rfl⟩
abbrev main_call2_c : Ref sig .tc := ⟨.hbm, 21, rfl⟩
abbrev main_call2_v1 : Ref sig .tc := ⟨.hbm, 22, rfl⟩
abbrev main_call2_v2 : Ref sig .tc := ⟨.hbm, 23, rfl⟩
abbrev main_call2_v3 : Ref sig .tc := ⟨.hbm, 24, rfl⟩
abbrev main_call2_v4 : Ref sig .tc := ⟨.hbm, 25, rfl⟩
abbrev main_call2_cst : Ref sig .tc := ⟨.hbm, 26, rfl⟩
abbrev main_call2_v5 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21_0 : Ref sig .tc := ⟨.hbm, 38, rfl⟩
abbrev main_v21_1 : Ref sig .tc := ⟨.hbm, 39, rfl⟩
abbrev main_v21_2 : Ref sig .tc := ⟨.hbm, 40, rfl⟩
abbrev main_v21_3 : Ref sig .tc := ⟨.hbm, 41, rfl⟩
abbrev main_v21_4 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x384 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1024x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1024x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Kernel4Ideal.lean ====
variable {F : FTy → Type} [FloatOps F] [Named F]
def κ : String → Option EReal := fun
  | "fox_scale" => some (((1 / 8) * (Real.log 2)⁻¹ : ℝ) : EReal)
  | _ => none
-- ==== Reference4Ideal.lean ====
abbrev S16x2048x1024 : Shape := ⟨3, ![16, 2048, 1024]⟩
abbrev S2x16x6x1024 : Shape := ⟨4, ![2, 16, 6, 1024]⟩
abbrev S1024x3088 : Shape := ⟨2, ![1024, 3088]⟩
abbrev S16 : Shape := ⟨1, ![16]⟩
abbrev S1x16x1x1024 : Shape := ⟨4, ![1, 16, 1, 1024]⟩
abbrev S16x1024 : Shape := ⟨2, ![16, 1024]⟩
abbrev S16x1x1024 : Shape := ⟨3, ![16, 1, 1024]⟩
abbrev S_ : Shape := ⟨0, ![]⟩
abbrev S16x2048x3088 : Shape := ⟨3, ![16, 2048, 3088]⟩
abbrev S16x1024x2048 : Shape := ⟨3, ![16, 1024, 2048]⟩

abbrev nBuf : Space → Nat
  | .hbm => 32
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S2x16x6x1024, .f32⟩
  | .hbm, ⟨2, _⟩ => ⟨S1024x3088, .f32⟩
  | .hbm, ⟨3, _⟩ => ⟨S16, .f32⟩
  | .hbm, ⟨4, _⟩ => ⟨S1x16x1x1024, .f32⟩
  | .hbm, ⟨5, _⟩ => ⟨S16x1024, .f32⟩
  | .hbm, ⟨6, _⟩ => ⟨S1x16x1x1024, .f32⟩
  | .hbm, ⟨7, _⟩ => ⟨S16x1024, .f32⟩
  | .hbm, ⟨8, _⟩ => ⟨S16x1x1024, .f32⟩
  | .hbm, ⟨9, _⟩ => ⟨S_, .f32⟩
  | .hbm, ⟨10, _⟩ => ⟨S16x1x1024, .f32⟩
  | .hbm, ⟨11, _⟩ => ⟨S16x1x1024, .f32⟩
  | .hbm, ⟨12, _⟩ => ⟨S16x2048x1024, .f32⟩
  | .hbm, ⟨13, _⟩ => ⟨S16x2048x1024, .f32⟩
  | .hbm, ⟨14, _⟩ => ⟨S16x1x1024, .f32⟩
  | .hbm, ⟨15, _⟩ => ⟨S16x2048x1024, .f32⟩
  | .hbm, ⟨16, _⟩ => ⟨S16x2048x1024, .f32⟩
  | .hbm, ⟨17, _⟩ => ⟨S16x2048x3088, .f32⟩
  | .hbm, ⟨18, _⟩ => ⟨S16x2048x1024, .f32⟩
  | .hbm, ⟨19, _⟩ => ⟨S_, .f32⟩
  | .hbm, ⟨20, _⟩ => ⟨S16x2048x1024, .f32⟩
  | .hbm, ⟨21, _⟩ => ⟨S16x2048x1024, .f32⟩
  | .hbm, ⟨22, _⟩ => ⟨S_, .f32⟩
  | .hbm, ⟨23, _⟩ => ⟨S_, .f32⟩
  | .hbm, ⟨24, _⟩ => ⟨S16x2048x1024, .f32⟩
  | .hbm, ⟨25, _⟩ => ⟨S16x2048x1024, .f32⟩
  | .hbm, ⟨26, _⟩ => ⟨S16x2048x1024, .f32⟩
  | .hbm, ⟨27, _⟩ => ⟨S16x2048x1024, .f32⟩
  | .hbm, ⟨28, _⟩ => ⟨S16x2048x1024, .bf16⟩
  | .hbm, ⟨29, _⟩ => ⟨S16x2048x1024, .bf16⟩
  | .hbm, ⟨30, _⟩ => ⟨S16x1024x2048, .f32⟩
  | .hbm, ⟨31, _⟩ => ⟨S16x1024x2048, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== Kernel5.lean ====
abbrev S16x2048x1024 : Shape := ⟨3, ![16, 2048, 1024]⟩
abbrev S2x16x6x1024 : Shape := ⟨4, ![2, 16, 6, 1024]⟩
abbrev S16x2048 : Shape := ⟨2, ![16, 2048]⟩
abbrev S1024x576 : Shape := ⟨2, ![1024, 576]⟩
abbrev S256 : Shape := ⟨1, ![256]⟩
abbrev S256x1536 : Shape := ⟨2, ![256, 1536]⟩
abbrev S256x1024 : Shape := ⟨2, ![256, 1024]⟩
abbrev S16x2048x1 : Shape := ⟨3, ![16, 2048, 1]⟩
abbrev S32 : Shape := ⟨1, ![32]⟩
abbrev S_ : Shape := ⟨0, ![]⟩
abbrev S1x32 : Shape := ⟨2, ![1, 32]⟩
abbrev S4x32 : Shape := ⟨2, ![4, 32]⟩
abbrev S128 : Shape := ⟨1, ![128]⟩
abbrev S1x128 : Shape := ⟨2, ![1, 128]⟩
abbrev S1024x32 : Shape := ⟨2, ![1024, 32]⟩
abbrev S1024x512 : Shape := ⟨2, ![1024, 512]⟩
abbrev S1024x640 : Shape := ⟨2, ![1024, 640]⟩
abbrev S256x8x192 : Shape := ⟨3, ![256, 8, 192]⟩
abbrev S256x8x128 : Shape := ⟨3, ![256, 8, 128]⟩
abbrev S256x8x64 : Shape := ⟨3, ![256, 8, 64]⟩
abbrev S256x4x2x2x32 : Shape := ⟨5, ![256, 4, 2, 2, 32]⟩
abbrev S256x512 : Shape := ⟨2, ![256, 512]⟩
abbrev S1x256 : Shape := ⟨2, ![1, 256]⟩
abbrev S1024x256 : Shape := ⟨2, ![1024, 256]⟩
abbrev S16x2048x512 : Shape := ⟨3, ![16, 2048, 512]⟩
abbrev S16x2048x128 : Shape := ⟨3, ![16, 2048, 128]⟩
abbrev S16x1024x2048 : Shape := ⟨3, ![16, 1024, 2048]⟩
abbrev S1x1024x1024 : Shape := ⟨3, ![1, 1024, 1024]⟩
abbrev S1x1x6x1024 : Shape := ⟨4, ![1, 1, 6, 1024]⟩
abbrev S1x1024x1 : Shape := ⟨3, ![1, 1024, 1]⟩
abbrev S1x1024x512 : Shape := ⟨3, ![1, 1024, 512]⟩
abbrev S1x1024x128 : Shape := ⟨3, ![1, 1024, 128]⟩
abbrev S1x512x1024 : Shape := ⟨3, ![1, 512, 1024]⟩
abbrev S512x1024 : Shape := ⟨2, ![512, 1024]⟩
abbrev S1x1x1x1024 : Shape := ⟨4, ![1, 1, 1, 1024]⟩
abbrev S1x1024 : Shape := ⟨2, ![1, 1024]⟩
abbrev S512x640 : Shape := ⟨2, ![512, 640]⟩
abbrev S512x256 : Shape := ⟨2, ![512, 256]⟩
abbrev S512 : Shape := ⟨1, ![512]⟩
abbrev S512x1 : Shape := ⟨2, ![512, 1]⟩
abbrev S1x512x1 : Shape := ⟨3, ![1, 512, 1]⟩
abbrev S128x1 : Shape := ⟨2, ![128, 1]⟩
abbrev S128x128 : Shape := ⟨2, ![128, 128]⟩
abbrev S512x128 : Shape := ⟨2, ![512, 128]⟩
abbrev S1x512x128 : Shape := ⟨3, ![1, 512, 128]⟩
abbrev S512x512 : Shape := ⟨2, ![512, 512]⟩
abbrev S1x512x512 : Shape := ⟨3, ![1, 512, 512]⟩

abbrev nBuf : Space → Nat
  | .hbm => 46
  | .vmem => 24
  | .smem => 0
  | _ => 0

abbrev bufTy : (tb : Table) → Fin (tcTables nBuf tb) → BufTy
  | .hbm, ⟨0, _⟩ => ⟨S16x2048x1024, .f32⟩
  | .hbm, ⟨1, _⟩ => ⟨S2x16x6x1024, .f32⟩
  | .hbm, ⟨2, _⟩ => ⟨S16x2048, .i32⟩
  | .hbm, ⟨3, _⟩ => ⟨S1024x576, .f32⟩
  | .hbm, ⟨4, _⟩ => ⟨S256, .f32⟩
  | .hbm, ⟨5, _⟩ => ⟨S256x1536, .f32⟩
  | .hbm, ⟨6, _⟩ => ⟨S256, .f32⟩
  | .hbm, ⟨7, _⟩ => ⟨S256x1024, .f32⟩
  | .hbm, ⟨8, _⟩ => ⟨S256x1024, .f32⟩
  | .hbm, ⟨9, _⟩ => ⟨S16x2048x1, .i32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S1x32, .f32⟩
  | .hbm, ⟨19, _⟩ => ⟨S4x32, .f32⟩
  | .hbm, ⟨20, _⟩ => ⟨S128, .f32⟩
  | .hbm, ⟨21, _⟩ => ⟨S1x128, .f32⟩
  | .hbm, ⟨22, _⟩ => ⟨S1024x32, .f32⟩
  | .hbm, ⟨23, _⟩ => ⟨S1024x32, .f32⟩
  | .hbm, ⟨24, _⟩ => ⟨S1024x512, .f32⟩
  | .hbm, ⟨25, _⟩ => ⟨S1024x640, .f32⟩
  | .hbm, ⟨26, _⟩ => ⟨S256x8x192, .f32⟩
  | .hbm, ⟨27, _⟩ => ⟨S256x8x128, .f32⟩
  | .hbm, ⟨28, _⟩ => ⟨S256x1024, .f32⟩
  | .hbm, ⟨29, _⟩ => ⟨S256x8x64, .f32⟩
  | .hbm, ⟨30, _⟩ => ⟨S256x4x2x2x32, .f32⟩
  | .hbm, ⟨31, _⟩ => ⟨S256x4x2x2x32, .f32⟩
  | .hbm, ⟨32, _⟩ => ⟨S256x512, .f32⟩
  | .hbm, ⟨33, _⟩ => ⟨S1024x640, .bf16⟩
  | .hbm, ⟨34, _⟩ => ⟨S1x256, .f32⟩
  | .hbm, ⟨35, _⟩ => ⟨S1x256, .f32⟩
  | .hbm, ⟨36, _⟩ => ⟨S256x1024, .bf16⟩
  | .hbm, ⟨37, _⟩ => ⟨S256x512, .bf16⟩
  | .hbm, ⟨38, _⟩ => ⟨S256x1024, .bf16⟩
  | .hbm, ⟨39, _⟩ => ⟨S1024x256, .f32⟩
  | .hbm, ⟨40, _⟩ => ⟨S1024x256, .bf16⟩
  | .hbm, ⟨41, _⟩ => ⟨S16x2048x1024, .bf16⟩
  | .hbm, ⟨42, _⟩ => ⟨S16x2048x512, .bf16⟩
  | .hbm, ⟨43, _⟩ => ⟨S16x2048x1024, .bf16⟩
  | .hbm, ⟨44, _⟩ => ⟨S16x2048x128, .bf16⟩
  | .hbm, ⟨45, _⟩ => ⟨S16x1024x2048, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1x6x1024, .f32⟩
  | .local _ .vmem, ⟨3, _⟩ => ⟨S1x1x6x1024, .f32⟩
  | .local _ .vmem, ⟨4, _⟩ => ⟨S1x1024x1, .i32⟩
  | .local _ .vmem, ⟨5, _⟩ => ⟨S1x1024x1, .i32⟩
  | .local _ .vmem, ⟨6, _⟩ => ⟨S1x128, .f32⟩
  | .local _ .vmem, ⟨7, _⟩ => ⟨S1024x640, .bf16⟩
  | .local _ .vmem, ⟨8, _⟩ => ⟨S1x256, .f32⟩
  | .local _ .vmem, ⟨9, _⟩ => ⟨S1x256, .f32⟩
  | .local _ .vmem, ⟨10, _⟩ => ⟨S256x1024, .bf16⟩
  | .local _ .vmem, ⟨11, _⟩ => ⟨S256x512, .bf16⟩
  | .local _ .vmem, ⟨12, _⟩ => ⟨S256x1024, .bf16⟩
  | .local _ .vmem, ⟨13, _⟩ => ⟨S1024x256, .bf16⟩
  | .local _ .vmem, ⟨14, _⟩ => ⟨S1x1024x1024, .bf16⟩
  | .local _ .vmem, ⟨15, _⟩ => ⟨S1x1024x1024, .bf16⟩
  | .local _ .vmem, ⟨16, _⟩ => ⟨S1x1024x512, .bf16⟩
  | .local _ .vmem, ⟨17, _⟩ => ⟨S1x1024x512, .bf16⟩
  | .local _ .vmem, ⟨18, _⟩ => ⟨S1x1024x1024, .bf16⟩
  | .local _ .vmem, ⟨19, _⟩ => ⟨S1x1024x1024, .bf16⟩
  | .local _ .vmem, ⟨20, _⟩ => ⟨S1x1024x128, .bf16⟩
  | .local _ .vmem, ⟨21, _⟩ => ⟨S1x1024x128, .bf16⟩
  | .local _ .vmem, ⟨22, _⟩ => ⟨S1x1024x1024, .bf16⟩
  | .local _ .vmem, ⟨23, _⟩ => ⟨S1x1024x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30_0 : Ref sig .tc := ⟨.hbm, 41, rfl⟩
abbrev main_v30_1 : Ref sig .tc := ⟨.hbm, 42, rfl⟩
abbrev main_v30_2 : Ref sig .tc := ⟨.hbm, 43, rfl⟩
abbrev main_v30_3 : Ref sig .tc := ⟨.hbm, 44, rfl⟩
abbrev main_v30_4 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x640 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x1024x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1024x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1024x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1024x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Kernel5Ideal.lean ====
variable {F : FTy → Type} [FloatOps F] [Named F]
def κ : String → Option EReal := fun
  | "mla_scale" => some (((Real.sqrt 192)⁻¹ * (Real.log 2)⁻¹ : ℝ) : EReal)
  | _ => none
-- ==== Reference5Ideal.lean ====
abbrev S16x2048x1024 : Shape := ⟨3, ![16, 2048, 1024]⟩
abbrev S2x16x6x1024 : Shape := ⟨4, ![2, 16, 6, 1024]⟩
abbrev S16x2048 : Shape := ⟨2, ![16, 2048]⟩
abbrev S1024x576 : Shape := ⟨2, ![1024, 576]⟩
abbrev S256 : Shape := ⟨1, ![256]⟩
abbrev S256x1536 : Shape := ⟨2, ![256, 1536]⟩
abbrev S256x1024 : Shape := ⟨2, ![256, 1024]⟩
abbrev S1x16x1x1024 : Shape := ⟨4, ![1, 16, 1, 1024]⟩
abbrev S16x1024 : Shape := ⟨2, ![16, 1024]⟩
abbrev S16x1x1024 : Shape := ⟨3, ![16, 1, 1024]⟩
abbrev S_ : Shape := ⟨0, ![]⟩
abbrev S16x2048x576 : Shape := ⟨3, ![16, 2048, 576]⟩
abbrev S16x2048x256 : Shape := ⟨3, ![16, 2048, 256]⟩
abbrev S16x2048x1 : Shape := ⟨3, ![16, 2048, 1]⟩
abbrev S1x1x256 : Shape := ⟨3, ![1, 1, 256]⟩
abbrev S32 : Shape := ⟨1, ![32]⟩
abbrev S1x1x32 : Shape := ⟨3, ![1, 1, 32]⟩
abbrev S16x2048x32 : Shape := ⟨3, ![16, 2048, 32]⟩
abbrev S16x2048x64 : Shape := ⟨3, ![16, 2048, 64]⟩
abbrev S16x2048x1536 : Shape := ⟨3, ![16, 2048, 1536]⟩
abbrev S16x2048x8x192 : Shape := ⟨4, ![16, 2048, 8, 192]⟩
abbrev S16x2048x8x128 : Shape := ⟨4, ![16, 2048, 8, 128]⟩
abbrev S16x2048x8x64 : Shape := ⟨4, ![16, 2048, 8, 64]⟩
abbrev S16x2048x1x32 : Shape := ⟨4, ![16, 2048, 1, 32]⟩
abbrev S16x2048x8x32 : Shape := ⟨4, ![16, 2048, 8, 32]⟩
abbrev S16x2048x4x2x2x32 : Shape := ⟨6, ![16, 2048, 4, 2, 2, 32]⟩
abbrev S16x2048x512 : Shape := ⟨3, ![16, 2048, 512]⟩
abbrev S16x2048x2x1x32 : Shape := ⟨5, ![16, 2048, 2, 1, 32]⟩
abbrev S16x2048x2x2x32 : Shape := ⟨5, ![16, 2048, 2, 2, 32]⟩
abbrev S16x2048x128 : Shape := ⟨3, ![16, 2048, 128]⟩
abbrev S16x1024x2048 : Shape := ⟨3, ![16, 1024, 2048]⟩

abbrev nBuf : Space → Nat
  | .hbm => 133
  | .vmem => 0
  | .smem => 0
  | _ => 0

abbrev hbmTy0_0 (i : Nat) : BufTy := match i % 128 with
  | 0 => ⟨S16x2048x1024, .f32⟩
  | 1 => ⟨S2x16x6x1024, .f32⟩
  | 2 => ⟨S16x2048, .i32⟩
  | 3 => ⟨S1024x576, .f32⟩
  | 4 => ⟨S256, .f32⟩
  | 5 => ⟨S256x1536, .f32⟩
  | 6 => ⟨S256, .f32⟩
  | 7 => ⟨S256x1024, .f32⟩
  | 8 => ⟨S256x1024, .f32⟩
  | 9 => ⟨S1x16x1x1024, .f32⟩
  | 10 => ⟨S16x1024, .f32⟩
  | 11 => ⟨S1x16x1x1024, .f32⟩
  | 12 => ⟨S16x1024, .f32⟩
  | 13 => ⟨S16x1x1024, .f32⟩
  | 14 => ⟨S_, .f32⟩
  | 15 => ⟨S16x1x1024, .f32⟩
  | 16 => ⟨S16x1x1024, .f32⟩
  | 17 => ⟨S16x2048x1024, .f32⟩
  | 18 => ⟨S16x2048x1024, .f32⟩
  | 19 => ⟨S16x1x1024, .f32⟩
  | 20 => ⟨S16x2048x1024, .f32⟩
  | 21 => ⟨S16x2048x1024, .f32⟩
  | 22 => ⟨S16x2048x576, .f32⟩
  | 23 => ⟨S16x2048x256, .f32⟩
  | 24 => ⟨S16x2048x256, .f32⟩
  | 25 => ⟨S_, .f32⟩
  | 26 => ⟨S16x2048, .f32⟩
  | 27 => ⟨S16x2048x1, .f32⟩
  | 28 => ⟨S_, .f32⟩
  | 29 => ⟨S16x2048x1, .f32⟩
  | 30 => ⟨S16x2048x1, .f32⟩
  | 31 => ⟨S_, .f32⟩
  | 32 => ⟨S16x2048x1, .f32⟩
  | 33 => ⟨S16x2048x1, .f32⟩
  | 34 => ⟨S16x2048x1, .f32⟩
  | 35 => ⟨S16x2048x256, .f32⟩
  | 36 => ⟨S16x2048x256, .f32⟩
  | 37 => ⟨S1x1x256, .f32⟩
  | 38 => ⟨S16x2048x256, .f32⟩
  | 39 => ⟨S16x2048x256, .f32⟩
  | 40 => ⟨S16x2048x256, .f32⟩
  | 41 => ⟨S16x2048x256, .f32⟩
  | 42 => ⟨S_, .f32⟩
  | 43 => ⟨S16x2048, .f32⟩
  | 44 => ⟨S16x2048x1, .f32⟩
  | 45 => ⟨S_, .f32⟩
  | 46 => ⟨S16x2048x1, .f32⟩
  | 47 => ⟨S16x2048x1, .f32⟩
  | 48 => ⟨S_, .f32⟩
  | 49 => ⟨S16x2048x1, .f32⟩
  | 50 => ⟨S16x2048x1, .f32⟩
  | 51 => ⟨S16x2048x1, .f32⟩
  | 52 => ⟨S16x2048x256, .f32⟩
  | 53 => ⟨S16x2048x256, .f32⟩
  | 54 => ⟨S1x1x256, .f32⟩
  | 55 => ⟨S16x2048x256, .f32⟩
  | 56 => ⟨S16x2048x256, .f32⟩
  | 57 => ⟨S32, .f32⟩
  | 58 => ⟨S32, .f32⟩
  | 59 => ⟨S_, .f32⟩
  | 60 => ⟨S32, .f32⟩
  | 61 => ⟨S32, .f32⟩
  | 62 => ⟨S_, .f32⟩
  | 63 => ⟨S32, .f32⟩
  | 64 => ⟨S32, .f32⟩
  | 65 => ⟨S16x2048, .f32⟩
  | 66 => ⟨S16x2048x1, .f32⟩
  | 67 => ⟨S1x1x32, .f32⟩
  | 68 => ⟨S16x2048x32, .f32⟩
  | 69 => ⟨S16x2048x32, .f32⟩
  | 70 => ⟨S16x2048x32, .f32⟩
  | 71 => ⟨S16x2048x32, .f32⟩
  | 72 => ⟨S16x2048x32, .f32⟩
  | 73 => ⟨S16x2048x64, .f32⟩
  | 74 => ⟨S16x2048x32, .f32⟩
  | 75 => ⟨S16x2048x32, .f32⟩
  | 76 => ⟨S16x2048x32, .f32⟩
  | 77 => ⟨S16x2048x32, .f32⟩
  | 78 => ⟨S16x2048x32, .f32⟩
  | 79 => ⟨S16x2048x32, .f32⟩
  | 80 => ⟨S16x2048x32, .f32⟩
  | 81 => ⟨S16x2048x32, .f32⟩
  | 82 => ⟨S16x2048x64, .f32⟩
  | 83 => ⟨S16x2048x1536, .f32⟩
  | 84 => ⟨S16x2048x8x192, .f32⟩
  | 85 => ⟨S16x2048x8x128, .f32⟩
  | 86 => ⟨S16x2048x1024, .f32⟩
  | 87 => ⟨S_, .f32⟩
  | 88 => ⟨S_, .f32⟩
  | 89 => ⟨S16x2048x1024, .f32⟩
  | 90 => ⟨S16x2048x1024, .f32⟩
  | 91 => ⟨S_, .f32⟩
  | 92 => ⟨S_, .f32⟩
  | 93 => ⟨S16x2048x1024, .f32⟩
  | 94 => ⟨S16x2048x1024, .f32⟩
  | 95 => ⟨S16x2048x8x64, .f32⟩
  | 96 => ⟨S16x2048x1x32, .f32⟩
  | 97 => ⟨S16x2048x1x32, .f32⟩
  | 98 => ⟨S16x2048x8x32, .f32⟩
  | 99 => ⟨S16x2048x8x32, .f32⟩
  | 100 => ⟨S16x2048x8x32, .f32⟩
  | 101 => ⟨S16x2048x8x32, .f32⟩
  | 102 => ⟨S16x2048x8x32, .f32⟩
  | 103 => ⟨S16x2048x8x32, .f32⟩
  | 104 => ⟨S16x2048x8x32, .f32⟩
  | 105 => ⟨S16x2048x8x32, .f32⟩
  | 106 => ⟨S16x2048x8x32, .f32⟩
  | 107 => ⟨S16x2048x8x32, .f32⟩
  | 108 => ⟨S16x2048x8x32, .f32⟩
  | 109 => ⟨S16x2048x8x32, .f32⟩
  | 110 => ⟨S16x2048x8x64, .f32⟩
  | 111 => ⟨S16x2048x4x2x2x32, .f32⟩
  | 112 => ⟨S16x2048x4x2x2x32, .f32⟩
  | 113 => ⟨S16x2048x512, .f32⟩
  | 114 => ⟨S_, .f32⟩
  | 115 => ⟨S_, .f32⟩
  | 116 => ⟨S16x2048x512, .f32⟩
  | 117 => ⟨S16x2048x512, .f32⟩
  | 118 => ⟨S_, .f32⟩
  | 119 => ⟨S_, .f32⟩
  | 120 => ⟨S16x2048x512, .f32⟩
  | 121 => ⟨S16x2048x512, .f32⟩
  | 122 => ⟨S16x2048x2x1x32, .f32⟩
  | 123 => ⟨S16x2048x2x2x32, .f32⟩
  | 124 => ⟨S16x2048x128, .f32⟩
  | 125 => ⟨S16x2048x1024, .f32⟩
  | 126 => ⟨S16x2048x1024, .f32⟩
  | 127 => ⟨S16x2048x1024, .bf16⟩
  | _ => ⟨S16x2048x1024, .f32⟩

abbrev hbmTy0_1 (i : Nat) : BufTy := match i % 128 with
  | 0 => ⟨S16x2048x512, .bf16⟩
  | 1 => ⟨S16x2048x1024, .bf16⟩
  | 2 => ⟨S16x2048x128, .bf16⟩
  | 3 => ⟨S16x1024x2048, .f32⟩
  | 4 => ⟨S16x1024x2048, .bf16⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_6 : Ref sig .tc := ⟨.hbm, 59, rfl⟩
abbrev main_v43 : Ref sig .tc := ⟨.hbm, 60, rfl⟩
abbrev main_v44 : Ref sig .tc := ⟨.hbm, 61, rfl⟩
abbrev main_cst_7 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_cst_8 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_cst_9 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_cst_10 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_cst_11 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩

abbrev nD : Nat := 1
abbrev τ : Topo := Topo.v7x

variable {F : FTy → Type} [FloatOps F]
-- ==== Kernel6.lean ====
abbrev S16x1024 : Shape := ⟨2, ![16, 1024]⟩
abbrev S2x1024x6144 : Shape := ⟨3, ![2, 1024, 6144]⟩
abbrev S2x6144 : Shape := ⟨2, ![2, 6144]⟩
abbrev S2x1x6144 : Shape := ⟨3, ![2, 1, 6144]⟩
abbrev S2x16x6144 : Shape := ⟨3, ![2, 16, 6144]⟩
abbrev S1x1024x1024 : Shape := ⟨3, ![1, 1024, 1024]⟩
abbrev S1x1x1024 : Shape := ⟨3, ![1, 1, 1024]⟩
abbrev S1x16x1024 : Shape := ⟨3, ![1, 16, 1024]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S2x1024x6144, .f32⟩
  | .hbm, ⟨2, _⟩ => ⟨S2x6144, .f32⟩
  | .hbm, ⟨3, _⟩ => ⟨S2x1x6144, .f32⟩
  | .hbm, ⟨4, _⟩ => ⟨S2x16x6144, .f32⟩
  | .local _ .vmem, ⟨0, _⟩ => ⟨S16x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x16x1024, .f32⟩
  | .local _ .vmem, ⟨6, _⟩ => ⟨S1x16x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S16x1024 : Shape := ⟨2, ![16, 1024]⟩
abbrev S2x1024x6144 : Shape := ⟨3, ![2, 1024, 6144]⟩
abbrev S2x6144 : Shape := ⟨2, ![2, 6144]⟩
abbrev S_ : Shape := ⟨0, ![]⟩
abbrev S1x1024x6144 : Shape := ⟨3, ![1, 1024, 6144]⟩
abbrev S1024x6144 : Shape := ⟨2, ![1024, 6144]⟩
abbrev S16x6144 : Shape := ⟨2, ![16, 6144]⟩
abbrev S1x6144 : Shape := ⟨2, ![1, 6144]⟩
abbrev S6144 : Shape := ⟨1, ![6144]⟩
abbrev S1x16x6144 : Shape := ⟨3, ![1, 16, 6144]⟩
abbrev S2x16x6144 : Shape := ⟨3, ![2, 16, 6144]⟩

abbrev nBuf : Space → Nat
  | .hbm => 31
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S2x1024x6144, .f32⟩
  | .hbm, ⟨2, _⟩ => ⟨S2x6144, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S1x1024x6144, .f32⟩
  | .hbm, ⟨13, _⟩ => ⟨S1024x6144, .f32⟩
  | .hbm, ⟨14, _⟩ => ⟨S16x6144, .f32⟩
  | .hbm, ⟨15, _⟩ => ⟨S1x6144, .f32⟩
  | .hbm, ⟨16, _⟩ => ⟨S6144, .f32⟩
  | .hbm, ⟨17, _⟩ => ⟨S1x6144, .f32⟩
  | .hbm, ⟨18, _⟩ => ⟨S16x6144, .f32⟩
  | .hbm, ⟨19, _⟩ => ⟨S16x6144, .f32⟩
  | .hbm, ⟨20, _⟩ => ⟨S1x1024x6144, .f32⟩
  | .hbm, ⟨21, _⟩ => ⟨S1024x6144, .f32⟩
  | .hbm, ⟨22, _⟩ => ⟨S16x6144, .f32⟩
  | .hbm, ⟨23, _⟩ => ⟨S1x6144, .f32⟩
  | .hbm, ⟨24, _⟩ => ⟨S6144, .f32⟩
  | .hbm, ⟨25, _⟩ => ⟨S1x6144, .f32⟩
  | .hbm, ⟨26, _⟩ => ⟨S16x6144, .f32⟩
  | .hbm, ⟨27, _⟩ => ⟨S16x6144, .f32⟩
  | .hbm, ⟨28, _⟩ => ⟨S1x16x6144, .f32⟩
  | .hbm, ⟨29, _⟩ => ⟨S1x16x6144, .f32⟩
  | .hbm, ⟨30, _⟩ => ⟨S2x16x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]
-- ==== Proof.Post.Row.lean ====
/- The last layer from the attention to the result, for one token: what both programs compute, as functions of the
   token's rows and of the weights, over the extended reals. -/
module

public import Idealize.ShloMosaic.PureOps.Ideal

@[expose] public section

noncomputable section

namespace Cert.Post

open Idealize.ShloMosaic

/-- The residual's factor, the number the program writes for `4 ^ (1/4)`. -/
def cAlpha : EReal := Ideal.ofBits .f32 0x3FB504F3#32

/-- The number of lanes of a row. -/
def cWidth : EReal := Ideal.ofBits .f32 0x44800000#32

/-- The number added to a variance. -/
def cEps : EReal := Ideal.ofBits .f32 0x3727C5AC#32

/-- A row times a matrix. -/
def vecMat {n p : Nat} (u : Fin n → EReal) (w : Fin n → Fin p → EReal) (j : Fin p) : EReal := ∑ k, u k * w k j

/-- The mean of a row of 1024 lanes. -/
def mean (z : Fin 1024 → EReal) : EReal := Ideal.div (∑ k, z k) cWidth

/-- A row less its mean. -/
def centred (z : Fin 1024 → EReal) (j : Fin 1024) : EReal := z j - mean z

/-- The layer norm of a row, with gain `g` and offset `b`. -/
def layerNorm (z g b : Fin 1024 → EReal) (j : Fin 1024) : EReal :=
  centred z j * Ideal.rsqrt (mean (fun k => centred z k * centred z k) + cEps) * g j + b j

/-- The scaled residual plus the gated update. -/
def residual (x g y : Fin 1024 → EReal) (j : Fin 1024) : EReal := cAlpha * x j + (1 + g j) * y j

/-- A row with a scale and a shift. -/
def modulated (x sc sh : Fin 1024 → EReal) (j : Fin 1024) : EReal := x j * (1 + sc j) + sh j

/-- The gated unit: `g / (1 + exp (-g))` times `u`. -/
def glu (g u : EReal) : EReal := g * Ideal.div 1 (1 + Ideal.exp (-g)) * u

/-- The first half of the layer's end: the row after the attention's projection, the residual and the first norm. -/
def firstNorm (a x ga : Fin 1024 → EReal) (wo : Fin 1024 → Fin 1024 → EReal) (g b : Fin 1024 → EReal) : Fin 1024 → EReal :=
  layerNorm (residual x ga (vecMat a wo)) g b

/-- The hidden row of the channel mixer. -/
def hidden (u : Fin 1024 → EReal) (wg wu : Fin 1024 → Fin 2816 → EReal) (n : Fin 2816) : EReal :=
  glu (vecMat u wg n) (vecMat u wu n)

/-- The second half: the channel mixer on the modulated row, the residual and the second norm. -/
def secondNorm (x1 sc sh gf : Fin 1024 → EReal) (wg wu : Fin 1024 → Fin 2816 → EReal) (wd : Fin 2816 → Fin 1024 → EReal)
    (g b : Fin 1024 → EReal) : Fin 1024 → EReal :=
  layerNorm (residual x1 gf (vecMat (hidden (modulated x1 sc sh) wg wu) wd)) g b

end Cert.Post

end
-- ==== Proof.Post.Tile.lean ====
/- What one group of 256 rows computes, as functions of the values it loads, and each read at a row and a lane. -/
module

public import proofs.«01_k».proof.Proof.Gen.KernelIdeal.Skeleton
public import proofs.«01_k».proof.Proof.Post.Row
public import Idealize.ShloMosaic.Lib.Pointwise

@[expose] public section

noncomputable section

namespace Cert.Post

open Idealize.ShloMosaic Cert.KernelIdeal Cert.KernelIdeal.Gen

/-- The attention's rows times the output projection. -/
def tProj (a : Vec Ideal S1x256x1024 .bf16) (w : Vec Ideal S1024x1024 .bf16) : FVec Ideal S256x1024 .f32 :=
  matmul (φ₁ := .bf16) (φ₂ := .bf16) dot_S256x1024_S1024x1024_S256x1024_1_0_0_1_n_n none (shapeCast S256x1024 a shapeCasts_S1x256x1024_S256x1024)
    (shapeCast S1024x1024 w shapeCasts_S1024x1024_S1024x1024) (constant S256x1024 .f32 0x00000000#32)

/-- The scaled residual plus the gated update, for 256 rows. -/
def tResidual (x : FVec Ideal S256x1024 .f32) (g : Vec Ideal S1x1x1x1024 .f32) (y : FVec Ideal S256x1024 .f32) :
    FVec Ideal S256x1024 .f32 :=
  addf (mulf (broadcast S256x1024 (Scalar.ofBits .f32 0x3FB504F3#32)) x)
    (mulf (broadcastTo S256x1024 (addf (broadcast S1x1024 (Scalar.ofBits .f32 0x3F800000#32))
      (shapeCast S1x1024 g shapeCasts_S1x1x1x1024_S1x1024)) broadcasts_S1x1024_S256x1024) y)

/-- The means of 256 rows. -/
def tMean (z : FVec Ideal S256x1024 .f32) : FVec Ideal S256x1 .f32 :=
  divf (shapeCast S256x1 (multiReduction .add [1] S256 z 0x00000000#32 reduces_S256x1024_S256 (.inl rfl) rfl) shapeCasts_S256_S256x1)
    (broadcast S256x1 (Scalar.ofBits .f32 0x44800000#32))

/-- 256 rows less their means. -/
def tCentred (z : FVec Ideal S256x1024 .f32) : FVec Ideal S256x1024 .f32 :=
  subf z (broadcastTo S256x1024 (tMean z) broadcasts_S256x1_S256x1024)

/-- The layer norm of 256 rows. -/
def tNorm (z : FVec Ideal S256x1024 .f32) (g b : Vec Ideal S1x1x1024 .f32) : FVec Ideal S256x1024 .f32 :=
  addf (mulf (mulf (tCentred z) (broadcastTo S256x1024 (rsqrt (addf (tMean (mulf (tCentred z) (tCentred z)))
      (broadcast S256x1 (Scalar.ofBits .f32 0x3727C5AC#32)))) broadcasts_S256x1_S256x1024))
    (broadcastTo S256x1024 (shapeCast S1x1024 g shapeCasts_S1x1x1024_S1x1024) broadcasts_S1x1024_S256x1024))
    (broadcastTo S256x1024 (shapeCast S1x1024 b shapeCasts_S1x1x1024_S1x1024) broadcasts_S1x1024_S256x1024)

/-- The rows the channel mixer reads. -/
def tModulated (x : FVec Ideal S256x1024 .f32) (sc sh : Vec Ideal S1x1x1x1024 .f32) : FVec Ideal S256x1024 .bf16 :=
  truncf .bf16 (addf (mulf x (broadcastTo S256x1024 (addf (broadcast S1x1024 (Scalar.ofBits .f32 0x3F800000#32))
      (shapeCast S1x1024 sc shapeCasts_S1x1x1x1024_S1x1024)) broadcasts_S1x1024_S256x1024))
    (broadcastTo S256x1024 (shapeCast S1x1024 sh shapeCasts_S1x1x1x1024_S1x1024) broadcasts_S1x1024_S256x1024)) bitsLt_bf16_f32

/-- Those rows times 256 columns of a weight. -/
def tChunk (u : FVec Ideal S256x1024 .bf16) (w : Vec Ideal S1x1024x256 .bf16) : FVec Ideal S256x256 .f32 :=
  matmul (φ₁ := .bf16) (φ₂ := .bf16) dot_S256x1024_S1024x256_S256x256_1_0_0_1_n_n none u (shapeCast S1024x256 w shapeCasts_S1x1024x256_S1024x256)
    (constant S256x256 .f32 0x00000000#32)

/-- 256 columns of the hidden rows. -/
def tGlu (u : FVec Ideal S256x1024 .bf16) (wg wu : Vec Ideal S1x1024x256 .bf16) : FVec Ideal S256x256 .bf16 :=
  shapeCast S256x256 (truncf .bf16 (mulf (mulf (tChunk u wg) (divf (broadcast S256x256 (Scalar.ofBits .f32 0x3F800000#32))
    (addf (broadcast S256x256 (Scalar.ofBits .f32 0x3F800000#32))
      (exp (subf (broadcast S256x256 (Scalar.ofBits .f32 0x00000000#32)) (tChunk u wg)))))) (tChunk u wu)) bitsLt_bf16_f32)
    shapeCasts_S256x256_S256x256

/-- The hidden rows times the down projection. -/
def tDown (h : Vec Ideal S256x2816 .bf16) (w : Vec Ideal S1x2816x1024 .bf16) : FVec Ideal S256x1024 .f32 :=
  matmul (φ₁ := .bf16) (φ₂ := .bf16) dot_S256x2816_S2816x1024_S256x1024_1_0_0_1_n_n none h (shapeCast S2816x1024 w shapeCasts_S1x2816x1024_S2816x1024)
    (constant S256x1024 .f32 0x00000000#32)

/-- The rows after the first norm, from the values the group loads. -/
def tFirst (a : Vec Ideal S1x256x1024 .bf16) (x : Vec Ideal S1x256x1024 .f32) (ga : Vec Ideal S1x1x1x1024 .f32)
    (wo : Vec Ideal S1024x1024 .bf16) (g b : Vec Ideal S1x1x1024 .f32) : FVec Ideal S256x1024 .f32 :=
  tNorm (tResidual (shapeCast S256x1024 x shapeCasts_S1x256x1024_S256x1024) ga (tProj a wo)) g b

/-- The rows the group stores, from the rows after the first norm and the hidden rows. -/
def tLast (x1 : FVec Ideal S256x1024 .f32) (gf : Vec Ideal S1x1x1x1024 .f32) (h : Vec Ideal S256x2816 .bf16)
    (wd : Vec Ideal S1x2816x1024 .bf16) (g b : Vec Ideal S1x1x1024 .f32) : FVec Ideal S1x256x1024 .f32 :=
  shapeCast S1x256x1024 (tNorm (tResidual x1 gf (tDown h wd)) g b) shapeCasts_S256x1024_S1x256x1024

variable (i : Fin 256) (j : Fin 1024)

/-- A row of the projection is the row of the attention times the weight. -/
theorem tProj_apply (a : Vec Ideal S1x256x1024 .bf16) (w : Vec Ideal S1024x1024 .bf16) :
    tProj a w (ix2 i j) = vecMat (fun k => a (ix3 0 i k)) (fun k n => w (ix2 k n)) j := by
  pointwise [tProj, vecMat]

/-- A row of the residual. -/
theorem tResidual_apply (x : FVec Ideal S256x1024 .f32) (g : Vec Ideal S1x1x1x1024 .f32) (y : FVec Ideal S256x1024 .f32) :
    tResidual x g y (ix2 i j)
      = residual (fun k => x (ix2 i k)) (fun k => g (ix4 0 0 0 k)) (fun k => y (ix2 i k)) j := by
  pointwise [tResidual, residual, cAlpha]

/-- The mean of a row. -/
theorem tMean_apply (z : FVec Ideal S256x1024 .f32) : tMean z (ix2 i 0) = mean (fun k => z (ix2 i k)) := by
  pointwise [tMean, mean, cWidth]

/-- A row less its mean. -/
theorem tCentred_apply (z : FVec Ideal S256x1024 .f32) : tCentred z (ix2 i j) = centred (fun k => z (ix2 i k)) j := by
  pointwise [tCentred, centred]
  rw [tMean_apply]

/-- The layer norm of a row. -/
theorem tNorm_apply (z : FVec Ideal S256x1024 .f32) (g b : Vec Ideal S1x1x1024 .f32) :
    tNorm z g b (ix2 i j)
      = layerNorm (fun k => z (ix2 i k)) (fun k => g (ix3 0 0 k)) (fun k => b (ix3 0 0 k)) j := by
  pointwise [tNorm, layerNorm, cEps]
  rw [tMean_apply, tCentred_apply]
  simp only [mulf, tCentred_apply]
  rfl

/-- A row the channel mixer reads. -/
theorem tModulated_apply (x : FVec Ideal S256x1024 .f32) (sc sh : Vec Ideal S1x1x1x1024 .f32) :
    tModulated x sc sh (ix2 i j)
      = modulated (fun k => x (ix2 i k)) (fun k => sc (ix4 0 0 0 k)) (fun k => sh (ix4 0 0 0 k)) j := by
  pointwise [tModulated, modulated]

/-- A row times 256 columns of a weight. -/
theorem tChunk_apply (u : FVec Ideal S256x1024 .bf16) (w : Vec Ideal S1x1024x256 .bf16) (n : Fin 256) :
    tChunk u w (ix2 i n) = vecMat (fun k => u (ix2 i k)) (fun k n => w (ix3 0 k n)) n := by
  pointwise [tChunk, vecMat]

/-- 256 lanes of a hidden row. -/
theorem tGlu_apply (u : FVec Ideal S256x1024 .bf16) (wg wu : Vec Ideal S1x1024x256 .bf16) (n : Fin 256) :
    tGlu u wg wu (ix2 i n)
      = glu (vecMat (fun k => u (ix2 i k)) (fun k n => wg (ix3 0 k n)) n)
          (vecMat (fun k => u (ix2 i k)) (fun k n => wu (ix3 0 k n)) n) := by
  pointwise [tGlu, glu]
  rw [tChunk_apply, tChunk_apply]
  simp

/-- A hidden row times the down projection. -/
theorem tDown_apply (h : Vec Ideal S256x2816 .bf16) (w : Vec Ideal S1x2816x1024 .bf16) :
    tDown h w (ix2 i j) = vecMat (fun k => h (ix2 i k)) (fun k n => w (ix3 0 k n)) j := by
  pointwise [tDown, vecMat]

/-- A row after the first norm. -/
theorem tFirst_apply (a : Vec Ideal S1x256x1024 .bf16) (x : Vec Ideal S1x256x1024 .f32) (ga : Vec Ideal S1x1x1x1024 .f32)
    (wo : Vec Ideal S1024x1024 .bf16) (g b : Vec Ideal S1x1x1024 .f32) :
    tFirst a x ga wo g b (ix2 i j)
      = firstNorm (fun k => a (ix3 0 i k)) (fun k => x (ix3 0 i k)) (fun k => ga (ix4 0 0 0 k)) (fun k n => wo (ix2 k n))
          (fun k => g (ix3 0 0 k)) (fun k => b (ix3 0 0 k)) j := by
  rw [tFirst, tNorm_apply, firstNorm]
  simp only [tResidual_apply, tProj_apply]
  pointwise

/-- A row the group stores. -/
theorem tLast_apply (x1 : FVec Ideal S256x1024 .f32) (gf : Vec Ideal S1x1x1x1024 .f32) (h : Vec Ideal S256x2816 .bf16)
    (wd : Vec Ideal S1x2816x1024 .bf16) (g b : Vec Ideal S1x1x1024 .f32) :
    tLast x1 gf h wd g b (ix3 0 i j)
      = layerNorm (residual (fun k => x1 (ix2 i k)) (fun k => gf (ix4 0 0 0 k))
          (vecMat (fun k => h (ix2 i k)) (fun k n => wd (ix3 0 k n)))) (fun k => g (ix3 0 0 k)) (fun k => b (ix3 0 0 k)) j := by
  pointwise [tLast]
  rw [tNorm_apply]
  simp only [tResidual_apply, tDown_apply]

end Cert.Post

end
-- ==== Proof.Post.Block.lean ====
/- What one grid point leaves in its output block: every row is the row function of the block's rows. The point runs four
   groups of 256 rows; a group writes its hidden rows to the scratch in eleven chunks of 256 columns and reads them back. -/
module

public import proofs.«01_k».proof.Proof.Gen.KernelIdeal.Frame
public import proofs.«01_k».proof.Proof.Post.Tile
public import Idealize.ShloMosaic.Lib.Pipeline.Value
public import Idealize.ShloMosaic.Lib.Pipeline.ValueKit

@[expose] public section

noncomputable section

namespace Cert.Post

open Idealize.ShloMosaic Cert.KernelIdeal Cert.KernelIdeal.Gen

/-! ## The rows of a block -/

section Rows

variable (x0 : Vec Ideal S1x1024x1024 .bf16) (x1 : Vec Ideal S1x1024x1024 .f32) (x2 : Vec Ideal S1x1x6x1024 .f32)
  (x3 : Vec Ideal S1024x1024 .bf16) (x4 x5 : Vec Ideal S1x1024x2816 .bf16) (x6 : Vec Ideal S1x2816x1024 .bf16)
  (x7 x8 : Vec Ideal S1x2x1024 .f32) (p : Fin 1024)

/-- Row `p` of the block after the first norm. -/
def rowFirst : Fin 1024 → EReal :=
  firstNorm (fun k => x0 (ix3 0 p k)) (fun k => x1 (ix3 0 p k)) (fun k => x2 (ix4 0 0 2 k)) (fun k n => x3 (ix2 k n))
    (fun k => x7 (ix3 0 0 k)) (fun k => x8 (ix3 0 0 k))

/-- Row `p` of the block's hidden rows. -/
def rowHidden : Fin 2816 → EReal :=
  hidden (modulated (rowFirst x0 x1 x2 x3 x7 x8 p) (fun k => x2 (ix4 0 0 4 k)) (fun k => x2 (ix4 0 0 3 k)))
    (fun k n => x4 (ix3 0 k n)) (fun k n => x5 (ix3 0 k n))

/-- Row `p` of the block's result. -/
def rowLast : Fin 1024 → EReal :=
  secondNorm (rowFirst x0 x1 x2 x3 x7 x8 p) (fun k => x2 (ix4 0 0 4 k)) (fun k => x2 (ix4 0 0 3 k)) (fun k => x2 (ix4 0 0 5 k))
    (fun k n => x4 (ix3 0 k n)) (fun k n => x5 (ix3 0 k n)) (fun k n => x6 (ix3 0 k n))
    (fun k => x7 (ix3 0 1 k)) (fun k => x8 (ix3 0 1 k))

end Rows

/-! ## Loads -/

/-- A unit-stride load from a whole buffer reads the contents at the shifted index. -/
theorem load_apply {S : Shape} {e : EltTy} (M : Memref sig .tc .vmem S e) (hM : M.IsWhole) (x : Vec Ideal S e)
    (off size : Fin S.rank → Nat) (inb : ∀ a, off a + size a ≤ S.size a) (j : (Rect.unit off size inb).shape.Idx) (y : S.Idx)
    (hy : ∀ a, (y a : Nat) = off a + j a) :
    View.readAt (Elt Ideal) M.view (Rect.unit off size inb).toLoadRect (hM.unread x) j = x y := by
  rw [View.readAt_apply, hM.read_unread]
  exact congrArg x (funext fun a => Fin.ext ((Rect.idx_unit_val off size inb j a).trans (hy a).symm))

/-- The bounds of a group's rows in a block. -/
theorem inbRows {o : Nat} (ho : o + 256 ≤ 1024) (a : Fin 3) : (![0, o, 0] : Fin 3 → Nat) a + S1x256x1024.size a ≤ S1x1024x1024.size a := by
  match a with
  | 0 => exact Nat.le_refl _
  | 1 => exact ho
  | 2 => exact Nat.le_refl _

/-- The bounds of 256 columns of a weight. -/
theorem inbCols {q : Nat} (hq : q + 256 ≤ 2816) (a : Fin 3) : (![0, 0, q] : Fin 3 → Nat) a + S1x1024x256.size a ≤ S1x1024x2816.size a := by
  match a with
  | 0 => exact Nat.le_refl _
  | 1 => exact Nat.le_refl _
  | 2 => exact hq

/-- The bounds of a group's chunk of the scratch. -/
theorem inbChunk {o q : Nat} (ho : o + 256 ≤ 1024) (hq : q + 256 ≤ 2816) (a : Fin 2) :
    (![o, q] : Fin 2 → Nat) a + S256x256.size a ≤ S1024x2816.size a := by
  match a with
  | 0 => exact ho
  | 1 => exact hq

/-- The bounds of a group's rows of the scratch. -/
theorem inbBand {o : Nat} (ho : o + 256 ≤ 1024) (a : Fin 2) : (![o, 0] : Fin 2 → Nat) a + S256x2816.size a ≤ S1024x2816.size a := by
  match a with
  | 0 => exact ho
  | 1 => exact Nat.le_refl _

/-- The bounds of one row of the modulation. -/
theorem inbMod {t : Nat} (ht : t + 1 ≤ 6) (a : Fin 4) : (![0, 0, t, 0] : Fin 4 → Nat) a + S1x1x1x1024.size a ≤ S1x1x6x1024.size a := by
  match a with
  | 0 => exact Nat.le_refl _
  | 1 => exact Nat.le_refl _
  | 2 => exact ht
  | 3 => exact Nat.le_refl _

/-- The bounds of one row of a norm's weights. -/
theorem inbNorm {t : Nat} (ht : t + 1 ≤ 2) (a : Fin 3) : (![0, t, 0] : Fin 3 → Nat) a + S1x1x1024.size a ≤ S1x2x1024.size a := by
  match a with
  | 0 => exact Nat.le_refl _
  | 1 => exact ht
  | 2 => exact Nat.le_refl _

/-- The bounds of the output projection. -/
theorem inbProj (a : Fin 2) : (![0, 0] : Fin 2 → Nat) a + S1024x1024.size a ≤ S1024x1024.size a := by
  match a with
  | 0 => exact Nat.le_refl _
  | 1 => exact Nat.le_refl _

/-- The bounds of the down projection. -/
theorem inbDown (a : Fin 3) : (![0, 0, 0] : Fin 3 → Nat) a + S1x2816x1024.size a ≤ S1x2816x1024.size a := by
  match a with
  | 0 => exact Nat.le_refl _
  | 1 => exact Nat.le_refl _
  | 2 => exact Nat.le_refl _

section Group

variable (c : Dev nD) (i : grid0.Coords) (arg2 : Memref sig .tc .vmem S1x1024x1024 .bf16) (harg2 : arg2.IsWhole) (arg3 : Memref sig .tc .vmem S1x1024x1024 .f32) (harg3 : arg3.IsWhole) (arg4 : Memref sig .tc .vmem S1x1x6x1024 .f32) (harg4 : arg4.IsWhole) (arg5 : Memref sig .tc .vmem S1024x1024 .bf16) (harg5 : arg5.IsWhole) (arg6 : Memref sig .tc .vmem S1x1024x2816 .bf16) (harg6 : arg6.IsWhole) (arg7 : Memref sig .tc .vmem S1x1024x2816 .bf16) (harg7 : arg7.IsWhole) (arg8 : Memref sig .tc .vmem S1x2816x1024 .bf16) (harg8 : arg8.IsWhole) (arg9 : Memref sig .tc .vmem S1x2x1024 .f32) (harg9 : arg9.IsWhole) (arg10 : Memref sig .tc .vmem S1x2x1024 .f32) (harg10 : arg10.IsWhole) (arg11 : Memref sig .tc .vmem S1x1024x1024 .f32) (harg11 : arg11.IsWhole) (arg12 : Memref sig .tc .vmem S1024x2816 .bf16) (harg12 : arg12.IsWhole)
  (x0 : Vec Ideal S1x1024x1024 .bf16) (x1 : Vec Ideal S1x1024x1024 .f32) (x2 : Vec Ideal S1x1x6x1024 .f32) (x3 : Vec Ideal S1024x1024 .bf16) (x4 x5 : Vec Ideal S1x1024x2816 .bf16) (x6 : Vec Ideal S1x2816x1024 .bf16) (x7 x8 : Vec Ideal S1x2x1024 .f32)

/-- One row of the modulation, loaded. -/
def ldMod (t : Nat) (ht : t + 1 ≤ 6) : Vec Ideal S1x1x1x1024 .f32 :=
  View.readAt (Elt Ideal) arg4.view (Rect.unit (s := S1x1x6x1024) ![0, 0, t, 0] S1x1x1x1024.size (inbMod ht)).toLoadRect (harg4.unread x2)

/-- One row of a norm's weights, loaded. -/
def ldNorm (M : Memref sig .tc .vmem S1x2x1024 .f32) (hM : M.IsWhole) (x : Vec Ideal S1x2x1024 .f32) (t : Nat) (ht : t + 1 ≤ 2) :
    Vec Ideal S1x1x1024 .f32 :=
  View.readAt (Elt Ideal) M.view (Rect.unit (s := S1x2x1024) ![0, t, 0] S1x1x1024.size (inbNorm ht)).toLoadRect (hM.unread x)

/-- A group's 256 rows, loaded. -/
def ldRows {e : EltTy} (M : Memref sig .tc .vmem S1x1024x1024 e) (hM : M.IsWhole) (x : Vec Ideal S1x1024x1024 e) (o : Nat)
    (ho : o + 256 ≤ 1024) : Vec Ideal S1x256x1024 e :=
  View.readAt (Elt Ideal) M.view (Rect.unit (s := S1x1024x1024) ![0, o, 0] S1x256x1024.size (inbRows ho)).toLoadRect (hM.unread x)

/-- 256 columns of a weight, loaded. -/
def ldCols (M : Memref sig .tc .vmem S1x1024x2816 .bf16) (hM : M.IsWhole) (x : Vec Ideal S1x1024x2816 .bf16) (q : Nat)
    (hq : q + 256 ≤ 2816) : Vec Ideal S1x1024x256 .bf16 :=
  View.readAt (Elt Ideal) M.view (Rect.unit (s := S1x1024x2816) ![0, 0, q] S1x1024x256.size (inbCols hq)).toLoadRect (hM.unread x)

/-- The output projection, loaded. -/
def ldProj : Vec Ideal S1024x1024 .bf16 :=
  View.readAt (Elt Ideal) arg5.view (Rect.unit (s := S1024x1024) ![0, 0] S1024x1024.size inbProj).toLoadRect (harg5.unread x3)

/-- The down projection, loaded. -/
def ldDown : Vec Ideal S1x2816x1024 .bf16 :=
  View.readAt (Elt Ideal) arg8.view (Rect.unit (s := S1x2816x1024) ![0, 0, 0] S1x2816x1024.size inbDown).toLoadRect (harg8.unread x6)

/-- A loaded row of the modulation. -/
theorem ldMod_apply (t : Nat) (ht : t + 1 ≤ 6) (k : Fin 1024) :
    ldMod arg4 harg4 x2 t ht (ix4 0 0 0 k) = x2 (ix4 0 0 ⟨t, ht⟩ k) :=
  load_apply _ _ _ _ _ _ _ _ fun a => match a with | 0 => rfl | 1 => rfl | 2 => rfl | 3 => (Nat.zero_add _).symm

/-- A loaded row of a norm's weights. -/
theorem ldNorm_apply (M : Memref sig .tc .vmem S1x2x1024 .f32) (hM : M.IsWhole) (x : Vec Ideal S1x2x1024 .f32) (t : Nat) (ht : t + 1 ≤ 2)
    (k : Fin 1024) : ldNorm M hM x t ht (ix3 0 0 k) = x (ix3 0 ⟨t, ht⟩ k) :=
  load_apply _ _ _ _ _ _ _ _ fun a => match a with | 0 => rfl | 1 => rfl | 2 => (Nat.zero_add _).symm

/-- A row of a loaded group. -/
theorem ldRows_apply {e : EltTy} (M : Memref sig .tc .vmem S1x1024x1024 e) (hM : M.IsWhole) (x : Vec Ideal S1x1024x1024 e) (o : Nat)
    (ho : o + 256 ≤ 1024) (r : Fin 256) (k : Fin 1024) :
    ldRows M hM x o ho (ix3 0 r k) = x (ix3 0 ⟨o + r, by omega⟩ k) :=
  load_apply _ _ _ _ _ _ _ _ fun a => match a with | 0 => rfl | 1 => rfl | 2 => (Nat.zero_add _).symm

/-- A loaded column of a weight. -/
theorem ldCols_apply (M : Memref sig .tc .vmem S1x1024x2816 .bf16) (hM : M.IsWhole) (x : Vec Ideal S1x1024x2816 .bf16) (q : Nat)
    (hq : q + 256 ≤ 2816) (k : Fin 1024) (n : Fin 256) :
    ldCols M hM x q hq (ix3 0 k n) = x (ix3 0 k ⟨q + n, by omega⟩) :=
  load_apply _ _ _ _ _ _ _ _ fun a => match a with | 0 => rfl | 1 => (Nat.zero_add _).symm | 2 => rfl

/-- The loaded output projection. -/
theorem ldProj_apply (k n : Fin 1024) : ldProj arg5 harg5 x3 (ix2 k n) = x3 (ix2 k n) :=
  load_apply _ _ _ _ _ _ _ _ fun a => match a with | 0 => (Nat.zero_add _).symm | 1 => (Nat.zero_add _).symm

/-- The loaded down projection. -/
theorem ldDown_apply (k : Fin 2816) (n : Fin 1024) : ldDown arg8 harg8 x6 (ix3 0 k n) = x6 (ix3 0 k n) :=
  load_apply _ _ _ _ _ _ _ _ fun a => match a with | 0 => rfl | 1 => (Nat.zero_add _).symm | 2 => (Nat.zero_add _).symm

/-! ## One group -/

variable (o : Nat) (ho : o + 256 ≤ 1024)

/-- The group's rows after the first norm. -/
def gFirst : FVec Ideal S256x1024 .f32 :=
  tFirst (ldRows arg2 harg2 x0 o ho) (ldRows arg3 harg3 x1 o ho) (ldMod arg4 harg4 x2 2 (by decide)) (ldProj arg5 harg5 x3)
    (ldNorm arg9 harg9 x7 0 (by decide)) (ldNorm arg10 harg10 x8 0 (by decide))

/-- The rows the group's channel mixer reads. -/
def gMod : FVec Ideal S256x1024 .bf16 :=
  tModulated (gFirst arg2 harg2 arg3 harg3 arg4 harg4 arg5 harg5 arg9 harg9 arg10 harg10 x0 x1 x2 x3 x7 x8 o ho)
    (ldMod arg4 harg4 x2 4 (by decide)) (ldMod arg4 harg4 x2 3 (by decide))

/-- 256 columns of the group's hidden rows. -/
def gGlu (q : Nat) (hq : q + 256 ≤ 2816) : FVec Ideal S256x256 .bf16 :=
  tGlu (gMod arg2 harg2 arg3 harg3 arg4 harg4 arg5 harg5 arg9 harg9 arg10 harg10 x0 x1 x2 x3 x7 x8 o ho)
    (ldCols arg6 harg6 x4 q hq) (ldCols arg7 harg7 x5 q hq)

/-- The group's rows after the first norm are the block's. -/
theorem gFirst_apply (r : Fin 256) (j : Fin 1024) :
    gFirst arg2 harg2 arg3 harg3 arg4 harg4 arg5 harg5 arg9 harg9 arg10 harg10 x0 x1 x2 x3 x7 x8 o ho (ix2 r j)
      = rowFirst x0 x1 x2 x3 x7 x8 ⟨o + r, by omega⟩ j := by
  rw [gFirst, tFirst_apply, rowFirst]
  simp only [ldRows_apply, ldMod_apply, ldProj_apply, ldNorm_apply]
  rfl

/-- The group's hidden rows are the block's. -/
theorem gGlu_apply (q : Nat) (hq : q + 256 ≤ 2816) (r n : Fin 256) :
    gGlu arg2 harg2 arg3 harg3 arg4 harg4 arg5 harg5 arg6 harg6 arg7 harg7 arg9 harg9 arg10 harg10 x0 x1 x2 x3 x4 x5 x7 x8 o ho q hq (ix2 r n)
      = rowHidden x0 x1 x2 x3 x4 x5 x7 x8 ⟨o + r, by omega⟩ ⟨q + n, by omega⟩ := by
  rw [gGlu, tGlu_apply, rowHidden, hidden]
  simp only [gMod, tModulated_apply, gFirst_apply, ldMod_apply, ldCols_apply]
  rfl

/-- One chunk of the scratch: where it lies the scratch holds the hidden rows, elsewhere what the earlier stores left. -/
theorem chunk (q : Nat) (hq : q + 256 ≤ 2816) (w : FVec Ideal S256x256 .bf16)
    (hw : w = gGlu arg2 harg2 arg3 harg3 arg4 harg4 arg5 harg5 arg6 harg6 arg7 harg7 arg9 harg9 arg10 harg10 x0 x1 x2 x3 x4 x5 x7 x8 o ho q hq)
    (L : List (View.Piece (Elt Ideal) S1024x2816 .bf16)) (r : Fin 256) (n : Fin 2816)
    (rest : ¬ (q ≤ n.val ∧ n.val < q + 256) →
      View.canon L (ix2 ⟨o + r, by omega⟩ n) = rowHidden x0 x1 x2 x3 x4 x5 x7 x8 ⟨o + r, by omega⟩ n) :
    View.canon ((⟨Rect.unit (s := S1024x2816) ![o, q] S256x256.size (inbChunk ho hq), w⟩ : View.Piece (Elt Ideal) S1024x2816 .bf16) :: L)
        (ix2 ⟨o + r, by omega⟩ n)
      = rowHidden x0 x1 x2 x3 x4 x5 x7 x8 ⟨o + r, by omega⟩ n := by
  by_cases h : q ≤ n.val ∧ n.val < q + 256
  · have he : (ix2 ⟨o + r, by omega⟩ n : S1024x2816.Idx)
        = (Rect.unit (s := S1024x2816) ![o, q] S256x256.size (inbChunk ho hq)).emb (ix2 r ⟨n - q, by omega⟩) := by
      funext a
      refine Fin.ext ?_
      rw [ValueKit.rect_emb_unit_val]
      match a with
      | 0 => rfl
      | 1 => exact (Nat.add_sub_cancel' h.1).symm
    rw [he, View.canon_cons_emb, hw, gGlu_apply]
    exact congrArg _ (Fin.ext (Nat.add_sub_cancel' h.1))
  · rw [View.canon_cons_of_not_mem]
    · exact rest h
    · rw [Rect.mem_set_unit]
      exact fun hm => h (hm 1)

/-- The group's band of the scratch, loaded after its chunks are stored, holds the hidden rows; so the rows the group
    stores are the block's result. -/
theorem group_apply (v : View sig .tc .vmem S1024x2816 .bf16) (L : List (View.Piece (Elt Ideal) S1024x2816 .bf16))
    (hL : ∀ (r : Fin 256) (n : Fin 2816),
      View.canon L (ix2 ⟨o + r, by omega⟩ n) = rowHidden x0 x1 x2 x3 x4 x5 x7 x8 ⟨o + r, by omega⟩ n)
    (w : FVec Ideal S1x256x1024 .f32)
    (hw : w = tLast (gFirst arg2 harg2 arg3 harg3 arg4 harg4 arg5 harg5 arg9 harg9 arg10 harg10 x0 x1 x2 x3 x7 x8 o ho)
        (ldMod arg4 harg4 x2 5 (by decide)) (v.readCov L (Rect.unit (s := S1024x2816) ![o, 0] S256x2816.size (inbBand ho)).toLoadRect)
        (ldDown arg8 harg8 x6) (ldNorm arg9 harg9 x7 1 (by decide)) (ldNorm arg10 harg10 x8 1 (by decide))) (r : Fin 256) (j : Fin 1024) :
    w (ix3 0 r j) = rowLast x0 x1 x2 x3 x4 x5 x6 x7 x8 ⟨o + r, by omega⟩ j := by
  have hh : ∀ n : Fin 2816, v.readCov L (Rect.unit (s := S1024x2816) ![o, 0] S256x2816.size (inbBand ho)).toLoadRect (ix2 r n)
      = rowHidden x0 x1 x2 x3 x4 x5 x7 x8 ⟨o + r, by omega⟩ n := fun n => by
    rw [View.readCov_eq_canon', ← hL r n]
    refine congrArg _ (funext fun a => Fin.ext ?_)
    refine (Rect.idx_unit_val _ _ _ _ a).trans ?_
    match a with
    | 0 => rfl
    | 1 => exact Nat.zero_add _
  rw [hw, tLast_apply, rowLast, secondNorm]
  simp only [gFirst_apply, ldMod_apply, ldDown_apply, ldNorm_apply, hh]
  rfl

end Group

end Cert.Post

end
-- ==== Proof.Post.Point.lean ====
/- One grid point's output block, from the run of the point: the four groups' chunks and results are the lemmas of
   `Block`. -/
module

public import proofs.«01_k».proof.Proof.Post.Block

@[expose] public section

noncomputable section

namespace Cert.Post

open Idealize.ShloMosaic Cert.KernelIdeal Cert.KernelIdeal.Gen

variable (c : Dev nD) (i : grid0.Coords) (arg2 : Memref sig .tc .vmem S1x1024x1024 .bf16) (harg2 : arg2.IsWhole) (arg3 : Memref sig .tc .vmem S1x1024x1024 .f32) (harg3 : arg3.IsWhole) (arg4 : Memref sig .tc .vmem S1x1x6x1024 .f32) (harg4 : arg4.IsWhole) (arg5 : Memref sig .tc .vmem S1024x1024 .bf16) (harg5 : arg5.IsWhole) (arg6 : Memref sig .tc .vmem S1x1024x2816 .bf16) (harg6 : arg6.IsWhole) (arg7 : Memref sig .tc .vmem S1x1024x2816 .bf16) (harg7 : arg7.IsWhole) (arg8 : Memref sig .tc .vmem S1x2816x1024 .bf16) (harg8 : arg8.IsWhole) (arg9 : Memref sig .tc .vmem S1x2x1024 .f32) (harg9 : arg9.IsWhole) (arg10 : Memref sig .tc .vmem S1x2x1024 .f32) (harg10 : arg10.IsWhole) (arg11 : Memref sig .tc .vmem S1x1024x1024 .f32) (harg11 : arg11.IsWhole) (arg12 : Memref sig .tc .vmem S1024x2816 .bf16) (harg12 : arg12.IsWhole)
  (x0 : Vec Ideal S1x1024x1024 .bf16) (x1 : Vec Ideal S1x1024x1024 .f32) (x2 : Vec Ideal S1x1x6x1024 .f32) (x3 : Vec Ideal S1024x1024 .bf16) (x4 x5 : Vec Ideal S1x1024x2816 .bf16) (x6 : Vec Ideal S1x2816x1024 .bf16) (x7 x8 : Vec Ideal S1x2x1024 .f32)

/-- The block's result, as an array. -/
def blockLast : Vec Ideal S1x1024x1024 .f32 := fun y => rowLast x0 x1 x2 x3 x4 x5 x6 x7 x8 (y 1) (y 2)

/-- A stored group agrees with the block's result at its place. -/
theorem stored (o : Nat) (ho : o + 256 ≤ 1024) (w : FVec Ideal S1x256x1024 .f32)
    (hw : ∀ (r : Fin 256) (j : Fin 1024), w (ix3 0 r j) = rowLast x0 x1 x2 x3 x4 x5 x6 x7 x8 ⟨o + r, by omega⟩ j)
    (x : S1x256x1024.Idx) :
    w x = blockLast x0 x1 x2 x3 x4 x5 x6 x7 x8
      ((Rect.unit (s := S1x1024x1024) ![0, o, 0] S1x256x1024.size (inbRows ho)).emb x) := by
  obtain ⟨a, r, j, rfl⟩ : ∃ (a : Fin 1) (r : Fin 256) (j : Fin 1024), x = ix3 a r j := ⟨x 0, x 1, x 2, (ix3_eta x).symm⟩
  obtain rfl : a = 0 := Subsingleton.elim _ _
  rw [hw]
  refine congr (congrArg _ (Fin.ext ?_)) (Fin.ext ?_)
  · exact (ValueKit.rect_emb_unit_val (s := S1x1024x1024) _ _ (inbRows ho) (ix3 0 r j) 1).symm
  · exact ((ValueKit.rect_emb_unit_val (s := S1x1024x1024) _ _ (inbRows ho) (ix3 0 r j) 2).trans (Nat.zero_add _)).symm

set_option maxHeartbeats 4000000 in
/-- After a grid point its output block holds, row by row, the row function of the block's rows. -/
theorem out_apply (p j : Fin 1024) :
    out0_A_9 c i arg2 harg2 arg3 harg3 arg4 harg4 arg5 harg5 arg6 harg6 arg7 harg7 arg8 harg8 arg9 harg9 arg10 harg10 arg11 harg11 arg12 harg12 x0 x1 x2 x3 x4 x5 x6 x7 x8 (ix3 0 p j)
      = rowLast x0 x1 x2 x3 x4 x5 x6 x7 x8 p j := by
  rw [out0_A_9, View.read_writes_junk_eq_canon]
  refine View.canon_apply_of_pieces (blockLast x0 x1 x2 x3 x4 x5 x6 x7 x8) _ ?_ _ ?_
  · unfold kernelRun0_A
    refine List.forall_mem_cons.2 ⟨?_, List.forall_mem_cons.2 ⟨?_, List.forall_mem_cons.2 ⟨?_, List.forall_mem_cons.2 ⟨?_, ?_⟩⟩⟩⟩
    · refine stored x0 x1 x2 x3 x4 x5 x6 x7 x8 768 (by decide) _ ?_
      refine group_apply arg2 harg2 arg3 harg3 arg4 harg4 arg5 harg5 arg8 harg8 arg9 harg9 arg10 harg10 x0 x1 x2 x3 x4 x5 x6 x7 x8 768 (by decide) arg12.view _ ?_ _ rfl
      intro r n
      iterate 11 refine chunk arg2 harg2 arg3 harg3 arg4 harg4 arg5 harg5 arg6 harg6 arg7 harg7 arg9 harg9 arg10 harg10 x0 x1 x2 x3 x4 x5 x7 x8 768 (by decide) _ (by decide) _ rfl _ r n fun _ => ?_
      omega
    · refine stored x0 x1 x2 x3 x4 x5 x6 x7 x8 512 (by decide) _ ?_
      refine group_apply arg2 harg2 arg3 harg3 arg4 harg4 arg5 harg5 arg8 harg8 arg9 harg9 arg10 harg10 x0 x1 x2 x3 x4 x5 x6 x7 x8 512 (by decide) arg12.view _ ?_ _ rfl
      intro r n
      iterate 11 refine chunk arg2 harg2 arg3 harg3 arg4 harg4 arg5 harg5 arg6 harg6 arg7 harg7 arg9 harg9 arg10 harg10 x0 x1 x2 x3 x4 x5 x7 x8 512 (by decide) _ (by decide) _ rfl _ r n fun _ => ?_
      omega
    · refine stored x0 x1 x2 x3 x4 x5 x6 x7 x8 256 (by decide) _ ?_
      refine group_apply arg2 harg2 arg3 harg3 arg4 harg4 arg5 harg5 arg8 harg8 arg9 harg9 arg10 harg10 x0 x1 x2 x3 x4 x5 x6 x7 x8 256 (by decide) arg12.view _ ?_ _ rfl
      intro r n
      iterate 11 refine chunk arg2 harg2 arg3 harg3 arg4 harg4 arg5 harg5 arg6 harg6 arg7 harg7 arg9 harg9 arg10 harg10 x0 x1 x2 x3 x4 x5 x7 x8 256 (by decide) _ (by decide) _ rfl _ r n fun _ => ?_
      omega
    · refine stored x0 x1 x2 x3 x4 x5 x6 x7 x8 0 (by decide) _ ?_
      refine group_apply arg2 harg2 arg3 harg3 arg4 harg4 arg5 harg5 arg8 harg8 arg9 harg9 arg10 harg10 x0 x1 x2 x3 x4 x5 x6 x7 x8 0 (by decide) arg12.view _ ?_ _ rfl
      intro r n
      iterate 11 refine chunk arg2 harg2 arg3 harg3 arg4 harg4 arg5 harg5 arg6 harg6 arg7 harg7 arg9 harg9 arg10 harg10 x0 x1 x2 x3 x4 x5 x7 x8 0 (by decide) _ (by decide) _ rfl _ r n fun _ => ?_
      omega
    · exact fun _ h => absurd h List.not_mem_nil
  · exact cover0_A_9 ..

end Cert.Post

end
-- ==== Proof.Post.Token.lean ====
/- One token of the result as a function of the arguments. -/
module

public import proofs.«01_k».proof.Proof.Post.Row
public import Idealize.ShloMosaic.Lib.Pointwise

@[expose] public section

noncomputable section

namespace Cert.Post

open Idealize.ShloMosaic

section Token

variable (attn : Vec Ideal ⟨3, ![16, 2048, 1024]⟩ .bf16) (x : Vec Ideal ⟨3, ![16, 2048, 1024]⟩ .f32)
  (mod : Vec Ideal ⟨4, ![2, 16, 6, 1024]⟩ .f32) (wo : Vec Ideal ⟨2, ![1024, 1024]⟩ .f32) (wg wu : Vec Ideal ⟨3, ![2, 1024, 2816]⟩ .f32)
  (wd : Vec Ideal ⟨3, ![2, 2816, 1024]⟩ .f32) (lg lb : Vec Ideal ⟨3, ![2, 2, 1024]⟩ .f32) (b : Fin 16) (s : Fin 2048)

/-- A token after the first norm, from the arguments. -/
def tokenFirst : Fin 1024 → EReal :=
  firstNorm (fun k => attn (ix3 b s k)) (fun k => x (ix3 b s k)) (fun k => mod (ix4 1 b 2 k)) (fun k n => wo (ix2 k n))
    (fun k => lg (ix3 1 0 k)) (fun k => lb (ix3 1 0 k))

/-- A token of the result, from the arguments. -/
def tokenLast : Fin 1024 → EReal :=
  secondNorm (tokenFirst attn x mod wo lg lb b s) (fun k => mod (ix4 1 b 4 k)) (fun k => mod (ix4 1 b 3 k)) (fun k => mod (ix4 1 b 5 k))
    (fun k n => wg (ix3 1 k n)) (fun k n => wu (ix3 1 k n)) (fun k n => wd (ix3 1 k n))
    (fun k => lg (ix3 1 1 k)) (fun k => lb (ix3 1 1 k))

end Token

end Cert.Post

end
-- ==== Proof.Post.Array.lean ====
/- The result array of the kernel after the run: every token's row is the row function of that token. -/
module

public import proofs.«01_k».proof.Proof.Gen.KernelIdeal.Value
public import proofs.«01_k».proof.Proof.Post.Point
public import proofs.«01_k».proof.Proof.Post.Token

@[expose] public section

noncomputable section

namespace Cert.Post

open Idealize.ShloMosaic

open Cert.KernelIdeal Cert.KernelIdeal.Gen Idealize.ShloMosaic.TcCoe

variable (m : (ℓ : Loc nD τ sig) → Buf (Elt Ideal) ℓ) (c : Dev nD)

/-- The result array, from the arguments the kernel is launched on. -/
def result : Vec Ideal S16x2048x1024 .f32 := fun y =>
  tokenLast (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) (y 0) (y 1) (y 2)

/-- Where each window's block lies at a grid point. -/
theorem index_eq : ∀ t : Fin cfg0.N,
    win0_0.index t = ![t.val / 2, t.val % 2, 0] ∧ win0_1.index t = ![t.val / 2, t.val % 2, 0] ∧ win0_2.index t = ![1, t.val / 2, 0, 0]
      ∧ win0_3.index t = ![0, 0] ∧ win0_4.index t = ![1, 0, 0] ∧ win0_5.index t = ![1, 0, 0] ∧ win0_6.index t = ![1, 0, 0]
      ∧ win0_7.index t = ![1, 0, 0] ∧ win0_8.index t = ![1, 0, 0] ∧ win0_9.index t = ![t.val / 2, t.val % 2, 0] := by
  decide +kernel

/-- The row function of a point's blocks is that of the token. -/
theorem rowLast_blocks (t : Fin cfg0.N) (p j : Fin 1024) (b : Fin 16) (s : Fin 2048) (hb : b.val = t.val / 2)
    (hs : s.val = t.val % 2 * 1024 + p.val) :
    rowLast (iblk m c 0 t) (iblk m c 1 t) (iblk m c 2 t) (iblk m c 3 t) (iblk m c 4 t) (iblk m c 5 t) (iblk m c 6 t) (iblk m c 7 t)
        (iblk m c 8 t) p j
      = result m c (ix3 b s j) := by
  have h0 : ∀ k, iblk m c 0 t (ix3 0 p k) = m ((c : Thread nD τ).loc main_arg0) (ix3 b s k) := fun k => by
    blk_ext [iblk, V, index_eq t]
  have h1 : ∀ k, iblk m c 1 t (ix3 0 p k) = m ((c : Thread nD τ).loc main_arg1) (ix3 b s k) := fun k => by
    blk_ext [iblk, V, index_eq t]
  have h2 : ∀ r k, iblk m c 2 t (ix4 0 0 r k) = m ((c : Thread nD τ).loc main_arg2) (ix4 1 b r k) := fun r k => by
    blk_ext [iblk, V, index_eq t]
  have h3 : ∀ k n, iblk m c 3 t (ix2 k n) = m ((c : Thread nD τ).loc main_arg3) (ix2 k n) := fun k n => by
    blk_ext [iblk, V, index_eq t]
  have h4 : ∀ k n, iblk m c 4 t (ix3 0 k n) = m ((c : Thread nD τ).loc main_arg4) (ix3 1 k n) := fun k n => by
    blk_ext [iblk, V, index_eq t]
  have h5 : ∀ k n, iblk m c 5 t (ix3 0 k n) = m ((c : Thread nD τ).loc main_arg5) (ix3 1 k n) := fun k n => by
    blk_ext [iblk, V, index_eq t]
  have h6 : ∀ k n, iblk m c 6 t (ix3 0 k n) = m ((c : Thread nD τ).loc main_arg6) (ix3 1 k n) := fun k n => by
    blk_ext [iblk, V, index_eq t]
  have h7 : ∀ r k, iblk m c 7 t (ix3 0 r k) = m ((c : Thread nD τ).loc main_arg7) (ix3 1 r k) := fun r k => by
    blk_ext [iblk, V, index_eq t]
  have h8 : ∀ r k, iblk m c 8 t (ix3 0 r k) = m ((c : Thread nD τ).loc main_arg8) (ix3 1 r k) := fun r k => by
    blk_ext [iblk, V, index_eq t]
  unfold rowLast rowFirst
  simp only [h0, h1, h2, h3, h4, h5, h6, h7, h8]
  rfl

/-- The kernel's result array after the run. -/
theorem arrAt_eq : (dats m 0 c).arrAt 9 cfg0.N = result m c := by
  refine (dats m 0 c).arrAt_eq_of_covers 9 _ (by decide +kernel) fun t hf y => ?_
  obtain ⟨a, p, j, rfl⟩ : ∃ (a : Fin 1) (p : Fin 1024) (j : Fin 1024), y = ix3 a p j := ⟨y 0, y 1, y 2, (ix3_eta y).symm⟩
  obtain rfl : a = 0 := Subsingleton.elim _ _
  have he : ((cfg0.win 9).blk t).view.emb (ix3 0 p j)
      = (ix3 ⟨t.val / 2, by have h : t.val < 32 := t.isLt; omega⟩ ⟨t.val % 2 * 1024 + p.val, by omega⟩ j : S16x2048x1024.Idx) := by
    blk_ext [index_eq t]
  rw [he, ← rowLast_blocks m c t p j _ _ rfl rfl]
  blk_simp
  rw [after0_9, outsAt0]
  exact out_apply ..

end Cert.Post

end
-- ==== Proof.Post.Reference.lean ====
/- What the reference computes: every token's row is the row function of that token. -/
module

public import proofs.«01_k».proof.Proof.Gen.ReferenceIdeal.Read
public import proofs.«01_k».proof.Proof.Post.Token

@[expose] public section

noncomputable section

namespace Cert.Post

open Idealize.ShloMosaic Cert.ReferenceIdeal Cert.ReferenceIdeal.Read

variable (x0 : Vec Ideal S16x2048x1024 .bf16) (x1 : Vec Ideal S16x2048x1024 .f32) (x2 : Vec Ideal S2x16x6x1024 .f32)
  (x3 : Vec Ideal S1024x1024 .f32) (x4 x5 : Vec Ideal S2x1024x2816 .f32) (x6 : Vec Ideal S2x2816x1024 .f32)
  (x7 x8 : Vec Ideal S2x2x1024 .f32) (b : Fin 16) (s : Fin 2048)

/-- The output projection of a token. -/
theorem ref_proj (j : Fin 1024) : val_main_v9 x0 x3 (ix3 b s j) = vecMat (fun k => x0 (ix3 b s k)) (fun k n => x3 (ix2 k n)) j := by
  pointwise [val_main_v9, val_main_v8, vecMat]

/-- The first residual of a token. -/
theorem ref_residual (j : Fin 1024) : val_main_v17 x0 x1 x2 x3 (ix3 b s j)
    = residual (fun k => x1 (ix3 b s k)) (fun k => x2 (ix4 1 b 2 k)) (vecMat (fun k => x0 (ix3 b s k)) (fun k n => x3 (ix2 k n))) j := by
  rw [residual, ← ref_proj x0 x3 b s j]
  pointwise [val_main_v17, val_main_v16, val_main_v15, val_main_v14, val_main_v13, val_main_v12, val_main_v11, val_main_v10, val_main_cst,
    val_main_cst_0, val_main_v1, val_main_v0, cAlpha]

/-- The mean of the first residual. -/
theorem ref_mean : val_main_v25 x0 x1 x2 x3 (ix3 b s 0) = mean (fun k => val_main_v17 x0 x1 x2 x3 (ix3 b s k)) := by
  pointwise [val_main_v25, val_main_v24, val_main_v23, val_main_v22, val_main_cst_1, val_main_cst_2, mean, cWidth]

/-- The first norm of a token. -/
theorem ref_first (j : Fin 1024) : val_main_v45 x0 x1 x2 x3 x7 x8 (ix3 b s j) = tokenFirst x0 x1 x2 x3 x7 x8 b s j := by
  have hz : residual (fun k => x1 (ix3 b s k)) (fun k => x2 (ix4 1 b 2 k)) (vecMat (fun k => x0 (ix3 b s k)) (fun k n => x3 (ix2 k n)))
      = fun k => val_main_v17 x0 x1 x2 x3 (ix3 b s k) := funext fun k => (ref_residual x0 x1 x2 x3 b s k).symm
  rw [tokenFirst, firstNorm, hz]
  pointwise [val_main_v45, val_main_v44, val_main_v43, val_main_v42, val_main_v41, val_main_v40, val_main_v39, val_main_v38, val_main_v37,
    val_main_v36, val_main_v35, val_main_v34, val_main_v33, val_main_v32, val_main_v31, val_main_v30, val_main_v29, val_main_v28,
    val_main_v27, val_main_v26, val_main_cst_3, val_main_cst_4, val_main_cst_5, val_main_v18, val_main_v19, val_main_v20, val_main_v21,
    layerNorm, centred, cEps]
  rw [ref_mean]
  rfl

/-- The row the channel mixer reads. -/
theorem ref_modulated (j : Fin 1024) : val_main_v53 x0 x1 x2 x3 x7 x8 (ix3 b s j)
    = modulated (tokenFirst x0 x1 x2 x3 x7 x8 b s) (fun k => x2 (ix4 1 b 4 k)) (fun k => x2 (ix4 1 b 3 k)) j := by
  rw [modulated, ← ref_first]
  pointwise [val_main_v53, val_main_v52, val_main_v51, val_main_v50, val_main_v49, val_main_v48, val_main_v47, val_main_v46,
    val_main_cst_6, val_main_v5, val_main_v4, val_main_v3, val_main_v2]

/-- The gate of a token. -/
theorem ref_gate (n : Fin 2816) : val_main_v60 x0 x1 x2 x3 x4 x7 x8 (ix3 b s n)
    = vecMat (modulated (tokenFirst x0 x1 x2 x3 x7 x8 b s) (fun k => x2 (ix4 1 b 4 k)) (fun k => x2 (ix4 1 b 3 k)))
        (fun k n => x4 (ix3 1 k n)) n := by
  pointwise [val_main_v60, val_main_v55, val_main_v54, vecMat]
  simp only [ref_modulated]

/-- The other factor of a token's hidden row. -/
theorem ref_up (n : Fin 2816) : val_main_v62 x0 x1 x2 x3 x5 x7 x8 (ix3 b s n)
    = vecMat (modulated (tokenFirst x0 x1 x2 x3 x7 x8 b s) (fun k => x2 (ix4 1 b 4 k)) (fun k => x2 (ix4 1 b 3 k)))
        (fun k n => x5 (ix3 1 k n)) n := by
  pointwise [val_main_v62, val_main_v57, val_main_v56, vecMat]
  simp only [ref_modulated]

/-- The hidden row of a token. -/
theorem ref_hidden (n : Fin 2816) : val_main_v63 x0 x1 x2 x3 x4 x5 x7 x8 (ix3 b s n)
    = hidden (modulated (tokenFirst x0 x1 x2 x3 x7 x8 b s) (fun k => x2 (ix4 1 b 4 k)) (fun k => x2 (ix4 1 b 3 k)))
        (fun k n => x4 (ix3 1 k n)) (fun k n => x5 (ix3 1 k n)) n := by
  rw [hidden, ← ref_gate, ← ref_up]
  pointwise [val_main_v63, val_main_v61, val_main_call0_v5, val_main_call0_v4, val_main_call0_v3, val_main_call0_v2, val_main_call0_v1,
    val_main_call0_v0, val_main_call0_cst, val_main_call0_cst_0, glu]

/-- The second residual of a token. -/
theorem ref_residual2 (j : Fin 1024) : val_main_v72 x0 x1 x2 x3 x4 x5 x6 x7 x8 (ix3 b s j)
    = residual (tokenFirst x0 x1 x2 x3 x7 x8 b s) (fun k => x2 (ix4 1 b 5 k))
        (vecMat (hidden (modulated (tokenFirst x0 x1 x2 x3 x7 x8 b s) (fun k => x2 (ix4 1 b 4 k)) (fun k => x2 (ix4 1 b 3 k)))
          (fun k n => x4 (ix3 1 k n)) (fun k n => x5 (ix3 1 k n))) (fun k n => x6 (ix3 1 k n))) j := by
  rw [residual, ← ref_first, vecMat]
  simp only [← ref_hidden]
  pointwise [val_main_v72, val_main_v71, val_main_v70, val_main_v69, val_main_v68, val_main_v67, val_main_v66, val_main_v65, val_main_v64,
    val_main_v59, val_main_v58, val_main_cst_7, val_main_cst_8, val_main_v7, val_main_v6, cAlpha]

/-- The mean of the second residual. -/
theorem ref_mean2 : val_main_v80 x0 x1 x2 x3 x4 x5 x6 x7 x8 (ix3 b s 0)
    = mean (fun k => val_main_v72 x0 x1 x2 x3 x4 x5 x6 x7 x8 (ix3 b s k)) := by
  pointwise [val_main_v80, val_main_v79, val_main_v78, val_main_v77, val_main_cst_9, val_main_cst_10, mean, cWidth]

/-- A token of the reference's result. -/
theorem ref_last (j : Fin 1024) : val_main_v100 x0 x1 x2 x3 x4 x5 x6 x7 x8 (ix3 b s j)
    = tokenLast x0 x1 x2 x3 x4 x5 x6 x7 x8 b s j := by
  have hz := funext fun k => (ref_residual2 x0 x1 x2 x3 x4 x5 x6 x7 x8 b s k).symm
  rw [tokenLast, secondNorm, hz]
  pointwise [val_main_v100, val_main_v99, val_main_v98, val_main_v97, val_main_v96, val_main_v95, val_main_v94, val_main_v93, val_main_v92,
    val_main_v91, val_main_v90, val_main_v89, val_main_v88, val_main_v87, val_main_v86, val_main_v85, val_main_v84, val_main_v83,
    val_main_v82, val_main_v81, val_main_cst_11, val_main_cst_12, val_main_cst_13, val_main_v73, val_main_v74, val_main_v75, val_main_v76,
    layerNorm, centred, cEps]
  rw [ref_mean2]
  rfl

end Cert.Post

end
-- ==== Proof.Attention.Tile.lean ====
/- What the attention computes on one tile, as functions of the values it loads, and each read at a row and a column. The
   sizes that change from tile to tile are variables. -/
module

public import proofs.«01_k».proof.Proof.Gen.Kernel2Ideal.Skeleton
public import Idealize.ShloMosaic.Lib.Pointwise

@[expose] public section

noncomputable section

namespace Cert.Attention

open Idealize.ShloMosaic Cert.Kernel2Ideal Cert.Kernel2Ideal.Gen

/-! ## Casts that add or drop a leading axis of size one -/

section Casts

variable {α : Type} {a b : Nat}

theorem cast_drop (v : (⟨3, ![1, a, b]⟩ : Shape).Idx → α) (h : (⟨3, ![1, a, b]⟩ : Shape).ShapeCasts ⟨2, ![a, b]⟩) (i : Fin a) (j : Fin b) :
    shapeCast ⟨2, ![a, b]⟩ v h (ix2 i j) = v (ix3 0 i j) := by
  refine (congrArg v (Shape.reshapeEquiv_cons_one (d := ![a, b]) h (ix2 i j))).trans (congrArg v (funext fun e => ?_))
  match e with
  | 0 => rfl
  | 1 => rfl
  | 2 => rfl

theorem cast_add (v : (⟨2, ![a, b]⟩ : Shape).Idx → α) (h : (⟨2, ![a, b]⟩ : Shape).ShapeCasts ⟨3, ![1, a, b]⟩) (i : Fin a) (j : Fin b) :
    shapeCast ⟨3, ![1, a, b]⟩ v h (ix3 0 i j) = v (ix2 i j) := by
  have e := cast_drop (shapeCast ⟨3, ![1, a, b]⟩ v h) h.symm i j
  refine e.symm.trans ?_
  show v (Shape.reshapeEquiv h (Shape.reshapeEquiv h.symm (ix2 i j))) = _
  rw [Shape.reshapeEquiv_reshapeEquiv, Shape.reshapeEquiv_self]

theorem cast_row (v : (⟨1, ![a]⟩ : Shape).Idx → α) (h : (⟨1, ![a]⟩ : Shape).ShapeCasts ⟨2, ![1, a]⟩) (i : Fin a) :
    shapeCast ⟨2, ![1, a]⟩ v h (ix2 0 i) = v (ix1 i) := by
  have e := Shape.reshapeEquiv_cons_one (d := ![a]) h.symm (ix1 i)
  have e' : Fin.cons ⟨0, Nat.one_pos⟩ (ix1 i) = (ix2 0 i : (⟨2, ![1, a]⟩ : Shape).Idx) := funext fun e => by
    match e with
    | 0 => rfl
    | 1 => rfl
  show v (Shape.reshapeEquiv h (ix2 0 i)) = _
  rw [← e', ← e, Shape.reshapeEquiv_reshapeEquiv, Shape.reshapeEquiv_self]

end Casts

/-! ## Constants and masks -/

/-- The number the masked logits are set to. -/
theorem low_bits : Ideal.ofBits .f32 0xFF800000#32 = ⊥ := by
  simp [Ideal.ofBits, Ideal.ieee]

/-- Comparing two small words compares the numbers. -/
theorem sle_ofNat (a b : Nat) (ha : a < 2048) (hb : b < 2048) :
    IntOp.cmpi .sle (BitVec.ofNat 32 a) (BitVec.ofNat 32 b) = if a ≤ b then 1#1 else 0#1 := by
  have e : ∀ n : Nat, n < 2048 → (BitVec.ofNat 32 n).toInt = n := fun n hn => by
    rw [BitVec.toInt_ofNat', Int.bmod_def]; omega
  simp only [IntOp.cmpi, BitVec.sle, e a ha, e b hb, Nat.cast_le]
  by_cases h : a ≤ b <;> simp [h]

/-- The causal mask of a diagonal tile: the key is not after the query. -/
def tMask : IVec S256x512 1 :=
  cmpi .sle (iota .tc S256x512 32 [0] iota_S256x512_d0_w32) (iota .tc S256x512 32 [1] iota_S256x512_d1_w32)

theorem tMask_apply (k : Fin 256) (q : Fin 512) : tMask (ix2 k q) = if k.val ≤ q.val then 1#1 else 0#1 := by
  pointwise [tMask]
  exact sle_ofNat _ _ (by omega) (by omega)

/-! ## Logits -/

/-- Rows of keys against rows of queries. -/
def dKQ (n m : Nat) (wf : DotDims.WF ⟨2, ![n, 256]⟩ ⟨2, ![m, 256]⟩ ⟨2, ![n, m]⟩ [1] [1] [0] [0] [] []) :
    DotDims ⟨2, ![n, 256]⟩ ⟨2, ![m, 256]⟩ ⟨2, ![n, m]⟩ :=
  ⟨[1], [1], [0], [0], [], [], wf⟩

/-- The logits of `n` keys and `m` queries. -/
def tLogit (n m : Nat) (wf : DotDims.WF ⟨2, ![n, 256]⟩ ⟨2, ![m, 256]⟩ ⟨2, ![n, m]⟩ [1] [1] [0] [0] [] [])
    (k : FVec Ideal ⟨2, ![n, 256]⟩ .bf16) (q : FVec Ideal ⟨2, ![m, 256]⟩ .bf16) : FVec Ideal ⟨2, ![n, m]⟩ .f32 :=
  matmul (φ₁ := .bf16) (φ₂ := .bf16) (dKQ n m wf) none k q (constant ⟨2, ![n, m]⟩ .f32 0x00000000#32)

theorem tLogit_apply (n m : Nat) (wf) (k : FVec Ideal ⟨2, ![n, 256]⟩ .bf16) (q : FVec Ideal ⟨2, ![m, 256]⟩ .bf16) (a : Fin n) (b : Fin m) :
    tLogit n m wf k q (ix2 a b) = ∑ l : Fin 256, k (ix2 a l) * q (ix2 b l) := by
  refine (Ideal.matmul_apply₁_of (dKQ n m wf) rfl rfl _ _ _ _ (fun l => ix2 a l) (fun l => ix2 b l) (fun l => ?_) fun l => ?_).trans ?_
  · funext e
    match e with
    | 0 => rfl
    | 1 => rfl
  · funext e
    match e with
    | 0 => rfl
    | 1 => rfl
  · show Ideal.ofBits .f32 0x00000000#32 + _ = _
    rw [Ideal.ofBits_zero_f32, zero_add]
    rfl

/-- The masked logits of the first 256 keys of the diagonal tile. -/
def tTop (k : FVec Ideal S256x256 .bf16) (q : FVec Ideal S512x256 .bf16) : FVec Ideal S256x512 .f32 :=
  select tMask (tLogit 256 512 dot_S256x256_S512x256_S256x512_1_1_0_0_n_n_wf k q) (broadcast S256x512 (Scalar.ofBits .f32 0xFF800000#32))

theorem tTop_apply (k : FVec Ideal S256x256 .bf16) (q : FVec Ideal S512x256 .bf16) (a : Fin 256) (b : Fin 512) :
    tTop k q (ix2 a b) = if a.val ≤ b.val then ∑ l : Fin 256, k (ix2 a l) * q (ix2 b l) else ⊥ := by
  rw [← tLogit_apply 256 512 dot_S256x256_S512x256_S256x512_1_1_0_0_n_n_wf, ← low_bits]
  show (if tMask (ix2 a b) = 1#1 then _ else _) = _
  rw [tMask_apply]
  by_cases h : a.val ≤ b.val <;> simp only [h, if_true, if_false] <;> rfl

/-- The masked logits of the last 256 keys of the diagonal tile, for its last 256 queries. -/
def tLow (k : FVec Ideal S256x256 .bf16) (q : FVec Ideal S512x256 .bf16) : FVec Ideal S256x256 .f32 :=
  select (extractStridedSlice S256x256 ![0, 0] tMask slices_S256x512_o0_0_S256x256)
    (tLogit 256 256 dot_S256x256_S256x256_S256x256_1_1_0_0_n_n_wf k (extractStridedSlice S256x256 ![256, 0] q slices_S512x256_o256_0_S256x256))
    (broadcast S256x256 (Scalar.ofBits .f32 0xFF800000#32))

theorem tLow_apply (k : FVec Ideal S256x256 .bf16) (q : FVec Ideal S512x256 .bf16) (a b : Fin 256) :
    tLow k q (ix2 a b) = if a.val ≤ b.val then ∑ l : Fin 256, k (ix2 a l) * q (ix2 ⟨256 + b.val, by omega⟩ l) else ⊥ := by
  have hm : extractStridedSlice S256x256 ![0, 0] tMask slices_S256x512_o0_0_S256x256 (ix2 a b) = tMask (ix2 a ⟨b.val, by omega⟩) := by
    pointwise []
  have hq : ∀ l, extractStridedSlice S256x256 ![256, 0] q slices_S512x256_o256_0_S256x256 (ix2 b l) = q (ix2 ⟨256 + b.val, by omega⟩ l) := fun l => by
    pointwise []
  simp only [← hq]
  rw [← tLogit_apply 256 256 dot_S256x256_S256x256_S256x256_1_1_0_0_n_n_wf, ← low_bits]
  show (if extractStridedSlice S256x256 ![0, 0] tMask slices_S256x512_o0_0_S256x256 (ix2 a b) = 1#1 then _ else _) = _
  rw [hm, tMask_apply]
  by_cases h : a.val ≤ b.val <;> simp only [h, if_true, if_false] <;> rfl

/-! ## Maxima -/

/-- The largest logit of each query over `n` keys. -/
def tMax (n m : Nat) (s : FVec Ideal ⟨2, ![n, m]⟩ .f32) (h : Shape.Reduces ⟨2, ![n, m]⟩ [0] ⟨1, ![m]⟩)
    (h' : Shape.ShapeCasts ⟨1, ![m]⟩ ⟨2, ![1, m]⟩) : FVec Ideal ⟨2, ![1, m]⟩ .f32 :=
  shapeCast ⟨2, ![1, m]⟩ (multiReduction .maximumf [0] ⟨1, ![m]⟩ s 0xFF800000#32 h (.inl rfl) rfl) h'

theorem tMax_apply (n m : Nat) (s : FVec Ideal ⟨2, ![n, m]⟩ .f32) (h) (h') (q : Fin m) :
    tMax n m s h h' (ix2 0 q) = Finset.univ.sup fun k : Fin n => s (ix2 k q) := by
  rw [tMax, cast_row]
  pointwise []
  rw [low_bits]
  rfl

/-- The largest logit of each query of the diagonal tile, once the last 256 keys are counted too. -/
def tJoin (m : FVec Ideal S1x512 .f32) (low : FVec Ideal S1x256 .f32) : FVec Ideal S1x512 .f32 :=
  concatenate S1x512 1 [⟨S1x256, extractStridedSlice S1x256 ![0, 0] m slices_S1x512_o0_0_S1x256⟩,
    ⟨S1x256, maximumf (extractStridedSlice S1x256 ![0, 256] m slices_S1x512_o0_256_S1x256) low⟩] concatenates_S1x256_S1x256_S1x512_d1

theorem tJoin_apply (m : FVec Ideal S1x512 .f32) (low : FVec Ideal S1x256 .f32) (q : Fin 512) :
    tJoin m low (ix2 0 q) = if h : q.val < 256 then m (ix2 0 q) else max (m (ix2 0 q)) (low (ix2 0 ⟨q.val - 256, by omega⟩)) := by
  pointwise [tJoin]
  by_cases h : q.val < 256
  · rw [dif_pos h, dif_pos h]
  · rw [dif_neg h, dif_neg h]
    exact congrArg₂ max (congrArg m (congrArg (ix2 0) (Fin.ext (by show 256 + (q.val - 256) = q.val; omega)))) rfl

/-! ## Weights -/

/-- The weights of `r` keys, from their logits and the largest ones. -/
def tExp (r m : Nat) (s : FVec Ideal ⟨2, ![r, m]⟩ .f32) (x : FVec Ideal ⟨2, ![1, m]⟩ .f32) (hb : Shape.Broadcasts ⟨2, ![1, m]⟩ ⟨2, ![r, m]⟩)
    (hc : Shape.ShapeCasts ⟨2, ![r, m]⟩ ⟨2, ![r, m]⟩) (hd : Shape.ShapeCasts ⟨2, ![r, m]⟩ ⟨3, ![1, r, m]⟩) : FVec Ideal ⟨3, ![1, r, m]⟩ .bf16 :=
  shapeCast ⟨3, ![1, r, m]⟩ (shapeCast ⟨2, ![r, m]⟩ (truncf .bf16 (exp2 (subf s (broadcastTo ⟨2, ![r, m]⟩ x hb))) bitsLt_bf16_f32) hc) hd

theorem tExp_apply (r m : Nat) (s : FVec Ideal ⟨2, ![r, m]⟩ .f32) (x : FVec Ideal ⟨2, ![1, m]⟩ .f32) (hb) (hc) (hd) (k : Fin r) (q : Fin m) :
    tExp r m s x hb hc hd (ix3 0 k q) = Ideal.exp2 (s (ix2 k q) - x (ix2 0 q)) := by
  rw [tExp, cast_add]
  show shapeCast _ _ hc _ = _
  pointwise []
  refine congrArg (fun z => Ideal.exp2 (s (ix2 k q) - x z)) (funext fun e => ?_)
  match e with
  | 0 => rfl
  | 1 =>
    show (if h : m = 1 then (⟨0, _⟩ : Fin m) else ⟨q.val, _⟩) = q
    have := q.isLt
    split_ifs with h
    · exact Fin.ext (by show 0 = q.val; omega)
    · rfl

/-- The largest logits of the last 256 queries of a tile. -/
def tRight (m : FVec Ideal S1x512 .f32) : FVec Ideal S1x256 .f32 := extractStridedSlice S1x256 ![0, 256] m slices_S1x512_o0_256_S1x256

theorem tRight_apply (m : FVec Ideal S1x512 .f32) (q : Fin 256) : tRight m (ix2 0 q) = m (ix2 0 ⟨256 + q.val, by omega⟩) := by
  pointwise [tRight]

/-! ## Values -/

/-- Rows of values against columns of weights. -/
def dVP (R r m : Nat) (wf : DotDims.WF ⟨2, ![R, r]⟩ ⟨2, ![r, m]⟩ ⟨2, ![R, m]⟩ [1] [0] [0] [1] [] []) :
    DotDims ⟨2, ![R, r]⟩ ⟨2, ![r, m]⟩ ⟨2, ![R, m]⟩ :=
  ⟨[1], [0], [0], [1], [], [], wf⟩

/-- The values, and the rows of ones, summed by weight. -/
def tSum (R r m : Nat) (wf : DotDims.WF ⟨2, ![R, r]⟩ ⟨2, ![r, m]⟩ ⟨2, ![R, m]⟩ [1] [0] [0] [1] [] [])
    (v : FVec Ideal ⟨2, ![R, r]⟩ .bf16) (p : FVec Ideal ⟨2, ![r, m]⟩ .bf16) : FVec Ideal ⟨2, ![R, m]⟩ .f32 :=
  matmul (φ₁ := .bf16) (φ₂ := .bf16) (dVP R r m wf) none v p (constant ⟨2, ![R, m]⟩ .f32 0x00000000#32)

theorem tSum_apply (R r m : Nat) (wf) (v : FVec Ideal ⟨2, ![R, r]⟩ .bf16) (p : FVec Ideal ⟨2, ![r, m]⟩ .bf16) (d : Fin R) (q : Fin m) :
    tSum R r m wf v p (ix2 d q) = ∑ k : Fin r, v (ix2 d k) * p (ix2 k q) := by
  refine (Ideal.matmul_apply₁_of (dVP R r m wf) rfl rfl _ _ _ _ (fun l => ix2 d l) (fun l => ix2 l q) (fun l => ?_) fun l => ?_).trans ?_
  · funext e
    match e with
    | 0 => rfl
    | 1 => rfl
  · funext e
    match e with
    | 0 => rfl
    | 1 => rfl
  · show Ideal.ofBits .f32 0x00000000#32 + _ = _
    rw [Ideal.ofBits_zero_f32, zero_add]
    rfl

section Sums

variable (R D : Nat)

/-- The sums of the tile, with those of the last 256 keys added for the last 256 queries. -/
def tWhole (acc : FVec Ideal ⟨2, ![R, 512]⟩ .f32) (low : FVec Ideal ⟨2, ![R, 256]⟩ .f32)
    (h0 : Shape.Slices ⟨2, ![R, 512]⟩ ![0, 0] ⟨2, ![R, 256]⟩) (h1 : Shape.Slices ⟨2, ![R, 512]⟩ ![0, 256] ⟨2, ![R, 256]⟩)
    (h2 : Shape.Concatenates [⟨2, ![R, 256]⟩, ⟨2, ![R, 256]⟩] ⟨2, ![R, 512]⟩ 1) : FVec Ideal ⟨2, ![R, 512]⟩ .f32 :=
  concatenate ⟨2, ![R, 512]⟩ 1 [⟨⟨2, ![R, 256]⟩, extractStridedSlice ⟨2, ![R, 256]⟩ ![0, 0] acc h0⟩,
    ⟨⟨2, ![R, 256]⟩, addf (extractStridedSlice ⟨2, ![R, 256]⟩ ![0, 256] acc h1) low⟩] h2

theorem tWhole_apply (acc : FVec Ideal ⟨2, ![R, 512]⟩ .f32) (low : FVec Ideal ⟨2, ![R, 256]⟩ .f32) (h0) (h1) (h2) (d : Fin R) (q : Fin 512) :
    tWhole R acc low h0 h1 h2 (ix2 d q) = if h : q.val < 256 then acc (ix2 d q) else acc (ix2 d q) + low (ix2 d ⟨q.val - 256, by omega⟩) := by
  pointwise [tWhole]
  by_cases h : q.val < 256
  · rw [dif_pos h, dif_pos h]
    refine congrArg acc (funext fun e => Fin.ext ?_)
    match e with
    | 0 => exact Nat.zero_add _
    | 1 => exact Nat.zero_add _
  · rw [dif_neg h, dif_neg h]
    refine congrArg₂ HAdd.hAdd (congrArg acc (funext fun e => Fin.ext ?_)) (congrArg low (funext fun e => Fin.ext ?_))
    · match e with
      | 0 => exact Nat.zero_add _
      | 1 => show 256 + (q.val - 256) = q.val; omega
    · match e with
      | 0 => rfl
      | 1 => rfl

/-- One head's result, transposed: the summed values over the summed weights. -/
def tHead (w : FVec Ideal ⟨2, ![R, 512]⟩ .f32) (h0 : Shape.Slices ⟨2, ![R, 512]⟩ ![0, 0] ⟨2, ![D, 512]⟩)
    (h1 : Shape.Slices ⟨2, ![R, 512]⟩ ![D, 0] ⟨2, ![1, 512]⟩) (h2 : Shape.Broadcasts ⟨2, ![1, 512]⟩ ⟨2, ![D, 512]⟩) : FVec Ideal ⟨2, ![D, 512]⟩ .f32 :=
  divf (extractStridedSlice ⟨2, ![D, 512]⟩ ![0, 0] w h0) (broadcastTo ⟨2, ![D, 512]⟩ (extractStridedSlice ⟨2, ![1, 512]⟩ ![D, 0] w h1) h2)

theorem tHead_apply (w : FVec Ideal ⟨2, ![R, 512]⟩ .f32) (h0) (h1) (h2) (hD : D < R) (d : Fin D) (q : Fin 512) :
    tHead R D w h0 h1 h2 (ix2 d q) = Ideal.div (w (ix2 ⟨d.val, by omega⟩ q)) (w (ix2 ⟨D, hD⟩ q)) := by
  pointwise [tHead]
  refine congrArg₂ Ideal.div (congrArg w (funext fun e => Fin.ext ?_)) (congrArg w (funext fun e => Fin.ext ?_))
  · match e with
    | 0 => exact Nat.zero_add _
    | 1 => exact Nat.zero_add _
  · match e with
    | 0 => rfl
    | 1 => exact Nat.zero_add _

/-- Two heads' results, back as rows of queries. -/
def tOut (E : Nat) (a b : FVec Ideal ⟨2, ![D, 512]⟩ .f32) (h0 : Shape.Concatenates [⟨2, ![D, 512]⟩, ⟨2, ![D, 512]⟩] ⟨2, ![E, 512]⟩ 0)
    (h1 : Shape.Transposes ⟨2, ![E, 512]⟩ [1, 0] ⟨2, ![512, E]⟩) (h2 : Shape.ShapeCasts ⟨2, ![512, E]⟩ ⟨3, ![1, 512, E]⟩) : FVec Ideal ⟨3, ![1, 512, E]⟩ .bf16 :=
  shapeCast ⟨3, ![1, 512, E]⟩ (truncf .bf16 (transpose ⟨2, ![512, E]⟩ [1, 0] (concatenate ⟨2, ![E, 512]⟩ 0 [⟨⟨2, ![D, 512]⟩, a⟩, ⟨⟨2, ![D, 512]⟩, b⟩] h0) h1)
    bitsLt_bf16_f32) h2

theorem tOut_apply (E : Nat) (a b : FVec Ideal ⟨2, ![D, 512]⟩ .f32) (h0) (h1) (h2) (hE : E = D + D) (q : Fin 512) (c : Fin E) :
    tOut D E a b h0 h1 h2 (ix3 0 q c) = if h : c.val < D then a (ix2 ⟨c.val, h⟩ q) else b (ix2 ⟨c.val - D, by omega⟩ q) := by
  rw [tOut, cast_add]
  pointwise []
  have e0 : (((h1.src (ix2 q c)).norm 0 : Fin E) : Nat) = c.val := rfl
  by_cases h : c.val < D
  · rw [dif_pos h]
    refine (dif_pos h).trans (congrArg a (funext fun e => Fin.ext ?_))
    match e with
    | 0 => rfl
    | 1 => rfl
  · rw [dif_neg h]
    refine (dif_neg h).trans (congrArg b (funext fun e => Fin.ext ?_))
    match e with
    | 0 => rfl
    | 1 => rfl

end Sums

end Cert.Attention

end
-- ==== Proof.Attention.Head.lean ====
/- One head's attention as plain sums, from functions that give its keys, queries and values: logits under the causal mask,
   their largest, weights and the weighted average. Rows and lanes are numbers. -/
module

public import proofs.«01_k».proof.Proof.Attention.Tile

@[expose] public section

noncomputable section

namespace Cert.Attention

open Idealize.ShloMosaic Cert.Kernel2Ideal Cert.Kernel2Ideal.Gen

/-- An entry of a one-plane block, at row `i` and lane `j`. -/
def ent {A B : Nat} (x : (⟨3, ![1, A, B]⟩ : Shape).Idx → EReal) (i j : Nat) : EReal :=
  if h : i < A ∧ j < B then x (ix3 0 ⟨i, h.1⟩ ⟨j, h.2⟩) else 0

theorem ent_eq {A B : Nat} (x : (⟨3, ![1, A, B]⟩ : Shape).Idx → EReal) (i : Fin A) (j : Fin B) (i' j' : Nat) (hi : i' = i.val) (hj : j' = j.val) :
    ent x i' j' = x (ix3 0 i j) := by
  subst hi hj
  exact dif_pos ⟨i.isLt, j.isLt⟩

section Head

variable (k q v : Nat → Nat → EReal)

/-- The logit of query `i` and key `j`. -/
def logit (i j : Nat) : EReal := ∑ l : Fin 256, k j l.val * q i l.val

/-- The logit under the causal mask. -/
def masked (i j : Nat) : EReal := if j ≤ i then logit k q i j else ⊥

/-- The largest logit of query `i`. -/
def most (i : Nat) : EReal := (Finset.range 2048).sup (masked k q i)

/-- The weight of key `j` for query `i`. -/
def weight (i j : Nat) : EReal := Ideal.exp2 (masked k q i j - most k q i)

/-- Row `d` of the values, summed by weight. -/
def total (d i : Nat) : EReal := ∑ j ∈ Finset.range 2048, v d j * weight k q i j

/-- Row `d` of the result for query `i`, row `D` of the values being ones. -/
def average (D d i : Nat) : EReal := Ideal.div (total k q v d i) (total k q v D i)

/-- A key after the query has no weight. -/
theorem weight_after (i j : Nat) (h : i < j) : weight k q i j = 0 := by
  rw [weight, masked, if_neg (by omega), EReal.bot_sub]
  rfl

variable (i n : Nat)

/-- The largest logit, taken over the keys before a tile and the tile's first keys, and then the tile's last. -/
theorem most_eq (hi : n ≤ i ∧ i < n + 512) (hn : n + 512 ≤ 2048) (s t : EReal)
    (hs : s = (Finset.range (n + 256)).sup (masked k q i))
    (ht : n + 256 ≤ i → t = Finset.univ.sup fun r : Fin 256 => masked k q i (n + 256 + r.val)) :
    most k q i = if i < n + 256 then s else max s t := by
  have low : ∀ j, i < j → masked k q i j = ⊥ := fun j h => if_neg (by omega)
  refine le_antisymm (Finset.sup_le fun j hj => ?_) ?_
  · have hj := Finset.mem_range.1 hj
    by_cases h1 : j < n + 256
    · have : masked k q i j ≤ s := hs ▸ Finset.le_sup (f := masked k q i) (Finset.mem_range.2 h1)
      split_ifs
      · exact this
      · exact le_max_of_le_left this
    · by_cases h2 : i < j
      · rw [low j h2]; exact bot_le
      · rw [if_neg (by omega)]
        refine le_max_of_le_right ((ht (by omega)).symm ▸ ?_)
        have := Finset.le_sup (f := fun r : Fin 256 => masked k q i (n + 256 + r.val)) (Finset.mem_univ (⟨j - (n + 256), by omega⟩ : Fin 256))
        refine le_trans (le_of_eq ?_) this
        show _ = masked k q i (n + 256 + (j - (n + 256)))
        rw [Nat.add_sub_cancel' (by omega)]
  · have h1 : s ≤ most k q i := hs ▸ Finset.sup_mono fun j hj => Finset.mem_range.2 (by have := Finset.mem_range.1 hj; omega)
    split_ifs with h
    · exact h1
    · refine max_le h1 ((ht (by omega)).symm ▸ Finset.sup_le fun r _ => ?_)
      exact Finset.le_sup (f := masked k q i) (Finset.mem_range.2 (by omega))

/-- A sum over all keys, taken over the keys before a tile and the tile's first keys, and then the tile's last. -/
theorem total_eq (d : Nat) (hi : n ≤ i ∧ i < n + 512) (hn : n + 512 ≤ 2048) (s t : EReal)
    (hs : s = ∑ r : Fin (n + 256), v d r.val * weight k q i r.val)
    (ht : n + 256 ≤ i → t = ∑ r : Fin 256, v d (n + 256 + r.val) * weight k q i (n + 256 + r.val)) :
    total k q v d i = if i < n + 256 then s else s + t := by
  have cut : ∀ m, i < m → m ≤ 2048 → total k q v d i
      = ∑ j ∈ Finset.range m, v d j * weight k q i j := fun m him hm => by
    refine (Finset.sum_subset (fun j hj => Finset.mem_range.2 (by have := Finset.mem_range.1 hj; omega)) fun j _ hj => ?_).symm
    rw [weight_after k q i j (by have := mt Finset.mem_range.2 hj; omega), mul_zero]
  split_ifs with h
  · rw [cut (n + 256) h (by omega), hs, Finset.sum_range]
  · rw [cut (n + 256 + 256) (by omega) (by omega), Finset.sum_range_add, hs, ht (by omega), Finset.sum_range, Finset.sum_range]

end Head

end Cert.Attention

end
-- ==== Proof.Attention.Access.lean ====
/- Reading and writing a rectangle of one plane of an array of several: what such a read returns at a row and a column, and
   what it takes for such a write to agree with a given array. -/
module

public import proofs.«01_k».proof.Proof.Attention.Tile
public import Idealize.ShloMosaic.Lib.Pipeline.Value
public import Idealize.ShloMosaic.Lib.Pipeline.ValueKit

@[expose] public section

noncomputable section

namespace Cert.Attention

open Idealize.ShloMosaic

section Planes

variable {sig : RefSig} {A M C : Nat}

/-- The slice of `N` rows from `B`, of plane `h`. -/
abbrev slice (h B N : Nat) (hA : h < A) (hN : B + N ≤ M) : Rect ⟨3, ![A, M, C]⟩ :=
  Rect.unit ![h, B, 0] ![1, N, C] (fun e => by
    match e with
    | 0 => exact Nat.succ_le_of_lt hA
    | 1 => exact hN
    | 2 => exact Nat.le_of_eq (Nat.zero_add C))

/-- The tile of a slice, `a` rows from `o` and `b` columns from `q`. -/
abbrev tile {N C : Nat} (o q a b : Nat) (ho : o + a ≤ N) (hq : q + b ≤ C) : Rect ⟨2, ![N, C]⟩ :=
  Rect.unit ![o, q] ![a, b] (fun e => by
    match e with
    | 0 => exact ho
    | 1 => exact hq)

theorem size_zero (N : Nat) : (![1, N, C] : Fin 3 → Nat) 0 = 1 := rfl

theorem size_succ (N : Nat) : ∀ i : Fin 2, (![1, N, C] : Fin 3 → Nat) i.succ = (![N, C] : Fin 2 → Nat) i := fun i => by
  match i with
  | 0 => rfl
  | 1 => rfl

/-- The box a tile of a slice is read through. -/
abbrev tileBox (h B N o q a b : Nat) (hA : h < A) (hN : B + N ≤ M) (ho : o + a ≤ N) (hq : q + b ≤ C) : LoadRect ⟨3, ![A, M, C]⟩ :=
  (slice (C := C) h B N hA hN).withinL ((tile (N := N) (C := C) o q a b ho hq).toLoadRect.consLift ![1, N, C] (size_zero N) (size_succ N)) (fun _ => rfl)

theorem tileBox_numel (h B N o q a b : Nat) (hA : h < A) (hN : B + N ≤ M) (ho : o + a ≤ N) (hq : q + b ≤ C) :
    (tile (N := N) (C := C) o q a b ho hq).toLoadRect.shape.numel = (tileBox (C := C) h B N o q a b hA hN ho hq : LoadRect ⟨3, ![A, M, C]⟩).shape.numel :=
  LoadRect.numel_consLift (tile (N := N) (C := C) o q a b ho hq).toLoadRect ![1, N, C] (size_zero N) (size_succ N)

/-- Where the box of a tile of a slice lies. -/
theorem tileBox_idx (h B N o q a b : Nat) (hA : h < A) (hN : B + N ≤ M) (ho : o + a ≤ N) (hq : q + b ≤ C) (i : Fin a) (j : Fin b) :
    (tileBox (C := C) h B N o q a b hA hN ho hq : LoadRect ⟨3, ![A, M, C]⟩).idx
      (Shape.reshapeEquiv (tileBox_numel (A := A) (M := M) (C := C) h B N o q a b hA hN ho hq) (ix2 i j : (⟨2, ![a, b]⟩ : Shape).Idx)) =
    ix3 (⟨h, hA⟩ : Fin A) (⟨B + (o + i.val), by omega⟩ : Fin M) (⟨q + j.val, by omega⟩ : Fin C) := by
  refine (congrArg _ (Shape.reshapeEquiv_cons_one (d := ![a, b]) _ (ix2 i j))).trans (funext fun e => Fin.ext ?_)
  match e with
  | 0 => show h + 0 + 1 * 0 = h; omega
  | 1 => show B + o + 1 * i.val = B + (o + i.val); omega
  | 2 => show 0 + q + 1 * j.val = q + j.val; omega

variable {κ : Kind} {sp : Space} {e : EltTy}

/-- A tile of a slice, read back from what was stored. -/
abbrev tileRead (v : View sig κ sp ⟨3, ![A, M, C]⟩ e) (L : List (View.Piece (Elt Ideal) ⟨3, ![A, M, C]⟩ e)) (h B N o q a b : Nat) (hA : h < A)
    (hN : B + N ≤ M) (ho : o + a ≤ N) (hq : q + b ≤ C) : Vec Ideal ⟨2, ![a, b]⟩ e :=
  LoadRect.valAlong (tileBox_numel (A := A) (M := M) (C := C) h B N o q a b hA hN ho hq)
    (v.readCov L (tileBox (C := C) h B N o q a b hA hN ho hq))

theorem tileRead_apply (v : View sig κ sp ⟨3, ![A, M, C]⟩ e) (L : List (View.Piece (Elt Ideal) ⟨3, ![A, M, C]⟩ e)) (h B N o q a b : Nat) (hA : h < A)
    (hN : B + N ≤ M) (ho : o + a ≤ N) (hq : q + b ≤ C) (i : Fin a) (j : Fin b) :
    tileRead v L h B N o q a b hA hN ho hq (ix2 i j)
      = View.canon L (ix3 (⟨h, hA⟩ : Fin A) (⟨B + (o + i.val), by omega⟩ : Fin M) (⟨q + j.val, by omega⟩ : Fin C)) := by
  show v.readCov L _ _ = _
  rw [View.readCov_eq_canon']
  exact congrArg (View.canon L) (tileBox_idx h B N o q a b hA hN ho hq i j)

/-- The rectangle a tile of a slice is stored to. -/
abbrev tileRect (h B N o q a b : Nat) (hA : h < A) (hN : B + N ≤ M) (ho : o + a ≤ N) (hq : q + b ≤ C) : Rect ⟨3, ![A, M, C]⟩ :=
  (slice (C := C) h B N hA hN).within ((tile (N := N) (C := C) o q a b ho hq).consLift ![1, N, C] (size_zero N) (size_succ N)) (fun _ => rfl)

theorem tileRect_numel (h B N o q a b : Nat) (hA : h < A) (hN : B + N ≤ M) (ho : o + a ≤ N) (hq : q + b ≤ C) :
    (tileRect (C := C) h B N o q a b hA hN ho hq : Rect ⟨3, ![A, M, C]⟩).shape.numel = (tile (N := N) (C := C) o q a b ho hq).shape.numel :=
  (tileBox_numel (A := A) (M := M) (C := C) h B N o q a b hA hN ho hq).symm

/-- A stored tile agrees with an array when its entries do. -/
theorem tile_agree (G : (⟨3, ![A, M, C]⟩ : Shape).Idx → Elt Ideal e) (h B N o q a b : Nat) (hA : h < A) (hN : B + N ≤ M) (ho : o + a ≤ N)
    (hq : q + b ≤ C) (w : Vec Ideal ⟨2, ![a, b]⟩ e)
    (hR : (tileRect (C := C) h B N o q a b hA hN ho hq : Rect ⟨3, ![A, M, C]⟩).shape.numel = (tile (N := N) (C := C) o q a b ho hq).shape.numel)
    (hw : ∀ (i : Fin a) (j : Fin b), w (ix2 i j)
      = G (ix3 (⟨h, hA⟩ : Fin A) (⟨B + (o + i.val), by omega⟩ : Fin M) (⟨q + j.val, by omega⟩ : Fin C)))
    (x : (tileRect (C := C) h B N o q a b hA hN ho hq : Rect ⟨3, ![A, M, C]⟩).shape.Idx) :
    Rect.payAlong hR w x = G ((tileRect (C := C) h B N o q a b hA hN ho hq).emb x) := by
  refine (Rect.payAlong_consLift (tile (N := N) (C := C) o q a b ho hq) ![1, N, C] (size_zero N) (size_succ N) w hR x
    (ix2 (x 1) (x 2)) fun i => ?_).trans ((hw (x 1) (x 2)).trans (congrArg G (funext fun e => Fin.ext ?_)))
  · match i with
    | 0 => rfl
    | 1 => rfl
  · match e with
    | 0 =>
      have := (x 0).isLt
      change (x 0).val < 1 at this
      show h = h + 0 + 1 * (x 0).val
      omega
    | 1 => show B + (o + (x 1).val) = B + o + 1 * (x 1).val; omega
    | 2 => show q + (x 2).val = 0 + q + 1 * (x 2).val; omega

/-- An index inside a stored tile. -/
theorem tile_mem (h B N o q a b : Nat) (hA : h < A) (hN : B + N ≤ M) (ho : o + a ≤ N) (hq : q + b ≤ C) (y : (⟨3, ![A, M, C]⟩ : Shape).Idx)
    (h0 : (y 0).val = h) (h1 : B + o ≤ (y 1).val) (h1' : (y 1).val < B + o + a) (h2 : q ≤ (y 2).val) (h2' : (y 2).val < q + b) :
    y ∈ (tileRect (C := C) h B N o q a b hA hN ho hq).set := by
  refine (LoadRect.mem_set _).2 fun e => ?_
  match e with
  | 0 => exact ⟨0, Nat.one_pos, by show (y 0).val = h + 0 + 1 * 0; omega⟩
  | 1 => exact ⟨(y 1).val - (B + o), by show _ < a; omega, by show (y 1).val = B + o + 1 * ((y 1).val - (B + o)); omega⟩
  | 2 => exact ⟨(y 2).val - q, by show _ < b; omega, by show (y 2).val = 0 + q + 1 * ((y 2).val - q); omega⟩

/-- The rectangle of `a` rows and `b` columns of a plane. -/
abbrev plane (h o q a b : Nat) (hA : h < A) (ho : o + a ≤ M) (hq : q + b ≤ C) : Rect ⟨3, ![A, M, C]⟩ :=
  Rect.unit ![h, o, q] ![1, a, b] (fun e => by
    match e with
    | 0 => exact Nat.succ_le_of_lt hA
    | 1 => exact ho
    | 2 => exact hq)

/-- A stored rectangle of a plane agrees with an array when its entries do. -/
theorem plane_agree (G : (⟨3, ![A, M, C]⟩ : Shape).Idx → Elt Ideal e) (h o q a b : Nat) (hA : h < A) (ho : o + a ≤ M)
    (hq : q + b ≤ C) (w : Vec Ideal ⟨3, ![1, a, b]⟩ e)
    (hw : ∀ (i : Fin a) (j : Fin b), w (ix3 0 i j)
      = G (ix3 (⟨h, hA⟩ : Fin A) (⟨o + i.val, by omega⟩ : Fin M) (⟨q + j.val, by omega⟩ : Fin C)))
    (x : (plane h o q a b hA ho hq : Rect ⟨3, ![A, M, C]⟩).shape.Idx) : w x = G ((plane h o q a b hA ho hq).emb x) := by
  have hx : x = ix3 (0 : Fin 1) (x 1 : Fin a) (x 2 : Fin b) := funext fun e => by
    match e with
    | 0 => exact Fin.ext (by have := (x 0).isLt; change (x 0).val < 1 at this; show (x 0).val = 0; omega)
    | 1 => rfl
    | 2 => rfl
  refine (congrArg w hx).trans ((hw (x 1) (x 2)).trans (congrArg G (funext fun e => Fin.ext ?_)))
  match e with
  | 0 =>
    have := (x 0).isLt
    change (x 0).val < 1 at this
    show h = h + 1 * (x 0).val
    omega
  | 1 => show o + (x 1).val = o + 1 * (x 1).val; omega
  | 2 => show q + (x 2).val = q + 1 * (x 2).val; omega

/-- An index inside a stored rectangle of a plane. -/
theorem plane_mem (h o q a b : Nat) (hA : h < A) (ho : o + a ≤ M) (hq : q + b ≤ C) (y : (⟨3, ![A, M, C]⟩ : Shape).Idx)
    (h0 : (y 0).val = h) (h1 : o ≤ (y 1).val) (h1' : (y 1).val < o + a) (h2 : q ≤ (y 2).val) (h2' : (y 2).val < q + b) :
    y ∈ (plane h o q a b hA ho hq).set := by
  refine Rect.mem_set_unit.2 fun e => ?_
  match e with
  | 0 => exact ⟨by show h ≤ (y 0).val; omega, by show (y 0).val < h + 1; omega⟩
  | 1 => exact ⟨h1, h1'⟩
  | 2 => exact ⟨h2, h2'⟩

/-- A rectangle of the one plane of a whole array, loaded. -/
theorem load_plane {M' C' : Nat} (R : Memref sig .tc .vmem ⟨3, ![1, M', C']⟩ e) (hR : R.IsWhole) (x : Vec Ideal ⟨3, ![1, M', C']⟩ e)
    (o q a b : Nat) (ho : o + a ≤ M') (hq : q + b ≤ C') (i : Fin a) (j : Fin b) :
    View.readAt (Elt Ideal) R.view (plane 0 o q a b Nat.one_pos ho hq).toLoadRect (hR.unread x) (ix3 (0 : Fin 1) i j)
      = x (ix3 0 (⟨o + i.val, by omega⟩ : Fin M') (⟨q + j.val, by omega⟩ : Fin C')) := by
  rw [View.readAt_apply, hR.read_unread]
  refine congrArg x (funext fun e => Fin.ext ?_)
  match e with
  | 0 => rfl
  | 1 => show o + 1 * i.val = o + i.val; omega
  | 2 => show q + 1 * j.val = q + j.val; omega

/-- A tile of a slice of the one plane of a whole array, loaded. -/
theorem load_tile {M' C' : Nat} (R : Memref sig .tc .vmem ⟨3, ![1, M', C']⟩ e) (hR : R.IsWhole) (x : Vec Ideal ⟨3, ![1, M', C']⟩ e)
    (B N o q a b : Nat) (hN : B + N ≤ M') (ho : o + a ≤ N) (hq : q + b ≤ C') (i : Fin a) (j : Fin b) :
    LoadRect.valAlong (tileBox_numel (A := 1) (M := M') (C := C') 0 B N o q a b Nat.one_pos hN ho hq)
      (View.readAt (Elt Ideal) R.view (tileBox 0 B N o q a b Nat.one_pos hN ho hq) (hR.unread x)) (ix2 i j)
      = x (ix3 0 (⟨B + (o + i.val), by omega⟩ : Fin M') (⟨q + j.val, by omega⟩ : Fin C')) := by
  show View.readAt _ _ _ _ _ = _
  rw [View.readAt_apply, hR.read_unread]
  exact congrArg x (tileBox_idx 0 B N o q a b Nat.one_pos hN ho hq i j)

end Planes

/-! ## Four axes -/

section Four

variable {sig : RefSig} {A D M C : Nat} {κ : Kind} {sp : Space} {e : EltTy}

theorem size_zero' (D N : Nat) : (![1, D, N, C] : Fin 4 → Nat) 0 = 1 := rfl

theorem size_succ' (D N : Nat) : ∀ i : Fin 3, (![1, D, N, C] : Fin 4 → Nat) i.succ = (![D, N, C] : Fin 3 → Nat) i := fun i => by
  match i with
  | 0 => rfl
  | 1 => rfl
  | 2 => rfl

/-- One array of several. -/
abbrev book (p : Nat) (hp : p < A) : Rect ⟨4, ![A, D, M, C]⟩ :=
  Rect.unit ![p, 0, 0, 0] ![1, D, M, C] (fun e => by
    match e with
    | 0 => exact Nat.succ_le_of_lt hp
    | 1 => exact Nat.le_of_eq (Nat.zero_add D)
    | 2 => exact Nat.le_of_eq (Nat.zero_add M)
    | 3 => exact Nat.le_of_eq (Nat.zero_add C))

/-- The box of `b` columns of all the rows of a plane of one array of several. -/
abbrev bookBox (p h q b : Nat) (hp : p < A) (hh : h < D) (hq : q + b ≤ C) : LoadRect ⟨4, ![A, D, M, C]⟩ :=
  (book (D := D) (M := M) (C := C) p hp).withinL
    ((tileBox (A := D) (M := M) (C := C) h 0 M 0 q M b hh (Nat.le_of_eq (Nat.zero_add M)) (Nat.le_of_eq (Nat.zero_add M)) hq).consLift
      ![1, D, M, C] (size_zero' D M) (size_succ' D M)) (fun _ => rfl)

theorem bookBox_numel (p h q b : Nat) (hp : p < A) (hh : h < D) (hq : q + b ≤ C) :
    (tileBox (A := D) (M := M) (C := C) h 0 M 0 q M b hh (Nat.le_of_eq (Nat.zero_add M)) (Nat.le_of_eq (Nat.zero_add M)) hq : LoadRect ⟨3, ![D, M, C]⟩).shape.numel
      = (bookBox p h q b hp hh hq : LoadRect ⟨4, ![A, D, M, C]⟩).shape.numel :=
  LoadRect.numel_consLift (tileBox (A := D) (M := M) (C := C) h 0 M 0 q M b hh (Nat.le_of_eq (Nat.zero_add M)) (Nat.le_of_eq (Nat.zero_add M)) hq)
    ![1, D, M, C] (size_zero' D M) (size_succ' D M)

/-- Columns of a plane of one array of several, read back from what was stored. -/
abbrev bookRead (v : View sig κ sp ⟨4, ![A, D, M, C]⟩ e) (L : List (View.Piece (Elt Ideal) ⟨4, ![A, D, M, C]⟩ e)) (p h q b : Nat) (hp : p < A)
    (hh : h < D) (hq : q + b ≤ C) : Vec Ideal ⟨2, ![M, b]⟩ e :=
  LoadRect.valAlong (tileBox_numel (A := D) (M := M) (C := C) h 0 M 0 q M b hh (Nat.le_of_eq (Nat.zero_add M)) (Nat.le_of_eq (Nat.zero_add M)) hq)
    (LoadRect.valAlong (bookBox_numel (A := A) (D := D) (M := M) (C := C) p h q b hp hh hq) (v.readCov L (bookBox p h q b hp hh hq)))

theorem bookRead_apply (v : View sig κ sp ⟨4, ![A, D, M, C]⟩ e) (L : List (View.Piece (Elt Ideal) ⟨4, ![A, D, M, C]⟩ e)) (p h q b : Nat) (hp : p < A)
    (hh : h < D) (hq : q + b ≤ C) (i : Fin M) (j : Fin b) :
    bookRead v L p h q b hp hh hq (ix2 i j) = View.canon L (ix4 (⟨p, hp⟩ : Fin A) (⟨h, hh⟩ : Fin D) i (⟨q + j.val, by omega⟩ : Fin C)) := by
  show v.readCov L _ (Shape.reshapeEquiv _ (Shape.reshapeEquiv _ (ix2 i j))) = _
  rw [View.readCov_eq_canon']
  refine congrArg (View.canon L) ?_
  have e1 := Shape.reshapeEquiv_cons_one (d := ![M, b]) (tileBox_numel (A := D) (M := M) (C := C) h 0 M 0 q M b hh
    (Nat.le_of_eq (Nat.zero_add M)) (Nat.le_of_eq (Nat.zero_add M)) hq) (ix2 i j)
  have e2 := Shape.reshapeEquiv_cons_one (d := (tileBox (A := D) (M := M) (C := C) h 0 M 0 q M b hh (Nat.le_of_eq (Nat.zero_add M))
    (Nat.le_of_eq (Nat.zero_add M)) hq : LoadRect ⟨3, ![D, M, C]⟩).size) (bookBox_numel (A := A) (D := D) (M := M) (C := C) p h q b hp hh hq)
    (Fin.cons ⟨0, Nat.one_pos⟩ (ix2 i j))
  refine (congrArg (fun z => (bookBox p h q b hp hh hq : LoadRect ⟨4, ![A, D, M, C]⟩).idx (Shape.reshapeEquiv _ z)) e1).trans
    ((congrArg (bookBox p h q b hp hh hq : LoadRect ⟨4, ![A, D, M, C]⟩).idx e2).trans (funext fun e => Fin.ext ?_))
  match e with
  | 0 => show p + 0 + 1 * 0 = p; omega
  | 1 => show 0 + (h + 0) + 1 * 0 = h; omega
  | 2 => show 0 + (0 + 0) + 1 * i.val = i.val; omega
  | 3 => show 0 + (0 + q) + 1 * j.val = q + j.val; omega

/-- The rectangle of `a` rows from `o` of a plane of one array of several. -/
abbrev rows (p h o a : Nat) (hp : p < A) (hh : h < D) (ho : o + a ≤ M) : Rect ⟨4, ![A, D, M, C]⟩ :=
  Rect.unit ![p, h, o, 0] ![1, 1, a, C] (fun e => by
    match e with
    | 0 => exact Nat.succ_le_of_lt hp
    | 1 => exact Nat.succ_le_of_lt hh
    | 2 => exact ho
    | 3 => exact Nat.le_of_eq (Nat.zero_add C))

/-- Stored rows of a plane of one array of several agree with the whole when their entries do. -/
theorem rows_agree (G : (⟨4, ![A, D, M, C]⟩ : Shape).Idx → Elt Ideal e) (p h o a : Nat) (hp : p < A) (hh : h < D) (ho : o + a ≤ M)
    (w : Vec Ideal ⟨4, ![1, 1, a, C]⟩ e)
    (hw : ∀ (i : Fin a) (j : Fin C), w (ix4 0 0 i j) = G (ix4 (⟨p, hp⟩ : Fin A) (⟨h, hh⟩ : Fin D) (⟨o + i.val, by omega⟩ : Fin M) j))
    (x : (rows p h o a hp hh ho : Rect ⟨4, ![A, D, M, C]⟩).shape.Idx) : w x = G ((rows p h o a hp hh ho).emb x) := by
  have h0 : (x 0).val = 0 := by have := (x 0).isLt; change (x 0).val < 1 at this; omega
  have h1 : (x 1).val = 0 := by have := (x 1).isLt; change (x 1).val < 1 at this; omega
  have hx : x = ix4 (0 : Fin 1) (0 : Fin 1) (x 2 : Fin a) (x 3 : Fin C) := funext fun e => by
    match e with
    | 0 => exact Fin.ext h0
    | 1 => exact Fin.ext h1
    | 2 => rfl
    | 3 => rfl
  refine (congrArg w hx).trans ((hw (x 2) (x 3)).trans (congrArg G (funext fun e => Fin.ext ?_)))
  match e with
  | 0 => show p = p + 1 * (x 0).val; omega
  | 1 => show h = h + 1 * (x 1).val; omega
  | 2 => show o + (x 2).val = o + 1 * (x 2).val; omega
  | 3 => show (x 3).val = 0 + 1 * (x 3).val; omega

/-- An index inside stored rows of a plane. -/
theorem rows_mem (p h o a : Nat) (hp : p < A) (hh : h < D) (ho : o + a ≤ M) (y : (⟨4, ![A, D, M, C]⟩ : Shape).Idx)
    (h0 : (y 0).val = p) (h1 : (y 1).val = h) (h2 : o ≤ (y 2).val) (h2' : (y 2).val < o + a) : y ∈ (rows p h o a hp hh ho).set := by
  refine Rect.mem_set_unit.2 fun e => ?_
  match e with
  | 0 => exact ⟨by show p ≤ (y 0).val; omega, by show (y 0).val < p + 1; omega⟩
  | 1 => exact ⟨by show h ≤ (y 1).val; omega, by show (y 1).val < h + 1; omega⟩
  | 2 => exact ⟨h2, h2'⟩
  | 3 => exact ⟨Nat.zero_le _, by show (y 3).val < 0 + C; have h3 : (y 3).val < C := (y 3).isLt; omega⟩

theorem cast_add4 {α : Type} {a b : Nat} (v : (⟨3, ![1, a, b]⟩ : Shape).Idx → α) (h : (⟨3, ![1, a, b]⟩ : Shape).ShapeCasts ⟨4, ![1, 1, a, b]⟩) (i : Fin a)
    (j : Fin b) : shapeCast ⟨4, ![1, 1, a, b]⟩ v h (ix4 0 0 i j) = v (ix3 0 i j) := by
  have e := Shape.reshapeEquiv_cons_one (d := ![1, a, b]) h.symm (ix3 0 i j)
  have e' : Fin.cons ⟨0, Nat.one_pos⟩ (ix3 0 i j) = (ix4 0 0 i j : (⟨4, ![1, 1, a, b]⟩ : Shape).Idx) := funext fun e => by
    match e with
    | 0 => rfl
    | 1 => rfl
    | 2 => rfl
    | 3 => rfl
  show v (Shape.reshapeEquiv h (ix4 0 0 i j)) = _
  rw [← e', ← e, Shape.reshapeEquiv_reshapeEquiv, Shape.reshapeEquiv_self]

end Four

/-- An index of the `k`-th stored piece is in some piece. -/
theorem in_piece {S : Shape} {e : EltTy} (L : List (View.Piece (Elt Ideal) S e)) (y : S.Idx) (k : Nat) (hk : k < L.length) (h : y ∈ L[k].1.set) :
    ∃ p ∈ L, y ∈ p.1.set :=
  ⟨L[k], List.getElem_mem hk, h⟩

end Cert.Attention

end
-- ==== Proof.Attention.Scores.lean ====
/- The logits a pair of heads keeps in the scratch, tile by tile, and the largest logit of each query. A query tile's logits lie
   in their own band of rows, one row a key. The pair's keys and queries are functions, of the head, a row and a lane. -/
module

public import proofs.«01_k».proof.Proof.Attention.Head
public import proofs.«01_k».proof.Proof.Attention.Access

@[expose] public section

noncomputable section

namespace Cert.Attention

open Idealize.ShloMosaic Cert.Kernel2Ideal Cert.Kernel2Ideal.Gen

/-- A store that does not reach an index leaves what it held. -/
theorem canon_over {S : Shape} {e : EltTy} (G : S.Idx → Elt Ideal e) (p : View.Piece (Elt Ideal) S e) (L : List (View.Piece (Elt Ideal) S e)) (y : S.Idx)
    (hp : ∀ x, p.2 x = G (p.1.emb x)) (hL : y ∉ p.1.set → View.canon L y = G y) : View.canon (p :: L) y = G y := by
  by_cases h : y ∈ p.1.set
  · obtain ⟨x, hx⟩ := p.1.exists_idx_of_mem h
    obtain ⟨r, w⟩ := p
    rw [← hx, show r.idx x = r.emb x from rfl, View.canon_cons_emb]
    exact hp x
  · rw [View.canon_cons_of_not_mem _ _ h]
    exact hL h

theorem cast_same {α : Type} {S : Shape} (v : S.Idx → α) (h : S.ShapeCasts S) : shapeCast S v h = v :=
  funext fun j => congrArg v (Shape.reshapeEquiv_self _ _)

/-! ## The bands of the scratch -/

/-- The first query of the tile whose band holds row `R`. -/
def first (R : Nat) : Nat := if R < 512 then 0 else if R < 1536 then 512 else if R < 3072 then 1024 else 1536

/-- The first row of the band that holds row `R`. -/
def start (R : Nat) : Nat := if R < 512 then 0 else if R < 1536 then 512 else if R < 3072 then 1536 else 3072

/-- The tile of queries from `n` has the `N` rows from `B`; its first half is done by row `r`. -/
structure Band (n r N B : Nat) : Prop where
  half : r = n + 256
  rows : N = n + 512
  keys : N ≤ 2048
  fits : B + N ≤ 5120
  first_eq : ∀ k, k < N → first (B + k) = n
  start_eq : ∀ k, k < N → start (B + k) = B

theorem band_zero : Band 0 256 512 0 :=
  ⟨rfl, rfl, by decide, by decide, fun k h => by unfold first; split_ifs <;> omega, fun k h => by unfold start; split_ifs <;> omega⟩

theorem band_one : Band 512 768 1024 512 :=
  ⟨rfl, rfl, by decide, by decide, fun k h => by unfold first; split_ifs <;> omega, fun k h => by unfold start; split_ifs <;> omega⟩

theorem band_two : Band 1024 1280 1536 1536 :=
  ⟨rfl, rfl, by decide, by decide, fun k h => by unfold first; split_ifs <;> omega, fun k h => by unfold start; split_ifs <;> omega⟩

theorem band_three : Band 1536 1792 2048 3072 :=
  ⟨rfl, rfl, by decide, by decide, fun k h => by unfold first; split_ifs <;> omega, fun k h => by unfold start; split_ifs <;> omega⟩

/-- The part of a band the run stores: not the last 256 keys for the first 256 queries. -/
def Kept (y : S2x5120x512.Idx) : Prop := (y 1).val - start (y 1).val < first (y 1).val + 256 ∨ 256 ≤ (y 2).val

theorem half_le {n r N B : Nat} (hb : Band n r N B) : 0 + r ≤ N := by have := hb.rows; have := hb.half; omega

theorem half_le' {n r N B : Nat} (hb : Band n r N B) : r + 256 ≤ N := by have := hb.rows; have := hb.half; omega

/-! ## Where a kept index lies -/

/-- A kept index of a band is in one of the three tiles of logits. -/
theorem score_cases (h n r N B : Nat) (hb : Band n r N B) (h2 : h < 2) (y : S2x5120x512.Idx) (h0 : (y 0).val = h) (h1 : B ≤ (y 1).val) (h1' : (y 1).val < B + N)
    (hk : Kept y) :
    y ∈ (tileRect (A := 2) (M := 5120) (C := 512) h B N n 0 256 512 h2 hb.fits (by have := hb.rows; omega) (by decide)).set
      ∨ y ∈ (tileRect (A := 2) (M := 5120) (C := 512) h B N 0 0 n 512 h2 hb.fits (by have := hb.rows; omega) (by decide)).set
      ∨ y ∈ (tileRect (A := 2) (M := 5120) (C := 512) h B N r 256 256 256 h2 hb.fits (half_le' hb) (by decide)).set := by
  have h2' : (y 2).val < 512 := (y 2).isLt
  have ef := hb.first_eq ((y 1).val - B) (by omega)
  have es := hb.start_eq ((y 1).val - B) (by omega)
  rw [Nat.add_sub_cancel' h1] at ef es
  have hk : (y 1).val - start (y 1).val < first (y 1).val + 256 ∨ 256 ≤ (y 2).val := hk
  rw [ef, es] at hk
  have := hb.rows
  have := hb.half
  by_cases a : (y 1).val < B + n
  · exact .inr (.inl (tile_mem (A := 2) (M := 5120) (C := 512) h B N 0 0 n 512 h2 hb.fits (by omega) (by decide) y h0 (by omega) (by omega) (by omega) (by omega)))
  · by_cases b : (y 1).val < B + r
    · exact .inl (tile_mem (A := 2) (M := 5120) (C := 512) h B N n 0 256 512 h2 hb.fits (by omega) (by decide) y h0 (by omega) (by omega) (by omega) (by omega))
    · exact .inr (.inr (tile_mem (A := 2) (M := 5120) (C := 512) h B N r 256 256 256 h2 hb.fits (by omega) (by decide) y h0 (by omega) (by omega) (by omega) (by omega)))

/-- A kept index of the first band is in one of its two tiles of logits. -/
theorem score_cases_zero (h : Nat) (h2 : h < 2) (y : S2x5120x512.Idx) (h0 : (y 0).val = h) (h1' : (y 1).val < 512) (hk : Kept y) :
    y ∈ (tileRect (A := 2) (M := 5120) (C := 512) h 0 512 0 0 256 512 h2 (by decide) (by decide) (by decide)).set
      ∨ y ∈ (tileRect (A := 2) (M := 5120) (C := 512) h 0 512 256 256 256 256 h2 (by decide) (by decide) (by decide)).set := by
  rcases score_cases h 0 256 512 0 band_zero h2 y h0 (Nat.zero_le _) (by omega) hk with t | f | l
  · exact .inl t
  · obtain ⟨j, hj, _⟩ := (LoadRect.mem_set _).1 f 1
    exact absurd (show j < 0 from hj) (Nat.not_lt_zero _)
  · exact .inr l

/-- A kept index of a band is in one of the two rectangles of weights. -/
theorem weight_cases (h n r N B o : Nat) (hb : Band n r N B) (h2 : h < 2) (ho : o = B + r) (h3 : B + r ≤ 5120) (h4 : o + 256 ≤ 5120) (y : S2x5120x512.Idx)
    (h0 : (y 0).val = h) (h1 : B ≤ (y 1).val) (h1' : (y 1).val < B + N) (hk : Kept y) :
    y ∈ (plane (A := 2) (M := 5120) (C := 512) h B 0 r 512 h2 h3 (by decide)).set
      ∨ y ∈ (plane (A := 2) (M := 5120) (C := 512) h o 256 256 256 h2 h4 (by decide)).set := by
  have h2' : (y 2).val < 512 := (y 2).isLt
  have ef := hb.first_eq ((y 1).val - B) (by omega)
  have es := hb.start_eq ((y 1).val - B) (by omega)
  rw [Nat.add_sub_cancel' h1] at ef es
  have hk : (y 1).val - start (y 1).val < first (y 1).val + 256 ∨ 256 ≤ (y 2).val := hk
  rw [ef, es] at hk
  have := hb.rows
  have := hb.half
  by_cases b : (y 1).val < B + r
  · exact .inl (plane_mem (A := 2) (M := 5120) (C := 512) h B 0 r 512 h2 h3 (by decide) y h0 (by omega) (by omega) (by omega) (by omega))
  · exact .inr (plane_mem (A := 2) (M := 5120) (C := 512) h o 256 256 256 h2 h4 (by decide) y h0 (by omega) (by omega) (by omega) (by omega))

section Pair

variable (k q : Nat → Nat → Nat → EReal)

/-- The logits of a pair of heads, as the scratch holds them. -/
def scoreAt : Vec Ideal S2x5120x512 .f32 := fun y =>
  masked (k (y 0).val) (q (y 0).val) (first (y 1).val + (y 2).val) ((y 1).val - start (y 1).val)

/-- The weights of a pair of heads, as the scratch holds them. -/
def weightAt : Vec Ideal S2x5120x512 .bf16 := fun y =>
  weight (k (y 0).val) (q (y 0).val) (first (y 1).val + (y 2).val) ((y 1).val - start (y 1).val)

theorem scoreAt_eq (h n r N B s j : Nat) (hb : Band n r N B) (h2 : h < 2) (hs : s < N) (hj : j < 512) :
    scoreAt k q (ix3 (⟨h, h2⟩ : Fin 2) (⟨B + s, by have := hb.fits; omega⟩ : Fin 5120) (⟨j, hj⟩ : Fin 512)) = masked (k h) (q h) (n + j) s := by
  show masked (k h) (q h) (first (B + s) + j) (B + s - start (B + s)) = _
  rw [hb.first_eq s hs, hb.start_eq s hs, Nat.add_sub_cancel_left]

theorem weightAt_eq (h n r N B s j : Nat) (hb : Band n r N B) (h2 : h < 2) (hs : s < N) (hj : j < 512) :
    weightAt k q (ix3 (⟨h, h2⟩ : Fin 2) (⟨B + s, by have := hb.fits; omega⟩ : Fin 5120) (⟨j, hj⟩ : Fin 512)) = weight (k h) (q h) (n + j) s := by
  show weight (k h) (q h) (first (B + s) + j) (B + s - start (B + s)) = _
  rw [hb.first_eq s hs, hb.start_eq s hs, Nat.add_sub_cancel_left]

/-! ## Tiles of logits -/

variable (K : ∀ hh : Nat, hh < 2 → ∀ o a : Nat, o + a ≤ 2048 → FVec Ideal ⟨2, ![a, 256]⟩ .bf16)
  (Q : ∀ hh : Nat, hh < 2 → ∀ n : Nat, n + 512 ≤ 2048 → FVec Ideal S512x256 .bf16) (hh : Nat) (hhh : hh < 2)
  (hK : ∀ (hh : Nat) (hhh : hh < 2) (o a : Nat) (ho : o + a ≤ 2048) (i : Fin a) (l : Fin 256), K hh hhh o a ho (ix2 i l) = k hh (o + i.val) l.val)
  (hQ : ∀ (hh : Nat) (hhh : hh < 2) (n : Nat) (hn : n + 512 ≤ 2048) (j : Fin 512) (l : Fin 256), Q hh hhh n hn (ix2 j l) = q hh (n + j.val) l.val)

/-- The logits of the tile's first 256 keys. -/
abbrev sTop (n : Nat) (hn : n + 512 ≤ 2048) : FVec Ideal S256x512 .f32 :=
  tTop (K hh hhh n 256 (by omega)) (Q hh hhh n hn)

/-- The logits of the tile's last 256 keys. -/
abbrev sLow (n r : Nat) (hr : r = n + 256) (hn : n + 512 ≤ 2048) : FVec Ideal S256x256 .f32 :=
  tLow (K hh hhh r 256 (by omega)) (Q hh hhh n hn)

/-- The logits of the keys before the tile. -/
abbrev sFull (n : Nat) (wf : DotDims.WF ⟨2, ![n, 256]⟩ ⟨2, ![512, 256]⟩ ⟨2, ![n, 512]⟩ [1] [1] [0] [0] [] []) (hn : n + 512 ≤ 2048) : FVec Ideal ⟨2, ![n, 512]⟩ .f32 :=
  tLogit n 512 wf (K hh hhh 0 n (by omega)) (Q hh hhh n hn)

include hK hQ in
theorem sTop_apply (n : Nat) (hn : n + 512 ≤ 2048) (i : Fin 256) (j : Fin 512) :
    sTop K Q hh hhh n hn (ix2 i j) = masked (k hh) (q hh) (n + j.val) (n + i.val) := by
  rw [sTop, tTop_apply, masked]
  simp only [hQ, hK]
  exact if_congr (by omega) rfl rfl

include hK hQ in
theorem sLow_apply (n r : Nat) (hr : r = n + 256) (hn : n + 512 ≤ 2048) (i j : Fin 256) :
    sLow K Q hh hhh n r hr hn (ix2 i j) = masked (k hh) (q hh) (r + j.val) (r + i.val) := by
  rw [sLow, tLow_apply, masked]
  simp only [hQ, hK]
  rw [← Nat.add_assoc, ← hr]
  exact if_congr (by omega) rfl rfl

include hK hQ in
theorem sFull_apply (n : Nat) (wf) (hn : n + 512 ≤ 2048) (i : Fin n) (j : Fin 512) :
    sFull K Q hh hhh n wf hn (ix2 i j) = masked (k hh) (q hh) (n + j.val) i.val := by
  rw [sFull, tLogit_apply, masked, if_pos (by omega)]
  simp only [hQ, hK, Nat.zero_add]
  rfl

/-! ## Stored tiles -/

include hK hQ in
/-- The logits of the tile's first 256 keys, stored. -/
theorem top_stored (n r N B : Nat) (hb : Band n r N B) (w : FVec Ideal S256x512 .f32)
    (hw : w = shapeCast S256x512 (sTop K Q hh hhh n (hb.rows ▸ hb.keys)) shapeCasts_S256x512_S256x512)
    (hR : (tileRect (A := 2) (M := 5120) (C := 512) hh B N n 0 256 512 hhh hb.fits (by have := hb.rows; omega) (by decide)).shape.numel = (tile (N := N) (C := 512) n 0 256 512 (by have := hb.rows; omega) (by decide)).shape.numel)
    (x : (tileRect (A := 2) (M := 5120) (C := 512) hh B N n 0 256 512 hhh hb.fits (by have := hb.rows; omega) (by decide)).shape.Idx) :
    Rect.payAlong hR w x = scoreAt k q
      ((tileRect (A := 2) (M := 5120) (C := 512) hh B N n 0 256 512 hhh hb.fits (by have := hb.rows; omega) (by decide)).emb x) := by
  refine tile_agree (A := 2) (M := 5120) (C := 512) (e := .f32) (scoreAt k q) hh B N n 0 256 512 hhh hb.fits (by have := hb.rows; omega) (by decide) w hR (fun i j => ?_) x
  rw [hw, cast_same, sTop_apply k q K Q hh hhh hK hQ,
    scoreAt_eq k q hh n r N B _ _ hb hhh (by have := hb.rows; omega), Nat.zero_add]

include hK hQ in
/-- The logits of the keys before the tile, stored. -/
theorem full_stored (n r N B : Nat) (hb : Band n r N B) (wf) (w : FVec Ideal ⟨2, ![n, 512]⟩ .f32) (hc : Shape.ShapeCasts ⟨2, ![n, 512]⟩ ⟨2, ![n, 512]⟩)
    (hw : w = shapeCast ⟨2, ![n, 512]⟩ (sFull K Q hh hhh n wf (hb.rows ▸ hb.keys)) hc)
    (hR : (tileRect (A := 2) (M := 5120) (C := 512) hh B N 0 0 n 512 hhh hb.fits (by have := hb.rows; omega) (by decide)).shape.numel = (tile (N := N) (C := 512) 0 0 n 512 (by have := hb.rows; omega) (by decide)).shape.numel)
    (x : (tileRect (A := 2) (M := 5120) (C := 512) hh B N 0 0 n 512 hhh hb.fits (by have := hb.rows; omega) (by decide)).shape.Idx) :
    Rect.payAlong hR w x = scoreAt k q
      ((tileRect (A := 2) (M := 5120) (C := 512) hh B N 0 0 n 512 hhh hb.fits (by have := hb.rows; omega) (by decide)).emb x) := by
  refine tile_agree (A := 2) (M := 5120) (C := 512) (e := .f32) (scoreAt k q) hh B N 0 0 n 512 hhh hb.fits (by have := hb.rows; omega) (by decide) w hR (fun i j => ?_) x
  rw [hw, cast_same, sFull_apply k q K Q hh hhh hK hQ,
    scoreAt_eq k q hh n r N B _ _ hb hhh (by have := hb.rows; omega), Nat.zero_add, Nat.zero_add]

include hK hQ in
/-- The logits of the tile's last 256 keys, stored. -/
theorem low_stored (n r N B : Nat) (hb : Band n r N B) (w : FVec Ideal S256x256 .f32)
    (hw : w = shapeCast S256x256 (sLow K Q hh hhh n r hb.half (hb.rows ▸ hb.keys)) shapeCasts_S256x256_S256x256)
    (hR : (tileRect (A := 2) (M := 5120) (C := 512) hh B N r 256 256 256 hhh hb.fits (by have := hb.rows; have := hb.half; omega) (by decide)).shape.numel = (tile (N := N) (C := 512) r 256 256 256 (by have := hb.rows; have := hb.half; omega) (by decide)).shape.numel)
    (x : (tileRect (A := 2) (M := 5120) (C := 512) hh B N r 256 256 256 hhh hb.fits (by have := hb.rows; have := hb.half; omega) (by decide)).shape.Idx) :
    Rect.payAlong hR w x = scoreAt k q
      ((tileRect (A := 2) (M := 5120) (C := 512) hh B N r 256 256 256 hhh hb.fits (by have := hb.rows; have := hb.half; omega) (by decide)).emb x) := by
  refine tile_agree (A := 2) (M := 5120) (C := 512) (e := .f32) (scoreAt k q) hh B N r 256 256 256 hhh hb.fits (by have := hb.rows; have := hb.half; omega) (by decide) w hR (fun i j => ?_) x
  rw [hw, cast_same, sLow_apply k q K Q hh hhh hK hQ,
    scoreAt_eq k q hh n r N B _ _ hb hhh (by have := hb.rows; have := hb.half; omega), ← Nat.add_assoc, ← hb.half]

/-! ## The largest logits -/

/-- The largest logits of the first tile's queries. -/
abbrev mFirst : FVec Ideal S1x512 .f32 :=
  tJoin (tMax 256 512 (sTop K Q hh hhh 0 (by decide)) reduces_S256x512_S512 shapeCasts_S512_S1x512)
    (tMax 256 256 (sLow K Q hh hhh 0 256 rfl (by decide)) reduces_S256x256_S256 shapeCasts_S256_S1x256)

/-- The largest logits of a later tile's queries. -/
abbrev mNext (n r N B : Nat) (hb : Band n r N B) (wf : DotDims.WF ⟨2, ![n, 256]⟩ ⟨2, ![512, 256]⟩ ⟨2, ![n, 512]⟩ [1] [1] [0] [0] [] [])
    (hr : Shape.Reduces ⟨2, ![n, 512]⟩ [0] ⟨1, ![512]⟩) : FVec Ideal S1x512 .f32 :=
  tJoin (maximumf (tMax 256 512 (sTop K Q hh hhh n (hb.rows ▸ hb.keys)) reduces_S256x512_S512 shapeCasts_S512_S1x512)
      (tMax n 512 (sFull K Q hh hhh n wf (hb.rows ▸ hb.keys)) hr shapeCasts_S512_S1x512))
    (tMax 256 256 (sLow K Q hh hhh n r hb.half (hb.rows ▸ hb.keys)) reduces_S256x256_S256 shapeCasts_S256_S1x256)

/-- A tile's maxima, joined, are the largest logits. -/
theorem join_most (n r N B : Nat) (hb : Band n r N B) (m : FVec Ideal S1x512 .f32) (low : FVec Ideal S1x256 .f32) (j : Fin 512)
    (hm : m (ix2 0 j) = (Finset.range (n + 256)).sup (masked (k hh) (q hh) (n + j.val)))
    (hlow : ∀ i : Fin 256, low (ix2 0 i) = Finset.univ.sup fun s : Fin 256 => masked (k hh) (q hh) (r + i.val) (r + s.val)) :
    tJoin m low (ix2 0 j) = most (k hh) (q hh) (n + j.val) := by
  have := hb.rows
  have := hb.keys
  have hr := hb.half
  rw [tJoin_apply, most_eq (k hh) (q hh) (n + j.val) n (by omega) (by omega) (m (ix2 0 j))
    (Finset.univ.sup fun s : Fin 256 => masked (k hh) (q hh) (n + j.val) (n + 256 + s.val)) hm fun _ => rfl]
  by_cases h : j.val < 256
  · rw [dif_pos h, if_pos (by omega)]
  · rw [dif_neg h, if_neg (by omega), hlow]
    have e : r + (j.val - 256) = n + j.val := by omega
    rw [show n + (j.val : Nat) = r + (j.val - 256) from e.symm, hr]

include hK hQ in
theorem mFirst_apply (j : Fin 512) :
    mFirst K Q hh hhh (ix2 0 j) = most (k hh) (q hh) (0 + j.val) := by
  refine join_most k q hh 0 256 512 0 band_zero _ _ j ?_ fun i => ?_
  · rw [tMax_apply]
    simp only [sTop_apply k q K Q hh hhh hK hQ]
    refine le_antisymm (Finset.sup_le fun s _ => Finset.le_sup (f := masked (k hh) (q hh) (0 + j.val)) (Finset.mem_range.2 (by omega))) (Finset.sup_le fun s hs => ?_)
    have hs := Finset.mem_range.1 hs
    refine le_trans (le_of_eq ?_) (Finset.le_sup (f := fun s : Fin 256 => masked (k hh) (q hh) (0 + j.val) (0 + s.val)) (Finset.mem_univ (⟨s, by omega⟩ : Fin 256)))
    rw [Nat.zero_add s]
  · rw [tMax_apply]
    simp only [sLow_apply k q K Q hh hhh hK hQ]

include hK hQ in
theorem mNext_apply (n r N B : Nat) (hb : Band n r N B) (wf) (hr) (j : Fin 512) :
    mNext K Q hh hhh n r N B hb wf hr (ix2 0 j) = most (k hh) (q hh) (n + j.val) := by
  refine join_most k q hh n r N B hb _ _ j ?_ fun i => ?_
  · show max (tMax _ _ _ _ _ _) (tMax _ _ _ _ _ _) = _
    rw [tMax_apply, tMax_apply]
    simp only [sTop_apply k q K Q hh hhh hK hQ, sFull_apply k q K Q hh hhh hK hQ]
    refine le_antisymm (max_le (Finset.sup_le fun s _ => ?_) (Finset.sup_le fun s _ => ?_)) (Finset.sup_le fun s hs => ?_)
    · exact Finset.le_sup (f := masked (k hh) (q hh) (n + j.val)) (Finset.mem_range.2 (by omega))
    · exact Finset.le_sup (f := masked (k hh) (q hh) (n + j.val)) (Finset.mem_range.2 (by omega))
    · have hs := Finset.mem_range.1 hs
      by_cases h : s < n
      · exact le_max_of_le_right (Finset.le_sup (f := fun s : Fin n => masked (k hh) (q hh) (n + j.val) s.val) (Finset.mem_univ (⟨s, h⟩ : Fin n)))
      · refine le_max_of_le_left (le_trans (le_of_eq ?_) (Finset.le_sup (f := fun s : Fin 256 => masked (k hh) (q hh) (n + j.val) (n + s.val)) (Finset.mem_univ (⟨s - n, by omega⟩ : Fin 256))))
        show _ = masked (k hh) (q hh) (n + j.val) (n + (s - n))
        rw [Nat.add_sub_cancel' (by omega)]
  · rw [tMax_apply]
    simp only [sLow_apply k q K Q hh hhh hK hQ]

/-! ## The whole scratch -/

/-- The stored logits of a tile's first 256 keys. -/
abbrev topPiece (n r N B : Nat) (hb : Band n r N B) : View.Piece (Elt Ideal) S2x5120x512 .f32 :=
  ⟨tileRect (A := 2) (M := 5120) (C := 512) hh B N n 0 256 512 hhh hb.fits (by have := hb.rows; omega) (by decide),
    Rect.payAlong (tileRect_numel hh B N n 0 256 512 hhh hb.fits (by have := hb.rows; omega) (by decide))
      (shapeCast S256x512 (sTop K Q hh hhh n (hb.rows ▸ hb.keys)) shapeCasts_S256x512_S256x512)⟩

/-- The stored logits of the keys before a tile. -/
abbrev fullPiece (n r N B : Nat) (hb : Band n r N B) (wf : DotDims.WF ⟨2, ![n, 256]⟩ ⟨2, ![512, 256]⟩ ⟨2, ![n, 512]⟩ [1] [1] [0] [0] [] [])
    (hc : Shape.ShapeCasts ⟨2, ![n, 512]⟩ ⟨2, ![n, 512]⟩) : View.Piece (Elt Ideal) S2x5120x512 .f32 :=
  ⟨tileRect (A := 2) (M := 5120) (C := 512) hh B N 0 0 n 512 hhh hb.fits (by have := hb.rows; omega) (by decide),
    Rect.payAlong (tileRect_numel hh B N 0 0 n 512 hhh hb.fits (by have := hb.rows; omega) (by decide))
      (shapeCast ⟨2, ![n, 512]⟩ (sFull K Q hh hhh n wf (hb.rows ▸ hb.keys)) hc)⟩

/-- The stored logits of a tile's last 256 keys. -/
abbrev lowPiece (n r N B : Nat) (hb : Band n r N B) : View.Piece (Elt Ideal) S2x5120x512 .f32 :=
  ⟨tileRect (A := 2) (M := 5120) (C := 512) hh B N r 256 256 256 hhh hb.fits (half_le' hb) (by decide),
    Rect.payAlong (tileRect_numel hh B N r 256 256 256 hhh hb.fits (half_le' hb) (by decide))
      (shapeCast S256x256 (sLow K Q hh hhh n r hb.half (hb.rows ▸ hb.keys)) shapeCasts_S256x256_S256x256)⟩

/-- All that is stored for a later tile of queries, over what was there. -/
abbrev tilePieces (n r N B : Nat) (hb : Band n r N B) (wf : DotDims.WF ⟨2, ![n, 256]⟩ ⟨2, ![512, 256]⟩ ⟨2, ![n, 512]⟩ [1] [1] [0] [0] [] [])
    (hc : Shape.ShapeCasts ⟨2, ![n, 512]⟩ ⟨2, ![n, 512]⟩) (L : List (View.Piece (Elt Ideal) S2x5120x512 .f32)) : List (View.Piece (Elt Ideal) S2x5120x512 .f32) :=
  lowPiece K Q 1 (by decide) n r N B hb :: fullPiece K Q 1 (by decide) n r N B hb wf hc :: topPiece K Q 1 (by decide) n r N B hb
    :: lowPiece K Q 0 (by decide) n r N B hb :: fullPiece K Q 0 (by decide) n r N B hb wf hc :: topPiece K Q 0 (by decide) n r N B hb :: L

/-- All that is stored for the first tile of queries, over what was there. -/
abbrev firstPieces (L : List (View.Piece (Elt Ideal) S2x5120x512 .f32)) : List (View.Piece (Elt Ideal) S2x5120x512 .f32) :=
  lowPiece K Q 1 (by decide) 0 256 512 0 band_zero :: topPiece K Q 1 (by decide) 0 256 512 0 band_zero
    :: lowPiece K Q 0 (by decide) 0 256 512 0 band_zero :: topPiece K Q 0 (by decide) 0 256 512 0 band_zero :: L

/-- All the logits a pair of heads stores, over what was there. -/
def scorePieces (L : List (View.Piece (Elt Ideal) S2x5120x512 .f32)) : List (View.Piece (Elt Ideal) S2x5120x512 .f32) :=
  tilePieces K Q 1536 1792 2048 3072 band_three dot_S1536x256_S512x256_S1536x512_1_1_0_0_n_n.wf shapeCasts_S1536x512_S1536x512
    (tilePieces K Q 1024 1280 1536 1536 band_two dot_S1024x256_S512x256_S1024x512_1_1_0_0_n_n.wf shapeCasts_S1024x512_S1024x512
      (tilePieces K Q 512 768 1024 512 band_one dot_S512x256_S512x256_S512x512_1_1_0_0_n_n.wf shapeCasts_S512x512_S512x512 (firstPieces K Q L)))

include hK hQ in
/-- Below a later tile's stores the scratch holds what it held, at an index of another band. -/
theorem tile_holds (n r N B : Nat) (hb : Band n r N B) (wf) (hc) (L : List (View.Piece (Elt Ideal) S2x5120x512 .f32)) (y : S2x5120x512.Idx) (hk : Kept y)
    (hL : (y 1).val < B ∨ B + N ≤ (y 1).val → View.canon L y = scoreAt k q y) :
    View.canon (tilePieces K Q n r N B hb wf hc L) y = scoreAt k q y := by
  refine canon_over _ _ _ y (low_stored k q K Q 1 (by decide) hK hQ n r N B hb _ rfl _) fun l1 => ?_
  refine canon_over _ _ _ y (full_stored k q K Q 1 (by decide) hK hQ n r N B hb wf _ hc rfl _) fun f1 => ?_
  refine canon_over _ _ _ y (top_stored k q K Q 1 (by decide) hK hQ n r N B hb _ rfl _) fun t1 => ?_
  refine canon_over _ _ _ y (low_stored k q K Q 0 (by decide) hK hQ n r N B hb _ rfl _) fun l0 => ?_
  refine canon_over _ _ _ y (full_stored k q K Q 0 (by decide) hK hQ n r N B hb wf _ hc rfl _) fun f0 => ?_
  refine canon_over _ _ _ y (top_stored k q K Q 0 (by decide) hK hQ n r N B hb _ rfl _) fun t0 => hL ?_
  by_contra hc
  have h0 : (y 0).val < 2 := (y 0).isLt
  obtain h0 | h0 : (y 0).val = 0 ∨ (y 0).val = 1 := by omega
  · exact (score_cases 0 n r N B hb (by decide) y h0 (by omega) (by omega) hk).elim t0 (Or.elim · f0 l0)
  · exact (score_cases 1 n r N B hb (by decide) y h0 (by omega) (by omega) hk).elim t1 (Or.elim · f1 l1)

include hK hQ in
/-- The scratch holds the logits of a pair of heads after its stores. -/
theorem scores_hold (L : List (View.Piece (Elt Ideal) S2x5120x512 .f32)) (y : S2x5120x512.Idx) (hk : Kept y) :
    View.canon (scorePieces K Q L) y = scoreAt k q y := by
  have h1 : (y 1).val < 5120 := (y 1).isLt
  refine tile_holds k q K Q hK hQ _ _ _ _ _ _ _ _ y hk fun b3 => tile_holds k q K Q hK hQ _ _ _ _ _ _ _ _ y hk fun b2 =>
    tile_holds k q K Q hK hQ _ _ _ _ _ _ _ _ y hk fun b1 => ?_
  refine canon_over _ _ _ y (low_stored k q K Q 1 (by decide) hK hQ 0 256 512 0 band_zero _ rfl _) fun l1 => ?_
  refine canon_over _ _ _ y (top_stored k q K Q 1 (by decide) hK hQ 0 256 512 0 band_zero _ rfl _) fun t1 => ?_
  refine canon_over _ _ _ y (low_stored k q K Q 0 (by decide) hK hQ 0 256 512 0 band_zero _ rfl _) fun l0 => ?_
  refine canon_over _ _ _ y (top_stored k q K Q 0 (by decide) hK hQ 0 256 512 0 band_zero _ rfl _) fun t0 => ?_
  exfalso
  have h0 : (y 0).val < 2 := (y 0).isLt
  obtain h0 | h0 : (y 0).val = 0 ∨ (y 0).val = 1 := by omega
  · exact (score_cases_zero 0 (by decide) y h0 (by omega) hk).elim t0 l0
  · exact (score_cases_zero 1 (by decide) y h0 (by omega) hk).elim t1 l1

end Pair

end Cert.Attention

end
-- ==== Proof.Attention.Gather.lean ====
/- What a grid point gathers in its scratch: columns of a block as lanes of the keys, and the values with rows of ones below them. -/
module

public import proofs.«01_k».proof.Proof.Attention.Scores
public import Idealize.ShloMosaic.Lib.IdealHost

@[expose] public section

noncomputable section

namespace Cert.Attention

open Idealize.ShloMosaic Cert.Kernel2Ideal Cert.Kernel2Ideal.Gen

/-! ## Lanes of keys -/

section Lanes

variable {sig : RefSig} {A W : Nat} (R : Memref sig .tc .vmem ⟨3, ![1, 2048, W]⟩ .bf16) (hR : R.IsWhole) (x0 : Vec Ideal ⟨3, ![1, 2048, W]⟩ .bf16)

/-- Columns of a block, stored as 128 lanes of a plane of the keys. -/
theorem lanes_stored (G : Vec Ideal ⟨3, ![A, 2048, 256]⟩ .bf16) (p t c : Nat) (hp : p < A) (ht : t + 128 ≤ 256) (hc : c + 128 ≤ W)
    (hG : ∀ (i : Fin 2048) (l : Fin 128), G (ix3 (⟨p, hp⟩ : Fin A) i (⟨t + l.val, by omega⟩ : Fin 256)) = ent x0 i.val (c + l.val))
    (w : FVec Ideal S1x2048x128 .bf16)
    (hw : w = shapeCast S1x2048x128 (shapeCast S2048x128 (View.readAt (Elt Ideal) R.view (plane 0 0 c 2048 128 Nat.one_pos (Nat.le_refl _) hc).toLoadRect
      (hR.unread x0)) shapeCasts_S1x2048x128_S2048x128) shapeCasts_S2048x128_S1x2048x128)
    (x : (plane p 0 t 2048 128 hp (Nat.le_refl _) ht : Rect ⟨3, ![A, 2048, 256]⟩).shape.Idx) :
    w x = G ((plane p 0 t 2048 128 hp (Nat.le_refl _) ht : Rect ⟨3, ![A, 2048, 256]⟩).emb x) := by
  refine plane_agree (A := A) (M := 2048) (C := 256) (e := .bf16) G p 0 t 2048 128 hp (Nat.le_refl _) ht w (fun i j => ?_) x
  rw [hw, cast_add, cast_drop, load_plane]
  refine ((ent_eq x0 ⟨0 + i.val, by omega⟩ ⟨c + j.val, by omega⟩ i.val (c + j.val) (Nat.zero_add _).symm rfl).symm.trans (hG i j).symm).trans ?_
  exact congrArg G (funext fun e => Fin.ext (by
    match e with
    | 0 => rfl
    | 1 => exact (Nat.zero_add _).symm
    | 2 => rfl))

/-- An index of the array of keys is among a plane's first lanes or among its last ones. -/
theorem lane_cases (p : Nat) (hp : p < A) (y : (⟨3, ![A, 2048, 256]⟩ : Shape).Idx) (h0 : (y 0).val = p) :
    y ∈ (plane p 0 0 2048 128 hp (Nat.le_refl _) (by decide) : Rect ⟨3, ![A, 2048, 256]⟩).set
      ∨ y ∈ (plane p 0 128 2048 128 hp (Nat.le_refl _) (by decide) : Rect ⟨3, ![A, 2048, 256]⟩).set := by
  have h2 : (y 2).val < 256 := (y 2).isLt
  have h1 : (y 1).val < 2048 := (y 1).isLt
  by_cases hl : (y 2).val < 128
  · exact .inl (plane_mem (A := A) (M := 2048) (C := 256) p 0 0 2048 128 hp (Nat.le_refl _) (by decide) y h0 (by omega) (by omega) (by omega) (by omega))
  · exact .inr (plane_mem (A := A) (M := 2048) (C := 256) p 0 128 2048 128 hp (Nat.le_refl _) (by decide) y h0 (by omega) (by omega) (by omega) (by omega))

end Lanes

/-! ## Values -/

section Values

variable {sig : RefSig} {V R : Nat} (D : Nat) (M : Memref sig .tc .vmem ⟨3, ![1, V, 2048]⟩ .bf16) (hM : M.IsWhole) (x4 : Vec Ideal ⟨3, ![1, V, 2048]⟩ .bf16)

/-- Row `d` of head `hd`'s values at key `j`, the rows past the values being ones. -/
def val (hd d j : Nat) : EReal := if d < D then ent x4 (hd * D + d) j else 1

/-- The values of the four heads and their rows of ones, as an array. -/
def valAt : Vec Ideal ⟨4, ![2, 2, R, 2048]⟩ .bf16 := fun y => val D x4 (2 * (y 0).val + (y 1).val) (y 2).val (y 3).val

/-- A head's values, stored. -/
theorem val_plain (E : Nat) (hE : E = D + D) (p h : Nat) (hp : p < 2) (hh : h < 2) (hN : p * E + E ≤ V) (ho : h * D + D ≤ E) (hR : 0 + D ≤ R)
    (c1 : Shape.ShapeCasts ⟨2, ![D, 2048]⟩ ⟨3, ![1, D, 2048]⟩) (c2 : Shape.ShapeCasts ⟨3, ![1, D, 2048]⟩ ⟨4, ![1, 1, D, 2048]⟩)
    (w : Vec Ideal ⟨4, ![1, 1, D, 2048]⟩ .bf16)
    (hw : w = shapeCast ⟨4, ![1, 1, D, 2048]⟩ (shapeCast ⟨3, ![1, D, 2048]⟩
      (LoadRect.valAlong (tileBox_numel (A := 1) (M := V) (C := 2048) 0 (p * E) E (h * D) 0 D 2048 Nat.one_pos hN ho (by decide))
        (View.readAt (Elt Ideal) M.view (tileBox 0 (p * E) E (h * D) 0 D 2048 Nat.one_pos hN ho (by decide)) (hM.unread x4)) : Vec Ideal ⟨2, ![D, 2048]⟩ .bf16)
      c1) c2)
    (x : (rows p h 0 D hp hh hR : Rect ⟨4, ![2, 2, R, 2048]⟩).shape.Idx) :
    w x = valAt D x4 ((rows p h 0 D hp hh hR : Rect ⟨4, ![2, 2, R, 2048]⟩).emb x) := by
  refine rows_agree (A := 2) (D := 2) (M := R) (C := 2048) (e := .bf16) (valAt D x4) p h 0 D hp hh hR w (fun i j => ?_) x
  rw [hw, cast_add4, cast_add, load_tile]
  show _ = val D x4 (2 * p + h) (0 + i.val) j.val
  rw [val, if_pos (by omega)]
  exact (ent_eq _ _ _ _ _ (by show (2 * p + h) * D + (0 + i.val) = p * E + (h * D + i.val); subst hE; ring) (by show j.val = 0 + j.val; omega)).symm

/-- A head's rows of ones, stored. -/
theorem val_ones (p h : Nat) (hp : p < 2) (hh : h < 2) (hR : D + 16 ≤ R) (w : Vec Ideal S1x1x16x2048 .bf16)
    (hw : w = shapeCast S1x1x16x2048 (shapeCast S1x16x2048 (broadcast S16x2048 (Scalar.ofBits (F := Ideal) .bf16 0x3F80#16)) shapeCasts_S16x2048_S1x16x2048)
      shapeCasts_S1x16x2048_S1x1x16x2048)
    (x : (rows p h D 16 hp hh hR : Rect ⟨4, ![2, 2, R, 2048]⟩).shape.Idx) :
    w x = valAt D x4 ((rows p h D 16 hp hh hR : Rect ⟨4, ![2, 2, R, 2048]⟩).emb x) := by
  refine rows_agree (A := 2) (D := 2) (M := R) (C := 2048) (e := .bf16) (valAt D x4) p h D 16 hp hh hR w (fun i j => ?_) x
  rw [hw, cast_add4, cast_add]
  show Ideal.ofBits .bf16 0x3F80#16 = val D x4 (2 * p + h) (D + i.val) j.val
  rw [val, if_neg (by omega)]
  exact Ideal.ofBits_one_bf16

/-- An index of the array of values is among the values or among the ones. -/
theorem val_cases (hR : R = D + 16) (p h : Nat) (hp : p < 2) (hh : h < 2) (y : (⟨4, ![2, 2, R, 2048]⟩ : Shape).Idx) (h0 : (y 0).val = p) (h1 : (y 1).val = h) :
    y ∈ (rows p h 0 D hp hh (by omega) : Rect ⟨4, ![2, 2, R, 2048]⟩).set ∨ y ∈ (rows p h D 16 hp hh (by omega) : Rect ⟨4, ![2, 2, R, 2048]⟩).set := by
  have h2 : (y 2).val < R := (y 2).isLt
  by_cases hl : (y 2).val < D
  · exact .inl (rows_mem (A := 2) (D := 2) (M := R) (C := 2048) p h 0 D hp hh (by omega) y h0 h1 (by omega) (by omega))
  · exact .inr (rows_mem (A := 2) (D := 2) (M := R) (C := 2048) p h D 16 hp hh (by omega) y h0 h1 (by omega) (by omega))

end Values

end Cert.Attention

end
-- ==== Proof.Latent.Keys.lean ====
/- The keys and the values a grid point gathers in its scratch, and the queries of a tile with the lanes of a pair's two heads. -/
module

public import proofs.«01_k».proof.Proof.Gen.Kernel2Ideal.Frame
public import proofs.«01_k».proof.Proof.Attention.Gather

@[expose] public section

noncomputable section

namespace Cert.Latent

open Idealize.ShloMosaic Cert.Kernel2Ideal Cert.Kernel2Ideal.Gen Cert.Attention

/-- One when lane `l` of a pair's rotary lanes belongs to the pair's head `hh`, else zero. -/
def own (hh l : Nat) : EReal := if l / 32 % 2 = hh then 1 else 0

section Block

variable (x0 : Vec Ideal S1x2048x512 .bf16) (x1 : Vec Ideal S1x2048x256 .bf16) (x2 : Vec Ideal S1x2048x512 .bf16) (x3 : Vec Ideal S1x2048x128 .bf16)

/-- Lane `l` of head `hd`'s key `j`. -/
def key (hd j l : Nat) : EReal := if l < 128 then ent x2 j (hd * 128 + l) else ent x3 j (l - 128)

/-- Lane `l` of query `i`, of head `hh` of pair `pr`. -/
def qry (pr hh i l : Nat) : EReal :=
  if l < 128 then ent x0 i ((2 * pr + hh) * 128 + l) else ent x1 i (pr * 128 + (l - 128)) * own hh (l - 128)

end Block

/-! ## Whose lane it is -/

theorem sitofp_bit (w : IVec S1x128 32) (l : Fin 128) (hh : Nat) (h : w (ix2 0 l) = if l.val / 32 % 2 = hh then 1#32 else 0#32) :
    sitofp (F := Ideal) .f32 w (ix2 0 l) = own hh l.val := by
  show ((((w (ix2 0 l)).toInt : ℝ)) : EReal) = _
  rw [h, own]
  split_ifs <;> simp

theorem own_first (l : Fin 128) : k0_pay3 (F := Ideal) kernelRun0_A.sl.v43 (ix2 0 l) = own 0 l.val :=
  sitofp_bit kernelRun0_A.sl.v43 l 0 ((by decide +kernel : ∀ l : Fin 128, kernelRun0_A.sl.v43 (ix2 0 l) = if l.val / 32 % 2 = 0 then 1#32 else 0#32) l)

theorem own_second (l : Fin 128) : kernelRun0_A.sl.r (F := Ideal) (ix2 0 l) = own 1 l.val := by
  obtain ⟨w, hw, h⟩ : ∃ w : IVec S1x128 32, k0_pay4 (F := Ideal) kernelRun0_A.sl.v0 = sitofp .f32 w
      ∧ ∀ l : Fin 128, w (ix2 0 l) = if l.val / 32 % 2 = 1 then 1#32 else 0#32 := ⟨_, rfl, by decide +kernel⟩
  show k0_pay4 (F := Ideal) kernelRun0_A.sl.v0 (ix2 0 l) = _
  rw [hw]
  exact sitofp_bit w l 1 (h l)

/-- Which of the rotary lanes are a head's, as the kernel has it. -/
def ownRow : Nat → FVec Ideal S1x128 .bf16
  | 0 => k0_pay3 kernelRun0_A.sl.v43
  | _ + 1 => kernelRun0_A.sl.r

theorem ownRow_apply (hh : Nat) (hhh : hh < 2) (l : Fin 128) : ownRow hh (ix2 0 l) = own hh l.val := by
  match hh, hhh with
  | 0, _ => exact own_first l
  | 1, _ => exact own_second l

/-- The queries of a tile: the plain part, and the rotary part with the other head's lanes set to zero. -/
def tQuery (own : FVec Ideal S1x128 .bf16) (r n : Vec Ideal S1x512x128 .bf16) : FVec Ideal S512x256 .bf16 :=
  concatenate S512x256 1 [⟨S512x128, shapeCast S512x128 n shapeCasts_S1x512x128_S512x128⟩,
    ⟨S512x128, mulf (shapeCast S512x128 r shapeCasts_S1x512x128_S512x128) (broadcastTo S512x128 own broadcasts_S1x128_S512x128)⟩]
    concatenates_S512x128_S512x128_S512x256_d1

theorem tQuery_apply (own : FVec Ideal S1x128 .bf16) (r n : Vec Ideal S1x512x128 .bf16) (q : Fin 512) (l : Fin 256) :
    tQuery own r n (ix2 q l) = if h : l.val < 128 then n (ix3 0 q ⟨l.val, h⟩)
      else r (ix3 0 q ⟨l.val - 128, by omega⟩) * own (ix2 0 ⟨l.val - 128, by omega⟩) := by
  pointwise [tQuery]

/-! ## Keys -/

section Keys

variable (c : Dev nD) (arg2 : Memref sig .tc .vmem S1x2048x512 .bf16) (harg2 : arg2.IsWhole) (arg3 : Memref sig .tc .vmem S1x2048x256 .bf16) (harg3 : arg3.IsWhole)
  (arg4 : Memref sig .tc .vmem S1x2048x512 .bf16) (harg4 : arg4.IsWhole) (arg5 : Memref sig .tc .vmem S1x2048x128 .bf16) (harg5 : arg5.IsWhole)
  (arg8 : Memref sig .tc .vmem S4x2048x256 .bf16)
  (x0 : Vec Ideal S1x2048x512 .bf16) (x1 : Vec Ideal S1x2048x256 .bf16) (x2 : Vec Ideal S1x2048x512 .bf16) (x3 : Vec Ideal S1x2048x128 .bf16)

/-- The keys of the four heads, as an array. -/
def keyAt : Vec Ideal S4x2048x256 .bf16 := fun y => key x2 x3 (y 0).val (y 1).val (y 2).val

theorem keyAt_plain (hd : Nat) (hd4 : hd < 4) (i : Fin 2048) (l : Fin 128) :
    keyAt x2 x3 (ix3 (⟨hd, hd4⟩ : Fin 4) i (⟨0 + l.val, by omega⟩ : Fin 256)) = ent x2 i.val (hd * 128 + l.val) := by
  show key x2 x3 hd i.val (0 + l.val) = _
  rw [key, if_pos (by omega), Nat.zero_add]

theorem keyAt_rotary (hd : Nat) (hd4 : hd < 4) (i : Fin 2048) (l : Fin 128) :
    keyAt x2 x3 (ix3 (⟨hd, hd4⟩ : Fin 4) i (⟨128 + l.val, by omega⟩ : Fin 256)) = ent x3 i.val (0 + l.val) := by
  show key x2 x3 hd i.val (128 + l.val) = _
  rw [key, if_neg (by omega), Nat.add_sub_cancel_left, Nat.zero_add]

/-- The scratch holds the keys of the first pair of heads after its four stores. -/
theorem keys_first (y : S4x2048x256.Idx) (h : (y 0).val < 2) :
    View.canon (kernelRun0_A.sl.HS0_4 (F := Ideal) c arg4 harg4 arg5 harg5 x2 x3) y = keyAt x2 x3 y := by
  have plain := fun p hp => lanes_stored (A := 4) arg4 harg4 x2 (keyAt x2 x3) p 0 (p * 128) hp (by decide) (by omega) (keyAt_plain x2 x3 p hp)
  have rotary := fun p hp => lanes_stored (A := 4) arg5 harg5 x3 (keyAt x2 x3) p 128 0 hp (by decide) (by decide) (keyAt_rotary x2 x3 p hp)
  refine canon_over _ _ _ y (rotary 1 (by decide) _ rfl) fun n1 => canon_over _ _ _ y (plain 1 (by decide) _ rfl) fun m1 =>
    canon_over _ _ _ y (rotary 0 (by decide) _ rfl) fun n0 => canon_over _ _ _ y (plain 0 (by decide) _ rfl) fun m0 => ?_
  exfalso
  obtain h0 | h0 : (y 0).val = 0 ∨ (y 0).val = 1 := by omega
  · exact (lane_cases (A := 4) 0 (by decide) y h0).elim m0 n0
  · exact (lane_cases (A := 4) 1 (by decide) y h0).elim m1 n1

/-- The scratch holds the keys of all four heads after its eight stores. -/
theorem keys_second (y : S4x2048x256.Idx) :
    View.canon (kernelRun0_A.sl.HS0_8 (F := Ideal) c arg4 harg4 arg5 harg5 x2 x3) y = keyAt x2 x3 y := by
  have h0 : (y 0).val < 4 := (y 0).isLt
  have plain := fun p hp => lanes_stored (A := 4) arg4 harg4 x2 (keyAt x2 x3) p 0 (p * 128) hp (by decide) (by omega) (keyAt_plain x2 x3 p hp)
  have rotary := fun p hp => lanes_stored (A := 4) arg5 harg5 x3 (keyAt x2 x3) p 128 0 hp (by decide) (by decide) (keyAt_rotary x2 x3 p hp)
  refine canon_over _ _ _ y (rotary 3 (by decide) _ rfl) fun n3 => canon_over _ _ _ y (plain 3 (by decide) _ rfl) fun m3 =>
    canon_over _ _ _ y (rotary 2 (by decide) _ rfl) fun n2 => canon_over _ _ _ y (plain 2 (by decide) _ rfl) fun m2 =>
    keys_first c arg4 harg4 arg5 harg5 x2 x3 y ?_
  by_contra hc
  obtain h0 | h0 : (y 0).val = 2 ∨ (y 0).val = 3 := by omega
  · exact (lane_cases (A := 4) 2 (by decide) y h0).elim m2 n2
  · exact (lane_cases (A := 4) 3 (by decide) y h0).elim m3 n3

/-- The queries of a tile. -/
abbrev qRows (pr : Nat) (hpr : pr < 2) (hh : Nat) (hhh : hh < 2) (n : Nat) (hn : n + 512 ≤ 2048) : FVec Ideal S512x256 .bf16 :=
  tQuery (ownRow hh)
    (View.readAt (Elt Ideal) arg3.view (plane 0 n (pr * 128) 512 128 Nat.one_pos hn (show pr * 128 + 128 ≤ 256 by omega)).toLoadRect (harg3.unread x1))
    (View.readAt (Elt Ideal) arg2.view (plane 0 n ((2 * pr + hh) * 128) 512 128 Nat.one_pos hn (show (2 * pr + hh) * 128 + 128 ≤ 512 by omega)).toLoadRect (harg2.unread x0))

/-- Keys, read back. -/
abbrev kRows (L : List (View.Piece (Elt Ideal) S4x2048x256 .bf16)) (pr : Nat) (hpr : pr < 2) (hh : Nat) (hhh : hh < 2) (o a : Nat) (ho : o + a ≤ 2048) :
    FVec Ideal ⟨2, ![a, 256]⟩ .bf16 :=
  tileRead (A := 4) (M := 2048) (C := 256) (e := .bf16) arg8.view L (2 * pr + hh) 0 2048 o 0 a 256 (by omega) (Nat.le_of_eq (Nat.zero_add _)) ho (Nat.le_of_eq (Nat.zero_add _))

theorem qRows_apply (pr : Nat) (hpr : pr < 2) (hh : Nat) (hhh : hh < 2) (n : Nat) (hn : n + 512 ≤ 2048) (j : Fin 512) (l : Fin 256) :
    qRows arg2 harg2 arg3 harg3 x0 x1 pr hpr hh hhh n hn (ix2 j l) = qry x0 x1 pr hh (n + j.val) l.val := by
  rw [qRows, tQuery_apply, qry]
  by_cases h : l.val < 128
  · rw [dif_pos h, if_pos h, load_plane]
    exact (ent_eq _ _ _ _ _ rfl rfl).symm
  · rw [dif_neg h, if_neg h, load_plane, ownRow_apply hh hhh]
    exact congrArg (· * _) (ent_eq _ _ _ _ _ rfl rfl).symm

theorem kRows_apply (L : List (View.Piece (Elt Ideal) S4x2048x256 .bf16)) (pr : Nat) (hpr : pr < 2)
    (hL : ∀ y : S4x2048x256.Idx, (y 0).val < 2 * pr + 2 → View.canon L y = keyAt x2 x3 y) (hh : Nat) (hhh : hh < 2) (o a : Nat) (ho : o + a ≤ 2048)
    (i : Fin a) (l : Fin 256) : kRows arg8 L pr hpr hh hhh o a ho (ix2 i l) = key x2 x3 (2 * pr + hh) (o + i.val) l.val := by
  rw [kRows, tileRead_apply, hL _ (show 2 * pr + hh < 2 * pr + 2 by omega)]
  show key x2 x3 (2 * pr + hh) (0 + (o + i.val)) (0 + l.val) = _
  rw [Nat.zero_add, Nat.zero_add]

end Keys

/-! ## Values -/

section Values

variable (c : Dev nD) (arg6 : Memref sig .tc .vmem S1x512x2048 .bf16) (harg6 : arg6.IsWhole) (x4 : Vec Ideal S1x512x2048 .bf16)

/-- The scratch holds the values of the first pair of heads after its four stores. -/
theorem vals_first (y : S2x2x144x2048.Idx) (h : (y 0).val = 0) :
    View.canon (kernelRun0_A.sl.HS3_4 (F := Ideal) c arg6 harg6 x4) y = valAt 128 x4 y := by
  have h1 : (y 1).val < 2 := (y 1).isLt
  have plain := fun p h hp hh a b => val_plain (R := 144) 128 arg6 harg6 x4 256 rfl p h hp hh a b (by decide) shapeCasts_S128x2048_S1x128x2048 shapeCasts_S1x128x2048_S1x1x128x2048
  have ones := fun p h hp hh => val_ones (R := 144) 128 x4 p h hp hh (by decide)
  refine canon_over _ _ _ y (ones 0 1 (by decide) (by decide) _ rfl) fun n1 => canon_over _ _ _ y (plain 0 1 (by decide) (by decide) (by decide) (by decide) _ rfl) fun m1 =>
    canon_over _ _ _ y (ones 0 0 (by decide) (by decide) _ rfl) fun n0 => canon_over _ _ _ y (plain 0 0 (by decide) (by decide) (by decide) (by decide) _ rfl) fun m0 => ?_
  exfalso
  obtain h1 | h1 : (y 1).val = 0 ∨ (y 1).val = 1 := by omega
  · exact (val_cases (R := 144) 128 rfl 0 0 (by decide) (by decide) y h h1).elim m0 n0
  · exact (val_cases (R := 144) 128 rfl 0 1 (by decide) (by decide) y h h1).elim m1 n1

/-- The scratch holds the values of both pairs of heads after its eight stores. -/
theorem vals_second (y : S2x2x144x2048.Idx) :
    View.canon (kernelRun0_A.sl.HS3_8 (F := Ideal) c arg6 harg6 x4) y = valAt 128 x4 y := by
  have h0 : (y 0).val < 2 := (y 0).isLt
  have h1 : (y 1).val < 2 := (y 1).isLt
  have plain := fun p h hp hh a b => val_plain (R := 144) 128 arg6 harg6 x4 256 rfl p h hp hh a b (by decide) shapeCasts_S128x2048_S1x128x2048 shapeCasts_S1x128x2048_S1x1x128x2048
  have ones := fun p h hp hh => val_ones (R := 144) 128 x4 p h hp hh (by decide)
  refine canon_over _ _ _ y (ones 1 1 (by decide) (by decide) _ rfl) fun n1 => canon_over _ _ _ y (plain 1 1 (by decide) (by decide) (by decide) (by decide) _ rfl) fun m1 =>
    canon_over _ _ _ y (ones 1 0 (by decide) (by decide) _ rfl) fun n0 => canon_over _ _ _ y (plain 1 0 (by decide) (by decide) (by decide) (by decide) _ rfl) fun m0 =>
    vals_first c arg6 harg6 x4 y ?_
  by_contra hc
  obtain h1 | h1 : (y 1).val = 0 ∨ (y 1).val = 1 := by omega
  · exact (val_cases (R := 144) 128 rfl 1 0 (by decide) (by decide) y (by omega) h1).elim m0 n0
  · exact (val_cases (R := 144) 128 rfl 1 1 (by decide) (by decide) y (by omega) h1).elim m1 n1

end Values

end Cert.Latent

end
-- ==== Proof.Attention.Weights.lean ====
/- The weights a pair of heads keeps in the scratch, the averages they give, and the block's result put together from them. -/
module

public import proofs.«01_k».proof.Proof.Attention.Scores

@[expose] public section

noncomputable section

namespace Cert.Attention

open Idealize.ShloMosaic Cert.Kernel2Ideal Cert.Kernel2Ideal.Gen

/-- The rows of a band the run stores. -/
theorem kept (h n r N B s j : Nat) (hb : Band n r N B) (h2 : h < 2) (hk : s < N) (hq : j < 512) (hs : s < r ∨ 256 ≤ j) :
    Kept (ix3 (⟨h, h2⟩ : Fin 2) (⟨B + s, by have := hb.fits; omega⟩ : Fin 5120) (⟨j, hq⟩ : Fin 512)) := by
  show B + s - start (B + s) < first (B + s) + 256 ∨ 256 ≤ j
  rw [hb.first_eq s hk, hb.start_eq s hk, Nat.add_sub_cancel_left, ← hb.half]
  exact hs

section Pair

variable {sig : RefSig} {κ : Kind} {sp : Space} (k q : Nat → Nat → Nat → EReal) (v : Nat → Nat → Nat → EReal)
  (V1 : View sig κ sp S2x5120x512 .f32) (V2 : View sig κ sp S2x5120x512 .bf16) (L1 : List (View.Piece (Elt Ideal) S2x5120x512 .f32))
  (L2 : List (View.Piece (Elt Ideal) S2x5120x512 .bf16)) (hh : Nat) (hhh : hh < 2) (n r N B : Nat) (hb : Band n r N B)

/-- The logits of the keys up to the middle of the tile, read back. -/
abbrev sRead : FVec Ideal ⟨2, ![r, 512]⟩ .f32 :=
  tileRead (A := 2) (M := 5120) (C := 512) (e := .f32) V1 L1 hh B N 0 0 r 512 hhh hb.fits (half_le hb) (by decide)

/-- The logits of the tile's last 256 keys, read back. -/
abbrev sRead' : FVec Ideal S256x256 .f32 :=
  tileRead (A := 2) (M := 5120) (C := 512) (e := .f32) V1 L1 hh B N r 256 256 256 hhh hb.fits (half_le' hb) (by decide)

/-- The weights of the keys up to the middle of the tile, read back. -/
abbrev pRead : FVec Ideal ⟨2, ![r, 512]⟩ .bf16 :=
  tileRead (A := 2) (M := 5120) (C := 512) (e := .bf16) V2 L2 hh B N 0 0 r 512 hhh hb.fits (half_le hb) (by decide)

/-- The weights of the tile's last 256 keys, read back. -/
abbrev pRead' : FVec Ideal S256x256 .bf16 :=
  tileRead (A := 2) (M := 5120) (C := 512) (e := .bf16) V2 L2 hh B N r 256 256 256 hhh hb.fits (half_le' hb) (by decide)

variable (hL1 : ∀ y : S2x5120x512.Idx, Kept y → View.canon L1 y = scoreAt k q y)
  (hL2 : ∀ y : S2x5120x512.Idx, Kept y → View.canon L2 y = weightAt k q y)
  (m : FVec Ideal S1x512 .f32) (hm : ∀ j : Fin 512, m (ix2 0 j) = most (k hh) (q hh) (n + j.val))

include hL1 in
theorem sRead_apply (i : Fin r) (j : Fin 512) : sRead V1 L1 hh hhh n r N B hb (ix2 i j) = masked (k hh) (q hh) (n + j.val) i.val := by
  have hi : i.val < N := by have := half_le hb; omega
  rw [sRead, tileRead_apply]
  simp only [Nat.zero_add]
  rw [hL1 _ (kept hh n r N B i.val j.val hb hhh hi j.isLt (.inl i.isLt)), scoreAt_eq k q hh n r N B _ _ hb hhh hi]

include hL1 in
theorem sRead'_apply (i j : Fin 256) : sRead' V1 L1 hh hhh n r N B hb (ix2 i j) = masked (k hh) (q hh) (n + (256 + j.val)) (r + i.val) := by
  have hi : r + i.val < N := by have := half_le' hb; omega
  rw [sRead', tileRead_apply, hL1 _ (kept hh n r N B (r + i.val) (256 + j.val) hb hhh hi (by omega) (.inr (by omega))),
    scoreAt_eq k q hh n r N B _ _ hb hhh hi]

include hL2 in
theorem pRead_apply (i : Fin r) (j : Fin 512) : pRead V2 L2 hh hhh n r N B hb (ix2 i j) = weight (k hh) (q hh) (n + j.val) i.val := by
  have hi : i.val < N := by have := half_le hb; omega
  rw [pRead, tileRead_apply]
  simp only [Nat.zero_add]
  rw [hL2 _ (kept hh n r N B i.val j.val hb hhh hi j.isLt (.inl i.isLt)), weightAt_eq k q hh n r N B _ _ hb hhh hi]

include hL2 in
theorem pRead'_apply (i j : Fin 256) : pRead' V2 L2 hh hhh n r N B hb (ix2 i j) = weight (k hh) (q hh) (n + (256 + j.val)) (r + i.val) := by
  have hi : r + i.val < N := by have := half_le' hb; omega
  rw [pRead', tileRead_apply, hL2 _ (kept hh n r N B (r + i.val) (256 + j.val) hb hhh hi (by omega) (.inr (by omega))),
    weightAt_eq k q hh n r N B _ _ hb hhh hi]

include hL1 hm in
/-- The weights of the keys up to the middle of the tile, stored. -/
theorem weight_stored (w : FVec Ideal ⟨3, ![1, r, 512]⟩ .bf16) (h1) (h2) (h3) (hw : w = tExp r 512 (sRead V1 L1 hh hhh n r N B hb) m h1 h2 h3)
    (ho : B + r ≤ 5120) (x : (plane (A := 2) (M := 5120) (C := 512) hh B 0 r 512 hhh ho (by decide)).shape.Idx) :
    w x = weightAt k q ((plane (A := 2) (M := 5120) (C := 512) hh B 0 r 512 hhh ho (by decide)).emb x) := by
  refine plane_agree (A := 2) (M := 5120) (C := 512) (e := .bf16) (weightAt k q) hh B 0 r 512 hhh ho (by decide) w (fun i j => ?_) x
  have hi : i.val < N := by have := half_le hb; omega
  rw [hw, tExp_apply, sRead_apply k q V1 L1 hh hhh n r N B hb hL1, hm]
  simp only [Nat.zero_add]
  rw [weightAt_eq k q hh n r N B _ _ hb hhh hi, weight]

include hL1 hm in
/-- The weights of the tile's last 256 keys, stored. -/
theorem weight_stored' (w : FVec Ideal ⟨3, ![1, 256, 256]⟩ .bf16) (h1) (h2) (h3) (hw : w = tExp 256 256 (sRead' V1 L1 hh hhh n r N B hb) (tRight m) h1 h2 h3)
    (o : Nat) (hor : o = B + r) (ho : o + 256 ≤ 5120) (x : (plane (A := 2) (M := 5120) (C := 512) hh o 256 256 256 hhh ho (by decide)).shape.Idx) :
    w x = weightAt k q ((plane (A := 2) (M := 5120) (C := 512) hh o 256 256 256 hhh ho (by decide)).emb x) := by
  subst hor
  refine plane_agree (A := 2) (M := 5120) (C := 512) (e := .bf16) (weightAt k q) hh (B + r) 256 256 256 hhh ho (by decide) w (fun i j => ?_) x
  have hi : r + i.val < N := by have := half_le' hb; omega
  rw [hw, tExp_apply, sRead'_apply k q V1 L1 hh hhh n r N B hb hL1, tRight_apply, hm]
  simp only [Nat.add_assoc]
  rw [weightAt_eq k q hh n r N B _ _ hb hhh hi, weight]

/-- The stored weights of the keys up to the middle of a tile. -/
abbrev weightPiece (M : FVec Ideal S1x512 .f32) (h1 : Shape.Broadcasts ⟨2, ![1, 512]⟩ ⟨2, ![r, 512]⟩) (h2 : Shape.ShapeCasts ⟨2, ![r, 512]⟩ ⟨2, ![r, 512]⟩)
    (h3 : Shape.ShapeCasts ⟨2, ![r, 512]⟩ ⟨3, ![1, r, 512]⟩) (ho : B + r ≤ 5120) : View.Piece (Elt Ideal) S2x5120x512 .bf16 :=
  ⟨plane (A := 2) (M := 5120) (C := 512) hh B 0 r 512 hhh ho (by decide), tExp r 512 (sRead V1 L1 hh hhh n r N B hb) M h1 h2 h3⟩

/-- The stored weights of a tile's last 256 keys. -/
abbrev weightPiece' (M : FVec Ideal S1x512 .f32) (o : Nat) (ho : o + 256 ≤ 5120) : View.Piece (Elt Ideal) S2x5120x512 .bf16 :=
  ⟨plane (A := 2) (M := 5120) (C := 512) hh o 256 256 256 hhh ho (by decide),
    tExp 256 256 (sRead' V1 L1 hh hhh n r N B hb) (tRight M) broadcasts_S1x256_S256x256 shapeCasts_S256x256_S256x256 shapeCasts_S256x256_S1x256x256⟩

/-- All the weights stored for a tile of queries, over what was there. -/
abbrev tileWeights (M : ∀ hh : Nat, hh < 2 → FVec Ideal S1x512 .f32) (h1 : Shape.Broadcasts ⟨2, ![1, 512]⟩ ⟨2, ![r, 512]⟩) (h2 : Shape.ShapeCasts ⟨2, ![r, 512]⟩ ⟨2, ![r, 512]⟩)
    (h3 : Shape.ShapeCasts ⟨2, ![r, 512]⟩ ⟨3, ![1, r, 512]⟩) (ho : B + r ≤ 5120) (o : Nat) (ho' : o + 256 ≤ 5120)
    (L : List (View.Piece (Elt Ideal) S2x5120x512 .bf16)) : List (View.Piece (Elt Ideal) S2x5120x512 .bf16) :=
  weightPiece' V1 L1 1 (by decide) n r N B hb (M 1 (by decide)) o ho' :: weightPiece V1 L1 1 (by decide) n r N B hb (M 1 (by decide)) h1 h2 h3 ho
    :: weightPiece' V1 L1 0 (by decide) n r N B hb (M 0 (by decide)) o ho' :: weightPiece V1 L1 0 (by decide) n r N B hb (M 0 (by decide)) h1 h2 h3 ho :: L

include hL1 in
/-- Below a tile's stores the scratch holds what it held, at an index of another band. -/
theorem tile_weighs (M : ∀ hh : Nat, hh < 2 → FVec Ideal S1x512 .f32) (hM : ∀ (hh : Nat) (hhh : hh < 2) (j : Fin 512), M hh hhh (ix2 0 j) = most (k hh) (q hh) (n + j.val))
    (h1) (h2) (h3) (ho : B + r ≤ 5120) (o : Nat) (hor : o = B + r) (ho' : o + 256 ≤ 5120) (L : List (View.Piece (Elt Ideal) S2x5120x512 .bf16))
    (y : S2x5120x512.Idx) (hk : Kept y) (hL : (y 1).val < B ∨ B + N ≤ (y 1).val → View.canon L y = weightAt k q y) :
    View.canon (tileWeights V1 L1 n r N B hb M h1 h2 h3 ho o ho' L) y = weightAt k q y := by
  refine canon_over _ _ _ y (weight_stored' k q V1 L1 1 (by decide) n r N B hb hL1 _ (hM 1 (by decide)) _ _ _ _ rfl o hor ho') fun l1 => ?_
  refine canon_over _ _ _ y (weight_stored k q V1 L1 1 (by decide) n r N B hb hL1 _ (hM 1 (by decide)) _ h1 h2 h3 rfl ho) fun t1 => ?_
  refine canon_over _ _ _ y (weight_stored' k q V1 L1 0 (by decide) n r N B hb hL1 _ (hM 0 (by decide)) _ _ _ _ rfl o hor ho') fun l0 => ?_
  refine canon_over _ _ _ y (weight_stored k q V1 L1 0 (by decide) n r N B hb hL1 _ (hM 0 (by decide)) _ h1 h2 h3 rfl ho) fun t0 => hL ?_
  by_contra hc
  have h0 : (y 0).val < 2 := (y 0).isLt
  obtain h0 | h0 : (y 0).val = 0 ∨ (y 0).val = 1 := by omega
  · exact (weight_cases 0 n r N B o hb (by decide) hor ho ho' y h0 (by omega) (by omega) hk).elim t0 l0
  · exact (weight_cases 1 n r N B o hb (by decide) hor ho ho' y h0 (by omega) (by omega) hk).elim t1 l1

section Whole

variable (K : ∀ hh : Nat, hh < 2 → ∀ o a : Nat, o + a ≤ 2048 → FVec Ideal ⟨2, ![a, 256]⟩ .bf16)
  (Q : ∀ hh : Nat, hh < 2 → ∀ n : Nat, n + 512 ≤ 2048 → FVec Ideal S512x256 .bf16)
  (hK : ∀ (hh : Nat) (hhh : hh < 2) (o a : Nat) (ho : o + a ≤ 2048) (i : Fin a) (l : Fin 256), K hh hhh o a ho (ix2 i l) = k hh (o + i.val) l.val)
  (hQ : ∀ (hh : Nat) (hhh : hh < 2) (n : Nat) (hn : n + 512 ≤ 2048) (j : Fin 512) (l : Fin 256), Q hh hhh n hn (ix2 j l) = q hh (n + j.val) l.val)

/-- All the weights a pair of heads stores, over what was there. -/
def weightPieces (L : List (View.Piece (Elt Ideal) S2x5120x512 .bf16)) : List (View.Piece (Elt Ideal) S2x5120x512 .bf16) :=
  tileWeights V1 L1 1536 1792 2048 3072 band_three
    (fun hh hhh => mNext K Q hh hhh 1536 1792 2048 3072 band_three dot_S1536x256_S512x256_S1536x512_1_1_0_0_n_n.wf reduces_S1536x512_S512)
    broadcasts_S1x512_S1792x512 shapeCasts_S1792x512_S1792x512 shapeCasts_S1792x512_S1x1792x512 (by decide) 4864 (by decide)
  (tileWeights V1 L1 1024 1280 1536 1536 band_two
    (fun hh hhh => mNext K Q hh hhh 1024 1280 1536 1536 band_two dot_S1024x256_S512x256_S1024x512_1_1_0_0_n_n.wf reduces_S1024x512_S512)
    broadcasts_S1x512_S1280x512 shapeCasts_S1280x512_S1280x512 shapeCasts_S1280x512_S1x1280x512 (by decide) 2816 (by decide)
  (tileWeights V1 L1 512 768 1024 512 band_one
    (fun hh hhh => mNext K Q hh hhh 512 768 1024 512 band_one dot_S512x256_S512x256_S512x512_1_1_0_0_n_n.wf reduces_S512x512_S512)
    broadcasts_S1x512_S768x512 shapeCasts_S768x512_S768x512 shapeCasts_S768x512_S1x768x512 (by decide) 1280 (by decide)
  (tileWeights V1 L1 0 256 512 0 band_zero (fun hh hhh => mFirst K Q hh hhh)
    broadcasts_S1x512_S256x512 shapeCasts_S256x512_S256x512 shapeCasts_S256x512_S1x256x512 (by decide) 256 (by decide) L)))

include hL1 hK hQ in
/-- The scratch holds the weights of a pair of heads after its stores. -/
theorem weights_hold (L : List (View.Piece (Elt Ideal) S2x5120x512 .bf16)) (y : S2x5120x512.Idx) (hk : Kept y) :
    View.canon (weightPieces V1 L1 K Q L) y = weightAt k q y := by
  have h1 : (y 1).val < 5120 := (y 1).isLt
  refine tile_weighs k q V1 L1 _ _ _ _ _ hL1 _ (fun hh hhh => mNext_apply k q K Q hh hhh hK hQ _ _ _ _ _ _ _) _ _ _ _ _ rfl _ _ y hk fun b3 =>
    tile_weighs k q V1 L1 _ _ _ _ _ hL1 _ (fun hh hhh => mNext_apply k q K Q hh hhh hK hQ _ _ _ _ _ _ _) _ _ _ _ _ rfl _ _ y hk fun b2 =>
    tile_weighs k q V1 L1 _ _ _ _ _ hL1 _ (fun hh hhh => mNext_apply k q K Q hh hhh hK hQ _ _ _ _ _ _ _) _ _ _ _ _ rfl _ _ y hk fun b1 =>
    tile_weighs k q V1 L1 _ _ _ _ _ hL1 _ (fun hh hhh => mFirst_apply k q K Q hh hhh hK hQ) _ _ _ _ _ rfl _ _ y hk fun b0 => ?_
  omega

end Whole

section Values

variable {R : Nat} (V3 : View sig κ sp ⟨4, ![2, 2, R, 2048]⟩ .bf16) (L3 : List (View.Piece (Elt Ideal) ⟨4, ![2, 2, R, 2048]⟩ .bf16)) (pr : Nat) (hpr : pr < 2)

/-- The values of keys, read back. -/
abbrev vRead (o a : Nat) (ho : o + a ≤ 2048) : FVec Ideal ⟨2, ![R, a]⟩ .bf16 :=
  bookRead (A := 2) (D := 2) (M := R) (C := 2048) (e := .bf16) V3 L3 pr hh o a hpr hhh ho

variable (hL3 : ∀ y : (⟨4, ![2, 2, R, 2048]⟩ : Shape).Idx, (y 0).val = pr → View.canon L3 y = v (y 1).val (y 2).val (y 3).val)

include hL3 in
theorem vRead_apply (o a : Nat) (ho : o + a ≤ 2048) (d : Fin R) (s : Fin a) :
    vRead hh hhh V3 L3 pr hpr o a ho (ix2 d s) = v hh d.val (o + s.val) := by
  rw [vRead, bookRead_apply, hL3 _ rfl]
  rfl

variable (wf : DotDims.WF ⟨2, ![R, r]⟩ ⟨2, ![r, 512]⟩ ⟨2, ![R, 512]⟩ [1] [0] [0] [1] [] [])
  (wf' : DotDims.WF ⟨2, ![R, 256]⟩ ⟨2, ![256, 256]⟩ ⟨2, ![R, 256]⟩ [1] [0] [0] [1] [] [])
  (h0 : Shape.Slices ⟨2, ![R, 512]⟩ ![0, 0] ⟨2, ![R, 256]⟩) (h1 : Shape.Slices ⟨2, ![R, 512]⟩ ![0, 256] ⟨2, ![R, 256]⟩)
  (h2 : Shape.Concatenates [⟨2, ![R, 256]⟩, ⟨2, ![R, 256]⟩] ⟨2, ![R, 512]⟩ 1)

/-- The values and the ones of one head, summed by weight for a tile of queries. -/
abbrev sums : FVec Ideal ⟨2, ![R, 512]⟩ .f32 :=
  tWhole R (tSum R r 512 wf (vRead hh hhh V3 L3 pr hpr 0 r (by have := half_le hb; have := hb.keys; omega)) (pRead V2 L2 hh hhh n r N B hb))
    (tSum R 256 256 wf' (vRead hh hhh V3 L3 pr hpr r 256 (by have := half_le' hb; have := hb.keys; omega)) (pRead' V2 L2 hh hhh n r N B hb)) h0 h1 h2

include hL2 hL3 in
theorem sums_apply (d : Fin R) (j : Fin 512) :
    sums V2 L2 hh hhh n r N B hb V3 L3 pr hpr wf wf' h0 h1 h2 (ix2 d j) = total (k hh) (q hh) (v hh) d.val (n + j.val) := by
  have a1 := hb.half
  have a2 := hb.rows
  have a3 := hb.keys
  rw [sums, tWhole_apply, total_eq (k hh) (q hh) (v hh) (n + j.val) n d.val (by omega) (by omega)
    (∑ s : Fin (n + 256), v hh d.val s.val * weight (k hh) (q hh) (n + j.val) s.val) _ rfl fun _ => rfl]
  have e1 : tSum R r 512 wf (vRead hh hhh V3 L3 pr hpr 0 r (by omega)) (pRead V2 L2 hh hhh n r N B hb) (ix2 d j)
      = ∑ s : Fin (n + 256), v hh d.val s.val * weight (k hh) (q hh) (n + j.val) s.val := by
    rw [tSum_apply]
    simp only [vRead_apply v hh hhh V3 L3 pr hpr hL3, pRead_apply k q V2 L2 hh hhh n r N B hb hL2, Nat.zero_add]
    subst a1
    rfl
  by_cases h : j.val < 256
  · rw [dif_pos h, if_pos (by omega), e1]
  · rw [dif_neg h, if_neg (by omega), e1, tSum_apply]
    simp only [vRead_apply v hh hhh V3 L3 pr hpr hL3, pRead'_apply k q V2 L2 hh hhh n r N B hb hL2]
    rw [show n + (256 + (j.val - 256)) = n + j.val by omega, a1]

variable (D : Nat) (h3 : Shape.Slices ⟨2, ![R, 512]⟩ ![0, 0] ⟨2, ![D, 512]⟩) (h4 : Shape.Slices ⟨2, ![R, 512]⟩ ![D, 0] ⟨2, ![1, 512]⟩)
  (h5 : Shape.Broadcasts ⟨2, ![1, 512]⟩ ⟨2, ![D, 512]⟩)

/-- One head's result for a tile of queries, transposed. -/
abbrev headOut : FVec Ideal ⟨2, ![D, 512]⟩ .f32 := tHead R D (sums V2 L2 hh hhh n r N B hb V3 L3 pr hpr wf wf' h0 h1 h2) h3 h4 h5

include hL2 hL3 in
theorem headOut_apply (hD : D < R) (d : Fin D) (j : Fin 512) :
    headOut V2 L2 hh hhh n r N B hb V3 L3 pr hpr wf wf' h0 h1 h2 D h3 h4 h5 (ix2 d j) = average (k hh) (q hh) (v hh) D d.val (n + j.val) := by
  rw [headOut, tHead_apply R D _ h3 h4 h5 hD, sums_apply k q v V2 L2 hh hhh n r N B hb hL2 V3 L3 pr hpr hL3,
    sums_apply k q v V2 L2 hh hhh n r N B hb hL2 V3 L3 pr hpr hL3, average]

end Values

end Pair

/-! ## The block's result -/

section Out

variable {sig : RefSig} {κ : Kind} {sp : Space} {R W E : Nat} (D : Nat) (V2 : View sig κ sp S2x5120x512 .bf16) (V3 : View sig κ sp ⟨4, ![2, 2, R, 2048]⟩ .bf16)

/-- The block's result, as an array: lane `c` is row `c % D` of head `c / D`, head `c / D % 2` of its pair. -/
def outAt (a : Nat → Nat → Nat → Nat → EReal) : Vec Ideal ⟨3, ![1, 2048, W]⟩ .bf16 := fun y =>
  a ((y 2).val / (2 * D)) ((y 2).val / D % 2) ((y 2).val % D) (y 1).val

/-- A pair's results for a tile of queries, stored. -/
theorem out_stored (a : Nat → Nat → Nat → Nat → EReal) (hD : D = 64 ∨ D = 128) (hE : E = D + D) (pr o c : Nat) (ho : o + 512 ≤ 2048) (hc : c + E ≤ W)
    (hcp : c = pr * E) (w : FVec Ideal ⟨3, ![1, 512, E]⟩ .bf16)
    (h0 h1 : FVec Ideal ⟨2, ![D, 512]⟩ .f32) (g0) (g1) (g2) (hw : w = tOut D E h0 h1 g0 g1 g2)
    (e0 : ∀ (d : Fin D) (j : Fin 512), h0 (ix2 d j) = a pr 0 d.val (o + j.val)) (e1 : ∀ (d : Fin D) (j : Fin 512), h1 (ix2 d j) = a pr 1 d.val (o + j.val))
    (x : (plane (A := 1) (M := 2048) (C := W) 0 o c 512 E Nat.one_pos ho hc).shape.Idx) :
    w x = outAt D a ((plane (A := 1) (M := 2048) (C := W) 0 o c 512 E Nat.one_pos ho hc).emb x) := by
  refine plane_agree (A := 1) (M := 2048) (C := W) (e := .bf16) (outAt D a) 0 o c 512 E Nat.one_pos ho hc w (fun i j => ?_) x
  rw [hw, tOut_apply D E _ _ _ _ _ hE]
  show _ = a ((c + j.val) / (2 * D)) ((c + j.val) / D % 2) ((c + j.val) % D) (o + i.val)
  have hj : j.val < E := j.isLt
  have a1 : (c + j.val) / (2 * D) = pr := by subst hcp hE; obtain rfl | rfl := hD <;> omega
  by_cases h : j.val < D
  · have a2 : (c + j.val) / D % 2 = 0 := by subst hcp hE; obtain rfl | rfl := hD <;> omega
    have a3 : (c + j.val) % D = j.val := by subst hcp hE; obtain rfl | rfl := hD <;> omega
    rw [dif_pos h, e0, a1, a2, a3]
  · have a2 : (c + j.val) / D % 2 = 1 := by subst hcp hE; obtain rfl | rfl := hD <;> omega
    have a3 : (c + j.val) % D = j.val - D := by subst hcp hE; obtain rfl | rfl := hD <;> omega
    rw [dif_neg h, e1, a1, a2, a3]

/-- What the program's shapes must satisfy for the block's result to be put together. -/
structure Fits (R D E : Nat) : Prop where
  rows : D < R
  wide : D = 64 ∨ D = 128
  pair : E = D + D
  low : DotDims.WF ⟨2, ![R, 256]⟩ ⟨2, ![256, 256]⟩ ⟨2, ![R, 256]⟩ [1] [0] [0] [1] [] []
  left : Shape.Slices ⟨2, ![R, 512]⟩ ![0, 0] ⟨2, ![R, 256]⟩
  right : Shape.Slices ⟨2, ![R, 512]⟩ ![0, 256] ⟨2, ![R, 256]⟩
  join : Shape.Concatenates [⟨2, ![R, 256]⟩, ⟨2, ![R, 256]⟩] ⟨2, ![R, 512]⟩ 1
  values : Shape.Slices ⟨2, ![R, 512]⟩ ![0, 0] ⟨2, ![D, 512]⟩
  ones : Shape.Slices ⟨2, ![R, 512]⟩ ![D, 0] ⟨2, ![1, 512]⟩
  spread : Shape.Broadcasts ⟨2, ![1, 512]⟩ ⟨2, ![D, 512]⟩
  stack : Shape.Concatenates [⟨2, ![D, 512]⟩, ⟨2, ![D, 512]⟩] ⟨2, ![E, 512]⟩ 0
  turn : Shape.Transposes ⟨2, ![E, 512]⟩ [1, 0] ⟨2, ![512, E]⟩
  lift : Shape.ShapeCasts ⟨2, ![512, E]⟩ ⟨3, ![1, 512, E]⟩

variable (F : Fits R D E) (L2 : List (View.Piece (Elt Ideal) S2x5120x512 .bf16)) (L3 : List (View.Piece (Elt Ideal) ⟨4, ![2, 2, R, 2048]⟩ .bf16)) (pr : Nat) (hpr : pr < 2)

/-- A pair's stored results for a tile of queries. -/
abbrev outPiece (n r N B c : Nat) (hb : Band n r N B) (wf : DotDims.WF ⟨2, ![R, r]⟩ ⟨2, ![r, 512]⟩ ⟨2, ![R, 512]⟩ [1] [0] [0] [1] [] []) (hc : c + E ≤ W) :
    View.Piece (Elt Ideal) ⟨3, ![1, 2048, W]⟩ .bf16 :=
  ⟨plane (A := 1) (M := 2048) (C := W) 0 n c 512 E Nat.one_pos (hb.rows ▸ hb.keys) hc,
    tOut D E (headOut V2 L2 0 (by decide) n r N B hb V3 L3 pr hpr wf F.low F.left F.right F.join D F.values F.ones F.spread)
      (headOut V2 L2 1 (by decide) n r N B hb V3 L3 pr hpr wf F.low F.left F.right F.join D F.values F.ones F.spread) F.stack F.turn F.lift⟩

/-- All the results a pair of heads stores, over what was there. -/
def outPieces (c : Nat) (hc : c + E ≤ W) (w0 : DotDims.WF ⟨2, ![R, 256]⟩ ⟨2, ![256, 512]⟩ ⟨2, ![R, 512]⟩ [1] [0] [0] [1] [] [])
    (w1 : DotDims.WF ⟨2, ![R, 768]⟩ ⟨2, ![768, 512]⟩ ⟨2, ![R, 512]⟩ [1] [0] [0] [1] [] [])
    (w2 : DotDims.WF ⟨2, ![R, 1280]⟩ ⟨2, ![1280, 512]⟩ ⟨2, ![R, 512]⟩ [1] [0] [0] [1] [] [])
    (w3 : DotDims.WF ⟨2, ![R, 1792]⟩ ⟨2, ![1792, 512]⟩ ⟨2, ![R, 512]⟩ [1] [0] [0] [1] [] [])
    (L : List (View.Piece (Elt Ideal) ⟨3, ![1, 2048, W]⟩ .bf16)) : List (View.Piece (Elt Ideal) ⟨3, ![1, 2048, W]⟩ .bf16) :=
  outPiece D V2 V3 F L2 L3 pr hpr 1536 1792 2048 3072 c band_three w3 hc :: outPiece D V2 V3 F L2 L3 pr hpr 1024 1280 1536 1536 c band_two w2 hc
    :: outPiece D V2 V3 F L2 L3 pr hpr 512 768 1024 512 c band_one w1 hc :: outPiece D V2 V3 F L2 L3 pr hpr 0 256 512 0 c band_zero w0 hc :: L

/-- A pair's stored results agree with the block's result. -/
theorem outs_agree (k q : Nat → Nat → Nat → EReal) (v : Nat → Nat → Nat → EReal) (a : Nat → Nat → Nat → Nat → EReal)
    (ha : ∀ hh d i, a pr hh d i = average (k hh) (q hh) (v hh) D d i) (hL2 : ∀ y : S2x5120x512.Idx, Kept y → View.canon L2 y = weightAt k q y)
    (hL3 : ∀ y : (⟨4, ![2, 2, R, 2048]⟩ : Shape).Idx, (y 0).val = pr → View.canon L3 y = v (y 1).val (y 2).val (y 3).val)
    (c : Nat) (hcp : c = pr * E) (hc : c + E ≤ W) (w0) (w1) (w2) (w3) (L : List (View.Piece (Elt Ideal) ⟨3, ![1, 2048, W]⟩ .bf16))
    (hL : ∀ p ∈ L, ∀ x, p.2 x = outAt D a (p.1.emb x)) :
    ∀ p ∈ outPieces D V2 V3 F L2 L3 pr hpr c hc w0 w1 w2 w3 L, ∀ x, p.2 x = outAt D a (p.1.emb x) := by
  have one : ∀ (n r N B : Nat) (hb : Band n r N B) (wf), ∀ x, (outPiece D V2 V3 F L2 L3 pr hpr n r N B c hb wf hc).2 x
      = outAt D a ((outPiece D V2 V3 F L2 L3 pr hpr n r N B c hb wf hc).1.emb x) := fun n r N B hb wf =>
    out_stored D a F.wide F.pair pr n c (hb.rows ▸ hb.keys) hc hcp _ _ _ _ _ _ rfl
      (fun d j => (headOut_apply k q v V2 L2 0 (by decide) n r N B hb hL2 V3 L3 pr hpr hL3 wf _ _ _ _ D _ _ _ F.rows d j).trans (ha _ _ _).symm)
      (fun d j => (headOut_apply k q v V2 L2 1 (by decide) n r N B hb hL2 V3 L3 pr hpr hL3 wf _ _ _ _ D _ _ _ F.rows d j).trans (ha _ _ _).symm)
  exact List.forall_mem_cons.2 ⟨one _ _ _ _ _ _, List.forall_mem_cons.2 ⟨one _ _ _ _ _ _, List.forall_mem_cons.2 ⟨one _ _ _ _ _ _,
    List.forall_mem_cons.2 ⟨one _ _ _ _ _ _, hL⟩⟩⟩⟩

end Out

end Cert.Attention

end
-- ==== Proof.Latent.Block.lean ====
/- One grid point: the logits and the weights each pair of heads keeps, and the block the point writes. -/
module

public import proofs.«01_k».proof.Proof.Latent.Keys
public import proofs.«01_k».proof.Proof.Attention.Weights

@[expose] public section

noncomputable section

namespace Cert.Latent

open Idealize.ShloMosaic Cert.Kernel2Ideal Cert.Kernel2Ideal.Gen Cert.Attention

section Point

variable (c : Dev nD) (arg2 : Memref sig .tc .vmem S1x2048x512 .bf16) (harg2 : arg2.IsWhole) (arg3 : Memref sig .tc .vmem S1x2048x256 .bf16) (harg3 : arg3.IsWhole) (arg4 : Memref sig .tc .vmem S1x2048x512 .bf16) (harg4 : arg4.IsWhole) (arg5 : Memref sig .tc .vmem S1x2048x128 .bf16) (harg5 : arg5.IsWhole) (arg6 : Memref sig .tc .vmem S1x512x2048 .bf16) (harg6 : arg6.IsWhole)
  (arg8 : Memref sig .tc .vmem S4x2048x256 .bf16) (arg9 : Memref sig .tc .vmem S2x5120x512 .f32) (arg10 : Memref sig .tc .vmem S2x5120x512 .bf16) (arg11 : Memref sig .tc .vmem S2x2x144x2048 .bf16)
  (x0 : Vec Ideal S1x2048x512 .bf16) (x1 : Vec Ideal S1x2048x256 .bf16) (x2 : Vec Ideal S1x2048x512 .bf16) (x3 : Vec Ideal S1x2048x128 .bf16) (x4 : Vec Ideal S1x512x2048 .bf16)

/-- A pair's keys, by head. -/
abbrev pairKeys (pr : Nat) : Nat → Nat → Nat → EReal := fun hh => key x2 x3 (2 * pr + hh)

/-- A pair's values and ones, by head. -/
abbrev pairVals (pr : Nat) : Nat → Nat → Nat → EReal := fun hh => val 128 x4 (2 * pr + hh)

/-- Head `hh` of pair `pr`, row `d` of the result for query `i`. -/
def mean (pr hh d i : Nat) : EReal := average (key x2 x3 (2 * pr + hh)) (qry x0 x1 pr hh) (val 128 x4 (2 * pr + hh)) 128 d i

/-- The block's result, as an array. -/
def blockOut : Vec Ideal S1x2048x512 .bf16 := outAt 128 (mean x0 x1 x2 x3 x4)

/-- The stored keys of the first pair. -/
abbrev keys0 : ∀ hh : Nat, hh < 2 → ∀ o a : Nat, o + a ≤ 2048 → FVec Ideal ⟨2, ![a, 256]⟩ .bf16 :=
  kRows arg8 (kernelRun0_A.sl.HS0_4 (F := Ideal) c arg4 harg4 arg5 harg5 x2 x3) 0 (by decide)

/-- The stored keys of the second pair. -/
abbrev keys1 : ∀ hh : Nat, hh < 2 → ∀ o a : Nat, o + a ≤ 2048 → FVec Ideal ⟨2, ![a, 256]⟩ .bf16 :=
  kRows arg8 (kernelRun0_A.sl.HS0_8 (F := Ideal) c arg4 harg4 arg5 harg5 x2 x3) 1 (by decide)

theorem keys0_apply (hh : Nat) (hhh : hh < 2) (o a : Nat) (ho : o + a ≤ 2048) (i : Fin a) (l : Fin 256) :
    keys0 c arg4 harg4 arg5 harg5 arg8 x2 x3 hh hhh o a ho (ix2 i l) = pairKeys x2 x3 0 hh (o + i.val) l.val :=
  kRows_apply arg8 x2 x3 _ 0 (by decide) (keys_first c arg4 harg4 arg5 harg5 x2 x3) hh hhh o a ho i l

theorem keys1_apply (hh : Nat) (hhh : hh < 2) (o a : Nat) (ho : o + a ≤ 2048) (i : Fin a) (l : Fin 256) :
    keys1 c arg4 harg4 arg5 harg5 arg8 x2 x3 hh hhh o a ho (ix2 i l) = pairKeys x2 x3 1 hh (o + i.val) l.val :=
  kRows_apply arg8 x2 x3 _ 1 (by decide) (fun y _ => keys_second c arg4 harg4 arg5 harg5 x2 x3 y) hh hhh o a ho i l

set_option maxHeartbeats 4000000 in
/-- The scratch holds the logits of the first pair of heads after its stores. -/
theorem scores_first (y : S2x5120x512.Idx) (hk : Kept y) :
    View.canon (kernelRun0_A.sl.HS1_22 (F := Ideal) c arg2 harg2 arg3 harg3 arg4 harg4 arg5 harg5 arg8 x0 x1 x2 x3) y
      = scoreAt (pairKeys x2 x3 0) (qry x0 x1 0) y := by
  have e : kernelRun0_A.sl.HS1_22 (F := Ideal) c arg2 harg2 arg3 harg3 arg4 harg4 arg5 harg5 arg8 x0 x1 x2 x3
      = scorePieces (keys0 c arg4 harg4 arg5 harg5 arg8 x2 x3) (qRows arg2 harg2 arg3 harg3 x0 x1 0 (by decide)) [] := rfl
  rw [e]
  exact scores_hold _ _ _ _ (keys0_apply c arg4 harg4 arg5 harg5 arg8 x2 x3) (qRows_apply arg2 harg2 arg3 harg3 x0 x1 0 (by decide)) _ y hk

set_option maxHeartbeats 4000000 in
/-- The scratch holds the logits of the second pair of heads after its stores. -/
theorem scores_second (y : S2x5120x512.Idx) (hk : Kept y) :
    View.canon (kernelRun0_A.sl.HS1_44 (F := Ideal) c arg2 harg2 arg3 harg3 arg4 harg4 arg5 harg5 arg8 x0 x1 x2 x3) y
      = scoreAt (pairKeys x2 x3 1) (qry x0 x1 1) y := by
  have e : kernelRun0_A.sl.HS1_44 (F := Ideal) c arg2 harg2 arg3 harg3 arg4 harg4 arg5 harg5 arg8 x0 x1 x2 x3
      = scorePieces (keys1 c arg4 harg4 arg5 harg5 arg8 x2 x3) (qRows arg2 harg2 arg3 harg3 x0 x1 1 (by decide))
        (kernelRun0_A.sl.HS1_22 (F := Ideal) c arg2 harg2 arg3 harg3 arg4 harg4 arg5 harg5 arg8 x0 x1 x2 x3) := rfl
  rw [e]
  exact scores_hold _ _ _ _ (keys1_apply c arg4 harg4 arg5 harg5 arg8 x2 x3) (qRows_apply arg2 harg2 arg3 harg3 x0 x1 1 (by decide)) _ y hk

set_option maxHeartbeats 4000000 in
/-- The scratch holds the weights of the first pair of heads after its stores. -/
theorem weights_first (y : S2x5120x512.Idx) (hk : Kept y) :
    View.canon (kernelRun0_A.sl.HS2_16 (F := Ideal) c arg2 harg2 arg3 harg3 arg4 harg4 arg5 harg5 arg8 arg9 x0 x1 x2 x3) y
      = weightAt (pairKeys x2 x3 0) (qry x0 x1 0) y := by
  have e : kernelRun0_A.sl.HS2_16 (F := Ideal) c arg2 harg2 arg3 harg3 arg4 harg4 arg5 harg5 arg8 arg9 x0 x1 x2 x3
      = weightPieces arg9.view (kernelRun0_A.sl.HS1_22 (F := Ideal) c arg2 harg2 arg3 harg3 arg4 harg4 arg5 harg5 arg8 x0 x1 x2 x3)
        (keys0 c arg4 harg4 arg5 harg5 arg8 x2 x3) (qRows arg2 harg2 arg3 harg3 x0 x1 0 (by decide)) [] := rfl
  rw [e]
  exact weights_hold _ _ _ _ (scores_first c arg2 harg2 arg3 harg3 arg4 harg4 arg5 harg5 arg8 x0 x1 x2 x3) _ _
    (keys0_apply c arg4 harg4 arg5 harg5 arg8 x2 x3) (qRows_apply arg2 harg2 arg3 harg3 x0 x1 0 (by decide)) _ y hk

set_option maxHeartbeats 4000000 in
/-- The scratch holds the weights of the second pair of heads after its stores. -/
theorem weights_second (y : S2x5120x512.Idx) (hk : Kept y) :
    View.canon (kernelRun0_A.sl.HS2_32 (F := Ideal) c arg2 harg2 arg3 harg3 arg4 harg4 arg5 harg5 arg8 arg9 x0 x1 x2 x3) y
      = weightAt (pairKeys x2 x3 1) (qry x0 x1 1) y := by
  have e : kernelRun0_A.sl.HS2_32 (F := Ideal) c arg2 harg2 arg3 harg3 arg4 harg4 arg5 harg5 arg8 arg9 x0 x1 x2 x3
      = weightPieces arg9.view (kernelRun0_A.sl.HS1_44 (F := Ideal) c arg2 harg2 arg3 harg3 arg4 harg4 arg5 harg5 arg8 x0 x1 x2 x3)
        (keys1 c arg4 harg4 arg5 harg5 arg8 x2 x3) (qRows arg2 harg2 arg3 harg3 x0 x1 1 (by decide))
        (kernelRun0_A.sl.HS2_16 (F := Ideal) c arg2 harg2 arg3 harg3 arg4 harg4 arg5 harg5 arg8 arg9 x0 x1 x2 x3) := rfl
  rw [e]
  exact weights_hold _ _ _ _ (scores_second c arg2 harg2 arg3 harg3 arg4 harg4 arg5 harg5 arg8 x0 x1 x2 x3) _ _
    (keys1_apply c arg4 harg4 arg5 harg5 arg8 x2 x3) (qRows_apply arg2 harg2 arg3 harg3 x0 x1 1 (by decide)) _ y hk

/-- The shapes of the block's result. -/
theorem fits : Fits 144 128 256 where
  rows := by decide
  wide := .inr rfl
  pair := rfl
  low := dot_S144x256_S256x256_S144x256_1_0_0_1_n_n.wf
  left := slices_S144x512_o0_0_S144x256
  right := slices_S144x512_o0_256_S144x256
  join := concatenates_S144x256_S144x256_S144x512_d1
  values := slices_S144x512_o0_0_S128x512
  ones := slices_S144x512_o128_0_S1x512
  spread := broadcasts_S1x512_S128x512
  stack := concatenates_S128x512_S128x512_S256x512_d0
  turn := transposes_S256x512_p1_0_S512x256
  lift := shapeCasts_S512x256_S1x512x256

set_option maxHeartbeats 4000000 in
/-- The block a grid point writes holds the averages of its heads. -/
theorem out_apply (i : grid0.Coords) (arg7 : Memref sig .tc .vmem S1x2048x512 .bf16) (harg7 : arg7.IsWhole) (harg8 : arg8.IsWhole) (harg9 : arg9.IsWhole) (harg10 : arg10.IsWhole) (harg11 : arg11.IsWhole)
    (y : S1x2048x512.Idx) :
    out0_A_5 (F := Ideal) c i arg2 harg2 arg3 harg3 arg4 harg4 arg5 harg5 arg6 harg6 arg7 harg7 arg8 harg8 arg9 harg9 arg10 harg10 arg11 harg11 x0 x1 x2 x3 x4 y = blockOut x0 x1 x2 x3 x4 y := by
  rw [out0_A_5, View.read_writes_junk_eq_canon]
  refine View.canon_apply_of_pieces (blockOut x0 x1 x2 x3 x4) _ ?_ _ ?_
  · unfold kernelRun0_A
    have w := fun pr hpr L2 L3 k q v ha h2 h3 c hc hcp L hL => outs_agree (W := 512) 128 arg10.view arg11.view fits L2 L3 pr hpr k q v (mean x0 x1 x2 x3 x4) ha h2 h3 c hcp hc
      dot_S144x256_S256x512_S144x512_1_0_0_1_n_n.wf dot_S144x768_S768x512_S144x512_1_0_0_1_n_n.wf dot_S144x1280_S1280x512_S144x512_1_0_0_1_n_n.wf
      dot_S144x1792_S1792x512_S144x512_1_0_0_1_n_n.wf L hL
    exact w 1 (by decide) (kernelRun0_A.sl.HS2_32 (F := Ideal) c arg2 harg2 arg3 harg3 arg4 harg4 arg5 harg5 arg8 arg9 x0 x1 x2 x3) (kernelRun0_A.sl.HS3_8 (F := Ideal) c arg6 harg6 x4)
      (pairKeys x2 x3 1) (qry x0 x1 1) (pairVals x4 1) (fun _ _ _ => rfl) (weights_second c arg2 harg2 arg3 harg3 arg4 harg4 arg5 harg5 arg8 arg9 x0 x1 x2 x3)
      (fun y h => (vals_second c arg6 harg6 x4 y).trans (by rw [valAt, h])) 256 (by decide) rfl _
      (w 0 (by decide) (kernelRun0_A.sl.HS2_16 (F := Ideal) c arg2 harg2 arg3 harg3 arg4 harg4 arg5 harg5 arg8 arg9 x0 x1 x2 x3) (kernelRun0_A.sl.HS3_4 (F := Ideal) c arg6 harg6 x4)
        (pairKeys x2 x3 0) (qry x0 x1 0) (pairVals x4 0) (fun _ _ _ => rfl) (weights_first c arg2 harg2 arg3 harg3 arg4 harg4 arg5 harg5 arg8 arg9 x0 x1 x2 x3)
        (fun y h => (vals_first c arg6 harg6 x4 y h).trans (by rw [valAt, h])) 0 (by decide) rfl [] (fun _ h => absurd h List.not_mem_nil))
  · exact cover0_A_5 (F := Ideal) c i arg2 harg2 arg3 harg3 arg4 harg4 arg5 harg5 arg6 harg6 arg7 harg7 arg8 harg8 arg9 harg9 arg10 harg10 arg11 harg11 x0 x1 x2 x3 x4 y

end Point

end Cert.Latent

end
-- ==== Proof.Attention.Softmax.lean ====
/- A softmax with natural exponentials, each weight divided by their sum, against powers of two averaged and divided once. -/
module

public import proofs.«01_k».proof.Proof.Attention.Head

@[expose] public section

noncomputable section

namespace Cert.Attention

open Idealize.ShloMosaic

/-- The natural logarithm of two, as an extended real. -/
def ln2 : EReal := ((Real.log 2 : ℝ) : EReal)

theorem ln2_pos : 0 < Real.log 2 := Real.log_pos (by norm_num)

/-- Multiplying by the logarithm of two keeps minus infinity. -/
theorem bot_mul_ln2 : (⊥ : EReal) * ln2 = ⊥ := EReal.bot_mul_coe_of_pos ln2_pos

/-- The natural exponential of a multiple of the logarithm of two is a power of two. -/
theorem exp_mul_ln2 (x : EReal) : Ideal.exp (x * ln2) = Ideal.exp2 x := by
  induction x with
  | bot => rw [bot_mul_ln2]; rfl
  | top => rw [ln2, EReal.top_mul_coe_of_pos ln2_pos]; rfl
  | coe r =>
    rw [ln2, ← EReal.coe_mul, Ideal.exp_coe, Ideal.exp2_coe]
    congr 1
    exact (congrArg Real.exp (mul_comm _ _)).trans (Real.rpow_def_of_pos (by norm_num) r).symm

/-- Multiplying by the logarithm of two distributes over a difference. -/
theorem sub_mul_ln2 (x y : EReal) : x * ln2 - y * ln2 = (x - y) * ln2 := by
  have hp := ln2_pos
  have ht : (⊤ : EReal) * ln2 = ⊤ := EReal.top_mul_coe_of_pos hp
  have hb := bot_mul_ln2
  induction x with
  | bot => rw [hb, EReal.bot_sub, EReal.bot_sub, hb]
  | top =>
    induction y with
    | bot => rw [hb, ht, EReal.top_sub_bot, ht]
    | top => rw [ht, EReal.sub_top, hb]
    | coe s => rw [ht, EReal.top_sub_coe, ht, ln2, ← EReal.coe_mul, EReal.top_sub_coe]
  | coe r =>
    induction y with
    | bot => rw [hb, EReal.coe_sub_bot, ht, ln2, ← EReal.coe_mul, EReal.coe_sub_bot]
    | top => rw [ht, EReal.sub_top, EReal.sub_top, hb]
    | coe s => rw [ln2, ← EReal.coe_mul, ← EReal.coe_mul, ← EReal.coe_sub, ← EReal.coe_sub, ← EReal.coe_mul, sub_mul]

/-- The largest of the multiples is the multiple of the largest. -/
theorem sup_mul_ln2 {n : Nat} (z : Fin n → EReal) : (Finset.univ.sup fun j => z j * ln2) = Finset.univ.sup z * ln2 := by
  have h := Finset.comp_sup_eq_sup_comp_of_is_total (s := Finset.univ) (f := z) (fun x : EReal => x * ln2)
    (fun a b hab => mul_le_mul_of_nonneg_right hab (EReal.coe_nonneg.2 ln2_pos.le)) bot_mul_ln2
  exact h.symm

/-- A power of two is not negative. -/
theorem exp2_nonneg (x : EReal) : 0 ≤ Ideal.exp2 x := by
  induction x with
  | bot => exact le_refl _
  | top => exact le_top
  | coe r => rw [Ideal.exp2_coe]; exact EReal.coe_nonneg.2 (Real.rpow_nonneg (by norm_num) r)

/-- A nonnegative real factor distributes over a sum of extended reals. -/
theorem sum_mul_real {n : Nat} (f : Fin n → EReal) (r : ℝ) (hr : 0 ≤ r) : (∑ j, f j) * (r : EReal) = ∑ j, f j * (r : EReal) := by
  have h : ∀ s : Finset (Fin n), (∑ j ∈ s, f j) * (r : EReal) = ∑ j ∈ s, f j * (r : EReal) := fun s => by
    induction s using Finset.cons_induction with
    | empty => simp
    | cons a s ha ih =>
      rw [Finset.sum_cons, Finset.sum_cons, ← ih, mul_comm, EReal.left_distrib_of_nonneg_of_ne_top (EReal.coe_nonneg.2 hr) (EReal.coe_ne_top r),
        mul_comm, mul_comm (r : EReal)]
  exact h _

/-- The inverse of a nonnegative extended real is a nonnegative real. -/
theorem inv_real (x : EReal) (h : 0 ≤ x) : ∃ r : ℝ, 0 ≤ r ∧ x⁻¹ = (r : EReal) := by
  induction x with
  | bot => exact absurd h (by simp)
  | top => exact ⟨0, le_refl _, EReal.inv_top⟩
  | coe r => exact ⟨r⁻¹, inv_nonneg.2 (EReal.coe_nonneg.1 h), (EReal.coe_inv r).symm⟩

/-- The two softmax averages agree when no logit is plus infinity and some logit is not minus infinity. -/
theorem softmax_eq {n : Nat} (z v : Fin n → EReal) (ht : ∀ j, z j ≠ ⊤) (i : Fin n) (hi : z i ≠ ⊥) :
    ∑ j, Ideal.div (Ideal.exp (z j * ln2 - max ⊥ (Finset.univ.sup fun j => z j * ln2)))
        (0 + ∑ k, Ideal.exp (z k * ln2 - max ⊥ (Finset.univ.sup fun j => z j * ln2))) * v j
      = Ideal.div (∑ j, v j * Ideal.exp2 (z j - Finset.univ.sup z)) (∑ j, 1 * Ideal.exp2 (z j - Finset.univ.sup z)) := by
  have hw : ∀ j, Ideal.exp (z j * ln2 - max ⊥ (Finset.univ.sup fun j => z j * ln2)) = Ideal.exp2 (z j - Finset.univ.sup z) := fun j => by
    rw [max_eq_right bot_le, sup_mul_ln2, sub_mul_ln2, exp_mul_ln2]
  simp only [hw, zero_add, one_mul]
  have h0 : ∀ j, 0 ≤ Ideal.exp2 (z j - Finset.univ.sup z) := fun j => exp2_nonneg _
  generalize hS : ∑ j, Ideal.exp2 (z j - Finset.univ.sup z) = S
  have hS0 : 0 ≤ S := hS ▸ Finset.sum_nonneg fun j _ => h0 j
  have hne : S ≠ 0 := fun hz => by
    obtain ⟨k, -, hk⟩ := Finset.exists_mem_eq_sup Finset.univ ⟨i, Finset.mem_univ i⟩ z
    have hb : z k ≠ ⊥ := fun h => hi (le_bot_iff.1 ((Finset.le_sup (Finset.mem_univ i)).trans (hk.trans h).le))
    have hone : Ideal.exp2 (z k - Finset.univ.sup z) = 1 := by
      rw [hk, EReal.sub_self (ht k) hb, ← EReal.coe_zero, Ideal.exp2_coe]
      exact congrArg _ (Real.rpow_zero 2)
    have hle := Finset.single_le_sum (f := fun j => Ideal.exp2 (z j - Finset.univ.sup z)) (fun j _ => h0 j) (Finset.mem_univ k)
    rw [hS, hz] at hle
    exact absurd (hone ▸ hle) (by norm_num)
  obtain ⟨r, hr, hinv⟩ := inv_real S hS0
  simp only [Ideal.div, if_neg hne, hinv]
  rw [sum_mul_real _ r hr]
  exact Finset.sum_congr rfl fun j _ => by rw [mul_comm (v j), mul_assoc, mul_comm (r : EReal), ← mul_assoc]

end Cert.Attention

end
-- ==== Proof.Attention.Compare.lean ====
/- What comparing a call with its reference takes: the cuts of an array a grid point reads, which extended reals are real, and the
   reference's softmax as the kernel's average. -/
module

public import proofs.«01_k».proof.Proof.Attention.Softmax
public import Idealize.ShloMosaic.Lib.ReduceAll
public import Idealize.ShloMosaic.Lib.IdealHost

@[expose] public section

noncomputable section

namespace Cert.Attention

open Idealize.ShloMosaic

/-! ## Cuts -/

/-- Batch entry `b` of an array, and the run of its lanes that group `g` of the heads reads. -/
def cut {A N : Nat} (B : Nat) (x : (⟨3, ![16, A, N]⟩ : Shape).Idx → EReal) (b g : Nat) : (⟨3, ![1, A, B]⟩ : Shape).Idx → EReal := fun y =>
  if h : b < 16 ∧ g * B + (y 2).val < N then x (ix3 ⟨b, h.1⟩ (y 1) ⟨g * B + (y 2).val, h.2⟩) else 0

/-- Batch entry `b` of an array, and the run of its rows that group `g` of the heads reads. -/
def cutRows {A N : Nat} (B : Nat) (x : (⟨3, ![16, N, A]⟩ : Shape).Idx → EReal) (b g : Nat) : (⟨3, ![1, B, A]⟩ : Shape).Idx → EReal := fun y =>
  if h : b < 16 ∧ g * B + (y 1).val < N then x (ix3 ⟨b, h.1⟩ ⟨g * B + (y 1).val, h.2⟩ (y 2)) else 0

/-- An entry of a cut is an entry of the array. -/
theorem ent_cut {A N : Nat} (B : Nat) (x : (⟨3, ![16, A, N]⟩ : Shape).Idx → EReal) (b : Fin 16) (g : Nat) (i : Fin A) (l : Nat) (n : Fin N)
    (hl : l < B) (hn : n.val = g * B + l) : ent (cut B x b.val g) i.val l = x (ix3 b i n) := by
  have h : g * B + l < N := hn ▸ n.isLt
  rw [ent_eq (cut B x b.val g) i ⟨l, hl⟩ i.val l rfl rfl, cut]
  refine (dif_pos ⟨b.isLt, h⟩).trans ?_
  exact congrArg x (congrArg (ix3 b i) (Fin.ext hn.symm))

/-- An entry of a cut of rows is an entry of the array. -/
theorem ent_cutRows {A N : Nat} (B : Nat) (x : (⟨3, ![16, N, A]⟩ : Shape).Idx → EReal) (b : Fin 16) (g : Nat) (l : Nat) (j : Fin A) (n : Fin N)
    (hl : l < B) (hn : n.val = g * B + l) : ent (cutRows B x b.val g) l j.val = x (ix3 b n j) := by
  have h : g * B + l < N := hn ▸ n.isLt
  rw [ent_eq (cutRows B x b.val g) ⟨l, hl⟩ j l j.val rfl rfl, cutRows]
  refine (dif_pos ⟨b.isLt, h⟩).trans ?_
  exact congrArg x (congrArg (fun n => ix3 b n j) (Fin.ext hn.symm))

/-! ## Real entries -/

/-- An extended real that is a real number. -/
def IsReal (x : EReal) : Prop := ∃ r : ℝ, x = (r : EReal)

theorem real_mul {x y : EReal} : IsReal x → IsReal y → IsReal (x * y) := fun ⟨r, hr⟩ ⟨s, hs⟩ => ⟨r * s, by rw [hr, hs, EReal.coe_mul]⟩

theorem real_add {x y : EReal} : IsReal x → IsReal y → IsReal (x + y) := fun ⟨r, hr⟩ ⟨s, hs⟩ => ⟨r + s, by rw [hr, hs, EReal.coe_add]⟩

theorem real_sum {n : Nat} (f : Fin n → EReal) (hf : ∀ k, IsReal (f k)) : IsReal (∑ k, f k) := by
  have h : ∀ s : Finset (Fin n), IsReal (∑ k ∈ s, f k) := fun s => by
    induction s using Finset.cons_induction with
    | empty => exact ⟨0, by simp⟩
    | cons a s ha ih => rw [Finset.sum_cons]; exact real_add (hf a) ih
  exact h _

/-- An extended real whose absolute value is below plus infinity is real. -/
theorem real_of_below (x : EReal) (h : Ideal.cmp .olt (max x (-x)) (Ideal.ofBits .f32 0x7F800000#32) = 1#1) : IsReal x := by
  have top : Ideal.ofBits .f32 0x7F800000#32 = ⊤ := by simp [Ideal.ofBits, Ideal.ieee]
  rw [top] at h
  induction x with
  | bot => simp [Ideal.cmp] at h
  | top => simp [Ideal.cmp] at h
  | coe r => exact ⟨r, rfl⟩

/-- An array whose entries all pass the test of the precondition is real. -/
theorem real_of_all {s : Shape} {axes : List (Fin s.rank)} (x : Vec Ideal s .bf16) (hb : (⟨0, ![]⟩ : Shape).BroadcastsInDim s (![] : Fin 0 → Fin s.rank))
    (hr : s.ReducesTo axes ⟨0, ![]⟩) (hu : 0 < (⟨0, ![]⟩ : Shape).numel) (hw : FTy.bits .bf16 < FTy.bits .f32) (j : (⟨0, ![]⟩ : Shape).Idx)
    (e : Host.reduce IntOp.andi (cmpf (F := Ideal) .olt (Host.absf (extf .f32 x hw)) (broadcastInDim s ![] hb (constant ⟨0, ![]⟩ .f32 0x7F800000#32)))
      (constantI ⟨0, ![]⟩ 1 1#1) hr hu j = 1#1) (y : s.Idx) : IsReal (x y) :=
  real_of_below (x y) (Host.reduce_andi_all _ _ hr hu j e y)

/-! ## The reference's softmax -/

/-- The pattern of minus infinity. -/
theorem minus_inf : (FloatOps.ofBits (F := Ideal) .f32 0xFF800000#32 : EReal) = ⊥ := by
  show Ideal.ofBits .f32 0xFF800000#32 = ⊥
  simp [Ideal.ofBits, Ideal.ieee]

/-- The host's logarithm of two. -/
theorem log_two : Ideal.log (Ideal.ofBits .f32 0x40000000#32) = ln2 := by
  have two : Ideal.ofBits .f32 0x40000000#32 = ((2 : ℝ) : EReal) := by
    simp [Ideal.ofBits, Ideal.ieee, -EReal.coe_mul]; norm_num
  rw [two, Ideal.log_coe, if_neg (by norm_num)]
  rfl

/-- Whether a key comes no later than a query, decided on 32-bit numbers. -/
theorem causal_bit (i j : Fin 2048) : BitVec.ofBool ((BitVec.ofNat 32 j.val).sle (BitVec.ofNat 32 i.val)) = if j.val ≤ i.val then 1#1 else 0#1 := by
  have small : ∀ n : Fin 2048, (BitVec.ofNat 32 n.val).toInt = n.val := fun n => by
    rw [BitVec.toInt_eq_toNat_of_lt (by rw [BitVec.toNat_ofNat]; omega), BitVec.toNat_ofNat]
    omega
  have e : (BitVec.ofNat 32 j.val).sle (BitVec.ofNat 32 i.val) = decide (j.val ≤ i.val) := by
    rw [BitVec.sle, small, small]
    exact decide_eq_decide.2 (by omega)
  rw [e]
  by_cases c : j.val ≤ i.val <;> simp [c]

variable (k q v : Nat → Nat → EReal)

/-- The largest logit over the keys as numbers is the largest over the keys. -/
theorem most_fin (i : Nat) : most k q i = Finset.univ.sup fun j : Fin 2048 => masked k q i j.val := by
  refine le_antisymm (Finset.sup_le fun j hj => ?_) (Finset.sup_le fun j _ => ?_)
  · exact Finset.le_sup (f := fun j : Fin 2048 => masked k q i j.val) (Finset.mem_univ ⟨j, Finset.mem_range.1 hj⟩)
  · exact Finset.le_sup (f := masked k q i) (Finset.mem_range.2 j.isLt)

/-- The reference's softmax of real logits, applied to values, is the kernel's average. -/
theorem average_of_softmax (D d : Nat) (i : Fin 2048) (w : Fin 2048 → EReal) (hw : ∀ j : Fin 2048, w j = v d j.val) (one : ∀ j : Fin 2048, v D j.val = 1)
    (real : ∀ j : Fin 2048, IsReal (logit k q i.val j.val)) :
    (∑ j : Fin 2048, Ideal.div (Ideal.exp (masked k q i.val j.val * ln2 - max ⊥ (Finset.univ.sup fun j : Fin 2048 => masked k q i.val j.val * ln2)))
      (0 + ∑ s : Fin 2048, Ideal.exp (masked k q i.val s.val * ln2 - max ⊥ (Finset.univ.sup fun j : Fin 2048 => masked k q i.val j.val * ln2))) * w j)
      = average k q v D d i.val := by
  have top : ∀ j : Fin 2048, masked k q i.val j.val ≠ ⊤ := fun j => by
    rw [masked]
    split_ifs
    · obtain ⟨r, hr⟩ := real j
      rw [hr]; exact EReal.coe_ne_top r
    · exact bot_ne_top
  have bot : masked k q i.val i.val ≠ ⊥ := by
    obtain ⟨r, hr⟩ := real i
    rw [masked, if_pos (le_refl _), hr]; exact EReal.coe_ne_bot r
  refine (softmax_eq (fun j : Fin 2048 => masked k q i.val j.val) w top i bot).trans ?_
  rw [average, total, total, Finset.sum_range, Finset.sum_range]
  refine congrArg₂ Ideal.div (Finset.sum_congr rfl fun j _ => ?_) (Finset.sum_congr rfl fun j _ => ?_)
  · rw [weight, most_fin, hw]
  · rw [weight, most_fin, one]

end Cert.Attention

end
-- ==== Proof.Latent.Array.lean ====
/- The result array of the attention call after the run: every batch entry's rows hold the averages of its heads. -/
module

public import proofs.«01_k».proof.Proof.Gen.Kernel2Ideal.Value
public import proofs.«01_k».proof.Proof.Latent.Block
public import proofs.«01_k».proof.Proof.Attention.Compare

@[expose] public section

noncomputable section

namespace Cert.Latent

open Idealize.ShloMosaic Cert.Attention

open Cert.Kernel2Ideal Cert.Kernel2Ideal.Gen Idealize.ShloMosaic.TcCoe

/-- Attention over whole arrays: the block of the batch entry and of the group of heads, at its own lane. -/
def latent (x0 : Vec Ideal S16x2048x1024 .bf16) (x1 : Vec Ideal S16x2048x512 .bf16) (x2 : Vec Ideal S16x2048x1024 .bf16)
    (x3 : Vec Ideal S16x2048x128 .bf16) (x4 : Vec Ideal S16x1024x2048 .bf16) : Vec Ideal S16x2048x1024 .bf16 := fun y =>
  mean (cut 512 x0 (y 0).val ((y 2).val / 512)) (cut 256 x1 (y 0).val ((y 2).val / 512)) (cut 512 x2 (y 0).val ((y 2).val / 512))
    (cut 128 x3 (y 0).val 0) (cutRows 512 x4 (y 0).val ((y 2).val / 512))
    ((y 2).val % 512 / 256) ((y 2).val % 512 / 128 % 2) ((y 2).val % 512 % 128) (y 1).val

variable (m : (ℓ : Loc nD τ sig) → Buf (Elt Ideal) ℓ) (c : Dev nD)

/-- The result array, from the arguments the kernel is launched on. -/
def result : Vec Ideal S16x2048x1024 .bf16 :=
  latent (m ((c : Thread nD τ).loc main_arg0)) (m ((c : Thread nD τ).loc main_arg1)) (m ((c : Thread nD τ).loc main_arg2))
    (m ((c : Thread nD τ).loc main_arg3)) (m ((c : Thread nD τ).loc main_arg4))

/-- Where each window's block lies at a grid point. -/
theorem index_eq : ∀ t : Fin cfg0.N,
    win0_0.index t = ![t.val / 2, 0, t.val % 2] ∧ win0_1.index t = ![t.val / 2, 0, t.val % 2] ∧ win0_2.index t = ![t.val / 2, 0, t.val % 2]
      ∧ win0_3.index t = ![t.val / 2, 0, 0] ∧ win0_4.index t = ![t.val / 2, t.val % 2, 0] ∧ win0_5.index t = ![t.val / 2, 0, t.val % 2] := by
  decide +kernel

/-- The blocks a grid point reads are the cuts of the arrays. -/
theorem blocks_eq (t : Fin cfg0.N) :
    iblk m c 0 t = cut 512 (m ((c : Thread nD τ).loc main_arg0)) (t.val / 2) (t.val % 2)
      ∧ iblk m c 1 t = cut 256 (m ((c : Thread nD τ).loc main_arg1)) (t.val / 2) (t.val % 2)
      ∧ iblk m c 2 t = cut 512 (m ((c : Thread nD τ).loc main_arg2)) (t.val / 2) (t.val % 2)
      ∧ iblk m c 3 t = cut 128 (m ((c : Thread nD τ).loc main_arg3)) (t.val / 2) 0
      ∧ iblk m c 4 t = cutRows 512 (m ((c : Thread nD τ).loc main_arg4)) (t.val / 2) (t.val % 2) := by
  have ht : t.val < 32 := t.isLt
  refine ⟨funext fun y => ?_, funext fun y => ?_, funext fun y => ?_, funext fun y => ?_, funext fun y => ?_⟩
  · obtain ⟨a, p, j, rfl⟩ : ∃ (a : Fin 1) (p : Fin 2048) (j : Fin 512), y = ix3 a p j := ⟨y 0, y 1, y 2, (ix3_eta y).symm⟩
    obtain rfl : a = 0 := Subsingleton.elim _ _
    refine Eq.trans ?_ (dif_pos ⟨by omega, by show t.val % 2 * 512 + j.val < 1024; omega⟩).symm
    blk_ext [iblk, V, index_eq t]
  · obtain ⟨a, p, j, rfl⟩ : ∃ (a : Fin 1) (p : Fin 2048) (j : Fin 256), y = ix3 a p j := ⟨y 0, y 1, y 2, (ix3_eta y).symm⟩
    obtain rfl : a = 0 := Subsingleton.elim _ _
    refine Eq.trans ?_ (dif_pos ⟨by omega, by show t.val % 2 * 256 + j.val < 512; omega⟩).symm
    blk_ext [iblk, V, index_eq t]
  · obtain ⟨a, p, j, rfl⟩ : ∃ (a : Fin 1) (p : Fin 2048) (j : Fin 512), y = ix3 a p j := ⟨y 0, y 1, y 2, (ix3_eta y).symm⟩
    obtain rfl : a = 0 := Subsingleton.elim _ _
    refine Eq.trans ?_ (dif_pos ⟨by omega, by show t.val % 2 * 512 + j.val < 1024; omega⟩).symm
    blk_ext [iblk, V, index_eq t]
  · obtain ⟨a, p, j, rfl⟩ : ∃ (a : Fin 1) (p : Fin 2048) (j : Fin 128), y = ix3 a p j := ⟨y 0, y 1, y 2, (ix3_eta y).symm⟩
    obtain rfl : a = 0 := Subsingleton.elim _ _
    refine Eq.trans ?_ (dif_pos ⟨by omega, by show 0 * 128 + j.val < 128; omega⟩).symm
    blk_ext [iblk, V, index_eq t]
  · obtain ⟨a, p, j, rfl⟩ : ∃ (a : Fin 1) (p : Fin 512) (j : Fin 2048), y = ix3 a p j := ⟨y 0, y 1, y 2, (ix3_eta y).symm⟩
    obtain rfl : a = 0 := Subsingleton.elim _ _
    refine Eq.trans ?_ (dif_pos ⟨by omega, by show t.val % 2 * 512 + p.val < 1024; omega⟩).symm
    blk_ext [iblk, V, index_eq t]

/-- The kernel's result array after the run. -/
theorem arrAt_eq : (dats m 0 c).arrAt 5 cfg0.N = result m c := by
  refine (dats m 0 c).arrAt_eq_of_covers 5 _ (by decide +kernel) fun t hf y => ?_
  obtain ⟨a, p, j, rfl⟩ : ∃ (a : Fin 1) (p : Fin 2048) (j : Fin 512), y = ix3 a p j := ⟨y 0, y 1, y 2, (ix3_eta y).symm⟩
  obtain rfl : a = 0 := Subsingleton.elim _ _
  have ht : t.val < 32 := t.isLt
  have he : ((cfg0.win 5).blk t).view.emb (ix3 0 p j)
      = (ix3 ⟨t.val / 2, by omega⟩ p ⟨t.val % 2 * 512 + j.val, by omega⟩ : S16x2048x1024.Idx) := by
    blk_ext [index_eq t]
  have h1 : (t.val % 2 * 512 + j.val) / 512 = t.val % 2 := by omega
  have h2 : (t.val % 2 * 512 + j.val) % 512 = j.val := by omega
  have hr : result m c (ix3 ⟨t.val / 2, by omega⟩ p ⟨t.val % 2 * 512 + j.val, by omega⟩)
      = blockOut (iblk m c 0 t) (iblk m c 1 t) (iblk m c 2 t) (iblk m c 3 t) (iblk m c 4 t) (ix3 0 p j) := by
    rw [(blocks_eq m c t).1, (blocks_eq m c t).2.1, (blocks_eq m c t).2.2.1, (blocks_eq m c t).2.2.2.1, (blocks_eq m c t).2.2.2.2]
    show mean (cut 512 _ (t.val / 2) ((t.val % 2 * 512 + j.val) / 512)) (cut 256 _ (t.val / 2) ((t.val % 2 * 512 + j.val) / 512))
      (cut 512 _ (t.val / 2) ((t.val % 2 * 512 + j.val) / 512)) (cut 128 _ (t.val / 2) 0)
      (cutRows 512 _ (t.val / 2) ((t.val % 2 * 512 + j.val) / 512)) ((t.val % 2 * 512 + j.val) % 512 / 256)
      ((t.val % 2 * 512 + j.val) % 512 / 128 % 2) ((t.val % 2 * 512 + j.val) % 512 % 128) p.val = _
    rw [h1, h2]
    rfl
  rw [he, hr]
  blk_simp
  rw [after0_5, outsAt0]
  exact out_apply ..

end Cert.Latent

end
-- ==== Proof.Latent.Read.lean ====
/- The reference's attention, read at a batch entry, a head, a query and a key, up to its logits. -/
module

public import proofs.«01_k».proof.Proof.Gen.Reference2Ideal.Read
public import proofs.«01_k».proof.Proof.Attention.Compare
public import proofs.«01_k».proof.Proof.Latent.Array

@[expose] public section

noncomputable section

namespace Cert.Latent

open Idealize.ShloMosaic Cert.Attention

/-- A sum over 128 lanes, in four runs of 32. -/
theorem sum_four (f : Nat → EReal) : ∑ l ∈ Finset.range 128, f l
    = (∑ l ∈ Finset.range 32, f (0 * 32 + l)) + (∑ l ∈ Finset.range 32, f (1 * 32 + l)) + (∑ l ∈ Finset.range 32, f (2 * 32 + l))
      + ∑ l ∈ Finset.range 32, f (3 * 32 + l) := by
  rw [Finset.sum_range_add f 96 32, Finset.sum_range_add f 64 32, Finset.sum_range_add f 32 32]
  simp only [Nat.zero_mul, Nat.zero_add, Nat.one_mul, Nat.reduceMul]

/-- A sum over the lanes of a pair, of which only those of head `hh` count. -/
theorem sum_own (f : Nat → EReal) (hh : Nat) (h : hh < 2) : ∑ l ∈ Finset.range 128, f l * own hh l
    = ∑ r ∈ Finset.range 64, f (r / 32 * 64 + hh * 32 + r % 32) := by
  have lane : ∀ n, (∑ l ∈ Finset.range 32, f (n * 32 + l) * own hh (n * 32 + l))
      = if n % 2 = hh then ∑ l ∈ Finset.range 32, f (n * 32 + l) else 0 := fun n => by
    have e : ∀ l ∈ Finset.range 32, own hh (n * 32 + l) = if n % 2 = hh then 1 else 0 := fun l hl => by
      rw [own, show (n * 32 + l) / 32 = n by have := Finset.mem_range.1 hl; omega]
    split_ifs with c
    · exact Finset.sum_congr rfl fun l hl => by rw [e l hl, if_pos c, mul_one]
    · exact Finset.sum_eq_zero fun l hl => by rw [e l hl, if_neg c, mul_zero]
  have low : ∑ r ∈ Finset.range 32, f (r / 32 * 64 + hh * 32 + r % 32) = ∑ l ∈ Finset.range 32, f (hh * 32 + l) :=
    Finset.sum_congr rfl fun r hr => congrArg f (by have := Finset.mem_range.1 hr; omega)
  have high : ∑ r ∈ Finset.range 32, f ((32 + r) / 32 * 64 + hh * 32 + (32 + r) % 32) = ∑ l ∈ Finset.range 32, f ((2 + hh) * 32 + l) :=
    Finset.sum_congr rfl fun r hr => congrArg f (by have := Finset.mem_range.1 hr; omega)
  rw [sum_four, lane 0, lane 1, lane 2, lane 3, Finset.sum_range_add (fun r => f (r / 32 * 64 + hh * 32 + r % 32)) 32 32, low, high]
  obtain rfl | rfl : hh = 0 ∨ hh = 1 := by omega
  · simp
  · simp

/-- The logit without the lanes of the pair's other head. -/
theorem logit_lanes (x0 : Vec Ideal Cert.Kernel2Ideal.S1x2048x512 .bf16) (x1 : Vec Ideal Cert.Kernel2Ideal.S1x2048x256 .bf16)
    (x2 : Vec Ideal Cert.Kernel2Ideal.S1x2048x512 .bf16) (x3 : Vec Ideal Cert.Kernel2Ideal.S1x2048x128 .bf16) (pr hh i j : Nat) (h : hh < 2) :
    logit (key x2 x3 (2 * pr + hh)) (qry x0 x1 pr hh) i j
      = (∑ k : Fin 128, ent x0 i ((2 * pr + hh) * 128 + k.val) * ent x2 j ((2 * pr + hh) * 128 + k.val))
        + ∑ r : Fin 64, ent x1 i (pr * 128 + (r.val / 32 * 64 + hh * 32 + r.val % 32)) * ent x3 j (r.val / 32 * 64 + hh * 32 + r.val % 32) := by
  have rotary := sum_own (fun l => ent x1 i (pr * 128 + l) * ent x3 j l) hh h
  rw [Finset.sum_range (n := 64)] at rotary
  rw [← rotary, ← Finset.sum_range (n := 128) fun k => ent x0 i ((2 * pr + hh) * 128 + k) * ent x2 j ((2 * pr + hh) * 128 + k), logit,
    ← Finset.sum_range (n := 256) fun l => key x2 x3 (2 * pr + hh) j l * qry x0 x1 pr hh i l,
    Finset.sum_range_add (fun l => key x2 x3 (2 * pr + hh) j l * qry x0 x1 pr hh i l) 128 128]
  refine congrArg₂ (· + ·) (Finset.sum_congr rfl fun l hl => ?_) (Finset.sum_congr rfl fun l hl => ?_)
  · rw [key, qry, if_pos (Finset.mem_range.1 hl), if_pos (Finset.mem_range.1 hl), mul_comm]
  · rw [key, qry, if_neg (by omega), if_neg (by omega), Nat.add_sub_cancel_left, mul_comm, mul_assoc, mul_assoc, mul_comm (own hh l)]

open Cert.Reference2Ideal Cert.Reference2Ideal.Read

variable (x0 : Vec Ideal S16x2048x1024 .bf16) (x1 : Vec Ideal S16x2048x512 .bf16) (x2 : Vec Ideal S16x2048x1024 .bf16)
  (x3 : Vec Ideal S16x2048x128 .bf16) (x4 : Vec Ideal S16x1024x2048 .bf16) (b : Fin 16) (h : Fin 8) (g pr hh : Nat)

/-- A head's keys, of a batch entry and a group of heads. -/
abbrev keysOf : Nat → Nat → EReal := key (cut 512 x2 b.val g) (cut 128 x3 b.val 0) (2 * pr + hh)

/-- A head's queries, of a batch entry and a group of heads. -/
abbrev qrysOf : Nat → Nat → EReal := qry (cut 512 x0 b.val g) (cut 256 x1 b.val g) pr hh

/-- The reference's query, read from its argument. -/
theorem ref_q (i : Fin 2048) (k : Fin 128) : val_main_v2 x0 (ix4 b h i k) = x0 (ix3 b i ⟨h.val * 128 + k.val, by omega⟩) := by
  rw [val_main_v2_apply, val_main_v1_apply, val_main_v0_apply]
  show x0 _ = x0 _
  blk_ext [idx_main_v2, idx_main_v1]

/-- The reference's key, read from its argument. -/
theorem ref_k (j : Fin 2048) (k : Fin 128) : val_main_v5 x2 (ix4 b h j k) = x2 (ix3 b j ⟨h.val * 128 + k.val, by omega⟩) := by
  rw [val_main_v5_apply, val_main_v4_apply, val_main_v3_apply]
  show x2 _ = x2 _
  blk_ext [idx_main_v5, idx_main_v4]

/-- The reference's value, read from its argument. -/
theorem ref_v (j : Fin 2048) (d : Fin 128) : val_main_v19 x4 (ix4 b h j d) = x4 (ix3 b ⟨h.val * 128 + d.val, by omega⟩ j) := by
  rw [val_main_v19_apply, val_main_v18_apply, val_main_v17_apply]
  show x4 _ = x4 _
  blk_ext [idx_main_v19, idx_main_v18]

/-- The reference's rotary query, read from its argument. -/
theorem ref_q_rope (i : Fin 2048) (r : Fin 64) :
    val_main_v10 x1 (ix4 b h i r) = x1 (ix3 b i ⟨h.val / 2 * 128 + (r.val / 32 * 64 + h.val % 2 * 32 + r.val % 32), by omega⟩) := by
  have e : val_main_v10 x1 (ix4 b h i r)
      = val_main_v7 x1 (ix5 ⟨b.val * 2048 + i.val, by omega⟩ ⟨h.val / 2, by omega⟩ ⟨r.val / 32, by omega⟩ ⟨h.val % 2, by omega⟩ ⟨r.val % 32, by omega⟩) := by
    rw [val_main_v10_apply, val_main_v9_apply, val_main_v8_apply]
    generalize val_main_v7 x1 = y
    blk_ext [idx_main_v10, idx_main_v9, idx_main_v8]
  rw [e, val_main_v7_apply, val_main_v6_apply]
  show x1 _ = x1 _
  blk_ext [idx_main_v7]
  rw [show (((((b.val * 2048 + i.val) * 4 + h.val / 2) * 2 + r.val / 32) * 2 + h.val % 2) * 32 + r.val % 32) / 512 = b.val * 2048 + i.val by omega]
  omega

/-- The reference's rotary key, read from its argument: the copy of the head's parity. -/
theorem ref_k_rope (j : Fin 2048) (r : Fin 64) :
    val_main_v16 x3 (ix4 b h j r) = x3 (ix3 b j ⟨r.val / 32 * 64 + h.val % 2 * 32 + r.val % 32, by omega⟩) := by
  have e : val_main_v16 x3 (ix4 b h j r) = val_main_v14 x3 (ix5 b 0 ⟨h.val % 2, by omega⟩ j r) := by
    rw [val_main_v16_apply, val_main_v15_apply]
    generalize val_main_v14 x3 = y
    blk_ext [idx_main_v16, idx_main_v15]
  have e' : val_main_v14 x3 (ix5 b 0 ⟨h.val % 2, by omega⟩ j r)
      = val_main_v12 x3 (ix5 b j ⟨r.val / 32, by omega⟩ ⟨h.val % 2, by omega⟩ ⟨r.val % 32, by omega⟩) := by
    rw [val_main_v14_apply, val_main_v13_apply]
    generalize val_main_v12 x3 = y
    blk_ext [idx_main_v14, idx_main_v13]
  rw [e, e', val_main_v12_apply, val_main_v11_apply]
  show x3 _ = x3 _
  blk_ext [idx_main_v12]

/-- The reference's logit, before the logarithm of two, is the kernel's. -/
theorem ref_logit (hg : h.val = 4 * g + 2 * pr + hh) (hpr : pr < 2) (hhh : hh < 2) (i j : Fin 2048) :
    val_main_v22 x0 x1 x2 x3 (ix4 b h i j)
      = logit (keysOf x2 x3 b g pr hh) (qrysOf x0 x1 b g pr hh) i.val j.val := by
  rw [logit_lanes _ _ _ _ _ _ _ _ hhh, val_main_v22_apply, val_main_v20_apply, val_main_v21_apply]
  show (_ + _ : EReal) = _
  have l20 : ∀ k, lidx_main_v20 (ix4 b h i j) k = ix4 b h i k := fun k => by blk_ext [lidx_main_v20]
  have r20 : ∀ k, ridx_main_v20 (ix4 b h i j) k = ix4 b h j k := fun k => by blk_ext [ridx_main_v20]
  have l21 : ∀ k, lidx_main_v21 (ix4 b h i j) k = ix4 b h i k := fun k => by blk_ext [lidx_main_v21]
  have r21 : ∀ k, ridx_main_v21 (ix4 b h i j) k = ix4 b h j k := fun k => by blk_ext [ridx_main_v21]
  refine congrArg₂ (· + ·) (Finset.sum_congr rfl fun k _ => ?_) (Finset.sum_congr rfl fun r _ => ?_)
  · rw [l20, r20, ref_q, ref_k]
    exact congrArg₂ (· * ·) (ent_cut 512 x0 b g i _ _ (by omega) (by dsimp only; omega)).symm (ent_cut 512 x2 b g j _ _ (by omega) (by dsimp only; omega)).symm
  · rw [l21, r21, ref_q_rope, ref_k_rope]
    exact congrArg₂ (· * ·) (ent_cut 256 x1 b g i _ _ (by omega) (by dsimp only; omega)).symm (ent_cut 128 x3 b 0 j _ _ (by omega) (by dsimp only; omega)).symm

end Cert.Latent

end
-- ==== Proof.Latent.Reference.lean ====
/- What the reference's attention computes: the averages of the kernel's result, when queries and keys are finite. -/
module

public import proofs.«01_k».proof.Proof.Latent.Read

@[expose] public section

noncomputable section

namespace Cert.Latent

open Idealize.ShloMosaic Cert.Attention Cert.Reference2Ideal Cert.Reference2Ideal.Read

/-- The host's logarithm of two. -/
theorem host_ln2 (i : S_.Idx) : (val_main_v23 (F := Ideal) i : EReal) = ln2 :=
  log_two

variable (x0 : Vec Ideal S16x2048x1024 .bf16) (x1 : Vec Ideal S16x2048x512 .bf16) (x2 : Vec Ideal S16x2048x1024 .bf16)
  (x3 : Vec Ideal S16x2048x128 .bf16) (x4 : Vec Ideal S16x1024x2048 .bf16) (b : Fin 16) (h : Fin 8) (g pr hh : Nat)

/-- The masked logit of the kernel, for a batch entry and a group of heads. -/
def low (i j : Nat) : EReal :=
  masked (keysOf x2 x3 b g pr hh) (qrysOf x0 x1 b g pr hh) i j

/-- The reference's causal mask. -/
theorem ref_mask (i j : Fin 2048) : val_main_call0_v1 (F := Ideal) (ix4 b h i j) = if j.val ≤ i.val then 1#1 else 0#1 := by
  rw [val_main_call0_v1_apply, val_main_v31_apply, val_main_v29_apply, val_main_v30_apply, val_main_v27_apply, val_main_v28_apply,
    val_main_v26_apply, val_main_v26_apply]
  exact causal_bit i j

/-- The reference's masked logit. -/
theorem ref_masked (hg : h.val = 4 * g + 2 * pr + hh) (hpr : pr < 2) (hhh : hh < 2) (i j : Fin 2048) :
    val_main_v32 x0 x1 x2 x3 (ix4 b h i j) = low x0 x1 x2 x3 b g pr hh i.val j.val * ln2 := by
  rw [val_main_v32_apply, ref_mask, low, masked, val_main_v25_apply, ref_logit x0 x1 x2 x3 b h g pr hh hg hpr hhh, val_main_v24_apply, val_main_call0_v2_apply]
  by_cases c : j.val ≤ i.val
  · rw [if_pos c, if_pos c]
    show _ * (val_main_v23 (F := Ideal) _ : EReal) = _
    rw [host_ln2]
  · rw [if_neg c, if_neg c, bot_mul_ln2]
    exact minus_inf

/-- The reference's largest logit. -/
theorem ref_most (i : Fin 2048) :
    val_main_v33 x0 x1 x2 x3 (ix3 b h i) = Finset.univ.sup fun j : Fin 2048 => (val_main_v32 x0 x1 x2 x3 (ix4 b h i j) : EReal) := by
  unfold val_main_v33
  generalize val_main_v32 x0 x1 x2 x3 = y
  rw [Host.reduce_eq_fold_single (a := 3) _ _ _ _ (by decide)]
  have e : ∀ k : Fin 2048, (by decide : S16x8x2048x2048.Reduces [3] S16x8x2048).lift (ix3 b h i) k = ix4 b h i k := fun k =>
    funext fun a => Fin.ext (by match a with | ⟨0, _⟩ => rfl | ⟨1, _⟩ => rfl | ⟨2, _⟩ => rfl | ⟨3, _⟩ => rfl)
  show Finset.fold max _ _ _ = _
  rw [val_main_cst_1_apply, minus_inf]
  refine Finset.fold_congr fun k _ => ?_
  exact congrArg y (e k)

/-- The logits of finite queries and keys are real. -/
theorem logit_real (h0 : ∀ y, IsReal (x0 y)) (h1 : ∀ y, IsReal (x1 y)) (h2 : ∀ y, IsReal (x2 y)) (h3 : ∀ y, IsReal (x3 y)) (i j : Fin 2048) :
    IsReal (val_main_v22 x0 x1 x2 x3 (ix4 b h i j)) := by
  rw [val_main_v22_apply, val_main_v20_apply, val_main_v21_apply]
  have l20 : ∀ k, lidx_main_v20 (ix4 b h i j) k = ix4 b h i k := fun k => by blk_ext [lidx_main_v20]
  have r20 : ∀ k, ridx_main_v20 (ix4 b h i j) k = ix4 b h j k := fun k => by blk_ext [ridx_main_v20]
  have l21 : ∀ k, lidx_main_v21 (ix4 b h i j) k = ix4 b h i k := fun k => by blk_ext [lidx_main_v21]
  have r21 : ∀ k, ridx_main_v21 (ix4 b h i j) k = ix4 b h j k := fun k => by blk_ext [ridx_main_v21]
  refine real_add (real_sum _ fun k => ?_) (real_sum _ fun k => ?_)
  · rw [l20, r20, ref_q, ref_k]
    exact real_mul (h0 _) (h2 _)
  · rw [l21, r21, ref_q_rope, ref_k_rope]
    exact real_mul (h1 _) (h3 _)

/-- The reference's weighted values are the kernel's average. -/
theorem ref_average (hg : h.val = 4 * g + 2 * pr + hh) (hpr : pr < 2) (hhh : hh < 2)
    (h0 : ∀ y, IsReal (x0 y)) (h1 : ∀ y, IsReal (x1 y)) (h2 : ∀ y, IsReal (x2 y)) (h3 : ∀ y, IsReal (x3 y)) (i : Fin 2048) (d : Fin 128) :
    val_main_v44 x0 x1 x2 x3 x4 (ix4 b h i d)
      = mean (cut 512 x0 b.val g) (cut 256 x1 b.val g) (cut 512 x2 b.val g) (cut 128 x3 b.val 0) (cutRows 512 x4 b.val g) pr hh d.val i.val := by
  have hmost : val_main_v35 x0 x1 x2 x3 (ix3 b h i) = max ⊥ (Finset.univ.sup fun j : Fin 2048 => low x0 x1 x2 x3 b g pr hh i.val j.val * ln2) := by
    rw [val_main_v35_apply, ref_most, val_main_v34_apply, val_main_cst_2_apply, minus_inf]
    simp only [ref_masked x0 x1 x2 x3 b h g pr hh hg hpr hhh]
    rfl
  have hexp : ∀ j : Fin 2048, val_main_v39 x0 x1 x2 x3 (ix4 b h i j) = Ideal.exp (low x0 x1 x2 x3 b g pr hh i.val j.val * ln2
      - max ⊥ (Finset.univ.sup fun j : Fin 2048 => low x0 x1 x2 x3 b g pr hh i.val j.val * ln2)) := fun j => by
    have e : idx_main_v36 (idx_main_v37 (ix4 b h i j)) = ix3 b h i := by blk_ext [idx_main_v36, idx_main_v37]
    rw [val_main_v39_apply, val_main_v38_apply, val_main_v37_apply, val_main_v36_apply, e, hmost, ref_masked x0 x1 x2 x3 b h g pr hh hg hpr hhh]
    rfl
  have hsum : val_main_v40 x0 x1 x2 x3 (ix3 b h i) = 0 + ∑ k : Fin 2048, Ideal.exp (low x0 x1 x2 x3 b g pr hh i.val k.val * ln2
      - max ⊥ (Finset.univ.sup fun j : Fin 2048 => low x0 x1 x2 x3 b g pr hh i.val j.val * ln2)) := by
    have e : ∀ k, idx_main_v40 (ix3 b h i) k = ix4 b h i k := fun k => by blk_ext [idx_main_v40]
    rw [val_main_v40_apply]
    simp only [e, hexp]
    have z : (val_main_cst_3 (F := Ideal) (Shape.Idx.first Gen.h_S_) : EReal) = 0 := by
      rw [val_main_cst_3_apply]
      exact Ideal.ofBits_zero_f32
    rw [z]
  have l44 : ∀ k, lidx_main_v44 (ix4 b h i d) k = ix4 b h i k := fun k => by blk_ext [lidx_main_v44]
  have r44 : ∀ k, ridx_main_v44 (ix4 b h i d) k = ix4 b h k d := fun k => by blk_ext [ridx_main_v44]
  have hdiv : ∀ j : Fin 2048, val_main_v43 x0 x1 x2 x3 (ix4 b h i j) = Ideal.div (val_main_v39 x0 x1 x2 x3 (ix4 b h i j)) (val_main_v40 x0 x1 x2 x3 (ix3 b h i)) := fun j => by
    have e : idx_main_v41 (idx_main_v42 (ix4 b h i j)) = ix3 b h i := by blk_ext [idx_main_v41, idx_main_v42]
    rw [val_main_v43_apply, val_main_v42_apply, val_main_v41_apply, e]
    rfl
  rw [val_main_v44_apply]
  simp only [l44, r44, hdiv, hexp, hsum]
  refine average_of_softmax (keysOf x2 x3 b g pr hh) (qrysOf x0 x1 b g pr hh) (val 128 (cutRows 512 x4 b.val g) (2 * pr + hh)) 128 d.val i
    (fun j => val_main_v19 x4 (ix4 b h j d)) (fun j => ?_) (fun j => by rw [val, if_neg (by omega)])
    fun j => ref_logit x0 x1 x2 x3 b h g pr hh hg hpr hhh i j ▸ logit_real x0 x1 x2 x3 b h h0 h1 h2 h3 i j
  rw [val, if_pos d.isLt, ref_v]
  exact (ent_cutRows 512 x4 b g _ j _ (by omega) (by dsimp only; omega)).symm

/-- The reference's result is the kernel's, at finite queries and keys. -/
theorem ref_result (h0 : ∀ y, IsReal (x0 y)) (h1 : ∀ y, IsReal (x1 y)) (h2 : ∀ y, IsReal (x2 y)) (h3 : ∀ y, IsReal (x3 y)) :
    val_main_v47 x0 x1 x2 x3 x4 = latent x0 x1 x2 x3 x4 := by
  funext y
  obtain ⟨b, i, l, rfl⟩ : ∃ (b : Fin 16) (i : Fin 2048) (l : Fin 1024), y = ix3 b i l := ⟨y 0, y 1, y 2, (ix3_eta y).symm⟩
  have e : idx_main_v45 (idx_main_v46 (ix3 b i l)) = ix4 b ⟨l.val / 128, by omega⟩ i ⟨l.val % 128, by omega⟩ := by
    blk_ext [idx_main_v45, idx_main_v46]
  rw [val_main_v47_apply, val_main_v46_apply, val_main_v45_apply, e]
  refine (ref_average x0 x1 x2 x3 x4 b ⟨l.val / 128, by omega⟩ (l.val / 512) (l.val % 512 / 256) (l.val % 512 / 128 % 2) (by dsimp only; omega) (by omega)
    (by omega) h0 h1 h2 h3 i ⟨l.val % 128, by omega⟩).trans ?_
  show mean _ _ _ _ _ _ _ (l.val % 128) _ = mean _ _ _ _ _ _ _ (l.val % 512 % 128) _
  rw [show l.val % 512 % 128 = l.val % 128 by omega]
  rfl

end Cert.Latent

end
-- ==== Proof.Latent.Finite.lean ====
/- The precondition of the attention call: it holds only when every query and every key is a real number. -/
module

public import proofs.«01_k».proof.Pre_finite_qk
public import proofs.«01_k».proof.Proof.Latent.Reference
public import Idealize.ShloMosaic.Lib.ReduceAll

@[expose] public section

noncomputable section

namespace Cert.Latent

open Idealize.ShloMosaic Cert.Attention Cert.Pre_finite_qk

/-- The shape relations the precondition's operations take. -/
theorem finite_facts : Cert.Pre_finite_qk.Facts where
  bitsLt_bf16_f32 := by decide
  bcast_S_S16x2048x1024 := by decide
  reducesTo_S16x2048x1024_S_d0_1_2 := by decide
  h_S_ := by decide
  bcast_S_S16x2048x512 := by decide
  reducesTo_S16x2048x512_S_d0_1_2 := by decide
  bcast_S_S16x2048x128 := by decide
  reducesTo_S16x2048x128_S_d0_1_2 := by decide

/-- The precondition makes every query and every key real. -/
theorem real_of_finite [Facts] (x0 : Vec Ideal S16x2048x1024 .bf16) (x1 : Vec Ideal S16x2048x512 .bf16) (x2 : Vec Ideal S16x2048x1024 .bf16)
    (x3 : Vec Ideal S16x2048x128 .bf16) (x4 : Vec Ideal S16x1024x2048 .bf16) (h : fn (F := Ideal) x0 x1 x2 x3 x4 = fun _ => 1#1) :
    (∀ y, IsReal (x0 y)) ∧ (∀ y, IsReal (x1 y)) ∧ (∀ y, IsReal (x2 y)) ∧ (∀ y, IsReal (x3 y)) := by
  have both : ∀ a b : BitVec 1, IntOp.andi a b = 1#1 → a = 1#1 ∧ b = 1#1 := by decide
  have e := congrFun h (fun a => a.elim0)
  dsimp only [fn, fn_part1] at e
  obtain ⟨e, e3⟩ := both _ _ e
  obtain ⟨e, e2⟩ := both _ _ e
  obtain ⟨e0, e1⟩ := both _ _ e
  exact ⟨real_of_all x0 _ _ _ _ _ e0, real_of_all x1 _ _ _ _ _ e1, real_of_all x2 _ _ _ _ _ e2, real_of_all x3 _ _ _ _ _ e3⟩

end Cert.Latent

end
-- ==== Proof.Fox.Keys.lean ====
/- The keys and the values a grid point gathers in its scratch, and the queries of a tile with the lanes of one head. -/
module

public import proofs.«01_k».proof.Proof.Gen.Kernel3Ideal.Frame
public import proofs.«01_k».proof.Proof.Attention.Gather

@[expose] public section

noncomputable section

namespace Cert.Fox

open Idealize.ShloMosaic Cert.Kernel3Ideal Cert.Kernel3Ideal.Gen Cert.Attention

/-- One when lane `l` of a pair's lanes belongs to the pair's head `hh`, else zero. -/
def own (hh l : Nat) : EReal := if l / 64 = hh then 1 else 0

/-- One when lane `l` of the decay's lanes belongs to head `h` of the sixteen, else zero. -/
def pick (h l : Nat) : EReal := if l % 16 = h then 1 else 0

section Block

variable (x0 x1 : Vec Ideal S1x2048x256 .bf16) (x2 x3 : Vec Ideal S1x2048x128 .bf16)

/-- Lane `l` of key `j` of pair `pr`: the keys of both heads, then the decay of all heads. -/
def key (pr j l : Nat) : EReal := if l < 128 then ent x1 j (pr * 128 + l) else ent x3 j (l - 128)

/-- Lane `l` of query `i`, of head `hh` of pair `pr` in group `g`: the lanes of other heads are zero. -/
def qry (g pr hh i l : Nat) : EReal :=
  if l < 128 then ent x0 i (pr * 128 + l) * own hh l else ent x2 i (l - 128) * pick (4 * g + 2 * pr + hh) (l - 128)

end Block

/-! ## Whose lane it is -/

/-- A row of zeros and ones, from words. -/
abbrev bitRow (w : IVec S1x128 32) : FVec Ideal S1x128 .bf16 := truncf .bf16 (sitofp .f32 w) (by decide : FTy.bits .bf16 < FTy.bits .f32)

theorem bitRow_apply (w : IVec S1x128 32) (l : Fin 128) (p : Prop) [Decidable p] (h : w (ix2 0 l) = if p then 1#32 else 0#32) :
    bitRow w (ix2 0 l) = if p then 1 else 0 := by
  show ((((w (ix2 0 l)).toInt : ℝ)) : EReal) = _
  rw [h]
  split_ifs <;> simp

/-- Which of a pair's lanes are a head's, as the kernel has it. -/
def headRow : Nat → FVec Ideal S1x128 .bf16
  | 0 => k0_pay2
  | _ + 1 => kernelRun0_A.sl.r

theorem headRow_apply (hh : Nat) (hhh : hh < 2) (l : Fin 128) : headRow hh (ix2 0 l) = own hh l.val := by
  match hh, hhh with
  | 0, _ =>
    obtain ⟨w, hw, h⟩ : ∃ w : IVec S1x128 32, k0_pay2 (F := Ideal) = bitRow w
        ∧ ∀ l : Fin 128, w (ix2 0 l) = if l.val / 64 = 0 then 1#32 else 0#32 := ⟨_, rfl, by decide +kernel⟩
    show k0_pay2 (F := Ideal) (ix2 0 l) = _
    rw [hw]
    exact bitRow_apply w l _ (h l)
  | 1, _ =>
    obtain ⟨w, hw, h⟩ : ∃ w : IVec S1x128 32, k0_pay6 (F := Ideal) kernelRun0_A.sl.v0 (64#32) k0_pay3 k0_pay4 k0_pay5 = bitRow w
        ∧ ∀ l : Fin 128, w (ix2 0 l) = if l.val / 64 = 1 then 1#32 else 0#32 := ⟨_, rfl, by decide +kernel⟩
    show k0_pay6 (F := Ideal) kernelRun0_A.sl.v0 (64#32) k0_pay3 k0_pay4 k0_pay5 (ix2 0 l) = _
    rw [hw]
    exact bitRow_apply w l _ (h l)

/-- Which of the decay's lanes are a head's, as the kernel has it at a grid point. -/
def decayRow (i : grid0.Coords) : Nat → Nat → FVec Ideal S1x128 .bf16
  | 0, 0 => kernelRun0_A.sl.r_1 i
  | 0, _ + 1 => kernelRun0_A.sl.r_2 i
  | _ + 1, 0 => kernelRun0_A.sl.r_54 i
  | _ + 1, _ + 1 => kernelRun0_A.sl.r_56 i

/-- Twice the number of a grid point's group, as the kernel computes it. -/
abbrev twice (n : Nat) : BitVec 32 := Scalar.muli (2#32) (BitVec.ofNat 32 n)

theorem decayRow_apply (i : grid0.Coords) (pr : Nat) (hpr : pr < 2) (hh : Nat) (hhh : hh < 2) (l : Fin 128) :
    decayRow i pr hh (ix2 0 l) = pick (4 * (i 1).val + 2 * pr + hh) l.val := by
  have hi : (i 1).val < 4 := (i 1).isLt
  match pr, hpr, hh, hhh with
  | 0, _, 0, _ =>
    obtain ⟨w, hw, h⟩ : ∃ w : BitVec 32 → IVec S1x128 32, (∀ b, k0_pay12 (F := Ideal) b (16#32) (k0_pay9 kernelRun0_A.sl.v0) (k0_pay10 kernelRun0_A.sl.v0)
          (k0_pay11 kernelRun0_A.sl.v0) = bitRow (w b))
        ∧ ∀ (g : Fin 4) (l : Fin 128), w (Scalar.muli (2#32) (Scalar.addi (twice g.val) (0#32))) (ix2 0 l) = if l.val % 16 = 4 * g.val + 2 * 0 + 0 then 1#32 else 0#32 :=
      ⟨_, fun _ => rfl, by decide +kernel⟩
    show k0_pay12 (F := Ideal) (Scalar.muli (2#32) (Scalar.addi (twice (i 1).val) (0#32))) (16#32) (k0_pay9 kernelRun0_A.sl.v0) (k0_pay10 kernelRun0_A.sl.v0)
      (k0_pay11 kernelRun0_A.sl.v0) (ix2 0 l) = _
    rw [hw]
    exact bitRow_apply _ l _ (h ⟨(i 1).val, hi⟩ l)
  | 0, _, 1, _ =>
    obtain ⟨w, hw, h⟩ : ∃ w : BitVec 32 → IVec S1x128 32, (∀ b, k0_pay13 (F := Ideal) kernelRun0_A.sl.v0 b = bitRow (w b))
        ∧ ∀ (g : Fin 4) (l : Fin 128), w (Scalar.muli (2#32) (Scalar.addi (twice g.val) (0#32))) (ix2 0 l) = if l.val % 16 = 4 * g.val + 2 * 0 + 1 then 1#32 else 0#32 :=
      ⟨_, fun _ => rfl, by decide +kernel⟩
    show k0_pay13 (F := Ideal) kernelRun0_A.sl.v0 (Scalar.muli (2#32) (Scalar.addi (twice (i 1).val) (0#32))) (ix2 0 l) = _
    rw [hw]
    exact bitRow_apply _ l _ (h ⟨(i 1).val, hi⟩ l)
  | 1, _, 0, _ =>
    obtain ⟨w, hw, h⟩ : ∃ w : BitVec 32 → IVec S1x128 32, (∀ b, k0_pay140 (F := Ideal) kernelRun0_A.sl.v0 b = bitRow (w b))
        ∧ ∀ (g : Fin 4) (l : Fin 128), w (twice g.val) (ix2 0 l) = if l.val % 16 = 4 * g.val + 2 * 1 + 0 then 1#32 else 0#32 :=
      ⟨_, fun _ => rfl, by decide +kernel⟩
    show k0_pay140 (F := Ideal) kernelRun0_A.sl.v0 (twice (i 1).val) (ix2 0 l) = _
    rw [hw]
    exact bitRow_apply _ l _ (h ⟨(i 1).val, hi⟩ l)
  | 1, _, 1, _ =>
    obtain ⟨w, hw, h⟩ : ∃ w : BitVec 32 → IVec S1x128 32, (∀ b, k0_pay142 (F := Ideal) (k0_pay141 kernelRun0_A.sl.v0 b) = bitRow (w b))
        ∧ ∀ (g : Fin 4) (l : Fin 128), w (twice g.val) (ix2 0 l) = if l.val % 16 = 4 * g.val + 2 * 1 + 1 then 1#32 else 0#32 :=
      ⟨_, fun _ => rfl, by decide +kernel⟩
    show k0_pay142 (F := Ideal) (k0_pay141 kernelRun0_A.sl.v0 (twice (i 1).val)) (ix2 0 l) = _
    rw [hw]
    exact bitRow_apply _ l _ (h ⟨(i 1).val, hi⟩ l)

/-- The queries of a tile: the pair's lanes and the decay's lanes, with those of other heads set to zero. -/
def tQuery (own pick : FVec Ideal S1x128 .bf16) (q f : Vec Ideal S1x512x128 .bf16) : FVec Ideal S512x256 .bf16 :=
  concatenate S512x256 1
    [⟨S512x128, mulf (shapeCast S512x128 q shapeCasts_S1x512x128_S512x128) (broadcastTo S512x128 own broadcasts_S1x128_S512x128)⟩,
    ⟨S512x128, mulf (shapeCast S512x128 f shapeCasts_S1x512x128_S512x128) (broadcastTo S512x128 pick broadcasts_S1x128_S512x128)⟩]
    concatenates_S512x128_S512x128_S512x256_d1

theorem tQuery_apply (own pick : FVec Ideal S1x128 .bf16) (q f : Vec Ideal S1x512x128 .bf16) (j : Fin 512) (l : Fin 256) :
    tQuery own pick q f (ix2 j l) = if h : l.val < 128 then q (ix3 0 j ⟨l.val, h⟩) * own (ix2 0 ⟨l.val, h⟩)
      else f (ix3 0 j ⟨l.val - 128, by omega⟩) * pick (ix2 0 ⟨l.val - 128, by omega⟩) := by
  pointwise [tQuery]

/-! ## Keys -/

section Keys

variable (c : Dev nD) (i : grid0.Coords) (arg2 : Memref sig .tc .vmem S1x2048x256 .bf16) (harg2 : arg2.IsWhole) (arg3 : Memref sig .tc .vmem S1x2048x256 .bf16) (harg3 : arg3.IsWhole)
  (arg4 : Memref sig .tc .vmem S1x2048x128 .bf16) (harg4 : arg4.IsWhole) (arg5 : Memref sig .tc .vmem S1x2048x128 .bf16) (harg5 : arg5.IsWhole)
  (arg8 : Memref sig .tc .vmem S2x2048x256 .bf16)
  (x0 x1 : Vec Ideal S1x2048x256 .bf16) (x2 x3 : Vec Ideal S1x2048x128 .bf16)

/-- The keys of the two pairs, as an array. -/
def keyAt : Vec Ideal S2x2048x256 .bf16 := fun y => key x1 x3 (y 0).val (y 1).val (y 2).val

theorem keyAt_pair (pr : Nat) (hpr : pr < 2) (j : Fin 2048) (l : Fin 128) :
    keyAt x1 x3 (ix3 (⟨pr, hpr⟩ : Fin 2) j (⟨0 + l.val, by omega⟩ : Fin 256)) = ent x1 j.val (pr * 128 + l.val) := by
  show key x1 x3 pr j.val (0 + l.val) = _
  rw [key, if_pos (by omega), Nat.zero_add]

theorem keyAt_decay (pr : Nat) (hpr : pr < 2) (j : Fin 2048) (l : Fin 128) :
    keyAt x1 x3 (ix3 (⟨pr, hpr⟩ : Fin 2) j (⟨128 + l.val, by omega⟩ : Fin 256)) = ent x3 j.val (0 + l.val) := by
  show key x1 x3 pr j.val (128 + l.val) = _
  rw [key, if_neg (by omega), Nat.add_sub_cancel_left, Nat.zero_add]

/-- The scratch holds the keys of the first pair of heads after its two stores. -/
theorem keys_first (y : S2x2048x256.Idx) (h : (y 0).val < 1) :
    View.canon (kernelRun0_A.sl.HS0_2 (F := Ideal) c arg3 harg3 arg5 harg5 x1 x3) y = keyAt x1 x3 y := by
  have pair := fun p hp => lanes_stored (A := 2) arg3 harg3 x1 (keyAt x1 x3) p 0 (p * 128) hp (by decide) (by omega) (keyAt_pair x1 x3 p hp)
  have decay := fun p hp => lanes_stored (A := 2) arg5 harg5 x3 (keyAt x1 x3) p 128 0 hp (by decide) (by decide) (keyAt_decay x1 x3 p hp)
  refine canon_over _ _ _ y (decay 0 (by decide) _ rfl) fun n0 => canon_over _ _ _ y (pair 0 (by decide) _ rfl) fun m0 => ?_
  exact ((lane_cases (A := 2) 0 (by decide) y (by omega)).elim m0 n0).elim

/-- The scratch holds the keys of both pairs of heads after its four stores. -/
theorem keys_second (y : S2x2048x256.Idx) :
    View.canon (kernelRun0_A.sl.HS0_4 (F := Ideal) c arg3 harg3 arg5 harg5 x1 x3) y = keyAt x1 x3 y := by
  have h0 : (y 0).val < 2 := (y 0).isLt
  have pair := fun p hp => lanes_stored (A := 2) arg3 harg3 x1 (keyAt x1 x3) p 0 (p * 128) hp (by decide) (by omega) (keyAt_pair x1 x3 p hp)
  have decay := fun p hp => lanes_stored (A := 2) arg5 harg5 x3 (keyAt x1 x3) p 128 0 hp (by decide) (by decide) (keyAt_decay x1 x3 p hp)
  refine canon_over _ _ _ y (decay 1 (by decide) _ rfl) fun n1 => canon_over _ _ _ y (pair 1 (by decide) _ rfl) fun m1 =>
    keys_first c arg3 harg3 arg5 harg5 x1 x3 y ?_
  by_contra hc
  exact (lane_cases (A := 2) 1 (by decide) y (by omega)).elim m1 n1

/-- The queries of a tile. -/
abbrev qRows (pr : Nat) (hpr : pr < 2) (hh : Nat) (hhh : hh < 2) (n : Nat) (hn : n + 512 ≤ 2048) : FVec Ideal S512x256 .bf16 :=
  tQuery (headRow hh) (decayRow i pr hh)
    (View.readAt (Elt Ideal) arg2.view (plane 0 n (pr * 128) 512 128 Nat.one_pos hn (show pr * 128 + 128 ≤ 256 by omega)).toLoadRect (harg2.unread x0))
    (View.readAt (Elt Ideal) arg4.view (plane 0 n 0 512 128 Nat.one_pos hn (Nat.le_of_eq (Nat.zero_add _))).toLoadRect (harg4.unread x2))

/-- Keys, read back. -/
abbrev kRows (L : List (View.Piece (Elt Ideal) S2x2048x256 .bf16)) (pr : Nat) (hpr : pr < 2) (hh : Nat) (hhh : hh < 2) (o a : Nat) (ho : o + a ≤ 2048) :
    FVec Ideal ⟨2, ![a, 256]⟩ .bf16 :=
  tileRead (A := 2) (M := 2048) (C := 256) (e := .bf16) arg8.view L pr 0 2048 o 0 a 256 hpr (Nat.le_of_eq (Nat.zero_add _)) ho (Nat.le_of_eq (Nat.zero_add _))

theorem qRows_apply (pr : Nat) (hpr : pr < 2) (hh : Nat) (hhh : hh < 2) (n : Nat) (hn : n + 512 ≤ 2048) (j : Fin 512) (l : Fin 256) :
    qRows i arg2 harg2 arg4 harg4 x0 x2 pr hpr hh hhh n hn (ix2 j l) = qry x0 x2 (i 1).val pr hh (n + j.val) l.val := by
  rw [qRows, tQuery_apply, qry]
  by_cases h : l.val < 128
  · rw [dif_pos h, if_pos h, load_plane, headRow_apply hh hhh]
    exact congrArg (· * _) (ent_eq _ _ _ _ _ rfl rfl).symm
  · rw [dif_neg h, if_neg h, load_plane, decayRow_apply i pr hpr hh hhh]
    exact congrArg (· * _) (ent_eq _ _ _ _ _ rfl (Nat.zero_add _).symm).symm

theorem kRows_apply (L : List (View.Piece (Elt Ideal) S2x2048x256 .bf16)) (pr : Nat) (hpr : pr < 2)
    (hL : ∀ y : S2x2048x256.Idx, (y 0).val < pr + 1 → View.canon L y = keyAt x1 x3 y) (hh : Nat) (hhh : hh < 2) (o a : Nat) (ho : o + a ≤ 2048)
    (j : Fin a) (l : Fin 256) : kRows arg8 L pr hpr hh hhh o a ho (ix2 j l) = key x1 x3 pr (o + j.val) l.val := by
  rw [kRows, tileRead_apply, hL _ (show pr < pr + 1 by omega)]
  show key x1 x3 pr (0 + (o + j.val)) (0 + l.val) = _
  rw [Nat.zero_add, Nat.zero_add]

end Keys

/-! ## Values -/

section Values

variable (c : Dev nD) (arg6 : Memref sig .tc .vmem S1x256x2048 .bf16) (harg6 : arg6.IsWhole) (x4 : Vec Ideal S1x256x2048 .bf16)

/-- The scratch holds the values of the first pair of heads after its four stores. -/
theorem vals_first (y : S2x2x80x2048.Idx) (h : (y 0).val = 0) :
    View.canon (kernelRun0_A.sl.HS3_4 (F := Ideal) c arg6 harg6 x4) y = valAt 64 x4 y := by
  have h1 : (y 1).val < 2 := (y 1).isLt
  have plain := fun p h hp hh a b => val_plain (R := 80) 64 arg6 harg6 x4 128 rfl p h hp hh a b (by decide) shapeCasts_S64x2048_S1x64x2048 shapeCasts_S1x64x2048_S1x1x64x2048
  have ones := fun p h hp hh => val_ones (R := 80) 64 x4 p h hp hh (by decide)
  refine canon_over _ _ _ y (ones 0 1 (by decide) (by decide) _ rfl) fun n1 => canon_over _ _ _ y (plain 0 1 (by decide) (by decide) (by decide) (by decide) _ rfl) fun m1 =>
    canon_over _ _ _ y (ones 0 0 (by decide) (by decide) _ rfl) fun n0 => canon_over _ _ _ y (plain 0 0 (by decide) (by decide) (by decide) (by decide) _ rfl) fun m0 => ?_
  exfalso
  obtain h1 | h1 : (y 1).val = 0 ∨ (y 1).val = 1 := by omega
  · exact (val_cases (R := 80) 64 rfl 0 0 (by decide) (by decide) y h h1).elim m0 n0
  · exact (val_cases (R := 80) 64 rfl 0 1 (by decide) (by decide) y h h1).elim m1 n1

/-- The scratch holds the values of both pairs of heads after its eight stores. -/
theorem vals_second (y : S2x2x80x2048.Idx) :
    View.canon (kernelRun0_A.sl.HS3_8 (F := Ideal) c arg6 harg6 x4) y = valAt 64 x4 y := by
  have h0 : (y 0).val < 2 := (y 0).isLt
  have h1 : (y 1).val < 2 := (y 1).isLt
  have plain := fun p h hp hh a b => val_plain (R := 80) 64 arg6 harg6 x4 128 rfl p h hp hh a b (by decide) shapeCasts_S64x2048_S1x64x2048 shapeCasts_S1x64x2048_S1x1x64x2048
  have ones := fun p h hp hh => val_ones (R := 80) 64 x4 p h hp hh (by decide)
  refine canon_over _ _ _ y (ones 1 1 (by decide) (by decide) _ rfl) fun n1 => canon_over _ _ _ y (plain 1 1 (by decide) (by decide) (by decide) (by decide) _ rfl) fun m1 =>
    canon_over _ _ _ y (ones 1 0 (by decide) (by decide) _ rfl) fun n0 => canon_over _ _ _ y (plain 1 0 (by decide) (by decide) (by decide) (by decide) _ rfl) fun m0 =>
    vals_first c arg6 harg6 x4 y ?_
  by_contra hc
  obtain h1 | h1 : (y 1).val = 0 ∨ (y 1).val = 1 := by omega
  · exact (val_cases (R := 80) 64 rfl 1 0 (by decide) (by decide) y (by omega) h1).elim m0 n0
  · exact (val_cases (R := 80) 64 rfl 1 1 (by decide) (by decide) y (by omega) h1).elim m1 n1

end Values

end Cert.Fox

end
-- ==== Proof.Fox.Block.lean ====
/- One grid point: the logits and the weights each pair of heads keeps, and the block the point writes. -/
module

public import proofs.«01_k».proof.Proof.Fox.Keys
public import proofs.«01_k».proof.Proof.Attention.Weights

@[expose] public section

noncomputable section

namespace Cert.Fox

open Idealize.ShloMosaic Cert.Kernel3Ideal Cert.Kernel3Ideal.Gen Cert.Attention

section Point

variable (c : Dev nD) (i : grid0.Coords) (arg2 : Memref sig .tc .vmem S1x2048x256 .bf16) (harg2 : arg2.IsWhole) (arg3 : Memref sig .tc .vmem S1x2048x256 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x256x2048 .bf16) (harg6 : arg6.IsWhole)
  (arg8 : Memref sig .tc .vmem S2x2048x256 .bf16) (arg9 : Memref sig .tc .vmem S2x5120x512 .f32) (arg10 : Memref sig .tc .vmem S2x5120x512 .bf16) (arg11 : Memref sig .tc .vmem S2x2x80x2048 .bf16)
  (x0 x1 : Vec Ideal S1x2048x256 .bf16) (x2 x3 : Vec Ideal S1x2048x128 .bf16) (x4 : Vec Ideal S1x256x2048 .bf16)

/-- A pair's keys, by head. -/
abbrev pairKeys (pr : Nat) : Nat → Nat → Nat → EReal := fun _ => key x1 x3 pr

/-- A pair's values and ones, by head. -/
abbrev pairVals (pr : Nat) : Nat → Nat → Nat → EReal := fun hh => val 64 x4 (2 * pr + hh)

/-- Head `hh` of pair `pr`, row `d` of the result for query `i`, in group `g`. -/
def mean (g pr hh d i : Nat) : EReal := average (key x1 x3 pr) (qry x0 x2 g pr hh) (val 64 x4 (2 * pr + hh)) 64 d i

/-- The block's result, as an array, in group `g`. -/
def blockOut (g : Nat) : Vec Ideal S1x2048x256 .bf16 := outAt 64 (mean x0 x1 x2 x3 x4 g)

/-- The stored keys of the first pair. -/
abbrev keys0 : ∀ hh : Nat, hh < 2 → ∀ o a : Nat, o + a ≤ 2048 → FVec Ideal ⟨2, ![a, 256]⟩ .bf16 :=
  kRows arg8 (kernelRun0_A.sl.HS0_2 (F := Ideal) c arg3 harg3 arg5 harg5 x1 x3) 0 (by decide)

/-- The stored keys of the second pair. -/
abbrev keys1 : ∀ hh : Nat, hh < 2 → ∀ o a : Nat, o + a ≤ 2048 → FVec Ideal ⟨2, ![a, 256]⟩ .bf16 :=
  kRows arg8 (kernelRun0_A.sl.HS0_4 (F := Ideal) c arg3 harg3 arg5 harg5 x1 x3) 1 (by decide)

theorem keys0_apply (hh : Nat) (hhh : hh < 2) (o a : Nat) (ho : o + a ≤ 2048) (j : Fin a) (l : Fin 256) :
    keys0 c arg3 harg3 arg5 harg5 arg8 x1 x3 hh hhh o a ho (ix2 j l) = pairKeys x1 x3 0 hh (o + j.val) l.val :=
  kRows_apply arg8 x1 x3 _ 0 (by decide) (keys_first c arg3 harg3 arg5 harg5 x1 x3) hh hhh o a ho j l

theorem keys1_apply (hh : Nat) (hhh : hh < 2) (o a : Nat) (ho : o + a ≤ 2048) (j : Fin a) (l : Fin 256) :
    keys1 c arg3 harg3 arg5 harg5 arg8 x1 x3 hh hhh o a ho (ix2 j l) = pairKeys x1 x3 1 hh (o + j.val) l.val :=
  kRows_apply arg8 x1 x3 _ 1 (by decide) (fun y _ => keys_second c arg3 harg3 arg5 harg5 x1 x3 y) hh hhh o a ho j l

set_option maxHeartbeats 4000000 in
/-- The scratch holds the logits of the first pair of heads after its stores. -/
theorem scores_first (y : S2x5120x512.Idx) (hk : Kept y) :
    View.canon (kernelRun0_A.sl.HS1_22 (F := Ideal) c i arg2 harg2 arg3 harg3 arg4 harg4 arg5 harg5 arg8 x0 x1 x2 x3) y
      = scoreAt (pairKeys x1 x3 0) (qry x0 x2 (i 1).val 0) y := by
  have e : kernelRun0_A.sl.HS1_22 (F := Ideal) c i arg2 harg2 arg3 harg3 arg4 harg4 arg5 harg5 arg8 x0 x1 x2 x3
      = scorePieces (keys0 c arg3 harg3 arg5 harg5 arg8 x1 x3) (qRows i arg2 harg2 arg4 harg4 x0 x2 0 (by decide)) [] := rfl
  rw [e]
  exact scores_hold _ _ _ _ (keys0_apply c arg3 harg3 arg5 harg5 arg8 x1 x3) (qRows_apply i arg2 harg2 arg4 harg4 x0 x2 0 (by decide)) _ y hk

set_option maxHeartbeats 4000000 in
/-- The scratch holds the logits of the second pair of heads after its stores. -/
theorem scores_second (y : S2x5120x512.Idx) (hk : Kept y) :
    View.canon (kernelRun0_A.sl.HS1_44 (F := Ideal) c i arg2 harg2 arg3 harg3 arg4 harg4 arg5 harg5 arg8 x0 x1 x2 x3) y
      = scoreAt (pairKeys x1 x3 1) (qry x0 x2 (i 1).val 1) y := by
  have e : kernelRun0_A.sl.HS1_44 (F := Ideal) c i arg2 harg2 arg3 harg3 arg4 harg4 arg5 harg5 arg8 x0 x1 x2 x3
      = scorePieces (keys1 c arg3 harg3 arg5 harg5 arg8 x1 x3) (qRows i arg2 harg2 arg4 harg4 x0 x2 1 (by decide))
        (kernelRun0_A.sl.HS1_22 (F := Ideal) c i arg2 harg2 arg3 harg3 arg4 harg4 arg5 harg5 arg8 x0 x1 x2 x3) := rfl
  rw [e]
  exact scores_hold _ _ _ _ (keys1_apply c arg3 harg3 arg5 harg5 arg8 x1 x3) (qRows_apply i arg2 harg2 arg4 harg4 x0 x2 1 (by decide)) _ y hk

set_option maxHeartbeats 4000000 in
/-- The scratch holds the weights of the first pair of heads after its stores. -/
theorem weights_first (y : S2x5120x512.Idx) (hk : Kept y) :
    View.canon (kernelRun0_A.sl.HS2_16 (F := Ideal) c i arg2 harg2 arg3 harg3 arg4 harg4 arg5 harg5 arg8 arg9 x0 x1 x2 x3) y
      = weightAt (pairKeys x1 x3 0) (qry x0 x2 (i 1).val 0) y := by
  have e : kernelRun0_A.sl.HS2_16 (F := Ideal) c i arg2 harg2 arg3 harg3 arg4 harg4 arg5 harg5 arg8 arg9 x0 x1 x2 x3
      = weightPieces arg9.view (kernelRun0_A.sl.HS1_22 (F := Ideal) c i arg2 harg2 arg3 harg3 arg4 harg4 arg5 harg5 arg8 x0 x1 x2 x3)
        (keys0 c arg3 harg3 arg5 harg5 arg8 x1 x3) (qRows i arg2 harg2 arg4 harg4 x0 x2 0 (by decide)) [] := rfl
  rw [e]
  exact weights_hold _ _ _ _ (scores_first c i arg2 harg2 arg3 harg3 arg4 harg4 arg5 harg5 arg8 x0 x1 x2 x3) _ _
    (keys0_apply c arg3 harg3 arg5 harg5 arg8 x1 x3) (qRows_apply i arg2 harg2 arg4 harg4 x0 x2 0 (by decide)) _ y hk

set_option maxHeartbeats 4000000 in
/-- The scratch holds the weights of the second pair of heads after its stores. -/
theorem weights_second (y : S2x5120x512.Idx) (hk : Kept y) :
    View.canon (kernelRun0_A.sl.HS2_32 (F := Ideal) c i arg2 harg2 arg3 harg3 arg4 harg4 arg5 harg5 arg8 arg9 x0 x1 x2 x3) y
      = weightAt (pairKeys x1 x3 1) (qry x0 x2 (i 1).val 1) y := by
  have e : kernelRun0_A.sl.HS2_32 (F := Ideal) c i arg2 harg2 arg3 harg3 arg4 harg4 arg5 harg5 arg8 arg9 x0 x1 x2 x3
      = weightPieces arg9.view (kernelRun0_A.sl.HS1_44 (F := Ideal) c i arg2 harg2 arg3 harg3 arg4 harg4 arg5 harg5 arg8 x0 x1 x2 x3)
        (keys1 c arg3 harg3 arg5 harg5 arg8 x1 x3) (qRows i arg2 harg2 arg4 harg4 x0 x2 1 (by decide))
        (kernelRun0_A.sl.HS2_16 (F := Ideal) c i arg2 harg2 arg3 harg3 arg4 harg4 arg5 harg5 arg8 arg9 x0 x1 x2 x3) := rfl
  rw [e]
  exact weights_hold _ _ _ _ (scores_second c i arg2 harg2 arg3 harg3 arg4 harg4 arg5 harg5 arg8 x0 x1 x2 x3) _ _
    (keys1_apply c arg3 harg3 arg5 harg5 arg8 x1 x3) (qRows_apply i arg2 harg2 arg4 harg4 x0 x2 1 (by decide)) _ y hk

/-- The shapes of the block's result. -/
theorem fits : Fits 80 64 128 where
  rows := by decide
  wide := .inl rfl
  pair := rfl
  low := dot_S80x256_S256x256_S80x256_1_0_0_1_n_n.wf
  left := slices_S80x512_o0_0_S80x256
  right := slices_S80x512_o0_256_S80x256
  join := concatenates_S80x256_S80x256_S80x512_d1
  values := slices_S80x512_o0_0_S64x512
  ones := slices_S80x512_o64_0_S1x512
  spread := broadcasts_S1x512_S64x512
  stack := concatenates_S64x512_S64x512_S128x512_d0
  turn := transposes_S128x512_p1_0_S512x128
  lift := shapeCasts_S512x128_S1x512x128

set_option maxHeartbeats 4000000 in
/-- The block a grid point writes holds the averages of its heads. -/
theorem out_apply (arg7 : Memref sig .tc .vmem S1x2048x256 .bf16) (harg7 : arg7.IsWhole) (harg8 : arg8.IsWhole) (harg9 : arg9.IsWhole) (harg10 : arg10.IsWhole) (harg11 : arg11.IsWhole)
    (y : S1x2048x256.Idx) :
    out0_A_5 (F := Ideal) c i arg2 harg2 arg3 harg3 arg4 harg4 arg5 harg5 arg6 harg6 arg7 harg7 arg8 harg8 arg9 harg9 arg10 harg10 arg11 harg11 x0 x1 x2 x3 x4 y = blockOut x0 x1 x2 x3 x4 (i 1).val y := by
  rw [out0_A_5, View.read_writes_junk_eq_canon]
  refine View.canon_apply_of_pieces (blockOut x0 x1 x2 x3 x4 (i 1).val) _ ?_ _ ?_
  · unfold kernelRun0_A
    have w := fun pr hpr L2 L3 k q v ha h2 h3 c hc hcp L hL => outs_agree (W := 256) 64 arg10.view arg11.view fits L2 L3 pr hpr k q v (mean x0 x1 x2 x3 x4 (i 1).val) ha h2 h3 c hcp hc
      dot_S80x256_S256x512_S80x512_1_0_0_1_n_n.wf dot_S80x768_S768x512_S80x512_1_0_0_1_n_n.wf dot_S80x1280_S1280x512_S80x512_1_0_0_1_n_n.wf
      dot_S80x1792_S1792x512_S80x512_1_0_0_1_n_n.wf L hL
    exact w 1 (by decide) (kernelRun0_A.sl.HS2_32 (F := Ideal) c i arg2 harg2 arg3 harg3 arg4 harg4 arg5 harg5 arg8 arg9 x0 x1 x2 x3) (kernelRun0_A.sl.HS3_8 (F := Ideal) c arg6 harg6 x4)
      (pairKeys x1 x3 1) (qry x0 x2 (i 1).val 1) (pairVals x4 1) (fun _ _ _ => rfl) (weights_second c i arg2 harg2 arg3 harg3 arg4 harg4 arg5 harg5 arg8 arg9 x0 x1 x2 x3)
      (fun y h => (vals_second c arg6 harg6 x4 y).trans (by rw [valAt, h])) 128 (by decide) rfl _
      (w 0 (by decide) (kernelRun0_A.sl.HS2_16 (F := Ideal) c i arg2 harg2 arg3 harg3 arg4 harg4 arg5 harg5 arg8 arg9 x0 x1 x2 x3) (kernelRun0_A.sl.HS3_4 (F := Ideal) c arg6 harg6 x4)
        (pairKeys x1 x3 0) (qry x0 x2 (i 1).val 0) (pairVals x4 0) (fun _ _ _ => rfl) (weights_first c i arg2 harg2 arg3 harg3 arg4 harg4 arg5 harg5 arg8 arg9 x0 x1 x2 x3)
        (fun y h => (vals_first c arg6 harg6 x4 y h).trans (by rw [valAt, h])) 0 (by decide) rfl [] (fun _ h => absurd h List.not_mem_nil))
  · exact cover0_A_5 (F := Ideal) c i arg2 harg2 arg3 harg3 arg4 harg4 arg5 harg5 arg6 harg6 arg7 harg7 arg8 harg8 arg9 harg9 arg10 harg10 arg11 harg11 x0 x1 x2 x3 x4 y

end Point

end Cert.Fox

end
-- ==== Proof.Fox.Array.lean ====
/- The result array of the decayed attention call after the run: every batch entry's rows hold the averages of its heads. -/
module

public import proofs.«01_k».proof.Proof.Gen.Kernel3Ideal.Value
public import proofs.«01_k».proof.Proof.Fox.Block
public import proofs.«01_k».proof.Proof.Attention.Compare

@[expose] public section

noncomputable section

namespace Cert.Fox

open Idealize.ShloMosaic Cert.Attention

open Cert.Kernel3Ideal Cert.Kernel3Ideal.Gen Idealize.ShloMosaic.TcCoe

/-- Attention over whole arrays: the block of the batch entry and of the group of heads, at its own lane. -/
def decayed (x0 x1 : Vec Ideal S16x2048x1024 .bf16) (x2 x3 : Vec Ideal S16x2048x128 .bf16) (x4 : Vec Ideal S16x1024x2048 .bf16) :
    Vec Ideal S16x2048x1024 .bf16 := fun y =>
  mean (cut 256 x0 (y 0).val ((y 2).val / 256)) (cut 256 x1 (y 0).val ((y 2).val / 256)) (cut 128 x2 (y 0).val 0)
    (cut 128 x3 (y 0).val 0) (cutRows 256 x4 (y 0).val ((y 2).val / 256)) ((y 2).val / 256)
    ((y 2).val % 256 / 128) ((y 2).val % 256 / 64 % 2) ((y 2).val % 256 % 64) (y 1).val

variable (m : (ℓ : Loc nD τ sig) → Buf (Elt Ideal) ℓ) (c : Dev nD)

/-- The result array, from the arguments the kernel is launched on. -/
def result : Vec Ideal S16x2048x1024 .bf16 :=
  decayed (m ((c : Thread nD τ).loc main_arg0)) (m ((c : Thread nD τ).loc main_arg1)) (m ((c : Thread nD τ).loc main_arg2))
    (m ((c : Thread nD τ).loc main_arg3)) (m ((c : Thread nD τ).loc main_arg4))

/-- Where each window's block lies at a grid point, and the point's group of heads. -/
theorem index_eq : ∀ t : Fin cfg0.N,
    win0_0.index t = ![t.val / 4, 0, t.val % 4] ∧ win0_1.index t = ![t.val / 4, 0, t.val % 4] ∧ win0_2.index t = ![t.val / 4, 0, 0]
      ∧ win0_3.index t = ![t.val / 4, 0, 0] ∧ win0_4.index t = ![t.val / 4, t.val % 4, 0] ∧ win0_5.index t = ![t.val / 4, 0, t.val % 4] := by
  decide +kernel

theorem group_eq : ∀ t : Fin cfg0.N, (grid0.coords t 1).val = t.val % 4 := by
  decide +kernel

/-- The blocks a grid point reads are the cuts of the arrays. -/
theorem blocks_eq (t : Fin cfg0.N) :
    iblk m c 0 t = cut 256 (m ((c : Thread nD τ).loc main_arg0)) (t.val / 4) (t.val % 4)
      ∧ iblk m c 1 t = cut 256 (m ((c : Thread nD τ).loc main_arg1)) (t.val / 4) (t.val % 4)
      ∧ iblk m c 2 t = cut 128 (m ((c : Thread nD τ).loc main_arg2)) (t.val / 4) 0
      ∧ iblk m c 3 t = cut 128 (m ((c : Thread nD τ).loc main_arg3)) (t.val / 4) 0
      ∧ iblk m c 4 t = cutRows 256 (m ((c : Thread nD τ).loc main_arg4)) (t.val / 4) (t.val % 4) := by
  have ht : t.val < 64 := t.isLt
  refine ⟨funext fun y => ?_, funext fun y => ?_, funext fun y => ?_, funext fun y => ?_, funext fun y => ?_⟩
  · obtain ⟨a, p, j, rfl⟩ : ∃ (a : Fin 1) (p : Fin 2048) (j : Fin 256), y = ix3 a p j := ⟨y 0, y 1, y 2, (ix3_eta y).symm⟩
    obtain rfl : a = 0 := Subsingleton.elim _ _
    refine Eq.trans ?_ (dif_pos ⟨by omega, by show t.val % 4 * 256 + j.val < 1024; omega⟩).symm
    blk_ext [iblk, V, index_eq t]
  · obtain ⟨a, p, j, rfl⟩ : ∃ (a : Fin 1) (p : Fin 2048) (j : Fin 256), y = ix3 a p j := ⟨y 0, y 1, y 2, (ix3_eta y).symm⟩
    obtain rfl : a = 0 := Subsingleton.elim _ _
    refine Eq.trans ?_ (dif_pos ⟨by omega, by show t.val % 4 * 256 + j.val < 1024; omega⟩).symm
    blk_ext [iblk, V, index_eq t]
  · obtain ⟨a, p, j, rfl⟩ : ∃ (a : Fin 1) (p : Fin 2048) (j : Fin 128), y = ix3 a p j := ⟨y 0, y 1, y 2, (ix3_eta y).symm⟩
    obtain rfl : a = 0 := Subsingleton.elim _ _
    refine Eq.trans ?_ (dif_pos ⟨by omega, by show 0 * 128 + j.val < 128; omega⟩).symm
    blk_ext [iblk, V, index_eq t]
  · obtain ⟨a, p, j, rfl⟩ : ∃ (a : Fin 1) (p : Fin 2048) (j : Fin 128), y = ix3 a p j := ⟨y 0, y 1, y 2, (ix3_eta y).symm⟩
    obtain rfl : a = 0 := Subsingleton.elim _ _
    refine Eq.trans ?_ (dif_pos ⟨by omega, by show 0 * 128 + j.val < 128; omega⟩).symm
    blk_ext [iblk, V, index_eq t]
  · obtain ⟨a, p, j, rfl⟩ : ∃ (a : Fin 1) (p : Fin 256) (j : Fin 2048), y = ix3 a p j := ⟨y 0, y 1, y 2, (ix3_eta y).symm⟩
    obtain rfl : a = 0 := Subsingleton.elim _ _
    refine Eq.trans ?_ (dif_pos ⟨by omega, by show t.val % 4 * 256 + p.val < 1024; omega⟩).symm
    blk_ext [iblk, V, index_eq t]

/-- The kernel's result array after the run. -/
theorem arrAt_eq : (dats m 0 c).arrAt 5 cfg0.N = result m c := by
  refine (dats m 0 c).arrAt_eq_of_covers 5 _ (by decide +kernel) fun t hf y => ?_
  obtain ⟨a, p, j, rfl⟩ : ∃ (a : Fin 1) (p : Fin 2048) (j : Fin 256), y = ix3 a p j := ⟨y 0, y 1, y 2, (ix3_eta y).symm⟩
  obtain rfl : a = 0 := Subsingleton.elim _ _
  have ht : t.val < 64 := t.isLt
  have he : ((cfg0.win 5).blk t).view.emb (ix3 0 p j)
      = (ix3 ⟨t.val / 4, by omega⟩ p ⟨t.val % 4 * 256 + j.val, by omega⟩ : S16x2048x1024.Idx) := by
    blk_ext [index_eq t]
  have h1 : (t.val % 4 * 256 + j.val) / 256 = t.val % 4 := by omega
  have h2 : (t.val % 4 * 256 + j.val) % 256 = j.val := by omega
  have hr : result m c (ix3 ⟨t.val / 4, by omega⟩ p ⟨t.val % 4 * 256 + j.val, by omega⟩)
      = blockOut (iblk m c 0 t) (iblk m c 1 t) (iblk m c 2 t) (iblk m c 3 t) (iblk m c 4 t) (t.val % 4) (ix3 0 p j) := by
    rw [(blocks_eq m c t).1, (blocks_eq m c t).2.1, (blocks_eq m c t).2.2.1, (blocks_eq m c t).2.2.2.1, (blocks_eq m c t).2.2.2.2]
    show mean (cut 256 _ (t.val / 4) ((t.val % 4 * 256 + j.val) / 256)) (cut 256 _ (t.val / 4) ((t.val % 4 * 256 + j.val) / 256))
      (cut 128 _ (t.val / 4) 0) (cut 128 _ (t.val / 4) 0)
      (cutRows 256 _ (t.val / 4) ((t.val % 4 * 256 + j.val) / 256)) ((t.val % 4 * 256 + j.val) / 256) ((t.val % 4 * 256 + j.val) % 256 / 128)
      ((t.val % 4 * 256 + j.val) % 256 / 64 % 2) ((t.val % 4 * 256 + j.val) % 256 % 64) p.val = _
    rw [h1, h2]
    rfl
  rw [he, hr]
  blk_simp
  rw [after0_5, outsAt0, ← group_eq t]
  exact out_apply ..

end Cert.Fox

end
-- ==== Proof.Fox.Read.lean ====
/- The decayed reference's attention, read at a batch entry, a head, a query and a key, up to its logits. -/
module

public import proofs.«01_k».proof.Proof.Gen.Reference3Ideal.Read
public import proofs.«01_k».proof.Proof.Attention.Compare
public import proofs.«01_k».proof.Proof.Fox.Array

@[expose] public section

noncomputable section

namespace Cert.Fox

open Idealize.ShloMosaic Cert.Attention

/-- A sum over a pair's lanes, of which only those of head `hh` count. -/
theorem sum_own (f : Nat → EReal) (hh : Nat) (h : hh < 2) : ∑ l ∈ Finset.range 128, f l * own hh l
    = ∑ k ∈ Finset.range 64, f (hh * 64 + k) := by
  have half : ∀ n, (∑ l ∈ Finset.range 64, f (n * 64 + l) * own hh (n * 64 + l))
      = if n = hh then ∑ l ∈ Finset.range 64, f (n * 64 + l) else 0 := fun n => by
    have e : ∀ l ∈ Finset.range 64, own hh (n * 64 + l) = if n = hh then 1 else 0 := fun l hl => by
      rw [own, show (n * 64 + l) / 64 = n by have := Finset.mem_range.1 hl; omega]
    split_ifs with c
    · exact Finset.sum_congr rfl fun l hl => by rw [e l hl, if_pos c, mul_one]
    · exact Finset.sum_eq_zero fun l hl => by rw [e l hl, if_neg c, mul_zero]
  have low := half 0
  have high := half 1
  simp only [Nat.zero_mul, Nat.zero_add, Nat.one_mul] at low high
  rw [Finset.sum_range_add (fun l => f l * own hh l) 64 64, low, high]
  obtain rfl | rfl : hh = 0 ∨ hh = 1 := by omega
  · simp
  · simp

/-- A sum over the first runs of sixteen of the decay's lanes, of which only those of head `h` count. -/
theorem sum_pick_runs (f : Nat → EReal) (h : Nat) (hh : h < 16) (n : Nat) :
    ∑ l ∈ Finset.range (n * 16), f l * pick h l = ∑ r ∈ Finset.range n, f (r * 16 + h) := by
  induction n with
  | zero => simp
  | succ n ih =>
    rw [show (n + 1) * 16 = n * 16 + 16 by omega, Finset.sum_range_add (fun l => f l * pick h l) (n * 16) 16, ih, Finset.sum_range_succ (fun r => f (r * 16 + h)) n]
    refine congrArg _ ?_
    rw [Finset.sum_eq_single h]
    · rw [pick, if_pos (by omega), mul_one]
    · intro l hl c
      rw [pick, if_neg (by have := Finset.mem_range.1 hl; omega), mul_zero]
    · exact fun c => absurd (Finset.mem_range.2 hh) c

/-- A sum over the decay's lanes, of which only those of head `h` count. -/
theorem sum_pick (f : Nat → EReal) (h : Nat) (hh : h < 16) :
    ∑ l ∈ Finset.range 128, f l * pick h l = ∑ r ∈ Finset.range 8, f (r * 16 + h) :=
  sum_pick_runs f h hh 8

/-- The logit without the lanes of the other heads. -/
theorem logit_lanes (x0 x1 : Vec Ideal Cert.Kernel3Ideal.S1x2048x256 .bf16) (x2 x3 : Vec Ideal Cert.Kernel3Ideal.S1x2048x128 .bf16)
    (g pr hh i j : Nat) (h : hh < 2) (hg : 4 * g + 2 * pr + hh < 16) :
    logit (key x1 x3 pr) (qry x0 x2 g pr hh) i j
      = (∑ k : Fin 64, ent x0 i (pr * 128 + (hh * 64 + k.val)) * ent x1 j (pr * 128 + (hh * 64 + k.val)))
        + ∑ r : Fin 8, ent x2 i (r.val * 16 + (4 * g + 2 * pr + hh)) * ent x3 j (r.val * 16 + (4 * g + 2 * pr + hh)) := by
  have pair := sum_own (fun l => ent x0 i (pr * 128 + l) * ent x1 j (pr * 128 + l)) hh h
  have decay := sum_pick (fun l => ent x2 i l * ent x3 j l) (4 * g + 2 * pr + hh) hg
  rw [Finset.sum_range (n := 64)] at pair
  rw [Finset.sum_range (n := 8)] at decay
  rw [← pair, ← decay, logit, ← Finset.sum_range (n := 256) fun l => key x1 x3 pr j l * qry x0 x2 g pr hh i l,
    Finset.sum_range_add (fun l => key x1 x3 pr j l * qry x0 x2 g pr hh i l) 128 128]
  refine congrArg₂ (· + ·) (Finset.sum_congr rfl fun l hl => ?_) (Finset.sum_congr rfl fun l hl => ?_)
  · rw [key, qry, if_pos (Finset.mem_range.1 hl), if_pos (Finset.mem_range.1 hl), mul_comm, mul_assoc, mul_assoc, mul_comm (own hh l)]
  · rw [key, qry, if_neg (by omega), if_neg (by omega), Nat.add_sub_cancel_left, mul_comm, mul_assoc, mul_assoc, mul_comm (pick _ l)]

open Cert.Reference3Ideal Cert.Reference3Ideal.Read

variable (x0 x1 : Vec Ideal S16x2048x1024 .bf16) (x2 x3 : Vec Ideal S16x2048x128 .bf16) (x4 : Vec Ideal S16x1024x2048 .bf16)
  (b : Fin 16) (h : Fin 16) (g pr hh : Nat)

/-- A pair's keys, of a batch entry and a group of heads. -/
abbrev keysOf : Nat → Nat → EReal := key (cut 256 x1 b.val g) (cut 128 x3 b.val 0) pr

/-- A head's queries, of a batch entry and a group of heads. -/
abbrev qrysOf : Nat → Nat → EReal := qry (cut 256 x0 b.val g) (cut 128 x2 b.val 0) g pr hh

/-- The reference's query, read from its argument. -/
theorem ref_q (i : Fin 2048) (k : Fin 64) : val_main_v2 x0 (ix4 b h i k) = x0 (ix3 b i ⟨h.val * 64 + k.val, by omega⟩) := by
  rw [val_main_v2_apply, val_main_v1_apply, val_main_v0_apply]
  show x0 _ = x0 _
  blk_ext [idx_main_v2, idx_main_v1]

/-- The reference's key, read from its argument. -/
theorem ref_k (j : Fin 2048) (k : Fin 64) : val_main_v5 x1 (ix4 b h j k) = x1 (ix3 b j ⟨h.val * 64 + k.val, by omega⟩) := by
  rw [val_main_v5_apply, val_main_v4_apply, val_main_v3_apply]
  show x1 _ = x1 _
  blk_ext [idx_main_v5, idx_main_v4]

/-- The reference's value, read from its argument. -/
theorem ref_v (j : Fin 2048) (d : Fin 64) : val_main_v8 x4 (ix4 b h j d) = x4 (ix3 b ⟨h.val * 64 + d.val, by omega⟩ j) := by
  rw [val_main_v8_apply, val_main_v7_apply, val_main_v6_apply]
  show x4 _ = x4 _
  blk_ext [idx_main_v8, idx_main_v7]

/-- The reference's decay of a query, read from its argument. -/
theorem ref_fq (i : Fin 2048) (r : Fin 8) : val_main_v11 x2 (ix4 b h i r) = x2 (ix3 b i ⟨r.val * 16 + h.val, by omega⟩) := by
  rw [val_main_v11_apply, val_main_v10_apply, val_main_v9_apply]
  show x2 _ = x2 _
  blk_ext [idx_main_v11, idx_main_v10]

/-- The reference's decay of a key, read from its argument. -/
theorem ref_fk (j : Fin 2048) (r : Fin 8) : val_main_v14 x3 (ix4 b h j r) = x3 (ix3 b j ⟨r.val * 16 + h.val, by omega⟩) := by
  rw [val_main_v14_apply, val_main_v13_apply, val_main_v12_apply]
  show x3 _ = x3 _
  blk_ext [idx_main_v14, idx_main_v13]

/-- The reference's logit, before the logarithm of two, is the kernel's. -/
theorem ref_logit (hg : h.val = 4 * g + 2 * pr + hh) (hpr : pr < 2) (hhh : hh < 2) (i j : Fin 2048) :
    val_main_v17 x0 x1 x2 x3 (ix4 b h i j)
      = logit (keysOf x1 x3 b g pr) (qrysOf x0 x2 b g pr hh) i.val j.val := by
  rw [logit_lanes _ _ _ _ _ _ _ _ _ hhh (by omega), val_main_v17_apply, val_main_v15_apply, val_main_v16_apply]
  show (_ + _ : EReal) = _
  have l15 : ∀ k, lidx_main_v15 (ix4 b h i j) k = ix4 b h i k := fun k => by blk_ext [lidx_main_v15]
  have r15 : ∀ k, ridx_main_v15 (ix4 b h i j) k = ix4 b h j k := fun k => by blk_ext [ridx_main_v15]
  have l16 : ∀ k, lidx_main_v16 (ix4 b h i j) k = ix4 b h i k := fun k => by blk_ext [lidx_main_v16]
  have r16 : ∀ k, ridx_main_v16 (ix4 b h i j) k = ix4 b h j k := fun k => by blk_ext [ridx_main_v16]
  refine congrArg₂ (· + ·) (Finset.sum_congr rfl fun k _ => ?_) (Finset.sum_congr rfl fun r _ => ?_)
  · rw [l15, r15, ref_q, ref_k]
    exact congrArg₂ (· * ·) (ent_cut 256 x0 b g i _ _ (by omega) (by dsimp only; omega)).symm (ent_cut 256 x1 b g j _ _ (by omega) (by dsimp only; omega)).symm
  · rw [l16, r16, ref_fq, ref_fk]
    exact congrArg₂ (· * ·) (ent_cut 128 x2 b 0 i _ _ (by omega) (by dsimp only; omega)).symm (ent_cut 128 x3 b 0 j _ _ (by omega) (by dsimp only; omega)).symm

end Cert.Fox

end
-- ==== Proof.Fox.Reference.lean ====
/- What the decayed reference's attention computes: the averages of the kernel's result, when queries, keys and decays are finite. -/
module

public import proofs.«01_k».proof.Proof.Fox.Read

@[expose] public section

noncomputable section

namespace Cert.Fox

open Idealize.ShloMosaic Cert.Attention Cert.Reference3Ideal Cert.Reference3Ideal.Read

/-- The host's logarithm of two. -/
theorem host_ln2 (i : S_.Idx) : (val_main_v18 (F := Ideal) i : EReal) = ln2 :=
  log_two

variable (x0 x1 : Vec Ideal S16x2048x1024 .bf16) (x2 x3 : Vec Ideal S16x2048x128 .bf16) (x4 : Vec Ideal S16x1024x2048 .bf16)
  (b : Fin 16) (h : Fin 16) (g pr hh : Nat)

/-- The masked logit of the kernel, for a batch entry and a group of heads. -/
def low (i j : Nat) : EReal :=
  masked (keysOf x1 x3 b g pr) (qrysOf x0 x2 b g pr hh) i j

/-- The reference's causal mask. -/
theorem ref_mask (i j : Fin 2048) : val_main_call0_v1 (F := Ideal) (ix4 b h i j) = if j.val ≤ i.val then 1#1 else 0#1 := by
  rw [val_main_call0_v1_apply, val_main_v26_apply, val_main_v24_apply, val_main_v25_apply, val_main_v22_apply, val_main_v23_apply,
    val_main_v21_apply, val_main_v21_apply]
  exact causal_bit i j

/-- The reference's masked logit. -/
theorem ref_masked (hg : h.val = 4 * g + 2 * pr + hh) (hpr : pr < 2) (hhh : hh < 2) (i j : Fin 2048) :
    val_main_v27 x0 x1 x2 x3 (ix4 b h i j) = low x0 x1 x2 x3 b g pr hh i.val j.val * ln2 := by
  rw [val_main_v27_apply, ref_mask, low, masked, val_main_v20_apply, ref_logit x0 x1 x2 x3 b h g pr hh hg hpr hhh, val_main_v19_apply, val_main_call0_v2_apply]
  by_cases c : j.val ≤ i.val
  · rw [if_pos c, if_pos c]
    show _ * (val_main_v18 (F := Ideal) _ : EReal) = _
    rw [host_ln2]
  · rw [if_neg c, if_neg c, bot_mul_ln2]
    exact minus_inf

/-- The reference's largest logit. -/
theorem ref_most (i : Fin 2048) :
    val_main_v28 x0 x1 x2 x3 (ix3 b h i) = Finset.univ.sup fun j : Fin 2048 => (val_main_v27 x0 x1 x2 x3 (ix4 b h i j) : EReal) := by
  unfold val_main_v28
  generalize val_main_v27 x0 x1 x2 x3 = y
  rw [Host.reduce_eq_fold_single (a := 3) _ _ _ _ (by decide)]
  have e : ∀ k : Fin 2048, (by decide : S16x16x2048x2048.Reduces [3] S16x16x2048).lift (ix3 b h i) k = ix4 b h i k := fun k =>
    funext fun a => Fin.ext (by match a with | ⟨0, _⟩ => rfl | ⟨1, _⟩ => rfl | ⟨2, _⟩ => rfl | ⟨3, _⟩ => rfl)
  show Finset.fold max _ _ _ = _
  rw [val_main_cst_1_apply, minus_inf]
  refine Finset.fold_congr fun k _ => ?_
  exact congrArg y (e k)

/-- The logits of finite queries, keys and decays are real. -/
theorem logit_real (h0 : ∀ y, IsReal (x0 y)) (h1 : ∀ y, IsReal (x1 y)) (h2 : ∀ y, IsReal (x2 y)) (h3 : ∀ y, IsReal (x3 y)) (i j : Fin 2048) :
    IsReal (val_main_v17 x0 x1 x2 x3 (ix4 b h i j)) := by
  rw [val_main_v17_apply, val_main_v15_apply, val_main_v16_apply]
  have l15 : ∀ k, lidx_main_v15 (ix4 b h i j) k = ix4 b h i k := fun k => by blk_ext [lidx_main_v15]
  have r15 : ∀ k, ridx_main_v15 (ix4 b h i j) k = ix4 b h j k := fun k => by blk_ext [ridx_main_v15]
  have l16 : ∀ k, lidx_main_v16 (ix4 b h i j) k = ix4 b h i k := fun k => by blk_ext [lidx_main_v16]
  have r16 : ∀ k, ridx_main_v16 (ix4 b h i j) k = ix4 b h j k := fun k => by blk_ext [ridx_main_v16]
  refine real_add (real_sum _ fun k => ?_) (real_sum _ fun k => ?_)
  · rw [l15, r15, ref_q, ref_k]
    exact real_mul (h0 _) (h1 _)
  · rw [l16, r16, ref_fq, ref_fk]
    exact real_mul (h2 _) (h3 _)

/-- The reference's weighted values are the kernel's average. -/
theorem ref_average (hg : h.val = 4 * g + 2 * pr + hh) (hpr : pr < 2) (hhh : hh < 2)
    (h0 : ∀ y, IsReal (x0 y)) (h1 : ∀ y, IsReal (x1 y)) (h2 : ∀ y, IsReal (x2 y)) (h3 : ∀ y, IsReal (x3 y)) (i : Fin 2048) (d : Fin 64) :
    val_main_v39 x0 x1 x2 x3 x4 (ix4 b h i d)
      = mean (cut 256 x0 b.val g) (cut 256 x1 b.val g) (cut 128 x2 b.val 0) (cut 128 x3 b.val 0) (cutRows 256 x4 b.val g) g pr hh d.val i.val := by
  have hmost : val_main_v30 x0 x1 x2 x3 (ix3 b h i) = max ⊥ (Finset.univ.sup fun j : Fin 2048 => low x0 x1 x2 x3 b g pr hh i.val j.val * ln2) := by
    rw [val_main_v30_apply, ref_most, val_main_v29_apply, val_main_cst_2_apply, minus_inf]
    simp only [ref_masked x0 x1 x2 x3 b h g pr hh hg hpr hhh]
    rfl
  have hexp : ∀ j : Fin 2048, val_main_v34 x0 x1 x2 x3 (ix4 b h i j) = Ideal.exp (low x0 x1 x2 x3 b g pr hh i.val j.val * ln2
      - max ⊥ (Finset.univ.sup fun j : Fin 2048 => low x0 x1 x2 x3 b g pr hh i.val j.val * ln2)) := fun j => by
    have e : idx_main_v31 (idx_main_v32 (ix4 b h i j)) = ix3 b h i := by blk_ext [idx_main_v31, idx_main_v32]
    rw [val_main_v34_apply, val_main_v33_apply, val_main_v32_apply, val_main_v31_apply, e, hmost, ref_masked x0 x1 x2 x3 b h g pr hh hg hpr hhh]
    rfl
  have hsum : val_main_v35 x0 x1 x2 x3 (ix3 b h i) = 0 + ∑ k : Fin 2048, Ideal.exp (low x0 x1 x2 x3 b g pr hh i.val k.val * ln2
      - max ⊥ (Finset.univ.sup fun j : Fin 2048 => low x0 x1 x2 x3 b g pr hh i.val j.val * ln2)) := by
    have e : ∀ k, idx_main_v35 (ix3 b h i) k = ix4 b h i k := fun k => by blk_ext [idx_main_v35]
    rw [val_main_v35_apply]
    simp only [e, hexp]
    have z : (val_main_cst_3 (F := Ideal) (Shape.Idx.first Gen.h_S_) : EReal) = 0 := by
      rw [val_main_cst_3_apply]
      exact Ideal.ofBits_zero_f32
    rw [z]
  have l39 : ∀ k, lidx_main_v39 (ix4 b h i d) k = ix4 b h i k := fun k => by blk_ext [lidx_main_v39]
  have r39 : ∀ k, ridx_main_v39 (ix4 b h i d) k = ix4 b h k d := fun k => by blk_ext [ridx_main_v39]
  have hdiv : ∀ j : Fin 2048, val_main_v38 x0 x1 x2 x3 (ix4 b h i j) = Ideal.div (val_main_v34 x0 x1 x2 x3 (ix4 b h i j)) (val_main_v35 x0 x1 x2 x3 (ix3 b h i)) := fun j => by
    have e : idx_main_v36 (idx_main_v37 (ix4 b h i j)) = ix3 b h i := by blk_ext [idx_main_v36, idx_main_v37]
    rw [val_main_v38_apply, val_main_v37_apply, val_main_v36_apply, e]
    rfl
  rw [val_main_v39_apply]
  simp only [l39, r39, hdiv, hexp, hsum]
  refine average_of_softmax (keysOf x1 x3 b g pr) (qrysOf x0 x2 b g pr hh) (val 64 (cutRows 256 x4 b.val g) (2 * pr + hh)) 64 d.val i
    (fun j => val_main_v8 x4 (ix4 b h j d)) (fun j => ?_) (fun j => by rw [val, if_neg (by omega)])
    fun j => ref_logit x0 x1 x2 x3 b h g pr hh hg hpr hhh i j ▸ logit_real x0 x1 x2 x3 b h h0 h1 h2 h3 i j
  rw [val, if_pos d.isLt, ref_v]
  exact (ent_cutRows 256 x4 b g _ j _ (by omega) (by dsimp only; omega)).symm

/-- The reference's result is the kernel's, at finite queries, keys and decays. -/
theorem ref_result (h0 : ∀ y, IsReal (x0 y)) (h1 : ∀ y, IsReal (x1 y)) (h2 : ∀ y, IsReal (x2 y)) (h3 : ∀ y, IsReal (x3 y)) :
    val_main_v42 x0 x1 x2 x3 x4 = decayed x0 x1 x2 x3 x4 := by
  funext y
  obtain ⟨b, i, l, rfl⟩ : ∃ (b : Fin 16) (i : Fin 2048) (l : Fin 1024), y = ix3 b i l := ⟨y 0, y 1, y 2, (ix3_eta y).symm⟩
  have e : idx_main_v40 (idx_main_v41 (ix3 b i l)) = ix4 b ⟨l.val / 64, by omega⟩ i ⟨l.val % 64, by omega⟩ := by
    blk_ext [idx_main_v40, idx_main_v41]
  rw [val_main_v42_apply, val_main_v41_apply, val_main_v40_apply, e]
  refine (ref_average x0 x1 x2 x3 x4 b ⟨l.val / 64, by omega⟩ (l.val / 256) (l.val % 256 / 128) (l.val % 256 / 64 % 2) (by dsimp only; omega) (by omega)
    (by omega) h0 h1 h2 h3 i ⟨l.val % 64, by omega⟩).trans ?_
  show mean _ _ _ _ _ _ _ _ (l.val % 64) _ = mean _ _ _ _ _ _ _ _ (l.val % 256 % 64) _
  rw [show l.val % 256 % 64 = l.val % 64 by omega]
  rfl

end Cert.Fox

end
-- ==== Proof.Fox.Finite.lean ====
/- The precondition of the decayed attention call: it holds only when every query, key and decay is a real number. -/
module

public import proofs.«01_k».proof.Pre_finite_decay
public import proofs.«01_k».proof.Proof.Fox.Reference
public import Idealize.ShloMosaic.Lib.ReduceAll

@[expose] public section

noncomputable section

namespace Cert.Fox

open Idealize.ShloMosaic Cert.Attention Cert.Pre_finite_decay

/-- The shape relations the precondition's operations take. -/
theorem finite_facts : Cert.Pre_finite_decay.Facts where
  bitsLt_bf16_f32 := by decide
  bcast_S_S16x2048x1024 := by decide
  reducesTo_S16x2048x1024_S_d0_1_2 := by decide
  h_S_ := by decide
  bcast_S_S16x2048x128 := by decide
  reducesTo_S16x2048x128_S_d0_1_2 := by decide

/-- The precondition makes every query, key and decay real. -/
theorem real_of_finite [Facts] (x0 x1 : Vec Ideal S16x2048x1024 .bf16) (x2 x3 : Vec Ideal S16x2048x128 .bf16)
    (x4 : Vec Ideal S16x1024x2048 .bf16) (h : fn (F := Ideal) x0 x1 x2 x3 x4 = fun _ => 1#1) :
    (∀ y, IsReal (x0 y)) ∧ (∀ y, IsReal (x1 y)) ∧ (∀ y, IsReal (x2 y)) ∧ (∀ y, IsReal (x3 y)) := by
  have both : ∀ a b : BitVec 1, IntOp.andi a b = 1#1 → a = 1#1 ∧ b = 1#1 := by decide
  have e := congrFun h (fun a => a.elim0)
  dsimp only [fn, fn_part1] at e
  obtain ⟨e, e3⟩ := both _ _ e
  obtain ⟨e, e2⟩ := both _ _ e
  obtain ⟨e0, e1⟩ := both _ _ e
  exact ⟨real_of_all x0 _ _ _ _ _ e0, real_of_all x1 _ _ _ _ _ e1, real_of_all x2 _ _ _ _ _ e2, real_of_all x3 _ _ _ _ _ e3⟩

end Cert.Fox

end
-- ==== Proof.Proj.Row.lean ====
/- A token's row through a projection, as functions of scalars: what the projecting kernel and its reference compute. -/
module

public import proofs.«01_k».proof.Proof.Post.Row
public import Idealize.ShloMosaic.Lib.Pointwise

@[expose] public section

noncomputable section

namespace Cert.Proj

open Idealize.ShloMosaic Cert.Post

/-- The factor of the forgetting queries: the eighth that scales the logits, in powers of two. -/
def cForget : EReal := (((1 / 8) * (Real.log 2)⁻¹ : ℝ) : EReal)

section Token

variable (x : Vec Ideal ⟨3, ![16, 2048, 1024]⟩ .f32) (mod : Vec Ideal ⟨4, ![2, 16, 6, 1024]⟩ .f32)
  (w : Vec Ideal ⟨2, ![1024, 3088]⟩ .f32) (b : Fin 16) (s : Fin 2048)

/-- A token's modulated row at the last layer. -/
def tokenMod : Fin 1024 → EReal := modulated (fun k => x (ix3 b s k)) (fun k => mod (ix4 1 b 1 k)) (fun k => mod (ix4 1 b 0 k))

/-- A token's row times 1024 columns of the combined weight, from column `o` on. -/
def tokenProj (o : Nat) (ho : o + 1024 ≤ 3088) (j : Fin 1024) : EReal :=
  vecMat (tokenMod x mod b s) (fun k (n : Fin 1024) => w (ix2 k ⟨o + n, by omega⟩)) j

end Token

end Cert.Proj

end
-- ==== Proof.Proj.Block.lean ====
/- What one grid point of the forgetting projection leaves in its three blocks of queries, keys and values. -/
module

public import proofs.«01_k».proof.Proof.Gen.Kernel4Ideal.Frame
public import proofs.«01_k».proof.Proof.Proj.Row
public import Idealize.ShloMosaic.Lib.Pipeline.Value
public import Idealize.ShloMosaic.Lib.Pipeline.ValueKit

@[expose] public section

noncomputable section

namespace Cert.Proj

open Idealize.ShloMosaic Cert.Kernel4Ideal Cert.Kernel4Ideal.Gen Cert.Post

/-- The kernel's named constant is that factor. -/
theorem forget_named : Named.named (F := Ideal) Cert.Kernel4Ideal.κ "fox_scale" (φ := .f32) 0x3E38AA3B#32 = cForget :=
  IdealRules.named_const.ideal_named_scalar _ _ _ _ rfl

section Tile

variable (x : Vec Ideal S1x1024x1024 .f32) (sc sh : Vec Ideal S1x1x1x1024 .f32) (w : Vec Ideal S1024x1024 .bf16) (p j : Fin 1024)

/-- The modulated rows of a block. -/
theorem mod_apply : k0_pay3 x sc sh (ix2 p j)
    = modulated (fun k => x (ix3 0 p k)) (fun k => sc (ix4 0 0 0 k)) (fun k => sh (ix4 0 0 0 k)) j := by
  pointwise [k0_pay3, modulated]

/-- The queries of a block. -/
theorem query_apply : k0_pay4 x sc sh w (ix3 0 p j)
    = vecMat (modulated (fun k => x (ix3 0 p k)) (fun k => sc (ix4 0 0 0 k)) (fun k => sh (ix4 0 0 0 k))) (fun k n => w (ix2 k n)) j
        * cForget := by
  pointwise [k0_pay4, vecMat]
  simp only [mod_apply]
  rw [forget_named]

/-- The keys of a block. -/
theorem key_apply : k0_pay6 (k0_pay5 x sc sh w) (ix3 0 p j)
    = vecMat (modulated (fun k => x (ix3 0 p k)) (fun k => sc (ix4 0 0 0 k)) (fun k => sh (ix4 0 0 0 k))) (fun k n => w (ix2 k n)) j := by
  pointwise [k0_pay6, k0_pay5, vecMat]
  simp only [mod_apply]

/-- The values of a block, transposed. -/
theorem value_apply : k0_pay7 (k0_pay3 x sc sh) w (ix3 0 j p)
    = vecMat (modulated (fun k => x (ix3 0 p k)) (fun k => sc (ix4 0 0 0 k)) (fun k => sh (ix4 0 0 0 k))) (fun k n => w (ix2 n k)) j := by
  pointwise [k0_pay7, vecMat]
  simp only [mod_apply]
  exact Finset.sum_congr rfl fun _ _ => mul_comm _ _

end Tile

/-! ## The blocks a point stores -/

/-- A load from a whole buffer, at unit stride, reads the contents at the shifted index. -/
theorem load_at {S : Shape} {e : EltTy} (M : Memref sig .tc .vmem S e) (hM : M.IsWhole) (x : Vec Ideal S e)
    (off size : Fin S.rank → Nat) (inb : ∀ a, off a + size a ≤ S.size a) (j : (Rect.unit off size inb).shape.Idx) (y : S.Idx)
    (hy : ∀ a, (y a : Nat) = off a + j a) :
    View.readAt (Elt Ideal) M.view (Rect.unit off size inb).toLoadRect (hM.unread x) j = x y := by
  rw [View.readAt_apply, hM.read_unread]
  exact congrArg x (funext fun a => Fin.ext ((Rect.idx_unit_val off size inb j a).trans (hy a).symm))

/-- A whole block lies at the origin. -/
theorem origin_le (a : Fin 3) : (![0, 0, 0] : Fin 3 → Nat) a + S1x1024x1024.size a ≤ S1x1024x1024.size a := by
  match a with
  | 0 => exact Nat.le_refl _
  | 1 => exact Nat.le_refl _
  | 2 => exact Nat.le_refl _

/-- An index of a whole block, placed at the origin, is itself. -/
theorem emb_origin (inb : ∀ a, (![0, 0, 0] : Fin 3 → Nat) a + S1x1024x1024.size a ≤ S1x1024x1024.size a) (x : S1x1024x1024.Idx) :
    (Rect.unit (s := S1x1024x1024) ![0, 0, 0] S1x1024x1024.size inb).emb x = x := by
  funext a
  refine Fin.ext ((ValueKit.rect_emb_unit_val (s := S1x1024x1024) _ _ inb x a).trans ?_)
  match a with
  | 0 => exact Nat.zero_add _
  | 1 => exact Nat.zero_add _
  | 2 => exact Nat.zero_add _

/-- The coordinates of an index read at the origin of a stack. -/
theorem fin_zero3 (p k : Fin 1024) (a : Fin 3) :
    ((ix3 (0 : Fin 1) p k : S1x1024x1024.Idx) a : Nat) = (![0, 0, 0] : Fin 3 → Nat) a + ((ix3 (0 : Fin 1) p k : S1x1024x1024.Idx) a : Nat) := by
  match a with
  | 0 => rfl
  | 1 => exact (Nat.zero_add _).symm
  | 2 => exact (Nat.zero_add _).symm

/-- The coordinates of an index read at the origin of a matrix. -/
theorem fin_zero2 (k n : Fin 1024) (a : Fin 2) :
    ((ix2 k n : S1024x1024.Idx) a : Nat) = (![0, 0] : Fin 2 → Nat) a + ((ix2 k n : S1024x1024.Idx) a : Nat) := by
  match a with
  | 0 => exact (Nat.zero_add _).symm
  | 1 => exact (Nat.zero_add _).symm

/-- The coordinates of an index read in a row of the modulation. -/
theorem fin_row (r : Fin 6) (k : Fin 1024) (a : Fin 4) :
    ((ix4 (0 : Fin 1) (0 : Fin 1) r k : S1x1x6x1024.Idx) a : Nat)
      = (![0, 0, r.val, 0] : Fin 4 → Nat) a + ((ix4 (0 : Fin 1) (0 : Fin 1) (0 : Fin 1) k : S1x1x1x1024.Idx) a : Nat) := by
  match a with
  | 0 => rfl
  | 1 => rfl
  | 2 => rfl
  | 3 => exact (Nat.zero_add _).symm

section Blocks

variable (x0 : Vec Ideal S1x1024x1024 .f32) (x1 : Vec Ideal S1x1x6x1024 .f32) (w : Vec Ideal S1024x1024 .bf16)

/-- A block's modulated row. -/
def rowMod (p : Fin 1024) : Fin 1024 → EReal :=
  modulated (fun k => x0 (ix3 0 p k)) (fun k => x1 (ix4 0 0 1 k)) (fun k => x1 (ix4 0 0 0 k))

/-- The block of queries. -/
def blockQuery : Vec Ideal S1x1024x1024 .bf16 := fun y => vecMat (rowMod x0 x1 (y 1)) (fun k n => w (ix2 k n)) (y 2) * cForget

/-- The block of keys. -/
def blockKey : Vec Ideal S1x1024x1024 .bf16 := fun y => vecMat (rowMod x0 x1 (y 1)) (fun k n => w (ix2 k n)) (y 2)

/-- The block of values: a feature in each row. -/
def blockValue : Vec Ideal S1x1024x1024 .bf16 := fun y => vecMat (rowMod x0 x1 (y 2)) (fun k n => w (ix2 n k)) (y 1)

variable (v3 : Vec Ideal S1x1024x1024 .f32) (v5 v11 : Vec Ideal S1x1x1x1024 .f32) (v : Vec Ideal S1024x1024 .bf16)
  (h3 : ∀ p k : Fin 1024, v3 (ix3 0 p k) = x0 (ix3 0 p k)) (h5 : ∀ k : Fin 1024, v5 (ix4 0 0 0 k) = x1 (ix4 0 0 1 k))
  (h11 : ∀ k : Fin 1024, v11 (ix4 0 0 0 k) = x1 (ix4 0 0 0 k)) (hv : ∀ k n : Fin 1024, v (ix2 k n) = w (ix2 k n))
  (inb : ∀ a, (![0, 0, 0] : Fin 3 → Nat) a + S1x1024x1024.size a ≤ S1x1024x1024.size a) (x : S1x1024x1024.Idx)

include h3 h5 h11 hv

/-- The stored queries are that block. -/
theorem query_stored : k0_pay4 v3 v5 v11 v x
    = blockQuery x0 x1 w ((Rect.unit (s := S1x1024x1024) ![0, 0, 0] S1x1024x1024.size inb).emb x) := by
  rw [emb_origin]
  obtain ⟨a, p, j, rfl⟩ : ∃ (a : Fin 1) (p : Fin 1024) (j : Fin 1024), x = ix3 a p j := ⟨x 0, x 1, x 2, (ix3_eta x).symm⟩
  obtain rfl : a = 0 := Subsingleton.elim _ _
  rw [query_apply]
  simp only [h3, h5, h11, hv]
  rfl

/-- The stored keys are that block. -/
theorem key_stored : k0_pay6 (k0_pay5 v3 v5 v11 v) x
    = blockKey x0 x1 w ((Rect.unit (s := S1x1024x1024) ![0, 0, 0] S1x1024x1024.size inb).emb x) := by
  rw [emb_origin]
  obtain ⟨a, p, j, rfl⟩ : ∃ (a : Fin 1) (p : Fin 1024) (j : Fin 1024), x = ix3 a p j := ⟨x 0, x 1, x 2, (ix3_eta x).symm⟩
  obtain rfl : a = 0 := Subsingleton.elim _ _
  rw [key_apply]
  simp only [h3, h5, h11, hv]
  rfl

/-- The stored values are that block. -/
theorem value_stored : k0_pay7 (k0_pay3 v3 v5 v11) v x
    = blockValue x0 x1 w ((Rect.unit (s := S1x1024x1024) ![0, 0, 0] S1x1024x1024.size inb).emb x) := by
  rw [emb_origin]
  obtain ⟨a, j, p, rfl⟩ : ∃ (a : Fin 1) (j : Fin 1024) (p : Fin 1024), x = ix3 a j p := ⟨x 0, x 1, x 2, (ix3_eta x).symm⟩
  obtain rfl : a = 0 := Subsingleton.elim _ _
  rw [value_apply]
  simp only [h3, h5, h11, hv]
  rfl

end Blocks

section Points

variable (c : Dev nD) (i : grid0.Coords) (arg2 : Memref sig .tc .vmem S1x1024x1024 .f32) (harg2 : arg2.IsWhole) (arg3 : Memref sig .tc .vmem S1x1x6x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x128 .bf16) (harg7 : arg7.IsWhole) (arg8 : Memref sig .tc .vmem S1x128 .f32) (harg8 : arg8.IsWhole) (arg9 : Memref sig .tc .vmem S128x384 .bf16) (harg9 : arg9.IsWhole) (arg10 : Memref sig .tc .vmem S1x1024x1024 .bf16) (harg10 : arg10.IsWhole) (arg11 : Memref sig .tc .vmem S1x1024x1024 .bf16) (harg11 : arg11.IsWhole) (arg12 : Memref sig .tc .vmem S1x1024x1024 .bf16) (harg12 : arg12.IsWhole) (arg13 : Memref sig .tc .vmem S1x1024x128 .bf16) (harg13 : arg13.IsWhole) (arg14 : Memref sig .tc .vmem S1x1024x128 .bf16) (harg14 : arg14.IsWhole) (arg15 : Memref sig .tc .vmem S8x128 .f32) (harg15 : arg15.IsWhole)
  (x0 : Vec Ideal S1x1024x1024 .f32) (x1 : Vec Ideal S1x1x6x1024 .f32) (x2 x3 x4 : Vec Ideal S1024x1024 .bf16) (x5 : Vec Ideal S1024x128 .bf16)
  (x6 : Vec Ideal S1x128 .f32) (x7 : Vec Ideal S128x384 .bf16) (xs0 : Vec Ideal S8x128 .f32) (y : S1x1024x1024.Idx)

/-- After the first point of a batch entry its block of queries holds them. -/
theorem query_first (hc0 : cond0_0 i) :
    out0_A_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 y = blockQuery x0 x1 x2 y := by
  rw [out0_A_8, View.read_writes_junk_eq_canon]
  refine View.canon_apply_of_pieces (blockQuery x0 x1 x2) _ ?_ _ (cover0_A_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 y)
  unfold kernelRun0_A
  refine List.forall_mem_cons.2 ⟨?_, fun _ h => absurd h List.not_mem_nil⟩
  exact query_stored x0 x1 x2 _ _ _ _ (fun p k => load_at arg2 harg2 x0 _ _ _ _ _ (fin_zero3 p k)) (fun k => load_at arg3 harg3 x1 _ _ _ _ _ (fin_row 1 k))
    (fun k => load_at arg3 harg3 x1 _ _ _ _ _ (fin_row 0 k)) (fun k n => load_at arg4 harg4 x2 _ _ _ _ _ (fin_zero2 k n)) origin_le

/-- After the first point of a batch entry its block of keys holds them. -/
theorem key_first (hc0 : cond0_0 i) :
    out0_A_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 y = blockKey x0 x1 x3 y := by
  rw [out0_A_9, View.read_writes_junk_eq_canon]
  refine View.canon_apply_of_pieces (blockKey x0 x1 x3) _ ?_ _ (cover0_A_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 y)
  unfold kernelRun0_A
  refine List.forall_mem_cons.2 ⟨?_, fun _ h => absurd h List.not_mem_nil⟩
  exact key_stored x0 x1 x3 _ _ _ _ (fun p k => load_at arg2 harg2 x0 _ _ _ _ _ (fin_zero3 p k)) (fun k => load_at arg3 harg3 x1 _ _ _ _ _ (fin_row 1 k))
    (fun k => load_at arg3 harg3 x1 _ _ _ _ _ (fin_row 0 k)) (fun k n => load_at arg5 harg5 x3 _ _ _ _ _ (fin_zero2 k n)) origin_le

/-- After the first point of a batch entry its block of values holds them. -/
theorem value_first (hc0 : cond0_0 i) :
    out0_A_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 y = blockValue x0 x1 x4 y := by
  rw [out0_A_10, View.read_writes_junk_eq_canon]
  refine View.canon_apply_of_pieces (blockValue x0 x1 x4) _ ?_ _ (cover0_A_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 y)
  unfold kernelRun0_A
  refine List.forall_mem_cons.2 ⟨?_, fun _ h => absurd h List.not_mem_nil⟩
  exact value_stored x0 x1 x4 _ _ _ _ (fun p k => load_at arg2 harg2 x0 _ _ _ _ _ (fin_zero3 p k)) (fun k => load_at arg3 harg3 x1 _ _ _ _ _ (fin_row 1 k))
    (fun k => load_at arg3 harg3 x1 _ _ _ _ _ (fin_row 0 k)) (fun k n => load_at arg6 harg6 x4 _ _ _ _ _ (fin_zero2 k n)) origin_le

/-- After any other point its block of queries holds them. -/
theorem query_later (hc0 : ¬cond0_0 i) :
    out0_B_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 y = blockQuery x0 x1 x2 y := by
  rw [out0_B_8, View.read_writes_junk_eq_canon]
  refine View.canon_apply_of_pieces (blockQuery x0 x1 x2) _ ?_ _ (cover0_B_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 y)
  unfold kernelRun0_B
  refine List.forall_mem_cons.2 ⟨?_, fun _ h => absurd h List.not_mem_nil⟩
  exact query_stored x0 x1 x2 _ _ _ _ (fun p k => load_at arg2 harg2 x0 _ _ _ _ _ (fin_zero3 p k)) (fun k => load_at arg3 harg3 x1 _ _ _ _ _ (fin_row 1 k))
    (fun k => load_at arg3 harg3 x1 _ _ _ _ _ (fin_row 0 k)) (fun k n => load_at arg4 harg4 x2 _ _ _ _ _ (fin_zero2 k n)) origin_le

/-- After any other point its block of keys holds them. -/
theorem key_later (hc0 : ¬cond0_0 i) :
    out0_B_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 y = blockKey x0 x1 x3 y := by
  rw [out0_B_9, View.read_writes_junk_eq_canon]
  refine View.canon_apply_of_pieces (blockKey x0 x1 x3) _ ?_ _ (cover0_B_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 y)
  unfold kernelRun0_B
  refine List.forall_mem_cons.2 ⟨?_, fun _ h => absurd h List.not_mem_nil⟩
  exact key_stored x0 x1 x3 _ _ _ _ (fun p k => load_at arg2 harg2 x0 _ _ _ _ _ (fin_zero3 p k)) (fun k => load_at arg3 harg3 x1 _ _ _ _ _ (fin_row 1 k))
    (fun k => load_at arg3 harg3 x1 _ _ _ _ _ (fin_row 0 k)) (fun k n => load_at arg5 harg5 x3 _ _ _ _ _ (fin_zero2 k n)) origin_le

/-- After any other point its block of values holds them. -/
theorem value_later (hc0 : ¬cond0_0 i) :
    out0_B_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 y = blockValue x0 x1 x4 y := by
  rw [out0_B_10, View.read_writes_junk_eq_canon]
  refine View.canon_apply_of_pieces (blockValue x0 x1 x4) _ ?_ _ (cover0_B_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 y)
  unfold kernelRun0_B
  refine List.forall_mem_cons.2 ⟨?_, fun _ h => absurd h List.not_mem_nil⟩
  exact value_stored x0 x1 x4 _ _ _ _ (fun p k => load_at arg2 harg2 x0 _ _ _ _ _ (fin_zero3 p k)) (fun k => load_at arg3 harg3 x1 _ _ _ _ _ (fin_row 1 k))
    (fun k => load_at arg3 harg3 x1 _ _ _ _ _ (fin_row 0 k)) (fun k n => load_at arg6 harg6 x4 _ _ _ _ _ (fin_zero2 k n)) origin_le

end Points

end Cert.Proj

end
-- ==== Proof.Proj.Array.lean ====
/- The three result arrays of the forgetting projection after the run: every token's queries, keys and values. -/
module

public import proofs.«01_k».proof.Proof.Gen.Kernel4Ideal.Value
public import proofs.«01_k».proof.Proof.Proj.Block
public import Idealize.ShloMosaic.Lib.Claim
public import Idealize.ShloMosaic.Lib.StableHlo.ReadAt

@[expose] public section

noncomputable section

namespace Cert.Proj

open Idealize.ShloMosaic Cert.Post

open Cert.Kernel4Ideal Cert.Kernel4Ideal.Gen Idealize.ShloMosaic.TcCoe

variable (m : (ℓ : Loc nD τ sig) → Buf (Elt Ideal) ℓ) (c : Dev nD)

/-- A token's row times columns of the combined weight, from the arguments the kernel is launched on. -/
def resultAt (o : Nat) (ho : o + 1024 ≤ 3088) (b : Fin 16) (s : Fin 2048) (j : Fin 1024) : EReal :=
  tokenProj (m ((c : Thread nD τ).loc main_arg0)) (m ((c : Thread nD τ).loc main_arg1)) (m ((c : Thread nD τ).loc main_arg2)) b s o ho j

/-- The array of queries. -/
def queries : Vec Ideal S16x2048x1024 .bf16 := fun y => resultAt m c 0 (by decide) (y 0) (y 1) (y 2) * cForget

/-- The array of keys. -/
def keys : Vec Ideal S16x2048x1024 .bf16 := fun y => resultAt m c 1024 (by decide) (y 0) (y 1) (y 2)

/-- The array of values, a feature in each row. -/
def values : Vec Ideal S16x1024x2048 .bf16 := fun y => resultAt m c 2048 (by decide) (y 0) (y 2) (y 1)

/-- Where each window's block lies at a grid point. -/
theorem index_eq : ∀ t : Fin cfg0.N,
    win0_0.index t = ![t.val / 2, t.val % 2, 0] ∧ win0_1.index t = ![1, t.val / 2, 0, 0] ∧ win0_2.index t = ![0, 0]
      ∧ win0_3.index t = ![0, 0] ∧ win0_4.index t = ![0, 0] ∧ win0_8.index t = ![t.val / 2, t.val % 2, 0]
      ∧ win0_9.index t = ![t.val / 2, t.val % 2, 0] ∧ win0_10.index t = ![t.val / 2, 0, t.val % 2] := by
  decide +kernel

/-- The query columns of the combined weight, as the region finds them. -/
theorem entry_query (k n : Fin 1024) :
    (V m c main_v13 : Vec Ideal S1024x1024 .bf16) (ix2 k n) = m ((c : Thread nD τ).loc main_arg2) (ix2 k ⟨0 + n, by omega⟩) := by
  unfold V
  after_reads_at

/-- The key columns of the combined weight, as the region finds them. -/
theorem entry_key (k n : Fin 1024) :
    (V m c main_v15 : Vec Ideal S1024x1024 .bf16) (ix2 k n) = m ((c : Thread nD τ).loc main_arg2) (ix2 k ⟨1024 + n, by omega⟩) := by
  unfold V
  after_reads_at

/-- The value columns of the combined weight, transposed, as the region finds them. -/
theorem entry_value (k n : Fin 1024) :
    (V m c main_v18 : Vec Ideal S1024x1024 .bf16) (ix2 n k) = m ((c : Thread nD τ).loc main_arg2) (ix2 k ⟨2048 + n, by omega⟩) := by
  unfold V
  after_reads_at

section Point

variable (t : Fin cfg0.N) (p j : Fin 1024) (b : Fin 16) (s : Fin 2048) (hb : b.val = t.val / 2) (hs : s.val = t.val % 2 * 1024 + p.val)

include hb hs

/-- A row of a point's block is the token's. -/
theorem row_blocks : rowMod (iblk m c 0 t) (iblk m c 1 t) p
    = tokenMod (m ((c : Thread nD τ).loc main_arg0)) (m ((c : Thread nD τ).loc main_arg1)) b s := by
  have h0 : ∀ k, iblk m c 0 t (ix3 0 p k) = m ((c : Thread nD τ).loc main_arg0) (ix3 b s k) := fun k => by
    unfold iblk
    rw [V_main_arg0]
    blk_ext [index_eq t]
  have h1 : ∀ r k, iblk m c 1 t (ix4 0 0 r k) = m ((c : Thread nD τ).loc main_arg1) (ix4 1 b r k) := fun r k => by
    unfold iblk
    rw [V_main_arg1]
    blk_ext [index_eq t]
  unfold rowMod tokenMod
  simp only [h0, h1]

/-- The point's queries are the token's. -/
theorem query_blocks : blockQuery (iblk m c 0 t) (iblk m c 1 t) (iblk m c 2 t) (ix3 0 p j) = queries m c (ix3 b s j) := by
  have h2 : ∀ k n, iblk m c 2 t (ix2 k n) = m ((c : Thread nD τ).loc main_arg2) (ix2 k ⟨0 + n, by omega⟩) := fun k n => by
    rw [← entry_query m c k n]
    blk_ext [iblk, index_eq t]
  show vecMat (rowMod (iblk m c 0 t) (iblk m c 1 t) p) (fun k n => iblk m c 2 t (ix2 k n)) j * cForget = _
  rw [row_blocks m c t p b s hb hs]
  simp only [h2]
  rfl

/-- The point's keys are the token's. -/
theorem key_blocks : blockKey (iblk m c 0 t) (iblk m c 1 t) (iblk m c 3 t) (ix3 0 p j) = keys m c (ix3 b s j) := by
  have h3 : ∀ k n, iblk m c 3 t (ix2 k n) = m ((c : Thread nD τ).loc main_arg2) (ix2 k ⟨1024 + n, by omega⟩) := fun k n => by
    rw [← entry_key m c k n]
    blk_ext [iblk, index_eq t]
  show vecMat (rowMod (iblk m c 0 t) (iblk m c 1 t) p) (fun k n => iblk m c 3 t (ix2 k n)) j = _
  rw [row_blocks m c t p b s hb hs]
  simp only [h3]
  rfl

/-- The point's values are the token's. -/
theorem value_blocks : blockValue (iblk m c 0 t) (iblk m c 1 t) (iblk m c 4 t) (ix3 0 j p) = values m c (ix3 b j s) := by
  have h4 : ∀ k n, iblk m c 4 t (ix2 n k) = m ((c : Thread nD τ).loc main_arg2) (ix2 k ⟨2048 + n, by omega⟩) := fun k n => by
    rw [← entry_value m c k n]
    blk_ext [iblk, index_eq t]
  show vecMat (rowMod (iblk m c 0 t) (iblk m c 1 t) p) (fun k n => iblk m c 4 t (ix2 n k)) j = _
  rw [row_blocks m c t p b s hb hs]
  simp only [h4]
  rfl

end Point

/-- The queries after the run. -/
theorem arrAt_query : (dats m 0 c).arrAt 8 cfg0.N = queries m c := by
  refine (dats m 0 c).arrAt_eq_of_covers 8 _ (by decide +kernel) fun t hf y => ?_
  obtain ⟨a, p, j, rfl⟩ : ∃ (a : Fin 1) (p : Fin 1024) (j : Fin 1024), y = ix3 a p j := ⟨y 0, y 1, y 2, (ix3_eta y).symm⟩
  obtain rfl : a = 0 := Subsingleton.elim _ _
  have he : ((cfg0.win 8).blk t).view.emb (ix3 0 p j)
      = (ix3 ⟨t.val / 2, by have h : t.val < 32 := t.isLt; omega⟩ ⟨t.val % 2 * 1024 + p.val, by omega⟩ j : S16x2048x1024.Idx) := by
    blk_ext [index_eq t]
  rw [he, ← query_blocks m c t p j _ _ rfl rfl]
  blk_simp
  rw [after0_8]
  by_cases h0 : t.val % 2 = 0
  · rw [outsAt0_A m c t h0]
    dsimp only
    exact query_first ..
  · rw [outsAt0_B m c t h0]
    dsimp only
    exact query_later ..

/-- The keys after the run. -/
theorem arrAt_key : (dats m 0 c).arrAt 9 cfg0.N = keys m c := by
  refine (dats m 0 c).arrAt_eq_of_covers 9 _ (by decide +kernel) fun t hf y => ?_
  obtain ⟨a, p, j, rfl⟩ : ∃ (a : Fin 1) (p : Fin 1024) (j : Fin 1024), y = ix3 a p j := ⟨y 0, y 1, y 2, (ix3_eta y).symm⟩
  obtain rfl : a = 0 := Subsingleton.elim _ _
  have he : ((cfg0.win 9).blk t).view.emb (ix3 0 p j)
      = (ix3 ⟨t.val / 2, by have h : t.val < 32 := t.isLt; omega⟩ ⟨t.val % 2 * 1024 + p.val, by omega⟩ j : S16x2048x1024.Idx) := by
    blk_ext [index_eq t]
  rw [he, ← key_blocks m c t p j _ _ rfl rfl]
  blk_simp
  rw [after0_9]
  by_cases h0 : t.val % 2 = 0
  · rw [outsAt0_A m c t h0]
    dsimp only
    exact key_first ..
  · rw [outsAt0_B m c t h0]
    dsimp only
    exact key_later ..

/-- The values after the run. -/
theorem arrAt_value : (dats m 0 c).arrAt 10 cfg0.N = values m c := by
  refine (dats m 0 c).arrAt_eq_of_covers 10 _ (by decide +kernel) fun t hf y => ?_
  obtain ⟨a, j, p, rfl⟩ : ∃ (a : Fin 1) (j : Fin 1024) (p : Fin 1024), y = ix3 a j p := ⟨y 0, y 1, y 2, (ix3_eta y).symm⟩
  obtain rfl : a = 0 := Subsingleton.elim _ _
  have he : ((cfg0.win 10).blk t).view.emb (ix3 0 j p)
      = (ix3 ⟨t.val / 2, by have h : t.val < 32 := t.isLt; omega⟩ j ⟨t.val % 2 * 1024 + p.val, by omega⟩ : S16x1024x2048.Idx) := by
    blk_ext [index_eq t]
  rw [he, ← value_blocks m c t p j _ _ rfl rfl]
  blk_simp
  rw [after0_10]
  by_cases h0 : t.val % 2 = 0
  · rw [outsAt0_A m c t h0]
    dsimp only
    exact value_first ..
  · rw [outsAt0_B m c t h0]
    dsimp only
    exact value_later ..

end Cert.Proj

end
-- ==== Proof.Proj.Reference.lean ====
/- What the reference computes: every token's queries, keys and values. -/
module

public import proofs.«01_k».proof.Proof.Gen.Reference4Ideal.Read
public import proofs.«01_k».proof.Proof.Proj.Row
public import proofs.«01_k».proof.Proof.Attention.Compare
public import Idealize.ShloMosaic.Lib.Pipeline.ValueKit

@[expose] public section

noncomputable section

namespace Cert.Proj

open Idealize.ShloMosaic Cert.Post Cert.Attention Cert.Reference4Ideal Cert.Reference4Ideal.Read

/-- An eighth, divided by the logarithm of two, is the factor of the queries. -/
theorem forget_factor (x : EReal) : Ideal.div (x * Ideal.ofBits .f32 0x3E000000#32) (Ideal.log (Ideal.ofBits .f32 0x40000000#32)) = x * cForget := by
  have eighth : Ideal.ofBits .f32 0x3E000000#32 = ((1 / 8 : ℝ) : EReal) := by
    simp [Ideal.ofBits, Ideal.ieee, -EReal.coe_mul]; norm_num
  rw [log_two, ln2, Ideal.div_coe ln2_pos.ne', eighth, mul_assoc, ← EReal.coe_mul, cForget, one_div (Real.log 2)]

variable (x0 : Vec Ideal S16x2048x1024 .f32) (x1 : Vec Ideal S2x16x6x1024 .f32) (x2 : Vec Ideal S1024x3088 .f32) (b : Fin 16) (s : Fin 2048)

/-- The modulated row of a token. -/
theorem ref_mod (k : Fin 1024) : val_main_v11 x0 x1 (ix3 b s k) = tokenMod x0 x1 b s k := by
  pointwise [val_main_v11, val_main_v10, val_main_v9, val_main_v8, val_main_v7, val_main_v6, val_main_v5, val_main_v4, val_main_v3, val_main_v2,
    val_main_v1, val_main_v0, val_main_cst, tokenMod, modulated]

/-- A token's row times 1024 columns of the combined weight. -/
theorem ref_proj (o : Nat) (ho : o + 1024 ≤ 3088) (j : Fin 1024) :
    val_main_v12 x0 x1 x2 (ix3 b s ⟨o + j, by omega⟩) = tokenProj x0 x1 x2 b s o ho j := by
  pointwise [val_main_v12, tokenProj, vecMat]
  simp only [ref_mod]

/-- The queries of a token. -/
theorem ref_query (j : Fin 1024) : val_main_v21 x0 x1 x2 (ix3 b s j) = tokenProj x0 x1 x2 b s 0 (by decide) j * cForget := by
  rw [← forget_factor, ← ref_proj]
  have e : idx_main_v13 (ix3 b s j) = ix3 b s ⟨0 + j.val, by omega⟩ := by blk_ext [idx_main_v13]
  rw [val_main_v21_apply, val_main_v18_apply, val_main_v17_apply, val_main_v15_apply, val_main_v14_apply, val_main_v13_apply, e]
  rfl

/-- The keys of a token. -/
theorem ref_key (j : Fin 1024) : val_main_v22 x0 x1 x2 (ix3 b s j) = tokenProj x0 x1 x2 b s 1024 (by decide) j := by
  rw [← ref_proj]
  have e : idx_main_v19 (ix3 b s j) = ix3 b s ⟨1024 + j.val, by omega⟩ := by blk_ext [idx_main_v19]
  rw [val_main_v22_apply, val_main_v19_apply, e]
  rfl

/-- The values of a token. -/
theorem ref_value (j : Fin 1024) : val_main_v24 x0 x1 x2 (ix3 b j s) = tokenProj x0 x1 x2 b s 2048 (by decide) j := by
  rw [← ref_proj]
  have e : idx_main_v20 (idx_main_v23 (ix3 b j s)) = ix3 b s ⟨2048 + j.val, by omega⟩ := by blk_ext [idx_main_v20, idx_main_v23]
  rw [val_main_v24_apply, val_main_v23_apply, val_main_v20_apply, e]
  rfl

end Cert.Proj

end
-- ==== Proof.LatentProj.Row.lean ====
/- A token's row through the latent projection, as functions of scalars: what the projecting kernel and its reference compute. -/
module

public import proofs.«01_k».proof.Proof.Post.Row
public import Idealize.ShloMosaic.Lib.Pointwise

@[expose] public section

noncomputable section

namespace Cert.LatentProj

open Idealize.ShloMosaic Cert.Post

/-- The factor of the latent queries: the one that scales the logits, in powers of two. -/
def cLatent : EReal := (((Real.sqrt 192)⁻¹ * (Real.log 2)⁻¹ : ℝ) : EReal)

/-- The width of a latent row. -/
def cRank : EReal := Ideal.ofBits .f32 0x43800000#32

/-- A latent row over the root of its mean square, times weights. -/
def rmsNorm (z g : Fin 256 → EReal) (j : Fin 256) : EReal :=
  z j * Ideal.rsqrt (Ideal.div (∑ k, z k * z k) cRank + cEps) * g j

/-- An entry of 128 rotated lanes: `x` and the entry `y` of the other half, by an angle; the sine is negated in the first half. -/
def rot (x y a : EReal) (l : Nat) : EReal := x * Ideal.cos a + y * (if l < 64 then -(Ideal.sin a) else Ideal.sin a)

/-- The frequency of a rotary lane. -/
def freq (n : Nat) : EReal :=
  Ideal.pow (Ideal.ofBits .f32 0x461C4000#32) (Ideal.div (-(FloatOps.sitofp (F := Ideal) .f32 (BitVec.ofNat 32 n))) (Ideal.ofBits .f32 0x42000000#32))

section Token

variable (x : Vec Ideal ⟨3, ![16, 2048, 1024]⟩ .f32) (mod : Vec Ideal ⟨4, ![2, 16, 6, 1024]⟩ .f32)
  (wIn : Vec Ideal ⟨2, ![1024, 576]⟩ .f32) (g : Vec Ideal ⟨1, ![256]⟩ .f32) (b : Fin 16) (s : Fin 2048)

/-- A token's modulated row at the first layer. -/
def tokenMod : Fin 1024 → EReal := modulated (fun k => x (ix3 b s k)) (fun k => mod (ix4 0 b 1 k)) (fun k => mod (ix4 0 b 0 k))

/-- A token's latent row: its modulated row times 256 columns of the first weight, from column `o` on. -/
def tokenIn (o : Nat) (ho : o + 256 ≤ 576) (j : Fin 256) : EReal :=
  vecMat (tokenMod x mod b s) (fun k (n : Fin 256) => wIn (ix2 k ⟨o + n, by omega⟩)) j

/-- A token's latent row, normed. -/
def tokenNorm (o : Nat) (ho : o + 256 ≤ 576) : Fin 256 → EReal :=
  rmsNorm (tokenIn x mod wIn b s o ho) (fun k => g (ix1 k))

/-- A token's query without its rotary part. -/
def tokenQuery (w : Vec Ideal ⟨2, ![256, 1536]⟩ .f32) (j : Fin 1024) : EReal :=
  vecMat (tokenNorm x mod wIn g b s 0 (by decide)) (fun k (n : Fin 1024) => w (ix2 k ⟨n / 128 * 192 + n % 128, by omega⟩)) j * cLatent

/-- A token's key without its rotary part, and its value. -/
def tokenKey (w : Vec Ideal ⟨2, ![256, 1024]⟩ .f32) (j : Fin 1024) : EReal :=
  vecMat (tokenNorm x mod wIn g b s 256 (by decide)) (fun k n => w (ix2 k n)) j

/-- A token's angle at a frequency. -/
def tokenAngle (pos : Vec Ideal ⟨2, ![16, 2048]⟩ .i32) (n : Nat) : EReal := FloatOps.sitofp (F := Ideal) .f32 (pos (ix2 b s)) * freq n

/-- A token's queries' rotary lanes before the rotation: of two heads at a time, first the first halves of both. -/
def tokenTurn (w : Vec Ideal ⟨2, ![256, 1536]⟩ .f32) (j : Fin 512) : EReal :=
  vecMat (tokenNorm x mod wIn g b s 0 (by decide))
    (fun k (n : Fin 512) => w (ix2 k ⟨(n.val / 128 * 2 + n.val / 32 % 2) * 192 + (128 + (n.val / 64 % 2 * 32 + n.val % 32)), by omega⟩)) j

/-- A token's keys' rotary lanes before the rotation, in the same order, for one head twice. -/
def tokenTurnKey (l : Fin 128) : EReal :=
  vecMat (tokenMod x mod b s) (fun k (n : Fin 128) => wIn (ix2 k ⟨512 + n.val / 64 * 32 + n.val % 32, by omega⟩)) l

/-- A token's queries' rotary lanes. -/
def tokenTurned (pos : Vec Ideal ⟨2, ![16, 2048]⟩ .i32) (w : Vec Ideal ⟨2, ![256, 1536]⟩ .f32) (j : Fin 512) : EReal :=
  rot (tokenTurn x mod wIn g b s w j) (tokenTurn x mod wIn g b s w ⟨j.val / 128 * 128 + (j.val % 128 + 128 - 64) % 128, by omega⟩)
    (tokenAngle b s pos (j.val % 32)) (j.val % 128) * cLatent

/-- A token's keys' rotary lanes. -/
def tokenTurnedKey (pos : Vec Ideal ⟨2, ![16, 2048]⟩ .i32) (l : Fin 128) : EReal :=
  rot (tokenTurnKey x mod wIn b s l) (tokenTurnKey x mod wIn b s ⟨(l.val + 128 - 64) % 128, Nat.mod_lt _ (by decide)⟩)
    (tokenAngle b s pos (l.val % 32)) l.val

end Token

end Cert.LatentProj

end
-- ==== Proof.LatentProj.Block.lean ====
/- What one grid point of the latent projection leaves in its three blocks of queries, keys and values: it runs two groups
   of 512 rows. -/
module

public import proofs.«01_k».proof.Proof.Gen.Kernel5Ideal.Frame
public import proofs.«01_k».proof.Proof.LatentProj.Row
public import Idealize.ShloMosaic.Lib.Pipeline.Value
public import Idealize.ShloMosaic.Lib.Pipeline.ValueKit

@[expose] public section

noncomputable section

namespace Cert.LatentProj

open Idealize.ShloMosaic Cert.Kernel5Ideal Cert.Kernel5Ideal.Gen Cert.Post

/-- The kernel's named constant is that factor. -/
theorem latent_named : Named.named (F := Ideal) Cert.Kernel5Ideal.κ "mla_scale" (φ := .f32) 0x3DD53B95#32 = cLatent :=
  IdealRules.named_const.ideal_named_scalar _ _ _ _ rfl

/-! ## One group of rows -/

/-- The latent rows of a group. -/
theorem in_apply (x : Vec Ideal S1x512x1024 .f32) (sc sh : Vec Ideal S1x1x1x1024 .f32) (w : Vec Ideal S1024x640 .bf16) (p : Fin 512)
    (n : Fin 640) : k0_pay3 x sc sh w (ix2 p n)
      = vecMat (modulated (fun k => x (ix3 0 p k)) (fun k => sc (ix4 0 0 0 k)) (fun k => sh (ix4 0 0 0 k))) (fun k n => w (ix2 k n)) n := by
  pointwise [k0_pay3, vecMat, modulated]

/-- The normed rows of a group. -/
theorem norm_apply (z : FVec Ideal S512x256 .f32) (g : FVec Ideal S1x256 .f32) (p : Fin 512) (j : Fin 256) :
    k0_pay7 z g (ix2 p j) = rmsNorm (fun k => z (ix2 p k)) (fun k => g (ix2 0 k)) j := by
  pointwise [k0_pay7, rmsNorm, cRank, cEps]

/-- The weights of a norm. -/
theorem weight_apply (g : Vec Ideal S1x256 .f32) (k : Fin 256) : k0_pay6 g (ix2 0 k) = g (ix2 0 k) := by
  pointwise [k0_pay6]

section Mul

variable (c : FVec Ideal S512x256 .bf16) (w : Vec Ideal S256x1024 .bf16) (wt : Vec Ideal S1024x256 .bf16) (p : Fin 512) (j : Fin 1024)

/-- The queries of a group. -/
theorem query_apply : k0_pay24 (k0_pay23 c w) (ix3 0 p j) = vecMat (fun k => c (ix2 p k)) (fun k n => w (ix2 k n)) j * cLatent := by
  pointwise [k0_pay24, k0_pay23, vecMat]
  rw [latent_named]

/-- The keys of a group. -/
theorem key_apply : k0_pay27 (k0_pay26 c w) (ix3 0 p j) = vecMat (fun k => c (ix2 p k)) (fun k n => w (ix2 k n)) j := by
  pointwise [k0_pay27, k0_pay26, vecMat]

/-- The values of a group, transposed. -/
theorem value_apply : k0_pay28 c wt (ix3 0 j p) = vecMat (fun k => c (ix2 p k)) (fun k n => wt (ix2 n k)) j := by
  pointwise [k0_pay28, vecMat]
  exact Finset.sum_congr rfl fun _ _ => mul_comm _ _

end Mul

/-! ## The rows of a block -/

section Rows

variable (x0 : Vec Ideal S1x1024x1024 .f32) (x1 : Vec Ideal S1x1x6x1024 .f32) (x4 : Vec Ideal S1024x640 .bf16) (g : Vec Ideal S1x256 .f32)

/-- A block's modulated row. -/
def rowMod (p : Fin 1024) : Fin 1024 → EReal :=
  modulated (fun k => x0 (ix3 0 p k)) (fun k => x1 (ix4 0 0 1 k)) (fun k => x1 (ix4 0 0 0 k))

/-- A block's latent row, normed: of 256 columns from column `o` on. -/
def rowNorm (o : Nat) (ho : o + 256 ≤ 640) (p : Fin 1024) : Fin 256 → EReal :=
  rmsNorm (fun j => vecMat (rowMod x0 x1 p) (fun k (n : Fin 256) => x4 (ix2 k ⟨o + n, by omega⟩)) j) (fun k => g (ix2 0 k))

/-- The block of queries. -/
def blockQuery (w : Vec Ideal S256x1024 .bf16) : Vec Ideal S1x1024x1024 .bf16 := fun y =>
  vecMat (rowNorm x0 x1 x4 g 0 (by decide) (y 1)) (fun k n => w (ix2 k n)) (y 2) * cLatent

/-- The block of keys. -/
def blockKey (w : Vec Ideal S256x1024 .bf16) : Vec Ideal S1x1024x1024 .bf16 := fun y =>
  vecMat (rowNorm x0 x1 x4 g 256 (by decide) (y 1)) (fun k n => w (ix2 k n)) (y 2)

/-- The block of values: a feature in each row. -/
def blockValue (w : Vec Ideal S1024x256 .bf16) : Vec Ideal S1x1024x1024 .bf16 := fun y =>
  vecMat (rowNorm x0 x1 x4 g 256 (by decide) (y 2)) (fun k n => w (ix2 n k)) (y 1)

end Rows

/-! ## Loads -/

/-- A load at unit stride reads the contents at the shifted index. -/
theorem ld_at {S : Shape} {e : EltTy} (x : Vec Ideal S e) (off size : Fin S.rank → Nat) (inb : ∀ a, off a + size a ≤ S.size a)
    (j : (Rect.unit off size inb).shape.Idx) (y : S.Idx) (hy : ∀ a, (y a : Nat) = off a + j a) :
    View.ld (Val := Elt Ideal) x (Rect.unit off size inb) j = x y :=
  congrArg x (funext fun a => Fin.ext ((Rect.idx_unit_val off size inb j a).trans (hy a).symm))

/-- The bounds of a group's rows in a block. -/
theorem inbRows {o : Nat} (ho : o + 512 ≤ 1024) (a : Fin 3) : (![0, o, 0] : Fin 3 → Nat) a + S1x512x1024.size a ≤ S1x1024x1024.size a := by
  match a with
  | 0 => exact Nat.le_refl _
  | 1 => exact ho
  | 2 => exact Nat.le_refl _

/-- The bounds of a group's lanes in a transposed block. -/
theorem inbLanes {o : Nat} (ho : o + 512 ≤ 1024) (a : Fin 3) : (![0, 0, o] : Fin 3 → Nat) a + S1x1024x512.size a ≤ S1x1024x1024.size a := by
  match a with
  | 0 => exact Nat.le_refl _
  | 1 => exact Nat.le_refl _
  | 2 => exact ho

/-- The bounds of one row of the modulation. -/
theorem inbMod {t : Nat} (ht : t + 1 ≤ 6) (a : Fin 4) : (![0, 0, t, 0] : Fin 4 → Nat) a + S1x1x1x1024.size a ≤ S1x1x6x1024.size a := by
  match a with
  | 0 => exact Nat.le_refl _
  | 1 => exact Nat.le_refl _
  | 2 => exact ht
  | 3 => exact Nat.le_refl _

/-- A group's rows, loaded. -/
def ldRows (x : Vec Ideal S1x1024x1024 .f32) (o : Nat) (ho : o + 512 ≤ 1024) : Vec Ideal S1x512x1024 .f32 :=
  View.ld (Val := Elt Ideal) x (Rect.unit (s := S1x1024x1024) ![0, o, 0] S1x512x1024.size (inbRows ho))

/-- One row of the modulation, loaded. -/
def ldMod (x : Vec Ideal S1x1x6x1024 .f32) (t : Nat) (ht : t + 1 ≤ 6) : Vec Ideal S1x1x1x1024 .f32 :=
  View.ld (Val := Elt Ideal) x (Rect.unit (s := S1x1x6x1024) ![0, 0, t, 0] S1x1x1x1024.size (inbMod ht))

/-- A row of a loaded group. -/
theorem ldRows_apply (x : Vec Ideal S1x1024x1024 .f32) (o : Nat) (ho : o + 512 ≤ 1024) (r : Fin 512) (k : Fin 1024) :
    ldRows x o ho (ix3 0 r k) = x (ix3 0 ⟨o + r, by omega⟩ k) :=
  ld_at _ _ _ _ _ _ fun a => match a with | 0 => rfl | 1 => rfl | 2 => (Nat.zero_add _).symm

/-- A loaded row of the modulation. -/
theorem ldMod_apply (x : Vec Ideal S1x1x6x1024 .f32) (t : Nat) (ht : t + 1 ≤ 6) (k : Fin 1024) :
    ldMod x t ht (ix4 0 0 0 k) = x (ix4 0 0 ⟨t, ht⟩ k) :=
  ld_at _ _ _ _ _ _ fun a => match a with | 0 => rfl | 1 => rfl | 2 => rfl | 3 => (Nat.zero_add _).symm

/-- A loaded matrix is the matrix. -/
theorem ld_whole {S : Shape} {e : EltTy} (x : Vec Ideal S e) (off : Fin S.rank → Nat) (inb : ∀ a, off a + S.size a ≤ S.size a)
    (h : ∀ a, off a = 0) : View.ld (Val := Elt Ideal) x (Rect.unit off S.size inb) = x :=
  View.ld_unit_zero (funext h) inb x

/-- The zero offsets of a matrix. -/
theorem zero2 (a : Fin 2) : (![0, 0] : Fin 2 → Nat) a = 0 := by
  match a with
  | 0 => rfl
  | 1 => rfl

/-! ## What a group stores -/

section Group

variable (x0 : Vec Ideal S1x1024x1024 .f32) (x1 : Vec Ideal S1x1x6x1024 .f32) (x4 : Vec Ideal S1024x640 .bf16) (g : Vec Ideal S1x256 .f32)
  (o : Nat) (ho : o + 512 ≤ 1024)

/-- A group's latent rows. -/
def gIn : FVec Ideal S512x640 .f32 := k0_pay3 (ldRows x0 o ho) (ldMod x1 1 (by decide)) (ldMod x1 0 (by decide)) x4

/-- A group's latent rows for the queries, normed. -/
def gQuery : FVec Ideal S512x256 .bf16 :=
  k0_pay7 (extractStridedSlice S512x256 ![0, 0] (gIn x0 x1 x4 o ho) slices_S512x640_o0_0_S512x256) (k0_pay6 g)

/-- A group's latent rows for the keys and values, normed. -/
def gKey : FVec Ideal S512x256 .bf16 :=
  k0_pay7 (extractStridedSlice S512x256 ![0, 256] (gIn x0 x1 x4 o ho) slices_S512x640_o0_256_S512x256) (k0_pay6 g)

/-- A group's latent rows are the block's. -/
theorem gIn_apply (p : Fin 512) (n : Fin 640) :
    gIn x0 x1 x4 o ho (ix2 p n) = vecMat (rowMod x0 x1 ⟨o + p, by omega⟩) (fun k n => x4 (ix2 k n)) n := by
  rw [gIn, in_apply]
  simp only [ldRows_apply, ldMod_apply]
  rfl

/-- The queries' normed rows are the block's. -/
theorem gQuery_apply (p : Fin 512) (j : Fin 256) :
    gQuery x0 x1 x4 g o ho (ix2 p j) = rowNorm x0 x1 x4 g 0 (by decide) ⟨o + p, by omega⟩ j := by
  rw [gQuery, norm_apply, rowNorm]
  have e : ∀ k : Fin 256, extractStridedSlice S512x256 ![0, 0] (gIn x0 x1 x4 o ho) slices_S512x640_o0_0_S512x256 (ix2 p k)
      = gIn x0 x1 x4 o ho (ix2 p ⟨0 + k, by omega⟩) := fun k => by pointwise []
  simp only [e, gIn_apply, weight_apply]
  rfl

/-- The keys' and values' normed rows are the block's. -/
theorem gKey_apply (p : Fin 512) (j : Fin 256) :
    gKey x0 x1 x4 g o ho (ix2 p j) = rowNorm x0 x1 x4 g 256 (by decide) ⟨o + p, by omega⟩ j := by
  rw [gKey, norm_apply, rowNorm]
  have e : ∀ k : Fin 256, extractStridedSlice S512x256 ![0, 256] (gIn x0 x1 x4 o ho) slices_S512x640_o0_256_S512x256 (ix2 p k)
      = gIn x0 x1 x4 o ho (ix2 p ⟨256 + k, by omega⟩) := fun k => by pointwise []
  simp only [e, gIn_apply, weight_apply]
  rfl

/-- A row of a group, placed in the block. -/
theorem emb_rows (p : Fin 512) (j : Fin 1024) :
    (Rect.unit (s := S1x1024x1024) ![0, o, 0] S1x512x1024.size (inbRows ho)).emb (ix3 0 p j) = ix3 0 ⟨o + p, by omega⟩ j := by
  funext a
  refine Fin.ext ((ValueKit.rect_emb_unit_val (s := S1x1024x1024) _ _ (inbRows ho) _ a).trans ?_)
  match a with
  | 0 => rfl
  | 1 => rfl
  | 2 => exact Nat.zero_add _

/-- A lane of a group, placed in the transposed block. -/
theorem emb_lanes (p : Fin 512) (j : Fin 1024) :
    (Rect.unit (s := S1x1024x1024) ![0, 0, o] S1x1024x512.size (inbLanes ho)).emb (ix3 0 j p) = ix3 0 j ⟨o + p, by omega⟩ := by
  funext a
  refine Fin.ext ((ValueKit.rect_emb_unit_val (s := S1x1024x1024) _ _ (inbLanes ho) _ a).trans ?_)
  match a with
  | 0 => rfl
  | 1 => exact Nat.zero_add _
  | 2 => rfl

/-- The stored queries are the block's. -/
theorem query_stored (w : Vec Ideal S256x1024 .bf16) (x : S1x512x1024.Idx) :
    k0_pay24 (k0_pay23 (gQuery x0 x1 x4 g o ho) w) x
      = blockQuery x0 x1 x4 g w ((Rect.unit (s := S1x1024x1024) ![0, o, 0] S1x512x1024.size (inbRows ho)).emb x) := by
  obtain ⟨a, p, j, rfl⟩ : ∃ (a : Fin 1) (p : Fin 512) (j : Fin 1024), x = ix3 a p j := ⟨x 0, x 1, x 2, (ix3_eta x).symm⟩
  obtain rfl : a = 0 := Subsingleton.elim _ _
  rw [emb_rows o ho, query_apply]
  simp only [gQuery_apply]
  rfl

/-- The stored keys are the block's. -/
theorem key_stored (w : Vec Ideal S256x1024 .bf16) (x : S1x512x1024.Idx) :
    k0_pay27 (k0_pay26 (gKey x0 x1 x4 g o ho) w) x
      = blockKey x0 x1 x4 g w ((Rect.unit (s := S1x1024x1024) ![0, o, 0] S1x512x1024.size (inbRows ho)).emb x) := by
  obtain ⟨a, p, j, rfl⟩ : ∃ (a : Fin 1) (p : Fin 512) (j : Fin 1024), x = ix3 a p j := ⟨x 0, x 1, x 2, (ix3_eta x).symm⟩
  obtain rfl : a = 0 := Subsingleton.elim _ _
  rw [emb_rows o ho, key_apply]
  simp only [gKey_apply]
  rfl

/-- The stored values are the block's. -/
theorem value_stored (w : Vec Ideal S1024x256 .bf16) (x : S1x1024x512.Idx) :
    k0_pay28 (gKey x0 x1 x4 g o ho) w x
      = blockValue x0 x1 x4 g w ((Rect.unit (s := S1x1024x1024) ![0, 0, o] S1x1024x512.size (inbLanes ho)).emb x) := by
  obtain ⟨a, j, p, rfl⟩ : ∃ (a : Fin 1) (j : Fin 1024) (p : Fin 512), x = ix3 a j p := ⟨x 0, x 1, x 2, (ix3_eta x).symm⟩
  obtain rfl : a = 0 := Subsingleton.elim _ _
  rw [emb_lanes o ho, value_apply]
  simp only [gKey_apply]
  rfl

end Group

/-! ## The blocks a point stores -/

section Points

variable (x0 : Vec Ideal S1x1024x1024 .f32) (x1 : Vec Ideal S1x1x6x1024 .f32) (x2 : Vec Ideal S1x1024x1 .i32) (x3 : Vec Ideal S1x128 .f32)
  (x4 : Vec Ideal S1024x640 .bf16) (x5 x6 : Vec Ideal S1x256 .f32) (x7 : Vec Ideal S256x1024 .bf16) (x8 : Vec Ideal S256x512 .bf16)
  (x9 : Vec Ideal S256x1024 .bf16) (x10 : Vec Ideal S1024x256 .bf16)

/-- The whole first weight, loaded. -/
theorem ld4 : View.ld (Val := Elt Ideal) x4 r0_3 = x4 := ld_whole (S := S1024x640) x4 _ _ zero2

/-- The whole norm weights, loaded. -/
theorem ld5 (x : Vec Ideal S1x256 .f32) : View.ld (Val := Elt Ideal) x r0_4 = x := ld_whole (S := S1x256) x _ _ zero2

/-- A whole second weight, loaded. -/
theorem ld7 (x : Vec Ideal S256x1024 .bf16) : View.ld (Val := Elt Ideal) x r0_8 = x := ld_whole (S := S256x1024) x _ _ zero2

/-- The whole transposed weight, loaded. -/
theorem ld10 : View.ld (Val := Elt Ideal) x10 r0_11 = x10 := ld_whole (S := S1024x256) x10 _ _ zero2

/-- The first group's rows for the queries. -/
theorem query_rows0 : k0_pay54 x0 x1 x2 x3 x4 x5 x6 x7 x8 x9 x10 = gQuery x0 x1 x4 x5 0 (by decide) := by
  unfold k0_pay54
  rw [ld4, ld5]
  rfl

/-- The second group's rows for the queries. -/
theorem query_rows1 : k0_pay67 x0 x1 x2 x3 x4 x5 x6 x7 x8 x9 x10 = gQuery x0 x1 x4 x5 512 (by decide) := by
  unfold k0_pay67
  rw [ld4, ld5]
  rfl

/-- The first group's rows for the keys and values. -/
theorem key_rows0 : k0_pay55 x0 x1 x2 x3 x4 x5 x6 x7 x8 x9 x10 = gKey x0 x1 x4 x6 0 (by decide) := by
  unfold k0_pay55
  rw [ld4, ld5]
  rfl

/-- The second group's rows for the keys and values. -/
theorem key_rows1 : k0_pay68 x0 x1 x2 x3 x4 x5 x6 x7 x8 x9 x10 = gKey x0 x1 x4 x6 512 (by decide) := by
  unfold k0_pay68 k0_pay65
  rw [ld4, ld5]
  rfl

/-- After a point its block of queries holds them. -/
theorem query_out (y : S1x1024x1024.Idx) : out0_11 x0 x1 x2 x3 x4 x5 x6 x7 x8 x9 x10 y = blockQuery x0 x1 x4 x5 x7 y := by
  unfold out0_11
  rw [query_rows0, query_rows1, ld7]
  refine View.canon_apply_of_pieces (blockQuery x0 x1 x4 x5 x7) _ ?_ _ (cover0_11 _ _ y)
  exact List.forall_mem_cons.2 ⟨fun x => query_stored x0 x1 x4 x5 512 (by decide) x7 x,
    List.forall_mem_cons.2 ⟨fun x => query_stored x0 x1 x4 x5 0 (by decide) x7 x, fun _ h => absurd h List.not_mem_nil⟩⟩

/-- After a point its block of keys holds them. -/
theorem key_out (y : S1x1024x1024.Idx) : out0_13 x0 x1 x2 x3 x4 x5 x6 x7 x8 x9 x10 y = blockKey x0 x1 x4 x6 x9 y := by
  unfold out0_13
  rw [key_rows0, key_rows1, ld7]
  refine View.canon_apply_of_pieces (blockKey x0 x1 x4 x6 x9) _ ?_ _ (cover0_13 _ _ y)
  exact List.forall_mem_cons.2 ⟨fun x => key_stored x0 x1 x4 x6 512 (by decide) x9 x,
    List.forall_mem_cons.2 ⟨fun x => key_stored x0 x1 x4 x6 0 (by decide) x9 x, fun _ h => absurd h List.not_mem_nil⟩⟩

/-- After a point its block of values holds them. -/
theorem value_out (y : S1x1024x1024.Idx) : out0_15 x0 x1 x2 x3 x4 x5 x6 x7 x8 x9 x10 y = blockValue x0 x1 x4 x6 x10 y := by
  unfold out0_15
  rw [key_rows0, key_rows1, ld10]
  refine View.canon_apply_of_pieces (blockValue x0 x1 x4 x6 x10) _ ?_ _ (cover0_15 _ _ y)
  exact List.forall_mem_cons.2 ⟨fun x => value_stored x0 x1 x4 x6 512 (by decide) x10 x,
    List.forall_mem_cons.2 ⟨fun x => value_stored x0 x1 x4 x6 0 (by decide) x10 x, fun _ h => absurd h List.not_mem_nil⟩⟩

end Points

end Cert.LatentProj

end
-- ==== Proof.LatentProj.Array.lean ====
/- The result arrays of the latent projection after the run: every token's queries and keys without their rotary part, and
   its values. -/
module

public import proofs.«01_k».proof.Proof.Gen.Kernel5Ideal.Value
public import proofs.«01_k».proof.Proof.LatentProj.Block
public import Idealize.ShloMosaic.Lib.Claim
public import Idealize.ShloMosaic.Lib.StableHlo.ReadAt

@[expose] public section

noncomputable section

namespace Cert.LatentProj

open Idealize.ShloMosaic Cert.Post

open Cert.Kernel5Ideal Cert.Kernel5Ideal.Gen Idealize.ShloMosaic.TcCoe

variable (m : (ℓ : Loc nD τ sig) → Buf (Elt Ideal) ℓ) (c : Dev nD)

/-- The array of queries, from the arguments the kernel is launched on. -/
def queries : Vec Ideal S16x2048x1024 .bf16 := fun y =>
  tokenQuery (m ((c : Thread nD τ).loc main_arg0)) (m ((c : Thread nD τ).loc main_arg1)) (m ((c : Thread nD τ).loc main_arg3))
    (m ((c : Thread nD τ).loc main_arg4)) (y 0) (y 1) (m ((c : Thread nD τ).loc main_arg5)) (y 2)

/-- The array of keys. -/
def keys : Vec Ideal S16x2048x1024 .bf16 := fun y =>
  tokenKey (m ((c : Thread nD τ).loc main_arg0)) (m ((c : Thread nD τ).loc main_arg1)) (m ((c : Thread nD τ).loc main_arg3))
    (m ((c : Thread nD τ).loc main_arg6)) (y 0) (y 1) (m ((c : Thread nD τ).loc main_arg7)) (y 2)

/-- The array of values, a feature in each row. -/
def values : Vec Ideal S16x1024x2048 .bf16 := fun y =>
  tokenKey (m ((c : Thread nD τ).loc main_arg0)) (m ((c : Thread nD τ).loc main_arg1)) (m ((c : Thread nD τ).loc main_arg3))
    (m ((c : Thread nD τ).loc main_arg6)) (y 0) (y 2) (m ((c : Thread nD τ).loc main_arg8)) (y 1)

/-- Where each window's block lies at a grid point. -/
theorem index_eq : ∀ t : Fin cfg0.N,
    win0_0.index t = ![t.val / 2, t.val % 2, 0] ∧ win0_1.index t = ![0, t.val / 2, 0, 0] ∧ win0_4.index t = ![0, 0]
      ∧ win0_5.index t = ![0, 0] ∧ win0_6.index t = ![0, 0] ∧ win0_7.index t = ![0, 0] ∧ win0_9.index t = ![0, 0]
      ∧ win0_10.index t = ![0, 0] ∧ win0_11.index t = ![t.val / 2, t.val % 2, 0] ∧ win0_13.index t = ![t.val / 2, t.val % 2, 0]
      ∧ win0_15.index t = ![t.val / 2, 0, t.val % 2] := by
  decide +kernel

/-- The first 512 columns of the first weight, as the region finds them. -/
theorem entry_in (k : Fin 1024) (n : Nat) (hn : n < 512) :
    (V m c main_v22 : Vec Ideal S1024x640 .bf16) (ix2 k ⟨n, by omega⟩) = m ((c : Thread nD τ).loc main_arg3) (ix2 k ⟨n, by omega⟩) := by
  unfold V
  after_reads_at
  rw [dif_pos hn]
  after_reads_at

/-- The weights of the queries' norm, as the region finds them. -/
theorem entry_norm_query (k : Fin 256) :
    (V m c main_v23 : Vec Ideal S1x256 .f32) (ix2 0 k) = m ((c : Thread nD τ).loc main_arg4) (ix1 k) := by
  unfold V
  after_reads_at

/-- The weights of the keys' norm, as the region finds them. -/
theorem entry_norm_key (k : Fin 256) :
    (V m c main_v24 : Vec Ideal S1x256 .f32) (ix2 0 k) = m ((c : Thread nD τ).loc main_arg6) (ix1 k) := by
  unfold V
  after_reads_at

/-- The queries' weight without its rotary columns, as the region finds it. -/
theorem entry_query (k : Fin 256) (n : Fin 1024) :
    (V m c main_v25 : Vec Ideal S256x1024 .bf16) (ix2 k n)
      = m ((c : Thread nD τ).loc main_arg5) (ix2 k ⟨n / 128 * 192 + n % 128, by omega⟩) := by
  unfold V
  after_reads_at

/-- The keys' weight, as the region finds it. -/
theorem entry_key (k : Fin 256) (n : Fin 1024) :
    (V m c main_v27 : Vec Ideal S256x1024 .bf16) (ix2 k n) = m ((c : Thread nD τ).loc main_arg7) (ix2 k n) := by
  unfold V
  after_reads_at

/-- The values' weight, transposed, as the region finds it. -/
theorem entry_value (k : Fin 256) (n : Fin 1024) :
    (V m c main_v29 : Vec Ideal S1024x256 .bf16) (ix2 n k) = m ((c : Thread nD τ).loc main_arg8) (ix2 k n) := by
  unfold V
  after_reads_at

section Point

variable (t : Fin cfg0.N) (p j : Fin 1024) (b : Fin 16) (s : Fin 2048) (hb : b.val = t.val / 2) (hs : s.val = t.val % 2 * 1024 + p.val)

include hb hs

/-- A modulated row of a point's block is the token's. -/
theorem row_blocks : rowMod (iblk m c 0 t) (iblk m c 1 t) p
    = tokenMod (m ((c : Thread nD τ).loc main_arg0)) (m ((c : Thread nD τ).loc main_arg1)) b s := by
  have h0 : ∀ k, iblk m c 0 t (ix3 0 p k) = m ((c : Thread nD τ).loc main_arg0) (ix3 b s k) := fun k => by
    unfold iblk
    rw [V_main_arg0]
    blk_ext [index_eq t]
  have h1 : ∀ r k, iblk m c 1 t (ix4 0 0 r k) = m ((c : Thread nD τ).loc main_arg1) (ix4 0 b r k) := fun r k => by
    unfold iblk
    rw [V_main_arg1]
    blk_ext [index_eq t]
  unfold rowMod tokenMod
  simp only [h0, h1]

/-- A normed row of a point's block is the token's. -/
theorem norm_blocks (o : Nat) (ho : o + 256 ≤ 512) (g : Vec Ideal S1x256 .f32) (gm : Vec Ideal S256 .f32)
    (hg : ∀ k, g (ix2 0 k) = gm (ix1 k)) :
    rowNorm (iblk m c 0 t) (iblk m c 1 t) (iblk m c 4 t) g o (by omega) p
      = tokenNorm (m ((c : Thread nD τ).loc main_arg0)) (m ((c : Thread nD τ).loc main_arg1)) (m ((c : Thread nD τ).loc main_arg3))
          gm b s o (by omega) := by
  have h4 : ∀ (k : Fin 1024) (n : Fin 256), iblk m c 4 t (ix2 k ⟨o + n, by omega⟩)
      = m ((c : Thread nD τ).loc main_arg3) (ix2 k ⟨o + n, by omega⟩) := fun k n => by
    rw [← entry_in m c k (o + n) (by omega)]
    blk_ext [iblk, index_eq t]
  unfold rowNorm tokenNorm tokenIn
  rw [row_blocks m c t p b s hb hs]
  simp only [h4, hg]

/-- The point's queries are the token's. -/
theorem query_blocks :
    blockQuery (iblk m c 0 t) (iblk m c 1 t) (iblk m c 4 t) (iblk m c 5 t) (iblk m c 7 t) (ix3 0 p j) = queries m c (ix3 b s j) := by
  have h5 : ∀ k, iblk m c 5 t (ix2 0 k) = m ((c : Thread nD τ).loc main_arg4) (ix1 k) := fun k => by
    rw [← entry_norm_query m c k]
    blk_ext [iblk, index_eq t]
  have h7 : ∀ k n, iblk m c 7 t (ix2 k n) = m ((c : Thread nD τ).loc main_arg5) (ix2 k ⟨n / 128 * 192 + n % 128, by omega⟩) := fun k n => by
    rw [← entry_query m c k n]
    blk_ext [iblk, index_eq t]
  show vecMat (rowNorm (iblk m c 0 t) (iblk m c 1 t) (iblk m c 4 t) (iblk m c 5 t) 0 (by decide) p) (fun k n => iblk m c 7 t (ix2 k n)) j * cLatent = _
  rw [norm_blocks m c t p b s hb hs 0 (by decide) _ _ h5]
  simp only [h7]
  rfl

/-- The point's keys are the token's. -/
theorem key_blocks :
    blockKey (iblk m c 0 t) (iblk m c 1 t) (iblk m c 4 t) (iblk m c 6 t) (iblk m c 9 t) (ix3 0 p j) = keys m c (ix3 b s j) := by
  have h6 : ∀ k, iblk m c 6 t (ix2 0 k) = m ((c : Thread nD τ).loc main_arg6) (ix1 k) := fun k => by
    rw [← entry_norm_key m c k]
    blk_ext [iblk, index_eq t]
  have h9 : ∀ k n, iblk m c 9 t (ix2 k n) = m ((c : Thread nD τ).loc main_arg7) (ix2 k n) := fun k n => by
    rw [← entry_key m c k n]
    blk_ext [iblk, index_eq t]
  show vecMat (rowNorm (iblk m c 0 t) (iblk m c 1 t) (iblk m c 4 t) (iblk m c 6 t) 256 (by decide) p) (fun k n => iblk m c 9 t (ix2 k n)) j = _
  rw [norm_blocks m c t p b s hb hs 256 (by decide) _ _ h6]
  simp only [h9]
  rfl

/-- The point's values are the token's. -/
theorem value_blocks :
    blockValue (iblk m c 0 t) (iblk m c 1 t) (iblk m c 4 t) (iblk m c 6 t) (iblk m c 10 t) (ix3 0 j p) = values m c (ix3 b j s) := by
  have h6 : ∀ k, iblk m c 6 t (ix2 0 k) = m ((c : Thread nD τ).loc main_arg6) (ix1 k) := fun k => by
    rw [← entry_norm_key m c k]
    blk_ext [iblk, index_eq t]
  have h10 : ∀ k n, iblk m c 10 t (ix2 n k) = m ((c : Thread nD τ).loc main_arg8) (ix2 k n) := fun k n => by
    rw [← entry_value m c k n]
    blk_ext [iblk, index_eq t]
  show vecMat (rowNorm (iblk m c 0 t) (iblk m c 1 t) (iblk m c 4 t) (iblk m c 6 t) 256 (by decide) p) (fun k n => iblk m c 10 t (ix2 n k)) j = _
  rw [norm_blocks m c t p b s hb hs 256 (by decide) _ _ h6]
  simp only [h10]
  rfl

end Point

/-- The queries after the run. -/
theorem arrAt_query : (dats m 0 c).arrAt 11 cfg0.N = queries m c := by
  refine (dats m 0 c).arrAt_eq_of_covers 11 _ (by decide +kernel) fun t hf y => ?_
  obtain ⟨a, p, j, rfl⟩ : ∃ (a : Fin 1) (p : Fin 1024) (j : Fin 1024), y = ix3 a p j := ⟨y 0, y 1, y 2, (ix3_eta y).symm⟩
  obtain rfl : a = 0 := Subsingleton.elim _ _
  have he : ((cfg0.win 11).blk t).view.emb (ix3 0 p j)
      = (ix3 ⟨t.val / 2, by have h : t.val < 32 := t.isLt; omega⟩ ⟨t.val % 2 * 1024 + p.val, by omega⟩ j : S16x2048x1024.Idx) := by
    blk_ext [index_eq t]
  rw [he, ← query_blocks m c t p j _ _ rfl rfl]
  blk_simp
  rw [after0_11]
  exact query_out ..

/-- The keys after the run. -/
theorem arrAt_key : (dats m 0 c).arrAt 13 cfg0.N = keys m c := by
  refine (dats m 0 c).arrAt_eq_of_covers 13 _ (by decide +kernel) fun t hf y => ?_
  obtain ⟨a, p, j, rfl⟩ : ∃ (a : Fin 1) (p : Fin 1024) (j : Fin 1024), y = ix3 a p j := ⟨y 0, y 1, y 2, (ix3_eta y).symm⟩
  obtain rfl : a = 0 := Subsingleton.elim _ _
  have he : ((cfg0.win 13).blk t).view.emb (ix3 0 p j)
      = (ix3 ⟨t.val / 2, by have h : t.val < 32 := t.isLt; omega⟩ ⟨t.val % 2 * 1024 + p.val, by omega⟩ j : S16x2048x1024.Idx) := by
    blk_ext [index_eq t]
  rw [he, ← key_blocks m c t p j _ _ rfl rfl]
  blk_simp
  rw [after0_13]
  exact key_out ..

/-- The values after the run. -/
theorem arrAt_value : (dats m 0 c).arrAt 15 cfg0.N = values m c := by
  refine (dats m 0 c).arrAt_eq_of_covers 15 _ (by decide +kernel) fun t hf y => ?_
  obtain ⟨a, j, p, rfl⟩ : ∃ (a : Fin 1) (j : Fin 1024) (p : Fin 1024), y = ix3 a j p := ⟨y 0, y 1, y 2, (ix3_eta y).symm⟩
  obtain rfl : a = 0 := Subsingleton.elim _ _
  have he : ((cfg0.win 15).blk t).view.emb (ix3 0 j p)
      = (ix3 ⟨t.val / 2, by have h : t.val < 32 := t.isLt; omega⟩ j ⟨t.val % 2 * 1024 + p.val, by omega⟩ : S16x1024x2048.Idx) := by
    blk_ext [index_eq t]
  rw [he, ← value_blocks m c t p j _ _ rfl rfl]
  blk_simp
  rw [after0_15]
  exact value_out ..

end Cert.LatentProj

end
-- ==== Proof.LatentProj.Reference.lean ====
/- What the reference computes: every token's queries and keys without their rotary part, and its values. -/
module

public import proofs.«01_k».proof.Proof.Gen.Reference5Ideal.Read
public import proofs.«01_k».proof.Proof.LatentProj.Row
public import proofs.«01_k».proof.Proof.Attention.Compare
public import Idealize.ShloMosaic.Lib.Pipeline.ValueKit

@[expose] public section

noncomputable section

namespace Cert.LatentProj

open Idealize.ShloMosaic Cert.Post Cert.Attention Cert.Reference5Ideal Cert.Reference5Ideal.Read

/-- The quotient by the root of the width and by the logarithm of two is the factor of the queries. -/
theorem latent_factor (x : EReal) :
    Ideal.div (Ideal.div x (Ideal.sqrt (Ideal.ofBits .f32 0x43400000#32))) (Ideal.log (Ideal.ofBits .f32 0x40000000#32)) = x * cLatent := by
  have width : Ideal.sqrt (Ideal.ofBits .f32 0x43400000#32) = ((Real.sqrt 192 : ℝ) : EReal) := by
    have h : Ideal.ofBits .f32 0x43400000#32 = ((192 : ℝ) : EReal) := by
      simp [Ideal.ofBits, Ideal.ieee, -EReal.coe_mul]; norm_num
    rw [h, Ideal.sqrt_coe, if_neg (by norm_num)]
  rw [log_two, ln2, Ideal.div_coe ln2_pos.ne', width, Ideal.div_coe (Real.sqrt_ne_zero'.2 (by norm_num)), mul_assoc, ← EReal.coe_mul, cLatent,
    one_div, one_div]

variable (x0 : Vec Ideal S16x2048x1024 .f32) (x1 : Vec Ideal S2x16x6x1024 .f32) (x3 : Vec Ideal S1024x576 .f32) (x4 : Vec Ideal S256 .f32)
  (x5 : Vec Ideal S256x1536 .f32) (x6 : Vec Ideal S256 .f32) (x7 x8 : Vec Ideal S256x1024 .f32) (b : Fin 16) (s : Fin 2048)

/-- The modulated row of a token. -/
theorem ref_mod (k : Fin 1024) : val_main_v11 x0 x1 (ix3 b s k) = tokenMod x0 x1 b s k := by
  pointwise [val_main_v11, val_main_v10, val_main_v9, val_main_v8, val_main_v7, val_main_v6, val_main_v5, val_main_v4, val_main_v3, val_main_v2,
    val_main_v1, val_main_v0, val_main_cst, tokenMod, modulated]

/-- A latent row of a token. -/
theorem ref_in (o : Nat) (ho : o + 256 ≤ 576) (j : Fin 256) :
    val_main_v12 x0 x1 x3 (ix3 b s ⟨o + j, by omega⟩) = tokenIn x0 x1 x3 b s o ho j := by
  pointwise [val_main_v12, tokenIn, vecMat]
  simp only [ref_mod]

/-- The latent row of the queries. -/
theorem ref_in_query (j : Fin 256) : val_main_v13 x0 x1 x3 (ix3 b s j) = tokenIn x0 x1 x3 b s 0 (by decide) j := by
  have e : idx_main_v13 (ix3 b s j) = ix3 b s ⟨0 + j.val, by omega⟩ := by blk_ext [idx_main_v13]
  rw [← ref_in, val_main_v13_apply, e]

/-- The latent row of the keys and values. -/
theorem ref_in_key (j : Fin 256) : val_main_v27 x0 x1 x3 (ix3 b s j) = tokenIn x0 x1 x3 b s 256 (by decide) j := by
  have e : idx_main_v27 (ix3 b s j) = ix3 b s ⟨256 + j.val, by omega⟩ := by blk_ext [idx_main_v27]
  rw [← ref_in, val_main_v27_apply, e]

/-- The normed row of the queries. -/
theorem ref_norm_query (j : Fin 256) : val_main_v26 x0 x1 x3 x4 (ix3 b s j) = tokenNorm x0 x1 x3 x4 b s 0 (by decide) j := by
  pointwise [val_main_v26, val_main_v25, val_main_v24, val_main_v23, val_main_v22, val_main_v21, val_main_v20, val_main_v19, val_main_cst_2,
    val_main_v18, val_main_v17, val_main_cst_1, val_main_v16, val_main_v15, val_main_cst_0, val_main_v14, tokenNorm, rmsNorm, cRank, cEps]
  simp only [ref_in_query]

/-- The normed row of the keys and values. -/
theorem ref_norm_key (j : Fin 256) : val_main_v40 x0 x1 x3 x6 (ix3 b s j) = tokenNorm x0 x1 x3 x6 b s 256 (by decide) j := by
  pointwise [val_main_v40, val_main_v39, val_main_v38, val_main_v37, val_main_v36, val_main_v35, val_main_v34, val_main_v33, val_main_cst_5,
    val_main_v32, val_main_v31, val_main_cst_4, val_main_v30, val_main_v29, val_main_cst_3, val_main_v28, tokenNorm, rmsNorm, cRank, cEps]
  simp only [ref_in_key]

/-- The queries of a token. -/
theorem ref_query (j : Fin 1024) : val_main_v105 x0 x1 x3 x4 x5 (ix3 b s j) = tokenQuery x0 x1 x3 x4 b s x5 j := by
  have e : idx_main_v66 (idx_main_v67 (idx_main_v68 (ix3 b s j))) = ix3 b s ⟨j.val / 128 * 192 + j.val % 128, by omega⟩ := by
    blk_ext [idx_main_v66, idx_main_v67, idx_main_v68]
  have h : val_main_v65 x0 x1 x3 x4 x5 (ix3 b s ⟨j.val / 128 * 192 + j.val % 128, by omega⟩)
      = vecMat (tokenNorm x0 x1 x3 x4 b s 0 (by decide)) (fun k (n : Fin 1024) => x5 (ix2 k ⟨n / 128 * 192 + n % 128, by omega⟩)) j := by
    pointwise [val_main_v65, vecMat]
    simp only [ref_norm_query]
  rw [tokenQuery, ← h, ← latent_factor, val_main_v105_apply, val_main_v74_apply, val_main_v71_apply, val_main_v68_apply, val_main_v67_apply,
    val_main_v66_apply, e]
  rfl

/-- The keys of a token. -/
theorem ref_key (j : Fin 1024) : val_main_v107 x0 x1 x3 x6 x7 (ix3 b s j) = tokenKey x0 x1 x3 x6 b s x7 j := by
  pointwise [val_main_v107, val_main_v103, tokenKey, vecMat]
  simp only [ref_norm_key]

/-- The values of a token. -/
theorem ref_value (j : Fin 1024) : val_main_v110 x0 x1 x3 x6 x8 (ix3 b j s) = tokenKey x0 x1 x3 x6 b s x8 j := by
  pointwise [val_main_v110, val_main_v109, val_main_v104, tokenKey, vecMat]
  simp only [ref_norm_key]

end Cert.LatentProj

end
-- ==== Proof.LatentProj.Rotary.lean ====
/- The rotary tables of the latent projection: the kernel takes cosines and sines of four groups of rows at once, a group in
   each quarter of the lanes, and spreads each quarter over all lanes; and what it does with them. -/
module

public import proofs.«01_k».proof.Proof.Gen.Kernel5Ideal.Frame
public import proofs.«01_k».proof.Proof.LatentProj.Block

@[expose] public section

noncomputable section

namespace Cert.LatentProj

open Idealize.ShloMosaic Cert.Kernel5Ideal Cert.Kernel5Ideal.Gen Cert.Post

/-! ## A quarter of the lanes, spread over all -/

/-- The quarter of each lane. -/
theorem quarter_apply : ∀ l : Fin 128, k0_pay10 (ix2 0 l) = BitVec.ofNat 32 (l.val / 32) := by
  decide +kernel

/-- A choice by a lane's quarter. -/
theorem pick_quarter (l : Fin 128) (g : Nat) (hg : g < 4) (a b : EReal) :
    Scalar.select (IntOp.cmpi .eq (k0_pay10 (ix2 0 l)) (BitVec.ofNat 32 g)) a b = if l.val / 32 = g then a else b := by
  rw [quarter_apply]
  have e : (BitVec.ofNat 32 (l.val / 32) = BitVec.ofNat 32 g) ↔ l.val / 32 = g := by
    rw [← BitVec.toNat_inj, BitVec.toNat_ofNat, BitVec.toNat_ofNat]; omega
  show (if BitVec.ofBool (BitVec.ofNat 32 (l.val / 32) == BitVec.ofNat 32 g) = 1#1 then a else b) = _
  by_cases h : l.val / 32 = g
  · rw [if_pos h, if_pos (by rw [beq_iff_eq.2 (e.2 h)]; rfl)]
  · rw [if_neg h, if_neg (by rw [beq_eq_false_iff_ne.2 fun c => h (e.1 c)]; decide)]

/-- One quarter of the lanes, the others zero. -/
def own (q : IVec S1x128 32) (x : FVec Ideal S128x128 .f32) (k : BitVec 32) : FVec Ideal S128x128 .f32 :=
  select (broadcastTo S128x128 (shapeCast S1x128 (cmpi .eq q (broadcast S1x128 k)) shapeCasts_S1x128_S1x128) broadcasts_S1x128_S128x128) x
    (broadcast S128x128 (Scalar.ofBits .f32 0x00000000#32))

/-- One quarter of the lanes, in both quarters of a half. -/
def pair (x : FVec Ideal S128x128 .f32) : FVec Ideal S128x128 .f32 := addf x (dynamicRotate 1 32#32 none x rotates_S128x128_d1)

/-- One half of the lanes, in both halves. -/
def both (x : FVec Ideal S128x128 .f32) : FVec Ideal S128x128 .f32 := addf x (dynamicRotate 1 64#32 none x rotates_S128x128_d1)

/-- The lanes of one quarter. -/
theorem own_apply (x : FVec Ideal S128x128 .f32) (g : Nat) (hg : g < 4) (r l : Fin 128) :
    own k0_pay10 x (BitVec.ofNat 32 g) (ix2 r l) = if l.val / 32 = g then x (ix2 r l) else 0 := by
  unfold own
  simp only [pointwise]
  exact pick_quarter l g hg _ _

/-- A lane of a spread quarter. -/
theorem spread_apply (x : FVec Ideal S128x128 .f32) (g : Nat) (hg : g < 4) (r l : Fin 128) :
    both (pair (own k0_pay10 x (BitVec.ofNat 32 g))) (ix2 r l) = x (ix2 r ⟨32 * g + l.val % 32, by omega⟩) := by
  have e : ∀ y : FVec Ideal S128x128 .f32, both (pair y) (ix2 r l) = (y (ix2 r l) + y (ix2 r ⟨(l.val + 128 - 32) % 128, by omega⟩))
      + (y (ix2 r ⟨(l.val + 128 - 64) % 128, by omega⟩) + y (ix2 r ⟨((l.val + 128 - 64) % 128 + 128 - 32) % 128, by omega⟩)) := fun y => by
    pointwise [both, pair]
  rw [e]
  simp only [own_apply _ _ hg]
  have f : ∀ (n : Nat) (hn : n < 128), n / 32 = g → n % 32 = l.val % 32 → x (ix2 r ⟨n, hn⟩) = x (ix2 r ⟨32 * g + l.val % 32, by omega⟩) :=
    fun n hn h1 h2 => by
      obtain rfl : n = 32 * g + l.val % 32 := by omega
      rfl
  split_ifs with h1 h2 h3 h4 h2 h3 h4 h3 h4 h4 <;> first
    | (exfalso; omega)
    | (simp only [add_zero, zero_add]; exact f _ _ (by assumption) (by omega))

/-! ## The tables -/

/-- An entry of four groups of 128 rows. -/
theorem stack_apply (y0 y1 y2 y3 : FVec Ideal S128x128 .f32) (p : Fin 512) (l : Fin 128) (v : EReal)
    (h0 : ∀ n (hn : n < 128), p.val = 128 * 0 + n → y0 (ix2 ⟨n, hn⟩ l) = v) (h1 : ∀ n (hn : n < 128), p.val = 128 * 1 + n → y1 (ix2 ⟨n, hn⟩ l) = v)
    (h2 : ∀ n (hn : n < 128), p.val = 128 * 2 + n → y2 (ix2 ⟨n, hn⟩ l) = v) (h3 : ∀ n (hn : n < 128), p.val = 128 * 3 + n → y3 (ix2 ⟨n, hn⟩ l) = v) :
    concatenate S512x128 0 [⟨S128x128, y0⟩, ⟨S128x128, y1⟩, ⟨S128x128, y2⟩, ⟨S128x128, y3⟩]
      concatenates_S128x128_S128x128_S128x128_S128x128_S512x128_d0 (ix2 p l) = v := by
  pointwise []
  split_ifs <;> first
    | exact h0 _ (by omega) (by omega)
    | exact h1 _ (by omega) (by omega)
    | exact h2 _ (by omega) (by omega)
    | exact h3 _ (by omega) (by omega)

/-- The four groups of 128 rows of a table, each from its quarter of the lanes. -/
def table (x : FVec Ideal S128x128 .f32) : FVec Ideal S512x128 .f32 :=
  concatenate S512x128 0 [⟨S128x128, both (pair (own k0_pay10 x 0#32))⟩, ⟨S128x128, both (pair (own k0_pay10 x 1#32))⟩,
    ⟨S128x128, both (pair (own k0_pay10 x 2#32))⟩, ⟨S128x128, both (pair (own k0_pay10 x 3#32))⟩]
    concatenates_S128x128_S128x128_S128x128_S128x128_S512x128_d0

/-- An entry of a table. -/
theorem table_apply (x : FVec Ideal S128x128 .f32) (p : Fin 512) (l : Fin 128) :
    table x (ix2 p l) = x (ix2 ⟨p.val % 128, by omega⟩ ⟨32 * (p.val / 128) + l.val % 32, by omega⟩) := by
  have h : ∀ (g n : Nat) (hg : g < 4) (hn : n < 128), p.val = 128 * g + n →
      both (pair (own k0_pay10 x (BitVec.ofNat 32 g))) (ix2 ⟨n, hn⟩ l)
        = x (ix2 ⟨p.val % 128, by omega⟩ ⟨32 * (p.val / 128) + l.val % 32, by omega⟩) := fun g n hg hn e => by
    rw [spread_apply x g hg]
    congr 1
    have e1 : n = p.val % 128 := by omega
    have e2 : g = p.val / 128 := by omega
    subst e1 e2
    rfl
  exact stack_apply _ _ _ _ p l _ (fun n hn => h 0 n (by decide) hn) (fun n hn => h 1 n (by decide) hn)
    (fun n hn => h 2 n (by decide) hn) (fun n hn => h 3 n (by decide) hn)

/-- The angles of a group of rows, four rows of positions in the quarters of a row of lanes. -/
def angles (v : FVec Ideal S512x1 .f32) (f : FVec Ideal S1x128 .f32) : FVec Ideal S128x128 .f32 :=
  k0_pay12 v f k0_pay10 (extractStridedSlice S128x1 ![0, 0] v slices_S512x1_o0_0_S128x1) 1#32

/-- An angle. -/
theorem angles_apply (v : FVec Ideal S512x1 .f32) (f : FVec Ideal S1x128 .f32) (r l : Fin 128) :
    angles v f (ix2 r l) = v (ix2 ⟨128 * (l.val / 32) + r.val, by omega⟩ 0) * f (ix2 0 l) := by
  unfold angles k0_pay12
  simp only [pointwise]
  show Scalar.select (IntOp.cmpi .eq (k0_pay10 (ix2 0 l)) (BitVec.ofNat 32 3)) (v (ix2 ⟨384 + r.val, by omega⟩ 0))
    (Scalar.select (IntOp.cmpi .eq (k0_pay10 (ix2 0 l)) (BitVec.ofNat 32 2)) (v (ix2 ⟨256 + r.val, by omega⟩ 0))
      (Scalar.select (IntOp.cmpi .eq (k0_pay10 (ix2 0 l)) (BitVec.ofNat 32 1)) (v (ix2 ⟨128 + r.val, by omega⟩ 0))
        (v (ix2 ⟨0 + r.val, by omega⟩ 0)))) * f (ix2 0 l) = _
  simp only [pick_quarter _ _ (by decide : 3 < 4), pick_quarter _ _ (by decide : 2 < 4), pick_quarter _ _ (by decide : 1 < 4)]
  have h : ∀ (n : Nat) (hn : n < 512), n = 128 * (l.val / 32) + r.val → v (ix2 ⟨n, hn⟩ 0) = v (ix2 ⟨128 * (l.val / 32) + r.val, by omega⟩ 0) :=
    fun n hn e => by subst e; rfl
  congr 1
  split_ifs <;> exact h _ _ (by omega)

/-- The sines, negated in the first half of the lanes. -/
def signed (x : FVec Ideal S512x128 .f32) : FVec Ideal S512x128 .f32 :=
  select (broadcastTo S512x128 (shapeCast S1x128 (cmpi .slt (iota .tc S1x128 32 [1] iota_S1x128_d1_w32) (broadcast S1x128 64#32)) shapeCasts_S1x128_S1x128)
    broadcasts_S1x128_S512x128) (subf (broadcast S512x128 (Scalar.ofBits .f32 0x00000000#32)) x) x

/-- The first half of the lanes. -/
theorem half_apply : ∀ l : Fin 128, cmpi .slt (iota .tc S1x128 32 [1] iota_S1x128_d1_w32) (broadcast S1x128 64#32) (ix2 0 l)
    = if l.val < 64 then 1#1 else 0#1 := by
  decide +kernel

/-- A signed sine. -/
theorem signed_apply (x : FVec Ideal S512x128 .f32) (p : Fin 512) (l : Fin 128) :
    signed x (ix2 p l) = if l.val < 64 then -(x (ix2 p l)) else x (ix2 p l) := by
  have e : signed x (ix2 p l) = Scalar.select (cmpi .slt (iota .tc S1x128 32 [1] iota_S1x128_d1_w32) (broadcast S1x128 64#32) (ix2 0 l))
      (Ideal.ofBits .f32 0x00000000#32 - x (ix2 p l)) (x (ix2 p l)) := by
    unfold signed
    simp only [pointwise]
    rfl
  rw [e, half_apply]
  by_cases h : l.val < 64
  · rw [if_pos h, if_pos h]
    show (_ : EReal) - _ = _
    simp [Ideal.ofBits, Ideal.ieee]
  · rw [if_neg h, if_neg h]
    rfl

/-! ## The rotation -/

/-- Rows rotated. -/
def turn (z c s : FVec Ideal S512x128 .f32) : FVec Ideal S512x128 .f32 :=
  addf (mulf z c) (mulf (dynamicRotate 1 64#32 none z rotates_S512x128_d1) s)

/-- A rotated entry. -/
theorem turn_apply (z c s : FVec Ideal S512x128 .f32) (p : Fin 512) (l : Fin 128) :
    turn z c s (ix2 p l) = z (ix2 p l) * c (ix2 p l) + z (ix2 p ⟨(l.val + 128 - 64) % 128, by omega⟩) * s (ix2 p l) := by
  pointwise [turn]

/-- Four blocks of lanes, each rotated. -/
def turns (z : FVec Ideal S512x512 .f32) (c s : FVec Ideal S512x128 .f32) : FVec Ideal S512x512 .f32 :=
  concatenate S512x512 1 [⟨S512x128, turn (extractStridedSlice S512x128 ![0, 0] z slices_S512x512_o0_0_S512x128) c s⟩,
    ⟨S512x128, turn (extractStridedSlice S512x128 ![0, 128] z slices_S512x512_o0_128_S512x128) c s⟩,
    ⟨S512x128, turn (extractStridedSlice S512x128 ![0, 256] z slices_S512x512_o0_256_S512x128) c s⟩,
    ⟨S512x128, turn (extractStridedSlice S512x128 ![0, 384] z slices_S512x512_o0_384_S512x128) c s⟩]
    concatenates_S512x128_S512x128_S512x128_S512x128_S512x512_d1

/-- A rotated entry of four blocks. -/
theorem turns_apply (z : FVec Ideal S512x512 .f32) (c s : FVec Ideal S512x128 .f32) (p : Fin 512) (j : Fin 512) :
    turns z c s (ix2 p j) = z (ix2 p j) * c (ix2 p ⟨j.val % 128, by omega⟩)
      + z (ix2 p ⟨j.val / 128 * 128 + (j.val % 128 + 128 - 64) % 128, by omega⟩) * s (ix2 p ⟨j.val % 128, by omega⟩) := by
  have h : ∀ (g n o : Nat) (hn : n < 128) (hg : o + 128 ≤ 512) (hs : S512x512.Slices ![0, o] S512x128), o = g * 128 → j.val = g * 128 + n →
      turn (extractStridedSlice S512x128 ![0, o] z hs) c s (ix2 p ⟨n, hn⟩) = z (ix2 p j) * c (ix2 p ⟨j.val % 128, by omega⟩)
      + z (ix2 p ⟨j.val / 128 * 128 + (j.val % 128 + 128 - 64) % 128, by omega⟩) * s (ix2 p ⟨j.val % 128, by omega⟩) :=
    fun g n o hn hg hs ho e => by
      have k : ∀ l : Fin 128, extractStridedSlice S512x128 ![0, o] z hs (ix2 p l) = z (ix2 p ⟨o + l.val, by omega⟩) := fun l => by pointwise []
      rw [turn_apply, k, k]
      have e1 : n = j.val % 128 := by omega
      have e2 : o = j.val / 128 * 128 := by omega
      subst e1 e2
      congr 4
      exact Fin.ext (by show j.val / 128 * 128 + j.val % 128 = j.val; omega)
  pointwise [turns]
  split_ifs <;> first
    | exact h 0 _ _ (by omega) (by omega) _ rfl (by omega)
    | exact h 1 _ _ (by omega) (by omega) _ rfl (by omega)
    | exact h 2 _ _ (by omega) (by omega) _ rfl (by omega)
    | exact h 3 _ _ (by omega) (by omega) _ rfl (by omega)

end Cert.LatentProj

end
-- ==== Proof.LatentProj.RotaryBlock.lean ====
/- What one grid point of the latent projection leaves in its two blocks of rotary lanes. -/
module

public import proofs.«01_k».proof.Proof.LatentProj.Rotary

@[expose] public section

noncomputable section

namespace Cert.LatentProj

open Idealize.ShloMosaic Cert.Kernel5Ideal Cert.Kernel5Ideal.Gen Cert.Post

/-! ## The blocks -/

section Rows

variable (x0 : Vec Ideal S1x1024x1024 .f32) (x1 : Vec Ideal S1x1x6x1024 .f32) (x2 : Vec Ideal S1x1024x1 .i32) (x3 : Vec Ideal S1x128 .f32)
  (x4 : Vec Ideal S1024x640 .bf16) (g : Vec Ideal S1x256 .f32)

/-- The angle of a block's row in a lane: the frequency is read in the quarter of the row's group. -/
def rowAngle (p : Fin 1024) (l : Fin 128) : EReal :=
  FloatOps.sitofp (F := Ideal) .f32 (x2 (ix3 0 p 0)) * x3 (ix2 0 ⟨32 * (p.val % 512 / 128) + l.val % 32, by omega⟩)

/-- A block's row of queries' rotary lanes, before the rotation. -/
def rowTurn (w : Vec Ideal S256x512 .bf16) (p : Fin 1024) : Fin 512 → EReal := vecMat (rowNorm x0 x1 x4 g 0 (by decide) p) (fun k n => w (ix2 k n))

/-- A block's row of keys' rotary lanes, before the rotation. -/
def rowTurnKey (p : Fin 1024) (l : Fin 128) : EReal := vecMat (rowMod x0 x1 p) (fun k n => x4 (ix2 k n)) ⟨512 + l.val, by omega⟩

/-- The block of queries' rotary lanes. -/
def blockTurn (w : Vec Ideal S256x512 .bf16) : Vec Ideal S1x1024x512 .bf16 := fun y =>
  rot (rowTurn x0 x1 x4 g w (y 1) (y 2))
    (rowTurn x0 x1 x4 g w (y 1) ⟨(y 2).val / 128 * 128 + ((y 2).val % 128 + 128 - 64) % 128, by have h : (y 2).val < 512 := (y 2).isLt; omega⟩)
    (rowAngle x2 x3 (y 1) ⟨(y 2).val % 128, Nat.mod_lt _ (by decide)⟩) ((y 2).val % 128) * cLatent

/-- The block of keys' rotary lanes. -/
def blockTurnKey : Vec Ideal S1x1024x128 .bf16 := fun y =>
  rot (rowTurnKey x0 x1 x4 (y 1) (y 2)) (rowTurnKey x0 x1 x4 (y 1) ⟨((y 2).val + 128 - 64) % 128, Nat.mod_lt _ (by decide)⟩)
    (rowAngle x2 x3 (y 1) (y 2)) (y 2).val

end Rows

/-! ## Loads and stores -/

/-- The bounds of a group's positions. -/
theorem inbPos {o : Nat} (ho : o + 512 ≤ 1024) (a : Fin 3) : (![0, o, 0] : Fin 3 → Nat) a + S1x512x1.size a ≤ S1x1024x1.size a := by
  match a with
  | 0 => exact Nat.le_refl _
  | 1 => exact ho
  | 2 => exact Nat.le_refl _

/-- The bounds of a group's rows in a block of queries' rotary lanes. -/
theorem inbTurn {o : Nat} (ho : o + 512 ≤ 1024) (a : Fin 3) : (![0, o, 0] : Fin 3 → Nat) a + S1x512x512.size a ≤ S1x1024x512.size a := by
  match a with
  | 0 => exact Nat.le_refl _
  | 1 => exact ho
  | 2 => exact Nat.le_refl _

/-- The bounds of a group's rows in a block of keys' rotary lanes. -/
theorem inbTurnKey {o : Nat} (ho : o + 512 ≤ 1024) (a : Fin 3) : (![0, o, 0] : Fin 3 → Nat) a + S1x512x128.size a ≤ S1x1024x128.size a := by
  match a with
  | 0 => exact Nat.le_refl _
  | 1 => exact ho
  | 2 => exact Nat.le_refl _

/-- A group's positions, loaded. -/
def ldPos (x : Vec Ideal S1x1024x1 .i32) (o : Nat) (ho : o + 512 ≤ 1024) : Vec Ideal S1x512x1 .i32 :=
  View.ld (Val := Elt Ideal) x (Rect.unit (s := S1x1024x1) ![0, o, 0] S1x512x1.size (inbPos ho))

/-- A position of a loaded group. -/
theorem ldPos_apply (x : Vec Ideal S1x1024x1 .i32) (o : Nat) (ho : o + 512 ≤ 1024) (r : Fin 512) :
    ldPos x o ho (ix3 0 r 0) = x (ix3 0 ⟨o + r, by omega⟩ 0) :=
  ld_at _ _ _ _ _ _ fun a => match a with | 0 => rfl | 1 => rfl | 2 => rfl

/-- A position as a number. -/
theorem pos_apply (x : Vec Ideal S1x512x1 .i32) (r : Fin 512) : k0_pay8 (F := Ideal) x (ix2 r 0) = FloatOps.sitofp (F := Ideal) .f32 (x (ix3 0 r 0)) := by
  pointwise [k0_pay8]

/-- The frequencies. -/
theorem freq_apply (x : Vec Ideal S1x128 .f32) (l : Fin 128) : k0_pay9 x (ix2 0 l) = x (ix2 0 l) := by
  pointwise [k0_pay9]

/-! ## What a group stores -/

section Group

variable (x0 : Vec Ideal S1x1024x1024 .f32) (x1 : Vec Ideal S1x1x6x1024 .f32) (x2 : Vec Ideal S1x1024x1 .i32) (x3 : Vec Ideal S1x128 .f32)
  (x4 : Vec Ideal S1024x640 .bf16) (g : Vec Ideal S1x256 .f32) (o : Nat) (ho : o + 512 ≤ 1024) (ho' : o % 512 = 0)

/-- A group's angles. -/
def gAngle : FVec Ideal S128x128 .f32 := angles (k0_pay8 (ldPos x2 o ho)) (k0_pay9 x3)

/-- A group's cosines. -/
def gCos : FVec Ideal S512x128 .f32 := table (cos (gAngle x2 x3 o ho))

/-- A group's signed sines. -/
def gSin : FVec Ideal S512x128 .f32 := signed (table (sin (gAngle x2 x3 o ho)))

/-- A group's queries' rotary lanes, as they are stored. -/
def gTurn (c : FVec Ideal S512x256 .bf16) (w : Vec Ideal S256x512 .bf16) (cs sn : FVec Ideal S512x128 .f32) : FVec Ideal S1x512x512 .bf16 :=
  shapeCast S1x512x512 (truncf .bf16 (mulf (turns (matmul dot_S512x256_S256x512_S512x512_1_0_0_1_n_n none c
    (shapeCast S256x512 w shapeCasts_S256x512_S256x512 : FVec Ideal S256x512 .bf16) (constant S512x512 .f32 0x00000000#32)) cs sn)
    (broadcast S512x512 (Named.named Cert.Kernel5Ideal.κ "mla_scale" 0x3DD53B95#32))) bitsLt_bf16_f32) shapeCasts_S512x512_S1x512x512

/-- A group's keys' rotary lanes, as they are stored. -/
def gTurnKey (z : FVec Ideal S512x640 .f32) (cs sn : FVec Ideal S512x128 .f32) : FVec Ideal S1x512x128 .bf16 :=
  shapeCast S1x512x128 (truncf .bf16 (turn (extractStridedSlice S512x128 ![0, 512] z slices_S512x640_o0_512_S512x128) cs sn) bitsLt_bf16_f32)
    shapeCasts_S512x128_S1x512x128

include ho' in
/-- A group's angle, where the table reads it. -/
theorem gAngle_apply (p : Fin 512) (l : Fin 128) :
    gAngle x2 x3 o ho (ix2 ⟨p.val % 128, by omega⟩ ⟨32 * (p.val / 128) + l.val % 32, by omega⟩) = rowAngle x2 x3 ⟨o + p, by omega⟩ l := by
  rw [gAngle, angles_apply, pos_apply, freq_apply, ldPos_apply, rowAngle]
  have e1 : (⟨o + (⟨128 * ((32 * (p.val / 128) + l.val % 32) / 32) + p.val % 128, by omega⟩ : Fin 512).val, by
      show o + (128 * ((32 * (p.val / 128) + l.val % 32) / 32) + p.val % 128) < 1024; omega⟩ : Fin 1024) = ⟨o + p.val, by omega⟩ :=
    Fin.ext (by show o + (128 * ((32 * (p.val / 128) + l.val % 32) / 32) + p.val % 128) = o + p.val; omega)
  have e2 : (⟨32 * (p.val / 128) + l.val % 32, by omega⟩ : Fin 128) = ⟨32 * ((o + p.val) % 512 / 128) + l.val % 32, by omega⟩ :=
    Fin.ext (by show 32 * (p.val / 128) + l.val % 32 = 32 * ((o + p.val) % 512 / 128) + l.val % 32; omega)
  exact congr (congrArg HMul.hMul (congrArg (fun n => FloatOps.sitofp (F := Ideal) .f32 (x2 (ix3 0 n 0))) e1)) (congrArg (fun n => x3 (ix2 0 n)) e2)

include ho' in
/-- A group's cosine. -/
theorem gCos_apply (p : Fin 512) (l : Fin 128) : gCos x2 x3 o ho (ix2 p l) = Ideal.cos (rowAngle x2 x3 ⟨o + p, by omega⟩ l) := by
  rw [gCos, table_apply, ← gAngle_apply x2 x3 o ho ho']
  rfl

include ho' in
/-- A group's signed sine. -/
theorem gSin_apply (p : Fin 512) (l : Fin 128) : gSin x2 x3 o ho (ix2 p l)
    = if l.val < 64 then -(Ideal.sin (rowAngle x2 x3 ⟨o + p, by omega⟩ l)) else Ideal.sin (rowAngle x2 x3 ⟨o + p, by omega⟩ l) := by
  rw [gSin, signed_apply, table_apply, ← gAngle_apply x2 x3 o ho ho']
  rfl

/-- An entry of a group's queries' rotary lanes. -/
theorem gTurn_apply (c : FVec Ideal S512x256 .bf16) (w : Vec Ideal S256x512 .bf16) (cs sn : FVec Ideal S512x128 .f32) (p j : Fin 512) :
    gTurn c w cs sn (ix3 0 p j) = (vecMat (fun k => c (ix2 p k)) (fun k n => w (ix2 k n)) j * cs (ix2 p ⟨j.val % 128, by omega⟩)
      + vecMat (fun k => c (ix2 p k)) (fun k n => w (ix2 k n)) ⟨j.val / 128 * 128 + (j.val % 128 + 128 - 64) % 128, by omega⟩
        * sn (ix2 p ⟨j.val % 128, by omega⟩)) * cLatent := by
  have h : ∀ n : Fin 512, matmul dot_S512x256_S256x512_S512x512_1_0_0_1_n_n none c (shapeCast S256x512 w shapeCasts_S256x512_S256x512 : FVec Ideal S256x512 .bf16)
      (constant S512x512 .f32 0x00000000#32) (ix2 p n) = vecMat (fun k => c (ix2 p k)) (fun k n => w (ix2 k n)) n := fun n => by
    pointwise [vecMat]
  rw [← h, ← h, ← turns_apply, ← latent_named]
  unfold gTurn
  generalize turns _ cs sn = z
  pointwise []

/-- An entry of a group's keys' rotary lanes. -/
theorem gTurnKey_apply (z : FVec Ideal S512x640 .f32) (cs sn : FVec Ideal S512x128 .f32) (p : Fin 512) (l : Fin 128) :
    gTurnKey z cs sn (ix3 0 p l) = z (ix2 p ⟨512 + l.val, by omega⟩) * cs (ix2 p l)
      + z (ix2 p ⟨512 + (l.val + 128 - 64) % 128, by omega⟩) * sn (ix2 p l) := by
  have h : ∀ n : Fin 128, extractStridedSlice S512x128 ![0, 512] z slices_S512x640_o0_512_S512x128 (ix2 p n) = z (ix2 p ⟨512 + n.val, by omega⟩) :=
    fun n => by pointwise []
  have e := turn_apply (extractStridedSlice S512x128 ![0, 512] z slices_S512x640_o0_512_S512x128) cs sn p l
  rw [h, h] at e
  rw [← e]
  unfold gTurnKey
  generalize turn _ cs sn = y
  pointwise []

/-- A row of a group, placed in the block of queries' rotary lanes. -/
theorem emb_turn (p : Fin 512) (j : Fin 512) :
    (Rect.unit (s := S1x1024x512) ![0, o, 0] S1x512x512.size (inbTurn ho)).emb (ix3 0 p j) = ix3 0 ⟨o + p, by omega⟩ j := by
  funext a
  refine Fin.ext ((ValueKit.rect_emb_unit_val (s := S1x1024x512) _ _ (inbTurn ho) _ a).trans ?_)
  match a with
  | 0 => rfl
  | 1 => rfl
  | 2 => exact Nat.zero_add _

/-- A row of a group, placed in the block of keys' rotary lanes. -/
theorem emb_turnKey (p : Fin 512) (j : Fin 128) :
    (Rect.unit (s := S1x1024x128) ![0, o, 0] S1x512x128.size (inbTurnKey ho)).emb (ix3 0 p j) = ix3 0 ⟨o + p, by omega⟩ j := by
  funext a
  refine Fin.ext ((ValueKit.rect_emb_unit_val (s := S1x1024x128) _ _ (inbTurnKey ho) _ a).trans ?_)
  match a with
  | 0 => rfl
  | 1 => rfl
  | 2 => exact Nat.zero_add _

include ho' in
/-- The stored queries' rotary lanes are the block's. -/
theorem turn_stored (w : Vec Ideal S256x512 .bf16) (x : S1x512x512.Idx) :
    gTurn (gQuery x0 x1 x4 g o ho) w (gCos x2 x3 o ho) (gSin x2 x3 o ho) x
      = blockTurn x0 x1 x2 x3 x4 g w ((Rect.unit (s := S1x1024x512) ![0, o, 0] S1x512x512.size (inbTurn ho)).emb x) := by
  obtain ⟨a, p, j, rfl⟩ : ∃ (a : Fin 1) (p : Fin 512) (j : Fin 512), x = ix3 a p j := ⟨x 0, x 1, x 2, (ix3_eta x).symm⟩
  obtain rfl : a = 0 := Subsingleton.elim _ _
  rw [emb_turn o ho ho', gTurn_apply o, gCos_apply x2 x3 o ho ho', gSin_apply x2 x3 o ho ho']
  simp only [gQuery_apply]
  rfl

include ho' in
/-- The stored keys' rotary lanes are the block's. -/
theorem turnKey_stored (x : S1x512x128.Idx) :
    gTurnKey (gIn x0 x1 x4 o ho) (gCos x2 x3 o ho) (gSin x2 x3 o ho) x
      = blockTurnKey x0 x1 x2 x3 x4 ((Rect.unit (s := S1x1024x128) ![0, o, 0] S1x512x128.size (inbTurnKey ho)).emb x) := by
  obtain ⟨a, p, j, rfl⟩ : ∃ (a : Fin 1) (p : Fin 512) (j : Fin 128), x = ix3 a p j := ⟨x 0, x 1, x 2, (ix3_eta x).symm⟩
  obtain rfl : a = 0 := Subsingleton.elim _ _
  rw [emb_turnKey o ho ho', gTurnKey_apply o, gCos_apply x2 x3 o ho ho', gSin_apply x2 x3 o ho ho', gIn_apply, gIn_apply]
  rfl

end Group

/-! ## The blocks a point stores -/

section Points

variable (x0 : Vec Ideal S1x1024x1024 .f32) (x1 : Vec Ideal S1x1x6x1024 .f32) (x2 : Vec Ideal S1x1024x1 .i32) (x3 : Vec Ideal S1x128 .f32)
  (x4 : Vec Ideal S1024x640 .bf16) (x5 x6 : Vec Ideal S1x256 .f32) (x7 : Vec Ideal S256x1024 .bf16) (x8 : Vec Ideal S256x512 .bf16)
  (x9 : Vec Ideal S256x1024 .bf16) (x10 : Vec Ideal S1024x256 .bf16)

/-- The whole frequencies, loaded. -/
theorem ld3 : View.ld (Val := Elt Ideal) x3 r0_6 = x3 := ld_whole (S := S1x128) x3 _ _ zero2

/-- The whole weight of the queries' rotary lanes, loaded. -/
theorem ld8 : View.ld (Val := Elt Ideal) x8 r0_9 = x8 := ld_whole (S := S256x512) x8 _ _ zero2

/-- The first group's cosines. -/
theorem cos_rows0 : k0_pay61 x0 x1 x2 x3 x4 x5 x6 x7 x8 x9 x10 = gCos x2 x3 0 (by decide) := by
  unfold k0_pay61 k0_pay59 k0_pay58 k0_pay57 k0_pay56
  rw [ld3]
  rfl

/-- The first group's signed sines. -/
theorem sin_rows0 : k0_pay21 (k0_pay53 x0 x1 x2 x3 x4 x5 x6 x7 x8 x9 x10) (k0_pay58 x0 x1 x2 x3 x4 x5 x6 x7 x8 x9 x10)
    (k0_pay60 x0 x1 x2 x3 x4 x5 x6 x7 x8 x9 x10) (k0_pay62 x0 x1 x2 x3 x4 x5 x6 x7 x8 x9 x10) (k0_pay63 x0 x1 x2 x3 x4 x5 x6 x7 x8 x9 x10)
    (k0_pay64 x0 x1 x2 x3 x4 x5 x6 x7 x8 x9 x10) = gSin x2 x3 0 (by decide) := by
  unfold k0_pay64 k0_pay63 k0_pay62 k0_pay60 k0_pay59 k0_pay58 k0_pay57 k0_pay56 k0_pay53
  rw [ld3]
  rfl

/-- The second group's cosines. -/
theorem cos_rows1 : k0_pay76 x0 x1 x2 x3 x4 x5 x6 x7 x8 x9 x10 = gCos x2 x3 512 (by decide) := by
  unfold k0_pay76 k0_pay74 k0_pay73 k0_pay72 k0_pay71 k0_pay70 k0_pay69 k0_pay66
  rw [ld3]
  rfl

/-- The second group's signed sines. -/
theorem sin_rows1 : k0_pay48 (k0_pay53 x0 x1 x2 x3 x4 x5 x6 x7 x8 x9 x10) (k0_pay74 x0 x1 x2 x3 x4 x5 x6 x7 x8 x9 x10)
    (k0_pay75 x0 x1 x2 x3 x4 x5 x6 x7 x8 x9 x10) (k0_pay77 x0 x1 x2 x3 x4 x5 x6 x7 x8 x9 x10) (k0_pay78 x0 x1 x2 x3 x4 x5 x6 x7 x8 x9 x10)
    (Scalar.ofBits .f32 0x00000000#32) = gSin x2 x3 512 (by decide) := by
  unfold k0_pay78 k0_pay77 k0_pay75 k0_pay74 k0_pay73 k0_pay72 k0_pay71 k0_pay70 k0_pay69 k0_pay66 k0_pay53
  rw [ld3]
  rfl

/-- After a point its block of queries' rotary lanes holds them. -/
theorem turn_out (y : S1x1024x512.Idx) : out0_12 x0 x1 x2 x3 x4 x5 x6 x7 x8 x9 x10 y = blockTurn x0 x1 x2 x3 x4 x5 x8 y := by
  unfold out0_12
  rw [query_rows0, query_rows1, cos_rows0, cos_rows1, sin_rows0, sin_rows1, ld8]
  refine View.canon_apply_of_pieces (blockTurn x0 x1 x2 x3 x4 x5 x8) _ ?_ _ (cover0_12 _ _ y)
  exact List.forall_mem_cons.2 ⟨fun x => turn_stored x0 x1 x2 x3 x4 x5 512 (by decide) rfl x8 x,
    List.forall_mem_cons.2 ⟨fun x => turn_stored x0 x1 x2 x3 x4 x5 0 (by decide) rfl x8 x, fun _ h => absurd h List.not_mem_nil⟩⟩

/-- After a point its block of keys' rotary lanes holds them. -/
theorem turnKey_out (y : S1x1024x128.Idx) : out0_14 x0 x1 x2 x3 x4 x5 x6 x7 x8 x9 x10 y = blockTurnKey x0 x1 x2 x3 x4 y := by
  unfold out0_14 k0_pay49 k0_pay22
  rw [cos_rows0, cos_rows1, sin_rows0, sin_rows1]
  unfold k0_pay65
  rw [ld4]
  refine View.canon_apply_of_pieces (blockTurnKey x0 x1 x2 x3 x4) _ ?_ _ (cover0_14 _ _ y)
  exact List.forall_mem_cons.2 ⟨fun x => turnKey_stored x0 x1 x2 x3 x4 512 (by decide) rfl x,
    List.forall_mem_cons.2 ⟨fun x => turnKey_stored x0 x1 x2 x3 x4 0 (by decide) rfl x, fun _ h => absurd h List.not_mem_nil⟩⟩

end Points

end Cert.LatentProj

end
-- ==== Proof.LatentProj.RotaryArray.lean ====
/- The result arrays of rotary lanes after the run. -/
module

public import proofs.«01_k».proof.Proof.LatentProj.Array
public import proofs.«01_k».proof.Proof.LatentProj.RotaryBlock

@[expose] public section

noncomputable section

namespace Cert.LatentProj

open Idealize.ShloMosaic Cert.Post

open Cert.Kernel5Ideal Cert.Kernel5Ideal.Gen Idealize.ShloMosaic.TcCoe

variable (m : (ℓ : Loc nD τ sig) → Buf (Elt Ideal) ℓ) (c : Dev nD)

/-- The array of queries' rotary lanes, from the arguments the kernel is launched on. -/
def turnedQueries : Vec Ideal S16x2048x512 .bf16 := fun y =>
  tokenTurned (m ((c : Thread nD τ).loc main_arg0)) (m ((c : Thread nD τ).loc main_arg1)) (m ((c : Thread nD τ).loc main_arg3))
    (m ((c : Thread nD τ).loc main_arg4)) (y 0) (y 1) (m ((c : Thread nD τ).loc main_arg2)) (m ((c : Thread nD τ).loc main_arg5)) (y 2)

/-- The array of keys' rotary lanes. -/
def turnedKeys : Vec Ideal S16x2048x128 .bf16 := fun y =>
  tokenTurnedKey (m ((c : Thread nD τ).loc main_arg0)) (m ((c : Thread nD τ).loc main_arg1)) (m ((c : Thread nD τ).loc main_arg3))
    (y 0) (y 1) (m ((c : Thread nD τ).loc main_arg2)) (y 2)

/-- Where the windows of positions, frequencies and rotary lanes lie at a grid point. -/
theorem index_rotary : ∀ t : Fin cfg0.N,
    win0_2.index t = ![t.val / 2, t.val % 2, 0] ∧ win0_3.index t = ![0, 0] ∧ win0_4.index t = ![0, 0] ∧ win0_8.index t = ![0, 0]
      ∧ win0_12.index t = ![t.val / 2, t.val % 2, 0] ∧ win0_14.index t = ![t.val / 2, t.val % 2, 0] := by
  decide +kernel

/-- The positions, as the region finds them. -/
theorem entry_pos (b : Fin 16) (s : Fin 2048) :
    (V m c main_v0 : Vec Ideal S16x2048x1 .i32) (ix3 b s 0) = m ((c : Thread nD τ).loc main_arg2) (ix2 b s) := by
  unfold V
  after_reads_at

/-- The frequencies, as the region finds them. -/
theorem entry_freq (n : Nat) (hn : n < 128) : (V m c main_v10 : Vec Ideal S1x128 .f32) (ix2 0 ⟨n, hn⟩) = freq (n % 32) := by
  unfold V
  after_reads_at
  rfl

/-- The queries' weight's rotary columns, as the region finds them. -/
theorem entry_turn (k : Fin 256) (n : Fin 512) :
    (V m c main_v26 : Vec Ideal S256x512 .bf16) (ix2 k n) = m ((c : Thread nD τ).loc main_arg5)
      (ix2 k ⟨(n.val / 128 * 2 + n.val / 32 % 2) * 192 + (128 + (n.val / 64 % 2 * 32 + n.val % 32)), by omega⟩) := by
  unfold V
  after_reads_at

/-- The last 128 columns of the first weight, as the region finds them. -/
theorem entry_turnKey (k : Fin 1024) (n : Nat) (hn : n < 128) (q : Fin 576) (hq : q.val = 512 + n / 64 * 32 + n % 32) :
    (V m c main_v22 : Vec Ideal S1024x640 .bf16) (ix2 k ⟨512 + n, by omega⟩) = m ((c : Thread nD τ).loc main_arg3) (ix2 k q) := by
  unfold V
  after_reads_at
  obtain ⟨q, hq'⟩ := q
  change q = _ at hq
  by_cases h1 : n < 32
  · obtain rfl : q = 512 + n := by omega
    rw [dif_pos h1]
    after_reads_at
  · by_cases h2 : n - 32 < 32
    · obtain rfl : q = 512 + (n - 32) := by omega
      rw [dif_neg h1, dif_pos h2]
      after_reads_at
    · by_cases h3 : n - 32 - 32 < 32
      · obtain rfl : q = 544 + (n - 32 - 32) := by omega
        rw [dif_neg h1, dif_neg h2, dif_pos h3]
        after_reads_at
      · obtain rfl : q = 544 + (n - 32 - 32 - 32) := by omega
        rw [dif_neg h1, dif_neg h2, dif_neg h3]
        after_reads_at

section Point

variable (t : Fin cfg0.N) (p : Fin 1024) (b : Fin 16) (s : Fin 2048) (hb : b.val = t.val / 2) (hs : s.val = t.val % 2 * 1024 + p.val)

include hb hs

/-- The angle of a row of a point's block is the token's. -/
theorem angle_blocks (l : Fin 128) : rowAngle (iblk m c 2 t) (iblk m c 3 t) p l
    = tokenAngle b s (m ((c : Thread nD τ).loc main_arg2)) (l.val % 32) := by
  have h2 : iblk m c 2 t (ix3 0 p 0) = m ((c : Thread nD τ).loc main_arg2) (ix2 b s) := by
    rw [← entry_pos m c b s]
    blk_ext [iblk, index_rotary t]
  have h3 : ∀ (n : Nat) (hn : n < 128), iblk m c 3 t (ix2 0 ⟨n, hn⟩) = freq (n % 32) := fun n hn => by
    rw [← entry_freq m c n hn]
    blk_ext [iblk, index_rotary t]
  unfold rowAngle tokenAngle
  rw [h2, h3, show (32 * (p.val % 512 / 128) + l.val % 32) % 32 = l.val % 32 by omega]

/-- The point's queries' rotary lanes are the token's. -/
theorem turn_blocks (j : Fin 512) :
    blockTurn (iblk m c 0 t) (iblk m c 1 t) (iblk m c 2 t) (iblk m c 3 t) (iblk m c 4 t) (iblk m c 5 t) (iblk m c 8 t) (ix3 0 p j)
      = turnedQueries m c (ix3 b s j) := by
  have h5 : ∀ k, iblk m c 5 t (ix2 0 k) = m ((c : Thread nD τ).loc main_arg4) (ix1 k) := fun k => by
    rw [← entry_norm_query m c k]
    blk_ext [iblk, index_eq t]
  have h8 : ∀ k (n : Fin 512), iblk m c 8 t (ix2 k n) = m ((c : Thread nD τ).loc main_arg5)
      (ix2 k ⟨(n.val / 128 * 2 + n.val / 32 % 2) * 192 + (128 + (n.val / 64 % 2 * 32 + n.val % 32)), by omega⟩) := fun k n => by
    rw [← entry_turn m c k n]
    blk_ext [iblk, index_rotary t]
  have hr : ∀ n, rowTurn (iblk m c 0 t) (iblk m c 1 t) (iblk m c 4 t) (iblk m c 5 t) (iblk m c 8 t) p n
      = tokenTurn (m ((c : Thread nD τ).loc main_arg0)) (m ((c : Thread nD τ).loc main_arg1)) (m ((c : Thread nD τ).loc main_arg3))
          (m ((c : Thread nD τ).loc main_arg4)) b s (m ((c : Thread nD τ).loc main_arg5)) n := fun n => by
    unfold rowTurn tokenTurn
    rw [norm_blocks m c t p b s hb hs 0 (by decide) _ _ h5]
    simp only [h8]
  show rot (rowTurn (iblk m c 0 t) (iblk m c 1 t) (iblk m c 4 t) (iblk m c 5 t) (iblk m c 8 t) p j)
    (rowTurn (iblk m c 0 t) (iblk m c 1 t) (iblk m c 4 t) (iblk m c 5 t) (iblk m c 8 t) p ⟨j.val / 128 * 128 + (j.val % 128 + 128 - 64) % 128, by omega⟩)
    (rowAngle (iblk m c 2 t) (iblk m c 3 t) p ⟨j.val % 128, Nat.mod_lt _ (by decide)⟩) (j.val % 128) * cLatent = _
  rw [hr, hr, angle_blocks m c t p b s hb hs, show (⟨j.val % 128, Nat.mod_lt _ (by decide)⟩ : Fin 128).val % 32 = j.val % 32 by
    show j.val % 128 % 32 = j.val % 32; omega]
  rfl

/-- The point's keys' rotary lanes are the token's. -/
theorem turnKey_blocks (l : Fin 128) :
    blockTurnKey (iblk m c 0 t) (iblk m c 1 t) (iblk m c 2 t) (iblk m c 3 t) (iblk m c 4 t) (ix3 0 p l) = turnedKeys m c (ix3 b s l) := by
  have h4 : ∀ (k : Fin 1024) (n : Fin 128), iblk m c 4 t (ix2 k ⟨512 + n.val, by omega⟩)
      = m ((c : Thread nD τ).loc main_arg3) (ix2 k ⟨512 + n.val / 64 * 32 + n.val % 32, by omega⟩) := fun k n => by
    rw [← entry_turnKey m c k n.val n.isLt _ rfl]
    blk_ext [iblk, index_rotary t]
  have hr : ∀ n : Fin 128, rowTurnKey (iblk m c 0 t) (iblk m c 1 t) (iblk m c 4 t) p n
      = tokenTurnKey (m ((c : Thread nD τ).loc main_arg0)) (m ((c : Thread nD τ).loc main_arg1)) (m ((c : Thread nD τ).loc main_arg3))
          b s n := fun n => by
    unfold rowTurnKey tokenTurnKey
    rw [row_blocks m c t p b s hb hs]
    exact Finset.sum_congr rfl fun k _ => congrArg _ (h4 k n)
  show rot (rowTurnKey (iblk m c 0 t) (iblk m c 1 t) (iblk m c 4 t) p l)
    (rowTurnKey (iblk m c 0 t) (iblk m c 1 t) (iblk m c 4 t) p ⟨(l.val + 128 - 64) % 128, Nat.mod_lt _ (by decide)⟩)
    (rowAngle (iblk m c 2 t) (iblk m c 3 t) p l) l.val = _
  rw [hr, hr, angle_blocks m c t p b s hb hs]
  rfl

end Point

/-- The queries' rotary lanes after the run. -/
theorem arrAt_turn : (dats m 0 c).arrAt 12 cfg0.N = turnedQueries m c := by
  refine (dats m 0 c).arrAt_eq_of_covers 12 _ (by decide +kernel) fun t hf y => ?_
  obtain ⟨a, p, j, rfl⟩ : ∃ (a : Fin 1) (p : Fin 1024) (j : Fin 512), y = ix3 a p j := ⟨y 0, y 1, y 2, (ix3_eta y).symm⟩
  obtain rfl : a = 0 := Subsingleton.elim _ _
  have he : ((cfg0.win 12).blk t).view.emb (ix3 0 p j)
      = (ix3 ⟨t.val / 2, by have h : t.val < 32 := t.isLt; omega⟩ ⟨t.val % 2 * 1024 + p.val, by omega⟩ j : S16x2048x512.Idx) := by
    blk_ext [index_rotary t]
  rw [he, ← turn_blocks m c t p _ _ rfl rfl j]
  blk_simp
  rw [after0_12]
  exact turn_out ..

/-- The keys' rotary lanes after the run. -/
theorem arrAt_turnKey : (dats m 0 c).arrAt 14 cfg0.N = turnedKeys m c := by
  refine (dats m 0 c).arrAt_eq_of_covers 14 _ (by decide +kernel) fun t hf y => ?_
  obtain ⟨a, p, l, rfl⟩ : ∃ (a : Fin 1) (p : Fin 1024) (l : Fin 128), y = ix3 a p l := ⟨y 0, y 1, y 2, (ix3_eta y).symm⟩
  obtain rfl : a = 0 := Subsingleton.elim _ _
  have he : ((cfg0.win 14).blk t).view.emb (ix3 0 p l)
      = (ix3 ⟨t.val / 2, by have h : t.val < 32 := t.isLt; omega⟩ ⟨t.val % 2 * 1024 + p.val, by omega⟩ l : S16x2048x128.Idx) := by
    blk_ext [index_rotary t]
  rw [he, ← turnKey_blocks m c t p _ _ rfl rfl l]
  blk_simp
  rw [after0_14]
  exact turnKey_out ..

end Cert.LatentProj

end
-- ==== Proof.LatentProj.RotaryReference.lean ====
/- What the reference computes as rotary lanes. -/
module

public import proofs.«01_k».proof.Proof.LatentProj.Reference

@[expose] public section

noncomputable section

namespace Cert.LatentProj

open Idealize.ShloMosaic Cert.Post Cert.Attention Cert.Reference5Ideal Cert.Reference5Ideal.Read

section Lanes

open Cert.Reference5Ideal.Gen

variable (b : Fin 16) (s : Fin 2048)

/-- Lanes of two heads at a time, first the first halves of both. -/
theorem query_lanes (z : FVec Ideal S16x2048x8x64 .f32) (j : Fin 512) :
    shapeCast S16x2048x512 (transpose S16x2048x4x2x2x32 [0, 1, 2, 4, 3, 5]
      (shapeCast S16x2048x4x2x2x32 z shapeCasts_S16x2048x8x64_S16x2048x4x2x2x32) transposes_S16x2048x4x2x2x32_S16x2048x4x2x2x32_0_1_2_4_3_5)
      shapeCasts_S16x2048x4x2x2x32_S16x2048x512 (ix3 b s j)
      = z (ix4 b s ⟨j.val / 128 * 2 + j.val / 32 % 2, by omega⟩ ⟨j.val / 64 % 2 * 32 + j.val % 32, by omega⟩) := by
  pointwise []

/-- Lanes of one head twice, in the same order. -/
theorem key_lanes (z : FVec Ideal S16x2048x64 .f32) (l : Fin 128) :
    shapeCast S16x2048x128 (concatenate S16x2048x2x2x32 3
      [⟨S16x2048x2x1x32, (shapeCast S16x2048x2x1x32 z shapeCasts_S16x2048x64_S16x2048x2x1x32 : FVec Ideal S16x2048x2x1x32 .f32)⟩,
       ⟨S16x2048x2x1x32, (shapeCast S16x2048x2x1x32 z shapeCasts_S16x2048x64_S16x2048x2x1x32 : FVec Ideal S16x2048x2x1x32 .f32)⟩]
      concatenates_S16x2048x2x1x32_S16x2048x2x1x32_S16x2048x2x2x32_d3) shapeCasts_S16x2048x2x2x32_S16x2048x128 (ix3 b s l)
      = z (ix3 b s ⟨l.val / 64 * 32 + l.val % 32, by omega⟩) := by
  pointwise []
  split <;> rfl

/-- Two halves of 32 lanes for eight heads. -/
theorem query_halves (u v : FVec Ideal S16x2048x8x32 .f32) (h : Fin 8) (n : Nat) (hn : n < 64) :
    concatenate S16x2048x8x64 3 [⟨S16x2048x8x32, u⟩, ⟨S16x2048x8x32, v⟩] concatenates_S16x2048x8x32_S16x2048x8x32_S16x2048x8x64_d3 (ix4 b s h ⟨n, hn⟩)
      = if n < 32 then u (ix4 b s h ⟨n % 32, by omega⟩) else v (ix4 b s h ⟨n % 32, by omega⟩) := by
  pointwise []
  by_cases h1 : n < 32
  · rw [dif_pos h1, if_pos h1]
    exact congrArg (fun q => u (ix4 b s h q)) (Fin.ext (by show n = n % 32; omega))
  · rw [dif_neg h1, if_neg h1]
    exact congrArg (fun q => v (ix4 b s h q)) (Fin.ext (by show n - 32 = n % 32; omega))

/-- Two halves of 32 lanes. -/
theorem key_halves (u v : FVec Ideal S16x2048x32 .f32) (n : Nat) (hn : n < 64) :
    concatenate S16x2048x64 2 [⟨S16x2048x32, u⟩, ⟨S16x2048x32, v⟩] concatenates_S16x2048x32_S16x2048x32_S16x2048x64_d2 (ix3 b s ⟨n, hn⟩)
      = if n < 32 then u (ix3 b s ⟨n % 32, by omega⟩) else v (ix3 b s ⟨n % 32, by omega⟩) := by
  pointwise []
  by_cases h1 : n < 32
  · rw [dif_pos h1, if_pos h1]
    exact congrArg (fun q => u (ix3 b s q)) (Fin.ext (by show n = n % 32; omega))
  · rw [dif_neg h1, if_neg h1]
    exact congrArg (fun q => v (ix3 b s q)) (Fin.ext (by show n - 32 = n % 32; omega))

end Lanes

variable (x0 : Vec Ideal S16x2048x1024 .f32) (x1 : Vec Ideal S2x16x6x1024 .f32) (x2 : Vec Ideal S16x2048 .i32) (x3 : Vec Ideal S1024x576 .f32)
  (x4 : Vec Ideal S256 .f32) (x5 : Vec Ideal S256x1536 .f32) (b : Fin 16) (s : Fin 2048)

/-- An angle of a token. -/
theorem ref_angle (n : Fin 32) : val_main_v52 x2 (ix3 b s n) = tokenAngle b s x2 n.val := by
  pointwise [val_main_v52, val_main_v51, val_main_v50, val_main_v49, val_main_v48, val_main_v47, val_main_v46, val_main_v45, val_main_v44,
    val_main_v43, val_main_v42, val_main_v41, val_main_cst_6, val_main_cst_7, tokenAngle, freq]

/-- A product of a token's modulated row and a column of the first weight. -/
theorem ref_column (n : Fin 576) : val_main_v12 x0 x1 x3 (ix3 b s n) = vecMat (tokenMod x0 x1 b s) (fun k n => x3 (ix2 k n)) n := by
  pointwise [val_main_v12, vecMat]
  simp only [ref_mod]

/-- A product of a token's normed row and a column of the second weight. -/
theorem ref_column_query (n : Fin 1536) : val_main_v65 x0 x1 x3 x4 x5 (ix3 b s n)
    = vecMat (tokenNorm x0 x1 x3 x4 b s 0 (by decide)) (fun k n => x5 (ix2 k n)) n := by
  pointwise [val_main_v65, vecMat]
  simp only [ref_norm_query]

/-- A rotary lane in the first half. -/
theorem first_half (x y a : EReal) (l : Nat) (hl : l < 64) : x * Ideal.cos a - y * Ideal.sin a = rot x y a l := by
  rw [rot, if_pos hl, sub_eq_add_neg, mul_neg]

/-- A rotary lane in the second half. -/
theorem second_half (x y a : EReal) (l : Nat) (hl : ¬l < 64) : x * Ideal.cos a + y * Ideal.sin a = rot x y a l := by
  rw [rot, if_neg hl]

/-- The first half of the keys' rotated lanes. -/
theorem ref_key_first (n : Fin 32) : val_main_v60 x0 x1 x2 x3 (ix3 b s n)
    = val_main_v12 x0 x1 x3 (ix3 b s ⟨512 + n.val, by omega⟩) * Ideal.cos (tokenAngle b s x2 n.val)
      - val_main_v12 x0 x1 x3 (ix3 b s ⟨512 + (32 + n.val), by omega⟩) * Ideal.sin (tokenAngle b s x2 n.val) := by
  rw [← ref_angle]
  pointwise [val_main_v60, val_main_v59, val_main_v58, val_main_v57, val_main_v56, val_main_v55, val_main_v54, val_main_v53]

/-- The second half of the keys' rotated lanes. -/
theorem ref_key_second (n : Fin 32) : val_main_v63 x0 x1 x2 x3 (ix3 b s n)
    = val_main_v12 x0 x1 x3 (ix3 b s ⟨512 + (32 + n.val), by omega⟩) * Ideal.cos (tokenAngle b s x2 n.val)
      + val_main_v12 x0 x1 x3 (ix3 b s ⟨512 + n.val, by omega⟩) * Ideal.sin (tokenAngle b s x2 n.val) := by
  rw [← ref_angle]
  pointwise [val_main_v63, val_main_v62, val_main_v61, val_main_v57, val_main_v56, val_main_v55, val_main_v54, val_main_v53]

/-- The first half of a head's rotated lanes. -/
theorem ref_query_first (h : Fin 8) (n : Fin 32) : val_main_v84 x0 x1 x2 x3 x4 x5 (ix4 b s h n)
    = val_main_v65 x0 x1 x3 x4 x5 (ix3 b s ⟨h.val * 192 + (128 + n.val), by omega⟩) * Ideal.cos (tokenAngle b s x2 n.val)
      - val_main_v65 x0 x1 x3 x4 x5 (ix3 b s ⟨h.val * 192 + (128 + (32 + n.val)), by omega⟩) * Ideal.sin (tokenAngle b s x2 n.val) := by
  rw [← ref_angle]
  pointwise [val_main_v84, val_main_v83, val_main_v82, val_main_v81, val_main_v80, val_main_v79, val_main_v78, val_main_v77, val_main_v76,
    val_main_v75, val_main_v66, val_main_v54, val_main_v53]

/-- The second half of a head's rotated lanes. -/
theorem ref_query_second (h : Fin 8) (n : Fin 32) : val_main_v89 x0 x1 x2 x3 x4 x5 (ix4 b s h n)
    = val_main_v65 x0 x1 x3 x4 x5 (ix3 b s ⟨h.val * 192 + (128 + (32 + n.val)), by omega⟩) * Ideal.cos (tokenAngle b s x2 n.val)
      + val_main_v65 x0 x1 x3 x4 x5 (ix3 b s ⟨h.val * 192 + (128 + n.val), by omega⟩) * Ideal.sin (tokenAngle b s x2 n.val) := by
  rw [← ref_angle]
  pointwise [val_main_v89, val_main_v88, val_main_v87, val_main_v86, val_main_v85, val_main_v79, val_main_v78, val_main_v77, val_main_v76,
    val_main_v75, val_main_v66, val_main_v54, val_main_v53]

/-- Equal lanes and angles rotate to equal lanes. -/
theorem rot_congr {x x' y y' a a' : EReal} (l : Nat) (hx : x = x') (hy : y = y') (ha : a = a') : rot x y a l = rot x' y' a' l := by
  rw [hx, hy, ha]

/-- A rotary lane of the keys is a column of the first weight. -/
theorem key_column (l : Fin 128) (q : Fin 576) (hq : q.val = 512 + l.val / 64 * 32 + l.val % 32) :
    val_main_v12 x0 x1 x3 (ix3 b s q) = tokenTurnKey x0 x1 x3 b s l := by
  rw [ref_column]
  obtain ⟨q, hq'⟩ := q
  obtain rfl : q = 512 + l.val / 64 * 32 + l.val % 32 := hq
  rfl

/-- A rotary lane of the queries is a column of the second weight. -/
theorem query_column (j : Fin 512) (q : Fin 1536)
    (hq : q.val = (j.val / 128 * 2 + j.val / 32 % 2) * 192 + (128 + (j.val / 64 % 2 * 32 + j.val % 32))) :
    val_main_v65 x0 x1 x3 x4 x5 (ix3 b s q) = tokenTurn x0 x1 x3 x4 b s x5 j := by
  rw [ref_column_query]
  obtain ⟨q, hq'⟩ := q
  obtain rfl : q = (j.val / 128 * 2 + j.val / 32 % 2) * 192 + (128 + (j.val / 64 % 2 * 32 + j.val % 32)) := hq
  rfl

/-- The keys' rotary lanes of a token. -/
theorem ref_turned_key (l : Fin 128) : val_main_v108 x0 x1 x2 x3 (ix3 b s l) = tokenTurnedKey x0 x1 x3 b s x2 l := by
  have e : val_main_v108 x0 x1 x2 x3 (ix3 b s l) = val_main_v64 x0 x1 x2 x3 (ix3 b s ⟨l.val / 64 * 32 + l.val % 32, by omega⟩) := by
    show val_main_v102 x0 x1 x2 x3 (ix3 b s l) = _
    unfold val_main_v102 val_main_v101 val_main_v100
    exact key_lanes b s _ l
  rw [e]
  unfold val_main_v64
  rw [key_halves, tokenTurnedKey]
  by_cases hl : l.val < 64
  · rw [if_pos (by omega), ref_key_first, first_half _ _ _ l.val hl]
    exact rot_congr _
      (key_column x0 x1 x3 b s l _ (by show 512 + (l.val / 64 * 32 + l.val % 32) % 32 = 512 + l.val / 64 * 32 + l.val % 32; omega))
      (key_column x0 x1 x3 b s ⟨(l.val + 128 - 64) % 128, by omega⟩ _ (by
        show 512 + (32 + (l.val / 64 * 32 + l.val % 32) % 32) = 512 + (l.val + 128 - 64) % 128 / 64 * 32 + (l.val + 128 - 64) % 128 % 32; omega))
      (congrArg (tokenAngle b s x2) (by show (l.val / 64 * 32 + l.val % 32) % 32 = l.val % 32; omega))
  · rw [if_neg (by omega), ref_key_second, second_half _ _ _ l.val hl]
    exact rot_congr _
      (key_column x0 x1 x3 b s l _ (by show 512 + (32 + (l.val / 64 * 32 + l.val % 32) % 32) = 512 + l.val / 64 * 32 + l.val % 32; omega))
      (key_column x0 x1 x3 b s ⟨(l.val + 128 - 64) % 128, by omega⟩ _ (by
        show 512 + (l.val / 64 * 32 + l.val % 32) % 32 = 512 + (l.val + 128 - 64) % 128 / 64 * 32 + (l.val + 128 - 64) % 128 % 32; omega))
      (congrArg (tokenAngle b s x2) (by show (l.val / 64 * 32 + l.val % 32) % 32 = l.val % 32; omega))

/-- The queries' rotary lanes of a token, before they are scaled. -/
theorem ref_rotated (j : Fin 512) : val_main_v93 x0 x1 x2 x3 x4 x5 (ix3 b s j)
    = rot (tokenTurn x0 x1 x3 x4 b s x5 j) (tokenTurn x0 x1 x3 x4 b s x5 ⟨j.val / 128 * 128 + (j.val % 128 + 128 - 64) % 128, by omega⟩)
        (tokenAngle b s x2 (j.val % 32)) (j.val % 128) := by
  have e : val_main_v93 x0 x1 x2 x3 x4 x5 (ix3 b s j)
      = val_main_v90 x0 x1 x2 x3 x4 x5 (ix4 b s ⟨j.val / 128 * 2 + j.val / 32 % 2, by omega⟩ ⟨j.val / 64 % 2 * 32 + j.val % 32, by omega⟩) := by
    unfold val_main_v93 val_main_v92 val_main_v91
    exact query_lanes b s _ j
  rw [e]
  unfold val_main_v90
  rw [query_halves]
  by_cases hl : j.val % 128 < 64
  · rw [if_pos (by omega), ref_query_first, first_half _ _ _ (j.val % 128) hl]
    exact rot_congr _
      (query_column x0 x1 x3 x4 x5 b s j _ (by
        show (j.val / 128 * 2 + j.val / 32 % 2) * 192 + (128 + (j.val / 64 % 2 * 32 + j.val % 32) % 32)
          = (j.val / 128 * 2 + j.val / 32 % 2) * 192 + (128 + (j.val / 64 % 2 * 32 + j.val % 32)); omega))
      (query_column x0 x1 x3 x4 x5 b s ⟨j.val / 128 * 128 + (j.val % 128 + 128 - 64) % 128, by omega⟩ _ (by
        show (j.val / 128 * 2 + j.val / 32 % 2) * 192 + (128 + (32 + (j.val / 64 % 2 * 32 + j.val % 32) % 32))
          = ((j.val / 128 * 128 + (j.val % 128 + 128 - 64) % 128) / 128 * 2 + (j.val / 128 * 128 + (j.val % 128 + 128 - 64) % 128) / 32 % 2) * 192
            + (128 + ((j.val / 128 * 128 + (j.val % 128 + 128 - 64) % 128) / 64 % 2 * 32 + (j.val / 128 * 128 + (j.val % 128 + 128 - 64) % 128) % 32))
        omega))
      (congrArg (tokenAngle b s x2) (by show (j.val / 64 % 2 * 32 + j.val % 32) % 32 = j.val % 32; omega))
  · rw [if_neg (by omega), ref_query_second, second_half _ _ _ (j.val % 128) hl]
    exact rot_congr _
      (query_column x0 x1 x3 x4 x5 b s j _ (by
        show (j.val / 128 * 2 + j.val / 32 % 2) * 192 + (128 + (32 + (j.val / 64 % 2 * 32 + j.val % 32) % 32))
          = (j.val / 128 * 2 + j.val / 32 % 2) * 192 + (128 + (j.val / 64 % 2 * 32 + j.val % 32)); omega))
      (query_column x0 x1 x3 x4 x5 b s ⟨j.val / 128 * 128 + (j.val % 128 + 128 - 64) % 128, by omega⟩ _ (by
        show (j.val / 128 * 2 + j.val / 32 % 2) * 192 + (128 + (j.val / 64 % 2 * 32 + j.val % 32) % 32)
          = ((j.val / 128 * 128 + (j.val % 128 + 128 - 64) % 128) / 128 * 2 + (j.val / 128 * 128 + (j.val % 128 + 128 - 64) % 128) / 32 % 2) * 192
            + (128 + ((j.val / 128 * 128 + (j.val % 128 + 128 - 64) % 128) / 64 % 2 * 32 + (j.val / 128 * 128 + (j.val % 128 + 128 - 64) % 128) % 32))
        omega))
      (congrArg (tokenAngle b s x2) (by show (j.val / 64 % 2 * 32 + j.val % 32) % 32 = j.val % 32; omega))

/-- The queries' rotary lanes of a token. -/
theorem ref_turned (j : Fin 512) : val_main_v106 x0 x1 x2 x3 x4 x5 (ix3 b s j) = tokenTurned x0 x1 x3 x4 b s x2 x5 j := by
  rw [tokenTurned, ← ref_rotated, ← latent_factor, val_main_v106_apply, val_main_v99_apply, val_main_v96_apply]
  rfl

end Cert.LatentProj

end
-- ==== Proof.Ada.Array.lean ====
/- The array of modulation vectors after the run: for every layer and sequence, a row times the layer's weight plus its bias. -/
module

public import proofs.«01_k».proof.Proof.Gen.Kernel6Ideal.Value
public import proofs.«01_k».proof.Proof.Post.Row
public import proofs.«01_k».proof.Proof.LatentProj.Block
public import Idealize.ShloMosaic.Lib.Claim
public import Idealize.ShloMosaic.Lib.StableHlo.ReadAt
public import Idealize.ShloMosaic.Lib.Pipeline.Value
public import Idealize.ShloMosaic.Lib.Pipeline.ValueKit

@[expose] public section

noncomputable section

namespace Cert.Ada

open Idealize.ShloMosaic Cert.Post

/-- `z / (1 + exp (-z))`. -/
def silu (z : EReal) : EReal := z * Ideal.div 1 (1 + Ideal.exp (-z))

open Cert.Kernel6Ideal Cert.Kernel6Ideal.Gen Idealize.ShloMosaic.TcCoe

/-- An entry of a layer's modulation vector of a sequence. -/
def modAt (x0 : Vec Ideal S16x1024 .f32) (x1 : Vec Ideal S2x1024x6144 .f32) (x2 : Vec Ideal S2x6144 .f32)
    (i : Fin 2) (b : Fin 16) (j : Fin 6144) : EReal :=
  vecMat (fun k => silu (x0 (ix2 b k))) (fun k n => x1 (ix3 i k n)) j + x2 (ix2 i j)

section Tile

variable (x0 : Vec Ideal S16x1024 .f32) (x1 : Vec Ideal S1x1024x1024 .f32) (x2 : Vec Ideal S1x1x1024 .f32)

/-- A block of modulation vectors. -/
def blockMod : Vec Ideal S1x16x1024 .f32 := fun y =>
  vecMat (fun k => silu (x0 (ix2 (y 1) k))) (fun k n => x1 (ix3 0 k n)) (y 2) + x2 (ix3 0 0 (y 2))

/-- The stored block, at an index. -/
theorem pay_apply (b : Fin 16) (j : Fin 1024) : k0_pay1 x0 x1 x2 (ix3 0 b j) = blockMod x0 x1 x2 (ix3 0 b j) := by
  pointwise [k0_pay1, blockMod, vecMat, silu]
  simp only [zero_sub]

/-- A stored index of a whole block is itself. -/
theorem stored_at (y : S1x16x1024.Idx) : r0_3.emb y = y := by
  funext a
  refine Fin.ext ((ValueKit.rect_emb_unit_val (s := S1x16x1024) _ _ _ y a).trans ?_)
  match a with
  | 0 => exact Nat.zero_add _
  | 1 => exact Nat.zero_add _
  | 2 => exact Nat.zero_add _

/-- After a point its block holds them. -/
theorem mod_out (y : S1x16x1024.Idx) : out0_3 x0 x1 x2 y = blockMod x0 x1 x2 y := by
  have l0 : View.ld (Val := Elt Ideal) x0 r0_0 = x0 := Cert.LatentProj.ld_whole (S := S16x1024) x0 _ _ Cert.LatentProj.zero2
  have l1 : View.ld (Val := Elt Ideal) x1 r0_1 = x1 := Cert.LatentProj.ld_whole (S := S1x1024x1024) x1 _ _ (by decide)
  have l2 : View.ld (Val := Elt Ideal) x2 r0_2 = x2 := Cert.LatentProj.ld_whole (S := S1x1x1024) x2 _ _ (by decide)
  unfold out0_3
  rw [l0, l1, l2]
  refine View.canon_apply_of_pieces (blockMod x0 x1 x2) _ ?_ _ (cover0_3 _ y)
  refine List.forall_mem_cons.2 ⟨fun x => ?_, fun _ h => absurd h List.not_mem_nil⟩
  obtain ⟨a, b, j, rfl⟩ : ∃ (a : Fin 1) (b : Fin 16) (j : Fin 1024), x = ix3 a b j := ⟨x 0, x 1, x 2, (ix3_eta x).symm⟩
  obtain rfl : a = 0 := Subsingleton.elim _ _
  exact (pay_apply x0 x1 x2 b j).trans (congrArg (blockMod x0 x1 x2) (stored_at (ix3 0 b j)).symm)

end Tile

variable (m : (ℓ : Loc nD τ sig) → Buf (Elt Ideal) ℓ) (c : Dev nD)

/-- The modulation vectors, from the arguments the kernel is launched on. -/
def result : Vec Ideal S2x16x6144 .f32 := fun y =>
  modAt (m ((c : Thread nD τ).loc main_arg0)) (m ((c : Thread nD τ).loc main_arg1)) (m ((c : Thread nD τ).loc main_arg2)) (y 0) (y 1) (y 2)

/-- Where each window's block lies at a grid point. -/
theorem index_eq : ∀ t : Fin cfg0.N,
    win0_0.index t = ![0, 0] ∧ win0_1.index t = ![t.val / 6, 0, t.val % 6] ∧ win0_2.index t = ![t.val / 6, 0, t.val % 6]
      ∧ win0_3.index t = ![t.val / 6, 0, t.val % 6] := by
  decide +kernel

/-- The biases, as the region finds them. -/
theorem entry_bias (i : Fin 2) (n : Fin 6144) :
    (V m c main_v0 : Vec Ideal S2x1x6144 .f32) (ix3 i 0 n) = m ((c : Thread nD τ).loc main_arg2) (ix2 i n) := by
  unfold V
  after_reads_at

/-- A point's block of modulation vectors, in the whole array. -/
theorem mod_blocks (t : Fin cfg0.N) (b : Fin 16) (j : Fin 1024) (i : Fin 2) (n : Fin 6144) (hi : i.val = t.val / 6)
    (hn : n.val = t.val % 6 * 1024 + j.val) :
    blockMod (iblk m c 0 t) (iblk m c 1 t) (iblk m c 2 t) (ix3 0 b j) = result m c (ix3 i b n) := by
  have h0 : ∀ k, iblk m c 0 t (ix2 b k) = m ((c : Thread nD τ).loc main_arg0) (ix2 b k) := fun k => by
    unfold iblk
    rw [V_main_arg0]
    blk_ext [index_eq t]
  have h1 : ∀ k, iblk m c 1 t (ix3 0 k j) = m ((c : Thread nD τ).loc main_arg1) (ix3 i k n) := fun k => by
    unfold iblk
    rw [V_main_arg1]
    blk_ext [index_eq t]
  have h2 : iblk m c 2 t (ix3 0 0 j) = m ((c : Thread nD τ).loc main_arg2) (ix2 i n) := by
    rw [← entry_bias m c i n]
    blk_ext [iblk, index_eq t]
  show (∑ k, silu (iblk m c 0 t (ix2 b k)) * iblk m c 1 t (ix3 0 k j)) + iblk m c 2 t (ix3 0 0 j) = _
  simp only [h0, h1, h2]
  rfl

/-- The modulation vectors after the run. -/
theorem arrAt_eq : (dats m 0 c).arrAt 3 cfg0.N = result m c := by
  refine (dats m 0 c).arrAt_eq_of_covers 3 _ (by decide +kernel) fun t hf y => ?_
  obtain ⟨a, b, j, rfl⟩ : ∃ (a : Fin 1) (b : Fin 16) (j : Fin 1024), y = ix3 a b j := ⟨y 0, y 1, y 2, (ix3_eta y).symm⟩
  obtain rfl : a = 0 := Subsingleton.elim _ _
  have he : ((cfg0.win 3).blk t).view.emb (ix3 0 b j)
      = (ix3 ⟨t.val / 6, by have h : t.val < 12 := t.isLt; omega⟩ b ⟨t.val % 6 * 1024 + j.val, by omega⟩ : S2x16x6144.Idx) := by
    blk_ext [index_eq t]
  rw [he, ← mod_blocks m c t b j _ _ rfl rfl]
  blk_simp
  rw [after0_3]
  exact mod_out ..

end Cert.Ada

end
-- ==== Proof.Ada.Reference.lean ====
/- What the reference computes: every layer's modulation vector of every sequence. -/
module

public import proofs.«01_k».proof.Proof.Gen.Reference6Ideal.Read
public import proofs.«01_k».proof.Proof.Ada.Array

@[expose] public section

noncomputable section

namespace Cert.Ada

open Idealize.ShloMosaic Cert.Post Cert.Reference6Ideal Cert.Reference6Ideal.Read

section Vectors

open Cert.Reference6Ideal.Gen

variable (x0 : Vec Ideal S16x1024 .f32) (x1 : Vec Ideal S2x1024x6144 .f32) (x2 : Vec Ideal S2x6144 .f32) (b : Fin 16)

/-- The activated row of a sequence. -/
theorem ref_silu (k : Fin 1024) : val_main_v0 (F := Ideal) x0 (ix2 b k) = silu (x0 (ix2 b k)) := by
  pointwise [val_main_v0, val_main_call0_v5, val_main_call0_v4, val_main_call0_cst_0, val_main_call0_v3, val_main_call0_v2, val_main_call0_cst,
    val_main_call0_v1, val_main_call0_v0, silu]

/-- The first layer's modulation vectors. -/
theorem ref_first (j : Fin 6144) : val_main_v8 (F := Ideal) x0 x1 x2 (ix2 b j) = modAt x0 x1 x2 0 b j := by
  pointwise [val_main_v8, val_main_v7, val_main_v6, val_main_v5, val_main_v4, val_main_v3, val_main_v2, val_main_v1, modAt, vecMat]
  simp only [ref_silu]

/-- The second layer's modulation vectors. -/
theorem ref_second (j : Fin 6144) : val_main_v16 (F := Ideal) x0 x1 x2 (ix2 b j) = modAt x0 x1 x2 1 b j := by
  pointwise [val_main_v16, val_main_v15, val_main_v14, val_main_v13, val_main_v12, val_main_v11, val_main_v10, val_main_v9, modAt, vecMat]
  simp only [ref_silu]

/-- Two arrays stacked, at an index. -/
theorem stacked (u v : FVec Ideal S16x6144 .f32) (i : Fin 2) (j : Fin 6144) :
    concatenate S2x16x6144 0 [⟨S1x16x6144, (broadcastInDim S1x16x6144 ![1, 2] bcast_S16x6144_S1x16x6144_1_2 u : FVec Ideal S1x16x6144 .f32)⟩,
      ⟨S1x16x6144, (broadcastInDim S1x16x6144 ![1, 2] bcast_S16x6144_S1x16x6144_1_2 v : FVec Ideal S1x16x6144 .f32)⟩]
      concatenates_S1x16x6144_S1x16x6144_S2x16x6144_d0 (ix3 i b j)
      = if i = 0 then u (ix2 b j) else v (ix2 b j) := by
  match i with
  | 0 => pointwise []
  | 1 => pointwise []

/-- The modulation vectors of both layers. -/
theorem ref_result (i : Fin 2) (j : Fin 6144) : val_main_v19 (F := Ideal) x0 x1 x2 (ix3 i b j) = modAt x0 x1 x2 i b j := by
  unfold val_main_v19 val_main_v17 val_main_v18
  rw [stacked, ref_first, ref_second]
  match i with
  | 0 => rfl
  | 1 => rfl

end Vectors

end Cert.Ada

end
-- ==== Proof.lean ====
module

public import proofs.«01_k».proof.Defs
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Post.Array
public import proofs.«01_k».proof.Proof.Post.Reference
public import proofs.«01_k».proof.Proof.Latent.Array
public import proofs.«01_k».proof.Proof.Latent.Finite
public import proofs.«01_k».proof.Proof.Fox.Array
public import proofs.«01_k».proof.Proof.Fox.Finite
public import proofs.«01_k».proof.Proof.Proj.Array
public import proofs.«01_k».proof.Proof.Proj.Reference
public import proofs.«01_k».proof.Proof.LatentProj.Array
public import proofs.«01_k».proof.Proof.LatentProj.Reference
public import proofs.«01_k».proof.Proof.LatentProj.RotaryArray
public import proofs.«01_k».proof.Proof.LatentProj.RotaryReference
public import proofs.«01_k».proof.Proof.Ada.Array
public import proofs.«01_k».proof.Proof.Ada.Reference
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel's result array is the reference's. -/
theorem algebraic : Cert.algebraic_KernelIdeal_ReferenceIdeal := by
  intro m g m' g' _ hargs
  refine ⟨fun c => Cert.Post.result m c, ?_, ?_⟩
  · refine (θ_run _ _ _).mono (fun r h c => ?_) (Cert.KernelIdeal.Value.run_blocks m g)
    exact ⟨(h c).1.trans (Cert.Post.arrAt_eq m c), (h c).2⟩
  · refine (θ_run _ _ _).mono (fun r h c => ?_) (Cert.ReferenceIdeal.Value.run m' g')
    refine ⟨(h c).1.trans ((Cert.ReferenceIdeal.Read.val_main_v100_eq _).trans ?_), (h c).2⟩
    obtain ⟨h0, h1, h2, h3, h4, h5, h6, h7, h8⟩ := hargs c
    have launch := StableHlo.launchContents_devRef m' c
    rw [(launch _).trans h0, (launch _).trans h1, (launch _).trans h2, (launch _).trans h3, (launch _).trans h4, (launch _).trans h5,
      (launch _).trans h6, (launch _).trans h7, (launch _).trans h8]
    funext y
    obtain ⟨b, s, j, rfl⟩ : ∃ (b : Fin 16) (s : Fin 2048) (j : Fin 1024), y = ix3 b s j := ⟨y 0, y 1, y 2, (ix3_eta y).symm⟩
    exact Cert.Post.ref_last _ _ _ _ _ _ _ _ _ b s j

/-- The reference terminates, leaves its arguments as they were, and has no semaphore. -/
theorem frame_reference : Cert.quiescent_ReferenceIdeal := fun m ρ _ =>
  (θ_run _ _ _).mono (fun r h => ⟨fun c => (h c).2, sem_eq_zero_of_no_sems (by decide) _⟩) (Cert.ReferenceIdeal.Value.run m ρ)

/-- The attention kernel's result array is its reference's, when queries and keys are finite. -/
theorem algebraic_attention (hp : Cert.Pre_finite_qk.Facts) :
    Cert.algebraic_Kernel2Ideal_Reference2Ideal_pre_finite_qk (hPre_finite_qk := hp) := by
  intro m g m' g' hpre hargs
  refine ⟨fun c => Cert.Latent.result m c, ?_, ?_⟩
  · refine (θ_run _ _ _).mono (fun r h c => ?_) (Cert.Kernel2Ideal.Value.run_blocks m g)
    exact ⟨(h c).1.trans (Cert.Latent.arrAt_eq m c), (h c).2⟩
  · refine (θ_run _ _ _).mono (fun r h c => ?_) (Cert.Reference2Ideal.Value.run m' g')
    refine ⟨(h c).1.trans ((Cert.Reference2Ideal.Read.val_main_v47_eq _ _).trans ?_), (h c).2⟩
    obtain ⟨h0, h1, h2, h3, h4⟩ := hargs c
    obtain ⟨r0, r1, r2, r3⟩ := Cert.Latent.real_of_finite _ _ _ _ _ (hpre c)
    rw [h0, h1, h2, h3, h4]
    exact Cert.Latent.ref_result _ _ _ _ _ r0 r1 r2 r3

/-- The attention's reference terminates, leaves its arguments as they were, and has no semaphore. -/
theorem frame_attention_reference : Cert.quiescent_Reference2Ideal := fun m ρ _ =>
  (θ_run _ _ _).mono (fun r h => ⟨fun c => (h c).2, sem_eq_zero_of_no_sems (by decide) _⟩) (Cert.Reference2Ideal.Value.run m ρ)

/-- The decayed attention kernel's result array is its reference's, when queries, keys and decays are finite. -/
theorem algebraic_decayed (hp : Cert.Pre_finite_decay.Facts) :
    Cert.algebraic_Kernel3Ideal_Reference3Ideal_pre_finite_decay (hPre_finite_decay := hp) := by
  intro m g m' g' hpre hargs
  refine ⟨fun c => Cert.Fox.result m c, ?_, ?_⟩
  · refine (θ_run _ _ _).mono (fun r h c => ?_) (Cert.Kernel3Ideal.Value.run_blocks m g)
    exact ⟨(h c).1.trans (Cert.Fox.arrAt_eq m c), (h c).2⟩
  · refine (θ_run _ _ _).mono (fun r h c => ?_) (Cert.Reference3Ideal.Value.run m' g')
    refine ⟨(h c).1.trans ((Cert.Reference3Ideal.Read.val_main_v42_eq _ _).trans ?_), (h c).2⟩
    obtain ⟨h0, h1, h2, h3, h4⟩ := hargs c
    obtain ⟨r0, r1, r2, r3⟩ := Cert.Fox.real_of_finite _ _ _ _ _ (hpre c)
    rw [h0, h1, h2, h3, h4]
    exact Cert.Fox.ref_result _ _ _ _ _ r0 r1 r2 r3

/-- The decayed attention's reference terminates, leaves its arguments as they were, and has no semaphore. -/
theorem frame_decayed_reference : Cert.quiescent_Reference3Ideal := fun m ρ _ =>
  (θ_run _ _ _).mono (fun r h => ⟨fun c => (h c).2, sem_eq_zero_of_no_sems (by decide) _⟩) (Cert.Reference3Ideal.Value.run m ρ)

/-- The projection's queries, keys and values are its reference's. -/
theorem algebraic_projected : Cert.algebraic_Kernel4Ideal_Reference4Ideal := by
  intro m g m' g' _ hargs
  refine ⟨fun c => Cert.Proj.queries m c, fun c => Cert.Proj.keys m c, fun c => Cert.Proj.values m c, ?_, ?_⟩
  · refine (θ_run _ _ _).mono (fun r h c => ?_) (Cert.Kernel4Ideal.Value.run_blocks m g)
    obtain ⟨h8, h9, h10, _, _, h⟩ := h c
    exact ⟨h8.trans (Cert.Proj.arrAt_query m c), h9.trans (Cert.Proj.arrAt_key m c), h10.trans (Cert.Proj.arrAt_value m c), h⟩
  · refine (θ_run _ _ _).mono (fun r h c => ?_) (Cert.Reference4Ideal.Value.run m' g')
    obtain ⟨hq, hk, hv, h⟩ := h c
    obtain ⟨h0, h1, h2, h3⟩ := hargs c
    refine ⟨hq.trans ((Cert.Reference4Ideal.Read.val_main_v21_eq _ _ _).trans ?_), hk.trans ((Cert.Reference4Ideal.Read.val_main_v22_eq _ _ _).trans ?_),
      hv.trans ((Cert.Reference4Ideal.Read.val_main_v24_eq _ _ _).trans ?_), h⟩
    · rw [h0, h1, h2]
      funext y
      obtain ⟨b, s, j, rfl⟩ : ∃ (b : Fin 16) (s : Fin 2048) (j : Fin 1024), y = ix3 b s j := ⟨y 0, y 1, y 2, (ix3_eta y).symm⟩
      exact Cert.Proj.ref_query _ _ _ b s j
    · rw [h0, h1, h2]
      funext y
      obtain ⟨b, s, j, rfl⟩ : ∃ (b : Fin 16) (s : Fin 2048) (j : Fin 1024), y = ix3 b s j := ⟨y 0, y 1, y 2, (ix3_eta y).symm⟩
      exact Cert.Proj.ref_key _ _ _ b s j
    · rw [h0, h1, h2]
      funext y
      obtain ⟨b, j, s, rfl⟩ : ∃ (b : Fin 16) (j : Fin 1024) (s : Fin 2048), y = ix3 b j s := ⟨y 0, y 1, y 2, (ix3_eta y).symm⟩
      exact Cert.Proj.ref_value _ _ _ b s j

/-- The projection's reference terminates, leaves its arguments as they were, and has no semaphore. -/
theorem frame_projected_reference : Cert.quiescent_Reference4Ideal := fun m ρ _ =>
  (θ_run _ _ _).mono (fun r h => ⟨fun c => (h c).2.2.2, sem_eq_zero_of_no_sems (by decide) _⟩) (Cert.Reference4Ideal.Value.run m ρ)

/-- The factor of the projection's queries is what the kernel's constant is named. -/
theorem named_projected : Cert.preserves_Kernel4_Kernel4Ideal :=
  IdealRules.named_const.statement Cert.Kernel4Ideal.κ "fox_scale" .f32 0x3E38AA3B#32 (((1 / 8) * (Real.log 2)⁻¹ : ℝ) : EReal) rfl

/-- The latent projection's queries, keys, their rotary lanes and values are its reference's. -/
theorem algebraic_latent : Cert.algebraic_Kernel5Ideal_Reference5Ideal := by
  intro m g m' g' _ hargs
  refine ⟨fun c => Cert.LatentProj.queries m c, fun c => Cert.LatentProj.turnedQueries m c, fun c => Cert.LatentProj.keys m c,
    fun c => Cert.LatentProj.turnedKeys m c, fun c => Cert.LatentProj.values m c, ?_, ?_⟩
  · refine (θ_run _ _ _).mono (fun r h c => ?_) (Cert.Kernel5Ideal.Value.run_blocks m g)
    obtain ⟨h11, h12, h13, h14, h15, h⟩ := h c
    exact ⟨h11.trans (Cert.LatentProj.arrAt_query m c), h12.trans (Cert.LatentProj.arrAt_turn m c), h13.trans (Cert.LatentProj.arrAt_key m c),
      h14.trans (Cert.LatentProj.arrAt_turnKey m c), h15.trans (Cert.LatentProj.arrAt_value m c), h⟩
  · refine (θ_run _ _ _).mono (fun r h c => ?_) (Cert.Reference5Ideal.Value.run m' g')
    obtain ⟨hq, hqr, hk, hkr, hv, h⟩ := h c
    obtain ⟨h0, h1, h2, h3, h4, h5, h6, h7, h8⟩ := hargs c
    refine ⟨hq.trans ((Cert.Reference5Ideal.Read.val_main_v105_eq _ _).trans ?_), hqr.trans ((Cert.Reference5Ideal.Read.val_main_v106_eq _ _).trans ?_),
      hk.trans ((Cert.Reference5Ideal.Read.val_main_v107_eq _ _ _ _ _).trans ?_), hkr.trans ((Cert.Reference5Ideal.Read.val_main_v108_eq _ _).trans ?_),
      hv.trans ((Cert.Reference5Ideal.Read.val_main_v110_eq _ _ _ _ _).trans ?_), h⟩
    · rw [h0, h1, h3, h4, h5]
      funext y
      obtain ⟨b, s, j, rfl⟩ : ∃ (b : Fin 16) (s : Fin 2048) (j : Fin 1024), y = ix3 b s j := ⟨y 0, y 1, y 2, (ix3_eta y).symm⟩
      exact Cert.LatentProj.ref_query _ _ _ _ _ b s j
    · rw [h0, h1, h2, h3, h4, h5]
      funext y
      obtain ⟨b, s, j, rfl⟩ : ∃ (b : Fin 16) (s : Fin 2048) (j : Fin 512), y = ix3 b s j := ⟨y 0, y 1, y 2, (ix3_eta y).symm⟩
      exact Cert.LatentProj.ref_turned _ _ _ _ _ _ b s j
    · rw [h0, h1, h3, h6, h7]
      funext y
      obtain ⟨b, s, j, rfl⟩ : ∃ (b : Fin 16) (s : Fin 2048) (j : Fin 1024), y = ix3 b s j := ⟨y 0, y 1, y 2, (ix3_eta y).symm⟩
      exact Cert.LatentProj.ref_key _ _ _ _ _ b s j
    · rw [h0, h1, h2, h3]
      funext y
      obtain ⟨b, s, l, rfl⟩ : ∃ (b : Fin 16) (s : Fin 2048) (l : Fin 128), y = ix3 b s l := ⟨y 0, y 1, y 2, (ix3_eta y).symm⟩
      exact Cert.LatentProj.ref_turned_key _ _ _ _ b s l
    · rw [h0, h1, h3, h6, h8]
      funext y
      obtain ⟨b, j, s, rfl⟩ : ∃ (b : Fin 16) (j : Fin 1024) (s : Fin 2048), y = ix3 b j s := ⟨y 0, y 1, y 2, (ix3_eta y).symm⟩
      exact Cert.LatentProj.ref_value _ _ _ _ _ b s j

/-- The latent projection's reference terminates, leaves its arguments as they were, and has no semaphore. -/
theorem frame_latent_reference : Cert.quiescent_Reference5Ideal := fun m ρ _ =>
  (θ_run _ _ _).mono (fun r h => ⟨fun c => (h c).2.2.2.2.2, sem_eq_zero_of_no_sems (by decide) _⟩) (Cert.Reference5Ideal.Value.run m ρ)

/-- The factor of the latent projection's queries is what the kernel's constant is named. -/
theorem named_latent : Cert.preserves_Kernel5_Kernel5Ideal :=
  IdealRules.named_const.statement Cert.Kernel5Ideal.κ "mla_scale" .f32 0x3DD53B95#32 (((Real.sqrt 192)⁻¹ * (Real.log 2)⁻¹ : ℝ) : EReal) rfl

/-- The kernel's modulation vectors are its reference's. -/
theorem algebraic_modulation : Cert.algebraic_Kernel6Ideal_Reference6Ideal := by
  intro m g m' g' _ hargs
  refine ⟨fun c => Cert.Ada.result m c, ?_, ?_⟩
  · refine (θ_run _ _ _).mono (fun r h c => ?_) (Cert.Kernel6Ideal.Value.run_blocks m g)
    exact ⟨(h c).1.trans (Cert.Ada.arrAt_eq m c), (h c).2⟩
  · refine (θ_run _ _ _).mono (fun r h c => ?_) (Cert.Reference6Ideal.Value.run m' g')
    refine ⟨(h c).1.trans ((Cert.Reference6Ideal.Read.val_main_v19_eq _ _ _).trans ?_), (h c).2⟩
    obtain ⟨h0, h1, h2⟩ := hargs c
    rw [h0, h1, h2]
    funext y
    obtain ⟨i, b, j, rfl⟩ : ∃ (i : Fin 2) (b : Fin 16) (j : Fin 6144), y = ix3 i b j := ⟨y 0, y 1, y 2, (ix3_eta y).symm⟩
    exact Cert.Ada.ref_result _ _ _ b i j

/-- The modulation vectors' reference terminates, leaves its arguments as they were, and has no semaphore. -/
theorem frame_modulation_reference : Cert.quiescent_Reference6Ideal := fun m ρ _ =>
  (θ_run _ _ _).mono (fun r h => ⟨fun c => (h c).2, sem_eq_zero_of_no_sems (by decide) _⟩) (Cert.Reference6Ideal.Value.run m ρ)

/-- The claims. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts, Cert.Latent.finite_facts, Cert.Fox.finite_facts,
  fun m ρ _ => Cert.Kernel.Gen.frame m ρ, fun m ρ _ => Cert.KernelIdeal.Gen.frame m ρ, frame_reference,
  fun m ρ _ => Cert.Kernel2.Gen.frame m ρ, fun m ρ _ => Cert.Kernel2Ideal.Gen.frame m ρ, fun m ρ _ => Cert.Kernel2Ideal.Gen.frame m ρ,
  frame_attention_reference, fun m ρ _ => frame_attention_reference m ρ trivial,
  fun m ρ _ => Cert.Kernel3.Gen.frame m ρ, fun m ρ _ => Cert.Kernel3Ideal.Gen.frame m ρ, fun m ρ _ => Cert.Kernel3Ideal.Gen.frame m ρ,
  frame_decayed_reference, fun m ρ _ => frame_decayed_reference m ρ trivial,
  fun m ρ _ => Cert.Kernel4.Gen.frame m ρ, fun m ρ _ => Cert.Kernel4Ideal.Gen.frame m ρ, frame_projected_reference,
  fun m ρ _ => Cert.Kernel5.Gen.frame m ρ, fun m ρ _ => Cert.Kernel5Ideal.Gen.frame m ρ, frame_latent_reference,
  fun m ρ _ => Cert.Kernel6.Gen.frame m ρ, fun m ρ _ => Cert.Kernel6Ideal.Gen.frame m ρ, frame_modulation_reference,
  trivial, algebraic, trivial, algebraic_attention Cert.Latent.finite_facts, trivial, algebraic_decayed Cert.Fox.finite_facts,
  named_projected, algebraic_projected, named_latent, algebraic_latent, trivial, algebraic_modulation⟩

end Cert.Proof

end
